-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)) (v2 : (c : Dev Cert.Kernel2Ideal.nD) → Buf (Elt Ideal) ((c.tc : Thread Cert.Kernel2Ideal.nD Cert.Kernel2Ideal.τ).loc Cert.Kernel2Ideal.main_v7_2)) (v3 : (c : Dev Cert.Kernel2Ideal.nD) → Buf (Elt Ideal) ((c.tc : Thread Cert.Kernel2Ideal.nD Cert.Kernel2Ideal.τ).loc Cert.Kernel2Ideal.main_v7_3)) (v4 : (c : Dev Cert.Kernel2Ideal.nD) → Buf (Elt Ideal) ((c.tc : Thread Cert.Kernel2Ideal.nD Cert.Kernel2Ideal.τ).loc Cert.Kernel2Ideal.main_v7_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_v7_2) = v2 c
          ∧ r.2.mem ((c.tc : Thread Cert.Kernel2Ideal.nD Cert.Kernel2Ideal.τ).loc Cert.Kernel2Ideal.main_v7_3) = v3 c
          ∧ r.2.mem ((c.tc : Thread Cert.Kernel2Ideal.nD Cert.Kernel2Ideal.τ).loc Cert.Kernel2Ideal.main_v7_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_v51) = v1 c
          ∧ r.2.mem ((c.tc : Thread Cert.Reference2Ideal.nD Cert.Reference2Ideal.τ).loc Cert.Reference2Ideal.main_v52) = v2 c
          ∧ r.2.mem ((c.tc : Thread Cert.Reference2Ideal.nD Cert.Reference2Ideal.τ).loc Cert.Reference2Ideal.main_v63) = v3 c
          ∧ r.2.mem ((c.tc : Thread Cert.Reference2Ideal.nD Cert.Reference2Ideal.τ).loc Cert.Reference2Ideal.main_v64) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v6_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v6_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_v64) = v1 c
          ∧ r.2.mem ((c.tc : Thread Cert.Reference3Ideal.nD Cert.Reference3Ideal.τ).loc Cert.Reference3Ideal.main_v91) = v2 c
          ∧ r.2.mem ((c.tc : Thread Cert.Reference3Ideal.nD Cert.Reference3Ideal.τ).loc Cert.Reference3Ideal.main_v92) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S2x4352x16 : Shape := ⟨3, ![2, 4352, 16]⟩
abbrev S2x4352x2048 : Shape := ⟨3, ![2, 4352, 2048]⟩
abbrev S4x16x2048x1536 : Shape := ⟨4, ![4, 16, 2048, 1536]⟩
abbrev S4x16x1536x2048 : Shape := ⟨4, ![4, 16, 1536, 2048]⟩
abbrev S2x4096x16 : Shape := ⟨3, ![2, 4096, 16]⟩
abbrev S_ : Shape := ⟨0, ![]⟩
abbrev S2x4096 : Shape := ⟨2, ![2, 4096]⟩
abbrev S2x4096x1 : Shape := ⟨3, ![2, 4096, 1]⟩
abbrev S2x16x4096 : Shape := ⟨3, ![2, 16, 4096]⟩
abbrev S2x16x512 : Shape := ⟨3, ![2, 16, 512]⟩
abbrev S2 : Shape := ⟨1, ![2]⟩
abbrev S2x1x1 : Shape := ⟨3, ![2, 1, 1]⟩
abbrev S16x2x512 : Shape := ⟨3, ![16, 2, 512]⟩
abbrev S16x1024 : Shape := ⟨2, ![16, 1024]⟩
abbrev S2x256x16 : Shape := ⟨3, ![2, 256, 16]⟩
abbrev S2x256 : Shape := ⟨2, ![2, 256]⟩
abbrev S2x256x1 : Shape := ⟨3, ![2, 256, 1]⟩
abbrev S2x16x256 : Shape := ⟨3, ![2, 16, 256]⟩
abbrev S2x16x32 : Shape := ⟨3, ![2, 16, 32]⟩
abbrev S16x2x32 : Shape := ⟨3, ![16, 2, 32]⟩
abbrev S16x64 : Shape := ⟨2, ![16, 64]⟩
abbrev S16x1088 : Shape := ⟨2, ![16, 1088]⟩
abbrev S17408 : Shape := ⟨1, ![17408]⟩
abbrev S16x1088x1 : Shape := ⟨3, ![16, 1088, 1]⟩
abbrev S2x4352x16x128 : Shape := ⟨4, ![2, 4352, 16, 128]⟩
abbrev S8704x16x128 : Shape := ⟨3, ![8704, 16, 128]⟩
abbrev S16x1088x16x128 : Shape := ⟨4, ![16, 1088, 16, 128]⟩
abbrev S1x1088x1 : Shape := ⟨3, ![1, 1088, 1]⟩
abbrev S1x1x2048x256 : Shape := ⟨4, ![1, 1, 2048, 256]⟩
abbrev S1x1x1536x1024 : Shape := ⟨4, ![1, 1, 1536, 1024]⟩
abbrev S1x1088x8x128 : Shape := ⟨4, ![1, 1088, 8, 128]⟩
abbrev S1088x16x128 : Shape := ⟨3, ![1088, 16, 128]⟩
abbrev S1088x2048 : Shape := ⟨2, ![1088, 2048]⟩
abbrev S6x1088x256 : Shape := ⟨3, ![6, 1088, 256]⟩
abbrev S1 : Shape := ⟨1, ![1]⟩
abbrev S1x16x128 : Shape := ⟨3, ![1, 16, 128]⟩
abbrev S544x16x128 : Shape := ⟨3, ![544, 16, 128]⟩
abbrev S544x2048 : Shape := ⟨2, ![544, 2048]⟩
abbrev S2048x256 : Shape := ⟨2, ![2048, 256]⟩
abbrev S544x256 : Shape := ⟨2, ![544, 256]⟩
abbrev S1x544x256 : Shape := ⟨3, ![1, 544, 256]⟩
abbrev S1536x1024 : Shape := ⟨2, ![1536, 1024]⟩
abbrev S544x1536 : Shape := ⟨2, ![544, 1536]⟩
abbrev S544x1024 : Shape := ⟨2, ![544, 1024]⟩
abbrev S1x544x1 : Shape := ⟨3, ![1, 544, 1]⟩
abbrev S544x1 : Shape := ⟨2, ![544, 1]⟩
abbrev S544x8x128 : Shape := ⟨3, ![544, 8, 128]⟩
abbrev S1x544x8x128 : Shape := ⟨4, ![1, 544, 8, 128]⟩

abbrev nBuf : Space → Nat
  | .hbm => 75
  | .vmem => 16
  | .smem => 1
  | _ => 0

abbrev bufTy : (tb : Table) → Fin (tcTables nBuf tb) → BufTy
  | .hbm, ⟨0, _⟩ => ⟨S2x4352x16, .f32⟩
  | .hbm, ⟨1, _⟩ => ⟨S2x4352x2048, .f32⟩
  | .hbm, ⟨2, _⟩ => ⟨S4x16x2048x1536, .f32⟩
  | .hbm, ⟨3, _⟩ => ⟨S4x16x2048x1536, .f32⟩
  | .hbm, ⟨4, _⟩ => ⟨S4x16x1536x2048, .f32⟩
  | .hbm, ⟨5, _⟩ => ⟨S2x4096x16, .f32⟩
  | .hbm, ⟨6, _⟩ => ⟨S_, .f32⟩
  | .hbm, ⟨7, _⟩ => ⟨S2x4096, .f32⟩
  | .hbm, ⟨8, _⟩ => ⟨S_, .f32⟩
  | .hbm, ⟨9, _⟩ => ⟨S2x4096, .f32⟩
  | .hbm, ⟨10, _⟩ => ⟨S2x4096, .f32⟩
  | .hbm, ⟨11, _⟩ => ⟨S2x4096x1, .f32⟩
  | .hbm, ⟨12, _⟩ => ⟨S2x4096x16, .f32⟩
  | .hbm, ⟨13, _⟩ => ⟨S2x4096x16, .f32⟩
  | .hbm, ⟨14, _⟩ => ⟨S2x4096x16, .f32⟩
  | .hbm, ⟨15, _⟩ => ⟨S_, .f32⟩
  | .hbm, ⟨16, _⟩ => ⟨S2x4096, .f32⟩
  | .hbm, ⟨17, _⟩ => ⟨S2x4096x1, .f32⟩
  | .hbm, ⟨18, _⟩ => ⟨S2x4096x16, .f32⟩
  | .hbm, ⟨19, _⟩ => ⟨S2x4096x16, .f32⟩
  | .hbm, ⟨20, _⟩ => ⟨S2x16x4096, .f32⟩
  | .hbm, ⟨21, _⟩ => ⟨S2x16x512, .f32⟩
  | .hbm, ⟨22, _⟩ => ⟨S2x16x512, .i32⟩
  | .hbm, ⟨23, _⟩ => ⟨S2, .i32⟩
  | .hbm, ⟨24, _⟩ => ⟨S2x1x1, .i32⟩
  | .hbm, ⟨25, _⟩ => ⟨S_, .i32⟩
  | .hbm, ⟨26, _⟩ => ⟨S2x1x1, .i32⟩
  | .hbm, ⟨27, _⟩ => ⟨S2x1x1, .i32⟩
  | .hbm, ⟨28, _⟩ => ⟨S_, .i32⟩
  | .hbm, ⟨29, _⟩ => ⟨S2x1x1, .i32⟩
  | .hbm, ⟨30, _⟩ => ⟨S2x1x1, .i32⟩
  | .hbm, ⟨31, _⟩ => ⟨S2x16x512, .i32⟩
  | .hbm, ⟨32, _⟩ => ⟨S2x16x512, .i32⟩
  | .hbm, ⟨33, _⟩ => ⟨S16x2x512, .i32⟩
  | .hbm, ⟨34, _⟩ => ⟨S16x1024, .i32⟩
  | .hbm, ⟨35, _⟩ => ⟨S16x2x512, .f32⟩
  | .hbm, ⟨36, _⟩ => ⟨S16x1024, .f32⟩
  | .hbm, ⟨37, _⟩ => ⟨S2x256x16, .f32⟩
  | .hbm, ⟨38, _⟩ => ⟨S_, .f32⟩
  | .hbm, ⟨39, _⟩ => ⟨S2x256, .f32⟩
  | .hbm, ⟨40, _⟩ => ⟨S_, .f32⟩
  | .hbm, ⟨41, _⟩ => ⟨S2x256, .f32⟩
  | .hbm, ⟨42, _⟩ => ⟨S2x256, .f32⟩
  | .hbm, ⟨43, _⟩ => ⟨S2x256x1, .f32⟩
  | .hbm, ⟨44, _⟩ => ⟨S2x256x16, .f32⟩
  | .hbm, ⟨45, _⟩ => ⟨S2x256x16, .f32⟩
  | .hbm, ⟨46, _⟩ => ⟨S2x256x16, .f32⟩
  | .hbm, ⟨47, _⟩ => ⟨S_, .f32⟩
  | .hbm, ⟨48, _⟩ => ⟨S2x256, .f32⟩
  | .hbm, ⟨49, _⟩ => ⟨S2x256x1, .f32⟩
  | .hbm, ⟨50, _⟩ => ⟨S2x256x16, .f32⟩
  | .hbm, ⟨51, _⟩ => ⟨S2x256x16, .f32⟩
  | .hbm, ⟨52, _⟩ => ⟨S2x16x256, .f32⟩
  | .hbm, ⟨53, _⟩ => ⟨S2x16x32, .f32⟩
  | .hbm, ⟨54, _⟩ => ⟨S2x16x32, .i32⟩
  | .hbm, ⟨55, _⟩ => ⟨S2, .i32⟩
  | .hbm, ⟨56, _⟩ => ⟨S2x1x1, .i32⟩
  | .hbm, ⟨57, _⟩ => ⟨S_, .i32⟩
  | .hbm, ⟨58, _⟩ => ⟨S2x1x1, .i32⟩
  | .hbm, ⟨59, _⟩ => ⟨S2x1x1, .i32⟩
  | .hbm, ⟨60, _⟩ => ⟨S_, .i32⟩
  | .hbm, ⟨61, _⟩ => ⟨S2x1x1, .i32⟩
  | .hbm, ⟨62, _⟩ => ⟨S2x1x1, .i32⟩
  | .hbm, ⟨63, _⟩ => ⟨S2x16x32, .i32⟩
  | .hbm, ⟨64, _⟩ => ⟨S2x16x32, .i32⟩
  | .hbm, ⟨65, _⟩ => ⟨S16x2x32, .i32⟩
  | .hbm, ⟨66, _⟩ => ⟨S16x64, .i32⟩
  | .hbm, ⟨67, _⟩ => ⟨S16x2x32, .f32⟩
  | .hbm, ⟨68, _⟩ => ⟨S16x64, .f32⟩
  | .hbm, ⟨69, _⟩ => ⟨S16x1088, .i32⟩
  | .hbm, ⟨70, _⟩ => ⟨S16x1088, .f32⟩
  | .hbm, ⟨71, _⟩ => ⟨S16x1088x1, .f32⟩
  | .hbm, ⟨72, _⟩ => ⟨S2x4352x16x128, .f32⟩
  | .hbm, ⟨73, _⟩ => ⟨S8704x16x128, .f32⟩
  | .hbm, ⟨74, _⟩ => ⟨S16x1088x16x128, .f32⟩
  | .local _ .vmem, ⟨0, _⟩ => ⟨S1x1088x1, .f32⟩
  | .local _ .vmem, ⟨1, _⟩ => ⟨S1x1088x1, .f32⟩
  | .local _ .vmem, ⟨2, _⟩ => ⟨S1x1x2048x256, .f32⟩
  | .local _ .vmem, ⟨3, _⟩ => ⟨S1x1x2048x256, .f32⟩
  | .local _ .vmem, ⟨4, _⟩ => ⟨S1x1x2048x256, .f32⟩
  | .local _ .vmem, ⟨5, _⟩ => ⟨S1x1x2048x256, .f32⟩
  | .local _ .vmem, ⟨6, _⟩ => ⟨S1x1x1536x1024, .f32⟩
  | .local _ .vmem, ⟨7, _⟩ => ⟨S1x1x1536x1024, .f32⟩
  | .local _ .vmem, ⟨8, _⟩ => ⟨S1x1088x8x128, .f32⟩
  | .local _ .vmem, ⟨9, _⟩ => ⟨S1x1088x8x128, .f32⟩
  | .local _ .vmem, ⟨10, _⟩ => ⟨S1088x16x128, .f32⟩
  | .local _ .vmem, ⟨11, _⟩ => ⟨S1088x2048, .bf16⟩
  | .local _ .vmem, ⟨12, _⟩ => ⟨S6x1088x256, .bf16⟩
  | .local _ .vmem, ⟨13, _⟩ => ⟨S2048x256, .bf16⟩
  | .local _ .vmem, ⟨14, _⟩ => ⟨S2048x256, .bf16⟩
  | .local _ .vmem, ⟨15, _⟩ => ⟨S1536x1024, .bf16⟩
  | .local _ .smem, ⟨0, _⟩ => ⟨S17408, .i32⟩
  | _, _ => ⟨S2x4352x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_values : Ref sig .tc := ⟨.hbm, 21, rfl⟩
abbrev main_indices : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_values_6 : Ref sig .tc := ⟨.hbm, 53, rfl⟩
abbrev main_indices_7 : Ref sig .tc := ⟨.hbm, 54, rfl⟩
abbrev main_v38 : Ref sig .tc := ⟨.hbm, 55, rfl⟩
abbrev main_v39 : Ref sig .tc := ⟨.hbm, 56, rfl⟩
abbrev main_c_8 : Ref sig .tc := ⟨.hbm, 57, rfl⟩
abbrev main_v40 : Ref sig .tc := ⟨.hbm, 58, rfl⟩
abbrev main_v41 : Ref sig .tc := ⟨.hbm, 59, rfl⟩
abbrev main_c_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v51 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scoped0 : Ref sig .tc := ⟨.vmem, 13, rfl⟩
abbrev cc0_scoped1 : Ref sig .tc := ⟨.vmem, 14, rfl⟩
abbrev cc0_scoped2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

abbrev pre0 : Pipeline.Prefetch sig := ⟨1, ![main_v51.idx], fun | 0 => main_v51.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_9 : BitVec 32 := 0#32
  let c1088_i32 : BitVec 32 := 1088#32
  let v22 : BitVec 32 := Scalar.addi c0_i32_9 c1088_i32
  let c1_i32_10 : BitVec 32 := 1#32
  ⟨c0_i32_9, v22, c1_i32_10⟩
def k0_off1 (k0_t1 : Fin k0_t1_loop.trips) : Fin 1 → Nat :=
  let c0_i32_13 : BitVec 32 := 0#32
  let c0_i32_12 : BitVec 32 := 0#32
  let c0_i32_9 : BitVec 32 := 0#32
  let c1_i32_10 : BitVec 32 := 1#32
  let arg13 : BitVec 32 := Scf.iv c0_i32_9 c1_i32_10 k0_t1
  let v23 : BitVec 32 := Scalar.addi c0_i32_12 arg13
  let v24 : BitVec 32 := Scalar.addi c0_i32_13 v23
  let v25 : Index := Scalar.indexCast v24
  ![v25.toNat]
def k0_off2 (k0_t1 : Fin k0_t1_loop.trips) : Fin 3 → Nat :=
  let c0_i32_12 : BitVec 32 := 0#32
  let c0_i32_9 : BitVec 32 := 0#32
  let c1_i32_10 : BitVec 32 := 1#32
  let arg13 : BitVec 32 := Scf.iv c0_i32_9 c1_i32_10 k0_t1
  let v23 : BitVec 32 := Scalar.addi c0_i32_12 arg13
  let c0_i32_15 : BitVec 32 := 0#32
  let c0_i32_16 : BitVec 32 := 0#32
  ![v23.toNat, 0, 0]
def k0_off3 (v26 : BitVec 32) : Fin 3 → Nat :=
  let c0_i32_17 : BitVec 32 := 0#32
  let c0_i32_18 : BitVec 32 := 0#32
  ![v26.toNat, 0, 0]

def k0_chk1 (i : grid0.Coords) (v26 : BitVec 32) : Prop :=
  (∀ (k0_h1 : k0_cond1 i = 1#1), ∀ a, (k0_off3 v26) a + S1x16x128.size a ≤ S8704x16x128.size a)
theorem k0_off3_inb : ∀ (i : grid0.Coords) (v26 : BitVec 32) (k0_hw1 : k0_chk1 i v26), ∀ (k0_h1 : k0_cond1 i = 1#1), ∀ a, (k0_off3 v26) a + S1x16x128.size a ≤ S8704x16x128.size a := fun i v26 k0_hw1 k0_h1 => k0_hw1 k0_h1

def k0_cond3 (i : grid0.Coords) : BitVec 1 :=
  let arg1 : BitVec 32 := BitVec.ofNat 32 (i 1).val
  let c1_i32 : BitVec 32 := 1#32
  let v8 : BitVec 1 := Scalar.cmpi .sge arg1 c1_i32
  let c4_i32 : BitVec 32 := 4#32
  let v9 : BitVec 1 := Scalar.cmpi .sle arg1 c4_i32
  let v10 : BitVec 1 := Scalar.andi v8 v9
  let arg0 : BitVec 32 := BitVec.ofNat 32 (i 0).val
  let c1_i32_4 : BitVec 32 := 1#32
  let v11 : BitVec 32 := Scalar.addi arg0 c1_i32_4
  let c16_i32 : BitVec 32 := 16#32
  let v12 : BitVec 1 := Scalar.cmpi .slt v11 c16_i32
  let v13 : BitVec 1 := Scalar.andi v10 v12
  let v14 : BitVec 32 := Scalar.extui v13
  let c0_i32_5 : BitVec 32 := 0#32
  let v15 : BitVec 1 := Scalar.cmpi .ne v14 c0_i32_5
  v15

@[reducible] def k0_t2_loop : Scf.Loop 32 :=
  let c0_i32_11 : BitVec 32 := 0#32
  let c272_i32_12 : BitVec 32 := 272#32
  let v25 : BitVec 32 := Scalar.addi c0_i32_11 c272_i32_12
  let c1_i32_13 : BitVec 32 := 1#32
  ⟨c0_i32_11, v25, c1_i32_13⟩
def k0_off4 (i : grid0.Coords) (k0_t2 : Fin k0_t2_loop.trips) : Fin 1 → Nat :=
  let arg0 : BitVec 32 := BitVec.ofNat 32 (i 0).val
  let c1_i32_9 : BitVec 32 := 1#32
  let v22 : BitVec 32 := Scalar.addi arg0 c1_i32_9
  let c1088_i32 : BitVec 32 := 1088#32
  let v27 : BitVec 32 := Scalar.muli v22 c1088_i32
  let arg1 : BitVec 32 := BitVec.ofNat 32 (i 1).val
  let c1_i32_10 : BitVec 32 := 1#32
  let v23 : BitVec 32 := Scalar.subi arg1 c1_i32_10
  let c272_i32 : BitVec 32 := 272#32
  let v24 : BitVec 32 := Scalar.muli v23 c272_i32
  let c0_i32_11 : BitVec 32 := 0#32
  let c1_i32_13 : BitVec 32 := 1#32
  let arg13 : BitVec 32 := Scf.iv c0_i32_11 c1_i32_13 k0_t2
  let v26 : BitVec 32 := Scalar.addi v24 arg13
  let v28 : BitVec 32 := Scalar.addi v27 v26
  let v29 : Index := Scalar.indexCast v28
  ![v29.toNat]
def k0_off5 (i : grid0.Coords) (k0_t2 : Fin k0_t2_loop.trips) : Fin 3 → Nat :=
  let arg1 : BitVec 32 := BitVec.ofNat 32 (i 1).val
  let c1_i32_10 : BitVec 32 := 1#32
  let v23 : BitVec 32 := Scalar.subi arg1 c1_i32_10
  let c272_i32 : BitVec 32 := 272#32
  let v24 : BitVec 32 := Scalar.muli v23 c272_i32
  let c0_i32_11 : BitVec 32 := 0#32
  let c1_i32_13 : BitVec 32 := 1#32
  let arg13 : BitVec 32 := Scf.iv c0_i32_11 c1_i32_13 k0_t2
  let v26 : BitVec 32 := Scalar.addi v24 arg13
  let c0_i32_16 : BitVec 32 := 0#32
  let c0_i32_17 : BitVec 32 := 0#32
  ![v26.toNat, 0, 0]
def k0_off6 (v30 : BitVec 32) : Fin 3 → Nat :=
  let c0_i32_18 : BitVec 32 := 0#32
  let c0_i32_19 : BitVec 32 := 0#32
  ![v30.toNat, 0, 0]

def k0_chk2 (i : grid0.Coords) (v30 : BitVec 32) : Prop :=
  (∀ (k0_h3 : k0_cond3 i = 1#1), ∀ a, (k0_off6 v30) a + S1x16x128.size a ≤ S8704x16x128.size a)
theorem k0_off6_inb : ∀ (i : grid0.Coords) (v30 : BitVec 32) (k0_hw2 : k0_chk2 i v30), ∀ (k0_h3 : k0_cond3 i = 1#1), ∀ a, (k0_off6 v30) a + S1x16x128.size a ≤ S8704x16x128.size a := fun i v30 k0_hw2 k0_h3 => k0_hw2 k0_h3

def k0_cond4 (i : grid0.Coords) : BitVec 1 :=
  let arg1 : BitVec 32 := BitVec.ofNat 32 (i 1).val
  let c6_i32 : BitVec 32 := 6#32
  let v16 : BitVec 1 := Scalar.cmpi .slt arg1 c6_i32
  let v17 : BitVec 32 := Scalar.extui v16
  let c0_i32_6 : BitVec 32 := 0#32
  let v18 : BitVec 1 := Scalar.cmpi .ne v17 c0_i32_6
  v18

def k0_off7 (i : grid0.Coords) : Fin 3 → Nat :=
  let arg1 : BitVec 32 := BitVec.ofNat 32 (i 1).val
  let v43_r0 : Index := Scalar.indexCast arg1
  let c0_28_r0 : Index := 0#32
  let c0_29_r0 : Index := 0#32
  ![v43_r0.toNat, 0, 0]
def k0_off8 (i : grid0.Coords) : Fin 3 → Nat :=
  let arg1 : BitVec 32 := BitVec.ofNat 32 (i 1).val
  let v56_r0 : Index := Scalar.indexCast arg1
  let c544_37_r0 : Index := 544#32
  let c0_38_r0 : Index := 0#32
  ![v56_r0.toNat, 544, 0]
def k0_cond5 (i : grid0.Coords) : BitVec 1 :=
  let arg1 : BitVec 32 := BitVec.ofNat 32 (i 1).val
  let c6_i32_7 : BitVec 32 := 6#32
  let v19 : BitVec 1 := Scalar.cmpi .sge arg1 c6_i32_7
  let v20 : BitVec 32 := Scalar.extui v19
  let c0_i32_8 : BitVec 32 := 0#32
  let v21 : BitVec 1 := Scalar.cmpi .ne v20 c0_i32_8
  v21

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  let c0_i32_0 : BitVec 32 := 0#32
  let c0_i32_1 : BitVec 32 := 0#32
  ![c0_i32.toNat, arg0.toNat, c0_i32_0.toNat, v0.toNat]

def cc0_transform_3 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  let c0_i32_0 : BitVec 32 := 0#32
  let c0_i32_1 : BitVec 32 := 0#32
  ![c0_i32.toNat, arg0.toNat, c0_i32_0.toNat, v0.toNat]

def cc0_transform_4 (i : grid0.Coords) : Fin 4 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, arg0.toNat, c0_i32_1.toNat, v1.toNat]

def cc0_transform_5 (i : grid0.Coords) : Fin 4 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, v1.toNat, c0_i32_1.toNat]

abbrev stage0_0 : Fin 2 → Memref sig .tc .vmem S1x1088x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1536x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1088x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x4352x16 : Shape := ⟨3, ![2, 4352, 16]⟩
abbrev S2x4352x2048 : Shape := ⟨3, ![2, 4352, 2048]⟩
abbrev S4x16x2048x1536 : Shape := ⟨4, ![4, 16, 2048, 1536]⟩
abbrev S4x16x1536x2048 : Shape := ⟨4, ![4, 16, 1536, 2048]⟩
abbrev S2x4096x2048 : Shape := ⟨3, ![2, 4096, 2048]⟩
abbrev S2x4096x16 : Shape := ⟨3, ![2, 4096, 16]⟩
abbrev S1x16x2048x1536 : Shape := ⟨4, ![1, 16, 2048, 1536]⟩
abbrev S16x2048x1536 : Shape := ⟨3, ![16, 2048, 1536]⟩
abbrev S1x16x1536x2048 : Shape := ⟨4, ![1, 16, 1536, 2048]⟩
abbrev S16x1536x2048 : Shape := ⟨3, ![16, 1536, 2048]⟩
abbrev S_ : Shape := ⟨0, ![]⟩
abbrev S2x4096 : Shape := ⟨2, ![2, 4096]⟩
abbrev S2x4096x1 : Shape := ⟨3, ![2, 4096, 1]⟩
abbrev S2x16x4096 : Shape := ⟨3, ![2, 16, 4096]⟩
abbrev S2x16x512 : Shape := ⟨3, ![2, 16, 512]⟩
abbrev S2x16x512x1 : Shape := ⟨4, ![2, 16, 512, 1]⟩
abbrev S2x16x512x2048 : Shape := ⟨4, ![2, 16, 512, 2048]⟩
abbrev S16x1536x2x512 : Shape := ⟨4, ![16, 1536, 2, 512]⟩
abbrev S2x16x512x1536 : Shape := ⟨4, ![2, 16, 512, 1536]⟩
abbrev S16x2048x2x512 : Shape := ⟨4, ![16, 2048, 2, 512]⟩
abbrev S16x2x512x2048 : Shape := ⟨4, ![16, 2, 512, 2048]⟩
abbrev S16x1024x2048 : Shape := ⟨3, ![16, 1024, 2048]⟩
abbrev S2x256x2048 : Shape := ⟨3, ![2, 256, 2048]⟩
abbrev S2x256x16 : Shape := ⟨3, ![2, 256, 16]⟩
abbrev S2x256 : Shape := ⟨2, ![2, 256]⟩
abbrev S2x256x1 : Shape := ⟨3, ![2, 256, 1]⟩
abbrev S2x16x256 : Shape := ⟨3, ![2, 16, 256]⟩
abbrev S2x16x32 : Shape := ⟨3, ![2, 16, 32]⟩
abbrev S2x16x32x1 : Shape := ⟨4, ![2, 16, 32, 1]⟩
abbrev S2x16x32x2048 : Shape := ⟨4, ![2, 16, 32, 2048]⟩
abbrev S16x1536x2x32 : Shape := ⟨4, ![16, 1536, 2, 32]⟩
abbrev S2x16x32x1536 : Shape := ⟨4, ![2, 16, 32, 1536]⟩
abbrev S16x2048x2x32 : Shape := ⟨4, ![16, 2048, 2, 32]⟩
abbrev S16x2x32x2048 : Shape := ⟨4, ![16, 2, 32, 2048]⟩
abbrev S16x64x2048 : Shape := ⟨3, ![16, 64, 2048]⟩
abbrev S16x1088x2048 : Shape := ⟨3, ![16, 1088, 2048]⟩
abbrev S16x1088x16x128 : Shape := ⟨4, ![16, 1088, 16, 128]⟩

abbrev nBuf : Space → Nat
  | .hbm => 117
  | .vmem => 0
  | .smem => 0
  | _ => 0

abbrev bufTy : (tb : Table) → Fin (tcTables nBuf tb) → BufTy
  | .hbm, ⟨0, _⟩ => ⟨S2x4352x16, .f32⟩
  | .hbm, ⟨1, _⟩ => ⟨S2x4352x2048, .f32⟩
  | .hbm, ⟨2, _⟩ => ⟨S4x16x2048x1536, .f32⟩
  | .hbm, ⟨3, _⟩ => ⟨S4x16x2048x1536, .f32⟩
  | .hbm, ⟨4, _⟩ => ⟨S4x16x1536x2048, .f32⟩
  | .hbm, ⟨5, _⟩ => ⟨S2x4096x2048, .f32⟩
  | .hbm, ⟨6, _⟩ => ⟨S2x4096x16, .f32⟩
  | .hbm, ⟨7, _⟩ => ⟨S1x16x2048x1536, .f32⟩
  | .hbm, ⟨8, _⟩ => ⟨S16x2048x1536, .f32⟩
  | .hbm, ⟨9, _⟩ => ⟨S1x16x2048x1536, .f32⟩
  | .hbm, ⟨10, _⟩ => ⟨S16x2048x1536, .f32⟩
  | .hbm, ⟨11, _⟩ => ⟨S1x16x1536x2048, .f32⟩
  | .hbm, ⟨12, _⟩ => ⟨S16x1536x2048, .f32⟩
  | .hbm, ⟨13, _⟩ => ⟨S_, .f32⟩
  | .hbm, ⟨14, _⟩ => ⟨S2x4096, .f32⟩
  | .hbm, ⟨15, _⟩ => ⟨S_, .f32⟩
  | .hbm, ⟨16, _⟩ => ⟨S2x4096, .f32⟩
  | .hbm, ⟨17, _⟩ => ⟨S2x4096, .f32⟩
  | .hbm, ⟨18, _⟩ => ⟨S2x4096x1, .f32⟩
  | .hbm, ⟨19, _⟩ => ⟨S2x4096x16, .f32⟩
  | .hbm, ⟨20, _⟩ => ⟨S2x4096x16, .f32⟩
  | .hbm, ⟨21, _⟩ => ⟨S2x4096x16, .f32⟩
  | .hbm, ⟨22, _⟩ => ⟨S_, .f32⟩
  | .hbm, ⟨23, _⟩ => ⟨S2x4096, .f32⟩
  | .hbm, ⟨24, _⟩ => ⟨S2x4096x1, .f32⟩
  | .hbm, ⟨25, _⟩ => ⟨S2x4096x16, .f32⟩
  | .hbm, ⟨26, _⟩ => ⟨S2x4096x16, .f32⟩
  | .hbm, ⟨27, _⟩ => ⟨S2x16x4096, .f32⟩
  | .hbm, ⟨28, _⟩ => ⟨S2x16x512, .f32⟩
  | .hbm, ⟨29, _⟩ => ⟨S2x16x512, .i32⟩
  | .hbm, ⟨30, _⟩ => ⟨S_, .i32⟩
  | .hbm, ⟨31, _⟩ => ⟨S2x16x512, .i32⟩
  | .hbm, ⟨32, _⟩ => ⟨S2x16x512, .i1⟩
  | .hbm, ⟨33, _⟩ => ⟨S_, .i32⟩
  | .hbm, ⟨34, _⟩ => ⟨S2x16x512, .i32⟩
  | .hbm, ⟨35, _⟩ => ⟨S2x16x512, .i32⟩
  | .hbm, ⟨36, _⟩ => ⟨S2x16x512, .i32⟩
  | .hbm, ⟨37, _⟩ => ⟨S2x16x512x1, .i32⟩
  | .hbm, ⟨38, _⟩ => ⟨S2x16x512x2048, .f32⟩
  | .hbm, ⟨39, _⟩ => ⟨S16x1536x2x512, .f32⟩
  | .hbm, ⟨40, _⟩ => ⟨S2x16x512x1536, .f32⟩
  | .hbm, ⟨41, _⟩ => ⟨S2x16x512x1536, .f32⟩
  | .hbm, ⟨42, _⟩ => ⟨S2x16x512x1536, .f32⟩
  | .hbm, ⟨43, _⟩ => ⟨S_, .f32⟩
  | .hbm, ⟨44, _⟩ => ⟨S2x16x512x1536, .f32⟩
  | .hbm, ⟨45, _⟩ => ⟨S2x16x512x1536, .f32⟩
  | .hbm, ⟨46, _⟩ => ⟨S_, .f32⟩
  | .hbm, ⟨47, _⟩ => ⟨S2x16x512x1536, .f32⟩
  | .hbm, ⟨48, _⟩ => ⟨S2x16x512x1536, .f32⟩
  | .hbm, ⟨49, _⟩ => ⟨S2x16x512x1536, .f32⟩
  | .hbm, ⟨50, _⟩ => ⟨S16x1536x2x512, .f32⟩
  | .hbm, ⟨51, _⟩ => ⟨S2x16x512x1536, .f32⟩
  | .hbm, ⟨52, _⟩ => ⟨S2x16x512x1536, .f32⟩
  | .hbm, ⟨53, _⟩ => ⟨S16x2048x2x512, .f32⟩
  | .hbm, ⟨54, _⟩ => ⟨S2x16x512x2048, .f32⟩
  | .hbm, ⟨55, _⟩ => ⟨S2x16x512x1, .f32⟩
  | .hbm, ⟨56, _⟩ => ⟨S2x16x512x2048, .f32⟩
  | .hbm, ⟨57, _⟩ => ⟨S2x16x512x2048, .f32⟩
  | .hbm, ⟨58, _⟩ => ⟨S16x2x512x2048, .f32⟩
  | .hbm, ⟨59, _⟩ => ⟨S16x1024x2048, .f32⟩
  | .hbm, ⟨60, _⟩ => ⟨S2x256x2048, .f32⟩
  | .hbm, ⟨61, _⟩ => ⟨S2x256x16, .f32⟩
  | .hbm, ⟨62, _⟩ => ⟨S1x16x2048x1536, .f32⟩
  | .hbm, ⟨63, _⟩ => ⟨S16x2048x1536, .f32⟩
  | .hbm, ⟨64, _⟩ => ⟨S1x16x2048x1536, .f32⟩
  | .hbm, ⟨65, _⟩ => ⟨S16x2048x1536, .f32⟩
  | .hbm, ⟨66, _⟩ => ⟨S1x16x1536x2048, .f32⟩
  | .hbm, ⟨67, _⟩ => ⟨S16x1536x2048, .f32⟩
  | .hbm, ⟨68, _⟩ => ⟨S_, .f32⟩
  | .hbm, ⟨69, _⟩ => ⟨S2x256, .f32⟩
  | .hbm, ⟨70, _⟩ => ⟨S_, .f32⟩
  | .hbm, ⟨71, _⟩ => ⟨S2x256, .f32⟩
  | .hbm, ⟨72, _⟩ => ⟨S2x256, .f32⟩
  | .hbm, ⟨73, _⟩ => ⟨S2x256x1, .f32⟩
  | .hbm, ⟨74, _⟩ => ⟨S2x256x16, .f32⟩
  | .hbm, ⟨75, _⟩ => ⟨S2x256x16, .f32⟩
  | .hbm, ⟨76, _⟩ => ⟨S2x256x16, .f32⟩
  | .hbm, ⟨77, _⟩ => ⟨S_, .f32⟩
  | .hbm, ⟨78, _⟩ => ⟨S2x256, .f32⟩
  | .hbm, ⟨79, _⟩ => ⟨S2x256x1, .f32⟩
  | .hbm, ⟨80, _⟩ => ⟨S2x256x16, .f32⟩
  | .hbm, ⟨81, _⟩ => ⟨S2x256x16, .f32⟩
  | .hbm, ⟨82, _⟩ => ⟨S2x16x256, .f32⟩
  | .hbm, ⟨83, _⟩ => ⟨S2x16x32, .f32⟩
  | .hbm, ⟨84, _⟩ => ⟨S2x16x32, .i32⟩
  | .hbm, ⟨85, _⟩ => ⟨S_, .i32⟩
  | .hbm, ⟨86, _⟩ => ⟨S2x16x32, .i32⟩
  | .hbm, ⟨87, _⟩ => ⟨S2x16x32, .i1⟩
  | .hbm, ⟨88, _⟩ => ⟨S_, .i32⟩
  | .hbm, ⟨89, _⟩ => ⟨S2x16x32, .i32⟩
  | .hbm, ⟨90, _⟩ => ⟨S2x16x32, .i32⟩
  | .hbm, ⟨91, _⟩ => ⟨S2x16x32, .i32⟩
  | .hbm, ⟨92, _⟩ => ⟨S2x16x32x1, .i32⟩
  | .hbm, ⟨93, _⟩ => ⟨S2x16x32x2048, .f32⟩
  | .hbm, ⟨94, _⟩ => ⟨S16x1536x2x32, .f32⟩
  | .hbm, ⟨95, _⟩ => ⟨S2x16x32x1536, .f32⟩
  | .hbm, ⟨96, _⟩ => ⟨S2x16x32x1536, .f32⟩
  | .hbm, ⟨97, _⟩ => ⟨S2x16x32x1536, .f32⟩
  | .hbm, ⟨98, _⟩ => ⟨S_, .f32⟩
  | .hbm, ⟨99, _⟩ => ⟨S2x16x32x1536, .f32⟩
  | .hbm, ⟨100, _⟩ => ⟨S2x16x32x1536, .f32⟩
  | .hbm, ⟨101, _⟩ => ⟨S_, .f32⟩
  | .hbm, ⟨102, _⟩ => ⟨S2x16x32x1536, .f32⟩
  | .hbm, ⟨103, _⟩ => ⟨S2x16x32x1536, .f32⟩
  | .hbm, ⟨104, _⟩ => ⟨S2x16x32x1536, .f32⟩
  | .hbm, ⟨105, _⟩ => ⟨S16x1536x2x32, .f32⟩
  | .hbm, ⟨106, _⟩ => ⟨S2x16x32x1536, .f32⟩
  | .hbm, ⟨107, _⟩ => ⟨S2x16x32x1536, .f32⟩
  | .hbm, ⟨108, _⟩ => ⟨S16x2048x2x32, .f32⟩
  | .hbm, ⟨109, _⟩ => ⟨S2x16x32x2048, .f32⟩
  | .hbm, ⟨110, _⟩ => ⟨S2x16x32x1, .f32⟩
  | .hbm, ⟨111, _⟩ => ⟨S2x16x32x2048, .f32⟩
  | .hbm, ⟨112, _⟩ => ⟨S2x16x32x2048, .f32⟩
  | .hbm, ⟨113, _⟩ => ⟨S16x2x32x2048, .f32⟩
  | .hbm, ⟨114, _⟩ => ⟨S16x64x2048, .f32⟩
  | .hbm, ⟨115, _⟩ => ⟨S16x1088x2048, .f32⟩
  | .hbm, ⟨116, _⟩ => ⟨S16x1088x16x128, .f32⟩
  | _, _ => ⟨S2x4352x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_values : Ref sig .tc := ⟨.hbm, 28, rfl⟩
abbrev main_indices : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_3 : Ref sig .tc := ⟨.hbm, 68, rfl⟩
abbrev main_v48 : Ref sig .tc := ⟨.hbm, 69, rfl⟩
abbrev main_cst_4 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_5 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_values_6 : Ref sig .tc := ⟨.hbm, 83, rfl⟩
abbrev main_indices_7 : Ref sig .tc := ⟨.hbm, 84, rfl⟩
abbrev main_c_8 : Ref sig .tc := ⟨.hbm, 85, rfl⟩
abbrev main_v60 : Ref sig .tc := ⟨.hbm, 86, rfl⟩
abbrev main_v61 : Ref sig .tc := ⟨.hbm, 87, rfl⟩
abbrev main_c_9 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_call1_v0 : Ref sig .tc := ⟨.hbm, 96, rfl⟩
abbrev main_call1_v1 : Ref sig .tc := ⟨.hbm, 97, rfl⟩
abbrev main_call1_cst : Ref sig .tc := ⟨.hbm, 98, rfl⟩
abbrev main_call1_v2 : Ref sig .tc := ⟨.hbm, 99, rfl⟩
abbrev main_call1_v3 : Ref sig .tc := ⟨.hbm, 100, rfl⟩
abbrev main_call1_cst_0 : Ref sig .tc := ⟨.hbm, 101, rfl⟩
abbrev main_call1_v4 : Ref sig .tc := ⟨.hbm, 102, rfl⟩
abbrev main_call1_v5 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩

abbrev nD : Nat := 1
abbrev τ : Topo := Topo.v7x

variable {F : FTy → Type} [FloatOps F]
-- ==== Kernel2.lean ====
abbrev S2x256x2048 : Shape := ⟨3, ![2, 256, 2048]⟩
abbrev S2x4096x2048 : Shape := ⟨3, ![2, 4096, 2048]⟩
abbrev S2048 : Shape := ⟨1, ![2048]⟩
abbrev S8x2048 : Shape := ⟨2, ![8, 2048]⟩
abbrev S2048x3616 : Shape := ⟨2, ![2048, 3616]⟩
abbrev S2048x1024 : Shape := ⟨2, ![2048, 1024]⟩
abbrev S2048x1536 : Shape := ⟨2, ![2048, 1536]⟩
abbrev S2048x16 : Shape := ⟨2, ![2048, 16]⟩
abbrev S1x2048 : Shape := ⟨2, ![1, 2048]⟩
abbrev S32x544x512 : Shape := ⟨3, ![32, 544, 512]⟩
abbrev S2x4352x1024 : Shape := ⟨3, ![2, 4352, 1024]⟩
abbrev S2x4352x1536 : Shape := ⟨3, ![2, 4352, 1536]⟩
abbrev S2x4352x16 : Shape := ⟨3, ![2, 4352, 16]⟩
abbrev S1x256x2048 : Shape := ⟨3, ![1, 256, 2048]⟩
abbrev S32x16x512 : Shape := ⟨3, ![32, 16, 512]⟩
abbrev S1x256x1024 : Shape := ⟨3, ![1, 256, 1024]⟩
abbrev S1x256x1536 : Shape := ⟨3, ![1, 256, 1536]⟩
abbrev S1x256x16 : Shape := ⟨3, ![1, 256, 16]⟩
abbrev S8x256x128 : Shape := ⟨3, ![8, 256, 128]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S256x128 : Shape := ⟨2, ![256, 128]⟩
abbrev S1x256x128 : Shape := ⟨3, ![1, 256, 128]⟩
abbrev S1x16x128 : Shape := ⟨3, ![1, 16, 128]⟩
abbrev S16x128 : Shape := ⟨2, ![16, 128]⟩
abbrev S16x32 : Shape := ⟨2, ![16, 32]⟩
abbrev S16x512 : Shape := ⟨2, ![16, 512]⟩
abbrev S1x16x512 : Shape := ⟨3, ![1, 16, 512]⟩
abbrev S256x1536 : Shape := ⟨2, ![256, 1536]⟩
abbrev S256x16 : Shape := ⟨2, ![256, 16]⟩

abbrev nBuf : Space → Nat
  | .hbm => 18
  | .vmem => 23
  | .smem => 0
  | _ => 0

abbrev bufTy : (tb : Table) → Fin (tcTables nBuf tb) → BufTy
  | .hbm, ⟨0, _⟩ => ⟨S2x256x2048, .f32⟩
  | .hbm, ⟨1, _⟩ => ⟨S2x4096x2048, .f32⟩
  | .hbm, ⟨2, _⟩ => ⟨S2048, .f32⟩
  | .hbm, ⟨3, _⟩ => ⟨S8x2048, .f32⟩
  | .hbm, ⟨4, _⟩ => ⟨S8x2048, .f32⟩
  | .hbm, ⟨5, _⟩ => ⟨S2048x3616, .f32⟩
  | .hbm, ⟨6, _⟩ => ⟨S2048x3616, .bf16⟩
  | .hbm, ⟨7, _⟩ => ⟨S2048x1024, .bf16⟩
  | .hbm, ⟨8, _⟩ => ⟨S2048x1024, .bf16⟩
  | .hbm, ⟨9, _⟩ => ⟨S2048x1536, .bf16⟩
  | .hbm, ⟨10, _⟩ => ⟨S2048x16, .bf16⟩
  | .hbm, ⟨11, _⟩ => ⟨S2048x16, .bf16⟩
  | .hbm, ⟨12, _⟩ => ⟨S1x2048, .f32⟩
  | .hbm, ⟨13, _⟩ => ⟨S32x544x512, .f32⟩
  | .hbm, ⟨14, _⟩ => ⟨S2x4352x1024, .f32⟩
  | .hbm, ⟨15, _⟩ => ⟨S2x4352x1536, .f32⟩
  | .hbm, ⟨16, _⟩ => ⟨S2x4352x16, .f32⟩
  | .hbm, ⟨17, _⟩ => ⟨S2x4352x16, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x2048, .f32⟩
  | .local _ .vmem, ⟨5, _⟩ => ⟨S8x2048, .f32⟩
  | .local _ .vmem, ⟨6, _⟩ => ⟨S8x2048, .f32⟩
  | .local _ .vmem, ⟨7, _⟩ => ⟨S2048x1024, .bf16⟩
  | .local _ .vmem, ⟨8, _⟩ => ⟨S2048x1024, .bf16⟩
  | .local _ .vmem, ⟨9, _⟩ => ⟨S2048x1536, .bf16⟩
  | .local _ .vmem, ⟨10, _⟩ => ⟨S2048x16, .bf16⟩
  | .local _ .vmem, ⟨11, _⟩ => ⟨S2048x16, .bf16⟩
  | .local _ .vmem, ⟨12, _⟩ => ⟨S32x16x512, .f32⟩
  | .local _ .vmem, ⟨13, _⟩ => ⟨S32x16x512, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1536, .f32⟩
  | .local _ .vmem, ⟨17, _⟩ => ⟨S1x256x1536, .f32⟩
  | .local _ .vmem, ⟨18, _⟩ => ⟨S1x256x16, .f32⟩
  | .local _ .vmem, ⟨19, _⟩ => ⟨S1x256x16, .f32⟩
  | .local _ .vmem, ⟨20, _⟩ => ⟨S1x256x16, .f32⟩
  | .local _ .vmem, ⟨21, _⟩ => ⟨S1x256x16, .f32⟩
  | .local _ .vmem, ⟨22, _⟩ => ⟨S8x256x128, .f32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![2, 17], ![false, false]⟩

def k0_off1 (i : grid0.Coords) : Fin 2 → Nat :=
  let arg1 : BitVec 32 := BitVec.ofNat 32 (i 1).val
  let c0_i32_5 : BitVec 32 := 0#32
  let v6 : BitVec 1 := Scalar.cmpi .eq arg1 c0_i32_5
  let c2_i32 : BitVec 32 := 2#32
  let arg0 : BitVec 32 := BitVec.ofNat 32 (i 0).val
  let v7 : BitVec 32 := Scalar.select v6 c2_i32 arg0
  let v22 : Index := Scalar.indexCast v7
  let c0_10 : Index := 0#32
  ![v22.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c32_i32 : BitVec 32 := 32#32
  let v1 : BitVec 32 := Scalar.addi c32_i32 arg0
  let c16_i32 : BitVec 32 := 16#32
  let v2 : BitVec 32 := Scalar.muli arg0 c16_i32
  let v3 : BitVec 32 := Scalar.addi v2 arg1
  let c1_i32 : BitVec 32 := 1#32
  let v4 : BitVec 32 := Scalar.subi v3 c1_i32
  let v5 : BitVec 32 := Scalar.select v0 v1 v4
  let c0_i32_0 : BitVec 32 := 0#32
  let c0_i32_1 : BitVec 32 := 0#32
  let c0_i32_2 : BitVec 32 := 0#32
  ![c0_i32_0.toNat, v5.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x16 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x16 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S32x16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x16 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x16 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference2Ideal.lean ====
abbrev S2x256x2048 : Shape := ⟨3, ![2, 256, 2048]⟩
abbrev S2x4096x2048 : Shape := ⟨3, ![2, 4096, 2048]⟩
abbrev S2048 : Shape := ⟨1, ![2048]⟩
abbrev S8x2048 : Shape := ⟨2, ![8, 2048]⟩
abbrev S2048x3616 : Shape := ⟨2, ![2048, 3616]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x2048 : Shape := ⟨2, ![2, 2048]⟩
abbrev S2x1x2048 : Shape := ⟨3, ![2, 1, 2048]⟩
abbrev S2x256 : Shape := ⟨2, ![2, 256]⟩
abbrev S2x256x1 : Shape := ⟨3, ![2, 256, 1]⟩
abbrev S1x2048 : Shape := ⟨2, ![1, 2048]⟩
abbrev S2x4352x2048 : Shape := ⟨3, ![2, 4352, 2048]⟩
abbrev S2x4352x3616 : Shape := ⟨3, ![2, 4352, 3616]⟩
abbrev S2x4352x1024 : Shape := ⟨3, ![2, 4352, 1024]⟩
abbrev S2x4352x1536 : Shape := ⟨3, ![2, 4352, 1536]⟩
abbrev S2x4352x32 : Shape := ⟨3, ![2, 4352, 32]⟩
abbrev S2x4096x1024 : Shape := ⟨3, ![2, 4096, 1024]⟩
abbrev S512x16x32x32 : Shape := ⟨4, ![512, 16, 32, 32]⟩
abbrev S32x512x16x32 : Shape := ⟨4, ![32, 512, 16, 32]⟩
abbrev S32x512x512 : Shape := ⟨3, ![32, 512, 512]⟩
abbrev S2x256x1024 : Shape := ⟨3, ![2, 256, 1024]⟩
abbrev S32x16x32x32 : Shape := ⟨4, ![32, 16, 32, 32]⟩
abbrev S32x32x16x32 : Shape := ⟨4, ![32, 32, 16, 32]⟩
abbrev S32x32x512 : Shape := ⟨3, ![32, 32, 512]⟩
abbrev S32x544x512 : Shape := ⟨3, ![32, 544, 512]⟩
abbrev S2x4352x16 : Shape := ⟨3, ![2, 4352, 16]⟩

abbrev nBuf : Space → Nat
  | .hbm => 79
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2x4096x2048, .f32⟩
  | .hbm, ⟨2, _⟩ => ⟨S2048, .f32⟩
  | .hbm, ⟨3, _⟩ => ⟨S8x2048, .f32⟩
  | .hbm, ⟨4, _⟩ => ⟨S8x2048, .f32⟩
  | .hbm, ⟨5, _⟩ => ⟨S2048x3616, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S2x2048, .f32⟩
  | .hbm, ⟨23, _⟩ => ⟨S2x1x2048, .f32⟩
  | .hbm, ⟨24, _⟩ => ⟨S_, .f32⟩
  | .hbm, ⟨25, _⟩ => ⟨S2x1x2048, .f32⟩
  | .hbm, ⟨26, _⟩ => ⟨S2x1x2048, .f32⟩
  | .hbm, ⟨27, _⟩ => ⟨S2x4096x2048, .f32⟩
  | .hbm, ⟨28, _⟩ => ⟨S2x4096x2048, .f32⟩
  | .hbm, ⟨29, _⟩ => ⟨S2x2048, .f32⟩
  | .hbm, ⟨30, _⟩ => ⟨S2x1x2048, .f32⟩
  | .hbm, ⟨31, _⟩ => ⟨S2x4096x2048, .f32⟩
  | .hbm, ⟨32, _⟩ => ⟨S2x4096x2048, .f32⟩
  | .hbm, ⟨33, _⟩ => ⟨S2x256x2048, .f32⟩
  | .hbm, ⟨34, _⟩ => ⟨S_, .f32⟩
  | .hbm, ⟨35, _⟩ => ⟨S2x256, .f32⟩
  | .hbm, ⟨36, _⟩ => ⟨S2x256x1, .f32⟩
  | .hbm, ⟨37, _⟩ => ⟨S_, .f32⟩
  | .hbm, ⟨38, _⟩ => ⟨S2x256x1, .f32⟩
  | .hbm, ⟨39, _⟩ => ⟨S2x256x1, .f32⟩
  | .hbm, ⟨40, _⟩ => ⟨S_, .f32⟩
  | .hbm, ⟨41, _⟩ => ⟨S2x256x1, .f32⟩
  | .hbm, ⟨42, _⟩ => ⟨S2x256x1, .f32⟩
  | .hbm, ⟨43, _⟩ => ⟨S2x256x1, .f32⟩
  | .hbm, ⟨44, _⟩ => ⟨S2x256x2048, .f32⟩
  | .hbm, ⟨45, _⟩ => ⟨S2x256x2048, .f32⟩
  | .hbm, ⟨46, _⟩ => ⟨S1x1x2048, .f32⟩
  | .hbm, ⟨47, _⟩ => ⟨S2x256x2048, .f32⟩
  | .hbm, ⟨48, _⟩ => ⟨S2x256x2048, .f32⟩
  | .hbm, ⟨49, _⟩ => ⟨S1x2048, .f32⟩
  | .hbm, ⟨50, _⟩ => ⟨S2048, .f32⟩
  | .hbm, ⟨51, _⟩ => ⟨S_, .f32⟩
  | .hbm, ⟨52, _⟩ => ⟨S2048, .f32⟩
  | .hbm, ⟨53, _⟩ => ⟨S2048, .f32⟩
  | .hbm, ⟨54, _⟩ => ⟨S1x1x2048, .f32⟩
  | .hbm, ⟨55, _⟩ => ⟨S2x256x2048, .f32⟩
  | .hbm, ⟨56, _⟩ => ⟨S2x256x2048, .f32⟩
  | .hbm, ⟨57, _⟩ => ⟨S1x2048, .f32⟩
  | .hbm, ⟨58, _⟩ => ⟨S2048, .f32⟩
  | .hbm, ⟨59, _⟩ => ⟨S1x1x2048, .f32⟩
  | .hbm, ⟨60, _⟩ => ⟨S2x256x2048, .f32⟩
  | .hbm, ⟨61, _⟩ => ⟨S2x256x2048, .f32⟩
  | .hbm, ⟨62, _⟩ => ⟨S2x4352x2048, .f32⟩
  | .hbm, ⟨63, _⟩ => ⟨S2x4352x3616, .f32⟩
  | .hbm, ⟨64, _⟩ => ⟨S2x4352x1024, .f32⟩
  | .hbm, ⟨65, _⟩ => ⟨S2x4352x1024, .f32⟩
  | .hbm, ⟨66, _⟩ => ⟨S2x4352x1536, .f32⟩
  | .hbm, ⟨67, _⟩ => ⟨S2x4352x32, .f32⟩
  | .hbm, ⟨68, _⟩ => ⟨S2x4096x1024, .f32⟩
  | .hbm, ⟨69, _⟩ => ⟨S512x16x32x32, .f32⟩
  | .hbm, ⟨70, _⟩ => ⟨S32x512x16x32, .f32⟩
  | .hbm, ⟨71, _⟩ => ⟨S32x512x512, .f32⟩
  | .hbm, ⟨72, _⟩ => ⟨S2x256x1024, .f32⟩
  | .hbm, ⟨73, _⟩ => ⟨S32x16x32x32, .f32⟩
  | .hbm, ⟨74, _⟩ => ⟨S32x32x16x32, .f32⟩
  | .hbm, ⟨75, _⟩ => ⟨S32x32x512, .f32⟩
  | .hbm, ⟨76, _⟩ => ⟨S32x544x512, .f32⟩
  | .hbm, ⟨77, _⟩ => ⟨S2x4352x16, .f32⟩
  | .hbm, ⟨78, _⟩ => ⟨S2x4352x16, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩

abbrev nD : Nat := 1
abbrev τ : Topo := Topo.v7x

variable {F : FTy → Type} [FloatOps F]
-- ==== Kernel3.lean ====
abbrev S2x4352x1024 : Shape := ⟨3, ![2, 4352, 1024]⟩
abbrev S2x256x2048 : Shape := ⟨3, ![2, 256, 2048]⟩
abbrev S2x4096x2048 : Shape := ⟨3, ![2, 4096, 2048]⟩
abbrev S2048x2048 : Shape := ⟨2, ![2048, 2048]⟩
abbrev S2048 : Shape := ⟨1, ![2048]⟩
abbrev S8x2048 : Shape := ⟨2, ![8, 2048]⟩
abbrev S2048x16 : Shape := ⟨2, ![2048, 16]⟩
abbrev S1024x2048 : Shape := ⟨2, ![1024, 2048]⟩
abbrev S1x2048 : Shape := ⟨2, ![1, 2048]⟩
abbrev S2x4352x16x128 : Shape := ⟨4, ![2, 4352, 16, 128]⟩
abbrev S2x4352x16 : Shape := ⟨3, ![2, 4352, 16]⟩
abbrev S1x256x1024 : Shape := ⟨3, ![1, 256, 1024]⟩
abbrev S1x256x2048 : Shape := ⟨3, ![1, 256, 2048]⟩
abbrev S1x256x16x128 : Shape := ⟨4, ![1, 256, 16, 128]⟩
abbrev S1x256x16 : Shape := ⟨3, ![1, 256, 16]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S256x16x128 : Shape := ⟨3, ![256, 16, 128]⟩
abbrev S256x16 : Shape := ⟨2, ![256, 16]⟩

abbrev nBuf : Space → Nat
  | .hbm => 21
  | .vmem => 24
  | .smem => 0
  | _ => 0

abbrev bufTy : (tb : Table) → Fin (tcTables nBuf tb) → BufTy
  | .hbm, ⟨0, _⟩ => ⟨S2x4352x1024, .bf16⟩
  | .hbm, ⟨1, _⟩ => ⟨S2x4352x1024, .bf16⟩
  | .hbm, ⟨2, _⟩ => ⟨S2x256x2048, .f32⟩
  | .hbm, ⟨3, _⟩ => ⟨S2x4096x2048, .f32⟩
  | .hbm, ⟨4, _⟩ => ⟨S2048x2048, .f32⟩
  | .hbm, ⟨5, _⟩ => ⟨S2048, .f32⟩
  | .hbm, ⟨6, _⟩ => ⟨S8x2048, .f32⟩
  | .hbm, ⟨7, _⟩ => ⟨S2048, .f32⟩
  | .hbm, ⟨8, _⟩ => ⟨S8x2048, .f32⟩
  | .hbm, ⟨9, _⟩ => ⟨S8x2048, .f32⟩
  | .hbm, ⟨10, _⟩ => ⟨S2048x16, .f32⟩
  | .hbm, ⟨11, _⟩ => ⟨S2048x2048, .bf16⟩
  | .hbm, ⟨12, _⟩ => ⟨S1024x2048, .bf16⟩
  | .hbm, ⟨13, _⟩ => ⟨S1024x2048, .bf16⟩
  | .hbm, ⟨14, _⟩ => ⟨S1x2048, .f32⟩
  | .hbm, ⟨15, _⟩ => ⟨S1x2048, .f32⟩
  | .hbm, ⟨16, _⟩ => ⟨S2048x16, .bf16⟩
  | .hbm, ⟨17, _⟩ => ⟨S2x4096x2048, .f32⟩
  | .hbm, ⟨18, _⟩ => ⟨S2x256x2048, .f32⟩
  | .hbm, ⟨19, _⟩ => ⟨S2x4352x16x128, .f32⟩
  | .hbm, ⟨20, _⟩ => ⟨S2x4352x16, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1024x2048, .bf16⟩
  | .local _ .vmem, ⟨9, _⟩ => ⟨S1024x2048, .bf16⟩
  | .local _ .vmem, ⟨10, _⟩ => ⟨S1x2048, .f32⟩
  | .local _ .vmem, ⟨11, _⟩ => ⟨S8x2048, .f32⟩
  | .local _ .vmem, ⟨12, _⟩ => ⟨S1x2048, .f32⟩
  | .local _ .vmem, ⟨13, _⟩ => ⟨S8x2048, .f32⟩
  | .local _ .vmem, ⟨14, _⟩ => ⟨S8x2048, .f32⟩
  | .local _ .vmem, ⟨15, _⟩ => ⟨S2048x16, .bf16⟩
  | .local _ .vmem, ⟨16, _⟩ => ⟨S1x256x2048, .f32⟩
  | .local _ .vmem, ⟨17, _⟩ => ⟨S1x256x2048, .f32⟩
  | .local _ .vmem, ⟨18, _⟩ => ⟨S1x256x2048, .f32⟩
  | .local _ .vmem, ⟨19, _⟩ => ⟨S1x256x2048, .f32⟩
  | .local _ .vmem, ⟨20, _⟩ => ⟨S1x256x16x128, .f32⟩
  | .local _ .vmem, ⟨21, _⟩ => ⟨S1x256x16x128, .f32⟩
  | .local _ .vmem, ⟨22, _⟩ => ⟨S1x256x16, .f32⟩
  | .local _ .vmem, ⟨23, _⟩ => ⟨S1x256x16, .f32⟩
  | _, _ => ⟨S2x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![2, 17], ![false, false]⟩

def k0_off1 (i : grid0.Coords) : Fin 2 → Nat :=
  let arg1 : BitVec 32 := BitVec.ofNat 32 (i 1).val
  let c0_i32 : BitVec 32 := 0#32
  let v0 : BitVec 1 := Scalar.cmpi .eq arg1 c0_i32
  let c2_i32 : BitVec 32 := 2#32
  let arg0 : BitVec 32 := BitVec.ofNat 32 (i 0).val
  let v1 : BitVec 32 := Scalar.select v0 c2_i32 arg0
  let v19 : Index := Scalar.indexCast v1
  let c0_17 : Index := 0#32
  ![v19.toNat, 0]
def k0_cond2 (i : grid0.Coords) : BitVec 1 :=
  let arg1 : BitVec 32 := BitVec.ofNat 32 (i 1).val
  let c0_i32_25 : BitVec 32 := 0#32
  let v41 : BitVec 1 := Scalar.cmpi .sgt arg1 c0_i32_25
  let v42 : BitVec 32 := Scalar.extui v41
  let c0_i32_26 : BitVec 32 := 0#32
  let v43 : BitVec 1 := Scalar.cmpi .ne v42 c0_i32_26
  v43

def k0_cond1 (i : grid0.Coords) : BitVec 1 :=
  let arg1 : BitVec 32 := BitVec.ofNat 32 (i 1).val
  let c0_i32_23 : BitVec 32 := 0#32
  let v38 : BitVec 1 := Scalar.cmpi .eq arg1 c0_i32_23
  let v39 : BitVec 32 := Scalar.extui v38
  let c0_i32_24 : BitVec 32 := 0#32
  let v40 : BitVec 1 := Scalar.cmpi .ne v39 c0_i32_24
  v40

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2048x16 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x256x16x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x16 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference3Ideal.lean ====
abbrev S2x4352x1024 : Shape := ⟨3, ![2, 4352, 1024]⟩
abbrev S2x256x2048 : Shape := ⟨3, ![2, 256, 2048]⟩
abbrev S2x4096x2048 : Shape := ⟨3, ![2, 4096, 2048]⟩
abbrev S2048x2048 : Shape := ⟨2, ![2048, 2048]⟩
abbrev S2048 : Shape := ⟨1, ![2048]⟩
abbrev S8x2048 : Shape := ⟨2, ![8, 2048]⟩
abbrev S2048x16 : Shape := ⟨2, ![2048, 16]⟩
abbrev S2x4352x2048 : Shape := ⟨3, ![2, 4352, 2048]⟩
abbrev S2x2048 : Shape := ⟨2, ![2, 2048]⟩
abbrev S2x1x2048 : Shape := ⟨3, ![2, 1, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048 : Shape := ⟨2, ![1, 2048]⟩
abbrev S2x256 : Shape := ⟨2, ![2, 256]⟩
abbrev S2x256x1 : Shape := ⟨3, ![2, 256, 1]⟩
abbrev S2x4352x16x128 : Shape := ⟨4, ![2, 4352, 16, 128]⟩
abbrev S2x4352x16 : Shape := ⟨3, ![2, 4352, 16]⟩

abbrev nBuf : Space → Nat
  | .hbm => 118
  | .vmem => 0
  | .smem => 0
  | _ => 0

abbrev bufTy : (tb : Table) → Fin (tcTables nBuf tb) → BufTy
  | .hbm, ⟨0, _⟩ => ⟨S2x4352x1024, .bf16⟩
  | .hbm, ⟨1, _⟩ => ⟨S2x4352x1024, .bf16⟩
  | .hbm, ⟨2, _⟩ => ⟨S2x256x2048, .f32⟩
  | .hbm, ⟨3, _⟩ => ⟨S2x4096x2048, .f32⟩
  | .hbm, ⟨4, _⟩ => ⟨S2048x2048, .f32⟩
  | .hbm, ⟨5, _⟩ => ⟨S2048, .f32⟩
  | .hbm, ⟨6, _⟩ => ⟨S8x2048, .f32⟩
  | .hbm, ⟨7, _⟩ => ⟨S2048, .f32⟩
  | .hbm, ⟨8, _⟩ => ⟨S8x2048, .f32⟩
  | .hbm, ⟨9, _⟩ => ⟨S8x2048, .f32⟩
  | .hbm, ⟨10, _⟩ => ⟨S2048x16, .f32⟩
  | .hbm, ⟨11, _⟩ => ⟨S2x4352x2048, .bf16⟩
  | .hbm, ⟨12, _⟩ => ⟨S2x2048, .f32⟩
  | .hbm, ⟨13, _⟩ => ⟨S2x1x2048, .f32⟩
  | .hbm, ⟨14, _⟩ => ⟨S2x4096x2048, .bf16⟩
  | .hbm, ⟨15, _⟩ => ⟨S2x4096x2048, .f32⟩
  | .hbm, ⟨16, _⟩ => ⟨S2x4096x2048, .f32⟩
  | .hbm, ⟨17, _⟩ => ⟨S_, .f32⟩
  | .hbm, ⟨18, _⟩ => ⟨S2x4096, .f32⟩
  | .hbm, ⟨19, _⟩ => ⟨S2x4096x1, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S_, .f32⟩
  | .hbm, ⟨24, _⟩ => ⟨S2x4096x1, .f32⟩
  | .hbm, ⟨25, _⟩ => ⟨S2x4096x1, .f32⟩
  | .hbm, ⟨26, _⟩ => ⟨S2x4096x1, .f32⟩
  | .hbm, ⟨27, _⟩ => ⟨S2x4096x2048, .f32⟩
  | .hbm, ⟨28, _⟩ => ⟨S2x4096x2048, .f32⟩
  | .hbm, ⟨29, _⟩ => ⟨S1x1x2048, .f32⟩
  | .hbm, ⟨30, _⟩ => ⟨S2x4096x2048, .f32⟩
  | .hbm, ⟨31, _⟩ => ⟨S2x4096x2048, .f32⟩
  | .hbm, ⟨32, _⟩ => ⟨S2x4096x2048, .f32⟩
  | .hbm, ⟨33, _⟩ => ⟨S2x4096x2048, .f32⟩
  | .hbm, ⟨34, _⟩ => ⟨S2x4096x2048, .f32⟩
  | .hbm, ⟨35, _⟩ => ⟨S2x4096x2048, .f32⟩
  | .hbm, ⟨36, _⟩ => ⟨S_, .f32⟩
  | .hbm, ⟨37, _⟩ => ⟨S2x4096, .f32⟩
  | .hbm, ⟨38, _⟩ => ⟨S2x4096x1, .f32⟩
  | .hbm, ⟨39, _⟩ => ⟨S_, .f32⟩
  | .hbm, ⟨40, _⟩ => ⟨S2x4096x1, .f32⟩
  | .hbm, ⟨41, _⟩ => ⟨S2x4096x1, .f32⟩
  | .hbm, ⟨42, _⟩ => ⟨S_, .f32⟩
  | .hbm, ⟨43, _⟩ => ⟨S2x4096x1, .f32⟩
  | .hbm, ⟨44, _⟩ => ⟨S2x4096x1, .f32⟩
  | .hbm, ⟨45, _⟩ => ⟨S2x4096x1, .f32⟩
  | .hbm, ⟨46, _⟩ => ⟨S2x4096x2048, .f32⟩
  | .hbm, ⟨47, _⟩ => ⟨S2x4096x2048, .f32⟩
  | .hbm, ⟨48, _⟩ => ⟨S1x1x2048, .f32⟩
  | .hbm, ⟨49, _⟩ => ⟨S2x4096x2048, .f32⟩
  | .hbm, ⟨50, _⟩ => ⟨S2x4096x2048, .f32⟩
  | .hbm, ⟨51, _⟩ => ⟨S2x2048, .f32⟩
  | .hbm, ⟨52, _⟩ => ⟨S2x1x2048, .f32⟩
  | .hbm, ⟨53, _⟩ => ⟨S_, .f32⟩
  | .hbm, ⟨54, _⟩ => ⟨S2x1x2048, .f32⟩
  | .hbm, ⟨55, _⟩ => ⟨S2x1x2048, .f32⟩
  | .hbm, ⟨56, _⟩ => ⟨S2x4096x2048, .f32⟩
  | .hbm, ⟨57, _⟩ => ⟨S2x4096x2048, .f32⟩
  | .hbm, ⟨58, _⟩ => ⟨S2x2048, .f32⟩
  | .hbm, ⟨59, _⟩ => ⟨S2x1x2048, .f32⟩
  | .hbm, ⟨60, _⟩ => ⟨S2x4096x2048, .f32⟩
  | .hbm, ⟨61, _⟩ => ⟨S2x4096x2048, .f32⟩
  | .hbm, ⟨62, _⟩ => ⟨S1x2048, .f32⟩
  | .hbm, ⟨63, _⟩ => ⟨S2048, .f32⟩
  | .hbm, ⟨64, _⟩ => ⟨S2x256x2048, .bf16⟩
  | .hbm, ⟨65, _⟩ => ⟨S2x256x2048, .f32⟩
  | .hbm, ⟨66, _⟩ => ⟨S2x256x2048, .f32⟩
  | .hbm, ⟨67, _⟩ => ⟨S_, .f32⟩
  | .hbm, ⟨68, _⟩ => ⟨S2x256, .f32⟩
  | .hbm, ⟨69, _⟩ => ⟨S2x256x1, .f32⟩
  | .hbm, ⟨70, _⟩ => ⟨S_, .f32⟩
  | .hbm, ⟨71, _⟩ => ⟨S2x256x1, .f32⟩
  | .hbm, ⟨72, _⟩ => ⟨S2x256x1, .f32⟩
  | .hbm, ⟨73, _⟩ => ⟨S_, .f32⟩
  | .hbm, ⟨74, _⟩ => ⟨S2x256x1, .f32⟩
  | .hbm, ⟨75, _⟩ => ⟨S2x256x1, .f32⟩
  | .hbm, ⟨76, _⟩ => ⟨S2x256x1, .f32⟩
  | .hbm, ⟨77, _⟩ => ⟨S2x256x2048, .f32⟩
  | .hbm, ⟨78, _⟩ => ⟨S2x256x2048, .f32⟩
  | .hbm, ⟨79, _⟩ => ⟨S1x1x2048, .f32⟩
  | .hbm, ⟨80, _⟩ => ⟨S2x256x2048, .f32⟩
  | .hbm, ⟨81, _⟩ => ⟨S2x256x2048, .f32⟩
  | .hbm, ⟨82, _⟩ => ⟨S1x1x2048, .f32⟩
  | .hbm, ⟨83, _⟩ => ⟨S2x256x2048, .f32⟩
  | .hbm, ⟨84, _⟩ => ⟨S2x256x2048, .f32⟩
  | .hbm, ⟨85, _⟩ => ⟨S2x256x2048, .f32⟩
  | .hbm, ⟨86, _⟩ => ⟨S2x256x2048, .f32⟩
  | .hbm, ⟨87, _⟩ => ⟨S_, .f32⟩
  | .hbm, ⟨88, _⟩ => ⟨S2x256, .f32⟩
  | .hbm, ⟨89, _⟩ => ⟨S2x256x1, .f32⟩
  | .hbm, ⟨90, _⟩ => ⟨S_, .f32⟩
  | .hbm, ⟨91, _⟩ => ⟨S2x256x1, .f32⟩
  | .hbm, ⟨92, _⟩ => ⟨S2x256x1, .f32⟩
  | .hbm, ⟨93, _⟩ => ⟨S_, .f32⟩
  | .hbm, ⟨94, _⟩ => ⟨S2x256x1, .f32⟩
  | .hbm, ⟨95, _⟩ => ⟨S2x256x1, .f32⟩
  | .hbm, ⟨96, _⟩ => ⟨S2x256x1, .f32⟩
  | .hbm, ⟨97, _⟩ => ⟨S2x256x2048, .f32⟩
  | .hbm, ⟨98, _⟩ => ⟨S2x256x2048, .f32⟩
  | .hbm, ⟨99, _⟩ => ⟨S1x1x2048, .f32⟩
  | .hbm, ⟨100, _⟩ => ⟨S2x256x2048, .f32⟩
  | .hbm, ⟨101, _⟩ => ⟨S2x256x2048, .f32⟩
  | .hbm, ⟨102, _⟩ => ⟨S1x2048, .f32⟩
  | .hbm, ⟨103, _⟩ => ⟨S2048, .f32⟩
  | .hbm, ⟨104, _⟩ => ⟨S_, .f32⟩
  | .hbm, ⟨105, _⟩ => ⟨S2048, .f32⟩
  | .hbm, ⟨106, _⟩ => ⟨S2048, .f32⟩
  | .hbm, ⟨107, _⟩ => ⟨S1x1x2048, .f32⟩
  | .hbm, ⟨108, _⟩ => ⟨S2x256x2048, .f32⟩
  | .hbm, ⟨109, _⟩ => ⟨S2x256x2048, .f32⟩
  | .hbm, ⟨110, _⟩ => ⟨S1x2048, .f32⟩
  | .hbm, ⟨111, _⟩ => ⟨S2048, .f32⟩
  | .hbm, ⟨112, _⟩ => ⟨S1x1x2048, .f32⟩
  | .hbm, ⟨113, _⟩ => ⟨S2x256x2048, .f32⟩
  | .hbm, ⟨114, _⟩ => ⟨S2x256x2048, .f32⟩
  | .hbm, ⟨115, _⟩ => ⟨S2x4352x2048, .f32⟩
  | .hbm, ⟨116, _⟩ => ⟨S2x4352x16x128, .f32⟩
  | .hbm, ⟨117, _⟩ => ⟨S2x4352x16, .f32⟩
  | _, _ => ⟨S2x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_9 : Ref sig .tc := ⟨.hbm, 87, rfl⟩
abbrev main_v66 : Ref sig .tc := ⟨.hbm, 88, rfl⟩
abbrev main_v67 : Ref sig .tc := ⟨.hbm, 89, rfl⟩
abbrev main_cst_10 : Ref sig .tc := ⟨.hbm, 90, rfl⟩
abbrev main_v68 : Ref sig .tc := ⟨.hbm, 91, rfl⟩
abbrev main_v69 : Ref sig .tc := ⟨.hbm, 92, rfl⟩
abbrev main_cst_11 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_12 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩

abbrev nD : Nat := 1
abbrev τ : Topo := Topo.v7x

variable {F : FTy → Type} [FloatOps F]
-- ==== Kernel4.lean ====
abbrev S32x544x512 : Shape := ⟨3, ![32, 544, 512]⟩
abbrev S1024x2048 : Shape := ⟨2, ![1024, 2048]⟩
abbrev S2048 : Shape := ⟨1, ![2048]⟩
abbrev S1024x1024 : Shape := ⟨2, ![1024, 1024]⟩
abbrev S1024 : Shape := ⟨1, ![1024]⟩
abbrev S1x1024 : Shape := ⟨2, ![1, 1024]⟩
abbrev S2x4352x1024 : Shape := ⟨3, ![2, 4352, 1024]⟩
abbrev S32x16x512 : Shape := ⟨3, ![32, 16, 512]⟩
abbrev S1x256x1024 : Shape := ⟨3, ![1, 256, 1024]⟩
abbrev S8x256x128 : Shape := ⟨3, ![8, 256, 128]⟩
abbrev S1x16x32 : Shape := ⟨3, ![1, 16, 32]⟩
abbrev S16x32 : Shape := ⟨2, ![16, 32]⟩
abbrev S16x128 : Shape := ⟨2, ![16, 128]⟩
abbrev S1x16x128 : Shape := ⟨3, ![1, 16, 128]⟩
abbrev S1x256x128 : Shape := ⟨3, ![1, 256, 128]⟩
abbrev S256x128 : Shape := ⟨2, ![256, 128]⟩
abbrev S256x1024 : Shape := ⟨2, ![256, 1024]⟩

abbrev nBuf : Space → Nat
  | .hbm => 11
  | .vmem => 9
  | .smem => 0
  | _ => 0

abbrev bufTy : (tb : Table) → Fin (tcTables nBuf tb) → BufTy
  | .hbm, ⟨0, _⟩ => ⟨S32x544x512, .f32⟩
  | .hbm, ⟨1, _⟩ => ⟨S1024x2048, .f32⟩
  | .hbm, ⟨2, _⟩ => ⟨S2048, .f32⟩
  | .hbm, ⟨3, _⟩ => ⟨S1024x2048, .bf16⟩
  | .hbm, ⟨4, _⟩ => ⟨S1024x1024, .bf16⟩
  | .hbm, ⟨5, _⟩ => ⟨S1024x1024, .bf16⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S2x4352x1024, .bf16⟩
  | .local _ .vmem, ⟨0, _⟩ => ⟨S32x16x512, .f32⟩
  | .local _ .vmem, ⟨1, _⟩ => ⟨S32x16x512, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1x256x1024, .bf16⟩
  | .local _ .vmem, ⟨7, _⟩ => ⟨S1x256x1024, .bf16⟩
  | .local _ .vmem, ⟨8, _⟩ => ⟨S8x256x128, .f32⟩
  | _, _ => ⟨S32x544x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c32_i32 : BitVec 32 := 32#32
  let v1 : BitVec 32 := Scalar.addi c32_i32 arg0
  let c16_i32 : BitVec 32 := 16#32
  let v2 : BitVec 32 := Scalar.muli arg0 c16_i32
  let v3 : BitVec 32 := Scalar.addi v2 arg1
  let c1_i32 : BitVec 32 := 1#32
  let v4 : BitVec 32 := Scalar.subi v3 c1_i32
  let v5 : BitVec 32 := Scalar.select v0 v1 v4
  let c0_i32_0 : BitVec 32 := 0#32
  let c0_i32_1 : BitVec 32 := 0#32
  let c0_i32_2 : BitVec 32 := 0#32
  ![c0_i32_0.toNat, v5.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S32x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S32x544x512 : Shape := ⟨3, ![32, 544, 512]⟩
abbrev S1024x2048 : Shape := ⟨2, ![1024, 2048]⟩
abbrev S2048 : Shape := ⟨1, ![2048]⟩
abbrev S32x544x16x32 : Shape := ⟨4, ![32, 544, 16, 32]⟩
abbrev S544x16x32x32 : Shape := ⟨4, ![544, 16, 32, 32]⟩
abbrev S512x16x32x32 : Shape := ⟨4, ![512, 16, 32, 32]⟩
abbrev S2x4096x1024 : Shape := ⟨3, ![2, 4096, 1024]⟩
abbrev S32x16x32x32 : Shape := ⟨4, ![32, 16, 32, 32]⟩
abbrev S2x256x1024 : Shape := ⟨3, ![2, 256, 1024]⟩
abbrev S2x4352x1024 : Shape := ⟨3, ![2, 4352, 1024]⟩
abbrev S2x4352x2048 : Shape := ⟨3, ![2, 4352, 2048]⟩
abbrev S1x1x2048 : Shape := ⟨3, ![1, 1, 2048]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S32x544x512, .f32⟩
  | .hbm, ⟨1, _⟩ => ⟨S1024x2048, .f32⟩
  | .hbm, ⟨2, _⟩ => ⟨S2048, .f32⟩
  | .hbm, ⟨3, _⟩ => ⟨S32x544x16x32, .f32⟩
  | .hbm, ⟨4, _⟩ => ⟨S544x16x32x32, .f32⟩
  | .hbm, ⟨5, _⟩ => ⟨S512x16x32x32, .f32⟩
  | .hbm, ⟨6, _⟩ => ⟨S2x4096x1024, .f32⟩
  | .hbm, ⟨7, _⟩ => ⟨S32x16x32x32, .f32⟩
  | .hbm, ⟨8, _⟩ => ⟨S2x256x1024, .f32⟩
  | .hbm, ⟨9, _⟩ => ⟨S2x4352x1024, .f32⟩
  | .hbm, ⟨10, _⟩ => ⟨S2x4352x2048, .f32⟩
  | .hbm, ⟨11, _⟩ => ⟨S1x1x2048, .f32⟩
  | .hbm, ⟨12, _⟩ => ⟨S2x4352x2048, .f32⟩
  | .hbm, ⟨13, _⟩ => ⟨S2x4352x2048, .f32⟩
  | .hbm, ⟨14, _⟩ => ⟨S2x4352x1024, .f32⟩
  | .hbm, ⟨15, _⟩ => ⟨S2x4352x1024, .f32⟩
  | .hbm, ⟨16, _⟩ => ⟨S2x4352x1024, .f32⟩
  | .hbm, ⟨17, _⟩ => ⟨S2x4352x1024, .f32⟩
  | .hbm, ⟨18, _⟩ => ⟨S_, .f32⟩
  | .hbm, ⟨19, _⟩ => ⟨S2x4352x1024, .f32⟩
  | .hbm, ⟨20, _⟩ => ⟨S2x4352x1024, .f32⟩
  | .hbm, ⟨21, _⟩ => ⟨S_, .f32⟩
  | .hbm, ⟨22, _⟩ => ⟨S2x4352x1024, .f32⟩
  | .hbm, ⟨23, _⟩ => ⟨S2x4352x1024, .f32⟩
  | .hbm, ⟨24, _⟩ => ⟨S2x4352x1024, .f32⟩
  | .hbm, ⟨25, _⟩ => ⟨S2x4352x1024, .bf16⟩
  | _, _ => ⟨S32x544x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== Proof.Inv.lean ====
/-
  Hand-written. The state of the expert kernel's row fetch: expert `e`'s 1088 rows are copied one by one, row
  `r` of the landing buffer from the row of the normalised tokens that the index table names, all completing on one
  cell. Between the points of the grid the fetch is a batch with some rows issued and none waited for.
-/
module

public import proofs.«01_k».proof.Proof.Gen.KernelIdeal.Launch
public import proofs.«01_k».proof.Proof.Gen.KernelIdeal.Loops
public import Idealize.ShloMosaic.Lib.Pipeline.FrameBody
public import Idealize.ShloMosaic.Lib.Pipeline.FrameValue
public import Idealize.ShloMosaic.Lib.Batch
public import Idealize.ShloMosaic.Lib.Ring
public import Idealize.ShloMosaic.Lib.Tactic
public import Idealize.ShloMosaic.Lib.Pointwise.Index

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## The buffers and the rows -/

/-- The index table, the tokens, the landing buffer, and the fetch's cell. -/
abbrev mT : Memref sig .tc .smem S17408 .i32 := Memref.whole main_v51
abbrev mX : Memref sig .tc .hbm S8704x16x128 .f32 := Memref.whole main_v55
abbrev mL : Memref sig .tc .vmem S1088x16x128 .f32 := Memref.whole cc0_scratch0
abbrev mB : Memref sig .tc .vmem S1088x2048 .bf16 := Memref.whole cc0_scratch1
abbrev mH : Memref sig .tc .vmem S6x1088x256 .bf16 := Memref.whole cc0_scratch2
abbrev mG : Memref sig .tc .vmem S2048x256 .bf16 := Memref.whole cc0_scoped0
abbrev mU : Memref sig .tc .vmem S2048x256 .bf16 := Memref.whole cc0_scoped1
abbrev mD : Memref sig .tc .vmem S1536x1024 .bf16 := Memref.whole cc0_scoped2

/-- The table's contents, and the tokens'. -/
abbrev Tbl (F : FTy → Type) : Type := S17408.Idx → Elt F .i32
abbrev Tok (F : FTy → Type) : Type := S8704x16x128.Idx → Elt F .f32

/-- Every word of the table names a row of the tokens. -/
def InRange (T : Tbl F) : Prop := ∀ j : S17408.Idx, (show BitVec 32 from T j).toNat < 8704

theorem inbL (r : Fin 1088) : ∀ a, (![r.val, 0, 0] : Fin 3 → Nat) a + S1x16x128.size a ≤ S1088x16x128.size a := by
  have := r.isLt; intro a; fin_cases a
  · show r.val + 1 ≤ 1088; omega
  · show 0 + 16 ≤ 16; omega
  · show 0 + 128 ≤ 128; omega
theorem inbX (n : Fin 8704) : ∀ a, (![n.val, 0, 0] : Fin 3 → Nat) a + S1x16x128.size a ≤ S8704x16x128.size a := by
  have := n.isLt; intro a; fin_cases a
  · show n.val + 1 ≤ 8704; omega
  · show 0 + 16 ≤ 16; omega
  · show 0 + 128 ≤ 128; omega

/-- Row `r` of the landing buffer and row `n` of the tokens, as the copies spell them. -/
def rowL (r : Fin 1088) : Memref sig .tc .vmem S1x16x128 .f32 :=
  mL.slice (Rect.unit (s := S1088x16x128) ![r.val, 0, 0] S1x16x128.size (inbL r)) (fun _ => rfl)
def rowX (n : Fin 8704) : Memref sig .tc .hbm S1x16x128 .f32 :=
  mX.slice (Rect.unit (s := S8704x16x128) ![n.val, 0, 0] S1x16x128.size (inbX n)) (fun _ => rfl)

/-- Row `r`'s elements of the landing buffer. -/
abbrev setL (r : Fin 1088) : Finset S1088x16x128.Idx := (Rect.unit (s := S1088x16x128) ![r.val, 0, 0] S1x16x128.size (inbL r)).set
abbrev setX (n : Fin 8704) : Finset S8704x16x128.Idx := (Rect.unit (s := S8704x16x128) ![n.val, 0, 0] S1x16x128.size (inbX n)).set
theorem rowL_set (r : Fin 1088) : (rowL r).view.set = setL r := by unfold rowL; exact View.set_slice_whole _ _
theorem rowX_set (n : Fin 8704) : (rowX n).view.set = setX n := by unfold rowX; exact View.set_slice_whole _ _

theorem mem_setL (r : Fin 1088) (y : S1088x16x128.Idx) : y ∈ setL r ↔ (y 0).val = r.val := by
  rw [Rect.mem_set_unit]
  have h1 : (y 1).val < 16 := (y 1).isLt
  have h2 : (y 2).val < 128 := (y 2).isLt
  constructor
  · intro H; have a0 : r.val ≤ (y 0).val ∧ (y 0).val < r.val + 1 := H 0; omega
  · intro H a; fin_cases a
    · show r.val ≤ (y 0).val ∧ (y 0).val < r.val + 1; omega
    · show 0 ≤ (y 1).val ∧ (y 1).val < 0 + 16; omega
    · show 0 ≤ (y 2).val ∧ (y 2).val < 0 + 128; omega
theorem setL_disjoint : ∀ b b' : Fin 1088, b ≠ b' → Disjoint (setL b) (setL b') := fun b b' hne => by
  rw [Finset.disjoint_left]; intro y hy hy'; rw [mem_setL] at hy hy'; exact hne (Fin.ext (by omega))
theorem setL_cover : Finset.univ.biUnion setL = Finset.univ := by
  ext y; simp only [Finset.mem_biUnion, Finset.mem_univ, true_and, iff_true]; exact ⟨y 0, (mem_setL _ _).mpr rfl⟩

/-! ## What lands -/

/-- Slot `n` of the table. -/
def word (T : Tbl F) (n : Fin 17408) : BitVec 32 := T (ix1 n)
/-- The tokens' row for row `r` of expert `e`. -/
def src (T : Tbl F) (hT : InRange T) (e : Fin 16) (r : Fin 1088) : Fin 8704 :=
  ⟨(word T ⟨e.val * 1088 + r.val, by omega⟩).toNat, hT _⟩
/-- The landing buffer once expert `e`'s rows are all in. -/
def gath (T : Tbl F) (hT : InRange T) (X : Tok F) (e : Fin 16) : S1088x16x128.Idx → Elt F .f32 :=
  fun y => X (ix3 (src T hT e (y 0)) (y 1) (y 2))

/-- One row's credit. -/
abbrev rowN : ℕ := RefSig.tileCredit S1x16x128 .f32
theorem rowN_pos : 0 < rowN := RefSig.tileCredit_pos _ _ (by decide)
theorem whole_credit : RefSig.tileCredit S1088x16x128 .f32 = rowN * 1088 := by
  have h1 : RefSig.tileCredit S1088x16x128 .f32 = 1088 * RefSig.tileCredit ⟨2, ![16, 128]⟩ .f32 := RefSig.tileCredit_cons 1088 _ _
  have h2 : RefSig.tileCredit S1x16x128 .f32 = 1 * RefSig.tileCredit ⟨2, ![16, 128]⟩ .f32 := RefSig.tileCredit_cons 1 _ _
  rw [h1, rowN, h2]; omega

/-- Row `r` of the landing buffer written with row `n` of the tokens reads, on that row, as the tokens' row. -/
theorem landed (T : Tbl F) (hT : InRange T) (X : Tok F) (e : Fin 16) (r : Fin 1088) (f : S1088x16x128.Idx → Elt F .f32)
    (y : S1088x16x128.Idx) (hy : y ∈ setL r) :
    (rowL r).view.write (Elt F) f (ReadAs.same.apply ((rowX (src T hT e r)).view.read (Elt F) X)) Finset.univ y = gath T hT X e y := by
  have hy' := (mem_setL r y).mp hy
  obtain ⟨y0, y1, y2, rfl⟩ : ∃ (a : Fin 1088) (b : Fin 16) (d : Fin 128), y = ix3 a b d := ⟨y 0, y 1, y 2, eq_ix3 y⟩
  obtain rfl : y0 = r := Fin.ext hy'
  have h := congrFun (View.read_write_univ (v := (rowL y0).view) f (ReadAs.same.apply ((rowX (src T hT e y0)).view.read (Elt F) X)))
    (ix3 (0 : Fin 1) y1 y2)
  have e1 : (rowL y0).view.read (Elt F) ((rowL y0).view.write (Elt F) f (ReadAs.same.apply ((rowX (src T hT e y0)).view.read (Elt F) X)) Finset.univ) (ix3 (0 : Fin 1) y1 y2)
      = (rowL y0).view.write (Elt F) f (ReadAs.same.apply ((rowX (src T hT e y0)).view.read (Elt F) X)) Finset.univ (ix3 y0 y1 y2) := by
    show (rowL y0).view.write (Elt F) f (ReadAs.same.apply ((rowX (src T hT e y0)).view.read (Elt F) X)) Finset.univ
      ((Rect.unit (s := S1088x16x128) ![y0.val, 0, 0] S1x16x128.size (inbL y0)).idx (ix3 (0 : Fin 1) y1 y2)) = _
    congr 1
    funext a; apply Fin.ext; fin_cases a
    · show y0.val + 1 * 0 = y0.val; omega
    · show 0 + 1 * y1.val = y1.val; omega
    · show 0 + 1 * y2.val = y2.val; omega
  rw [← e1, h]
  show X ((Rect.unit (s := S8704x16x128) ![(src T hT e y0).val, 0, 0] S1x16x128.size (inbX (src T hT e y0))).idx (ix3 (0 : Fin 1) y1 y2)) = _
  unfold gath
  congr 1
  funext a; apply Fin.ext; fin_cases a
  · show (src T hT e y0).val + 1 * 0 = (src T hT e y0).val; omega
  · show 0 + 1 * y1.val = y1.val; omega
  · show 0 + 1 * y2.val = y2.val; omega

/-! ## The fetch's state -/

section State
variable (c : Dev nD) (T : Tbl F) (hT : InRange T) (X : Tok F)

/-- A whole buffer held at the full share, and at a share. -/
abbrev pt {sp : Space} {S : Shape} {e : EltTy} (M : Memref sig .tc sp S e) (f : Buf (Elt F) (M.view.loc (c : Thread nD τ))) : sProp 𝕄 :=
  M.view.loc (c : Thread nD τ) ↦{fullShare} f
/-- The fetch's cell. -/
abbrev fsem : DmaSem sig := ⟨10, by decide⟩
/-- Row `r` of the landing buffer at some contents. -/
abbrev freeL (r : Fin 1088) : sProp 𝕄 := iprop(∃ f, mL.view.loc (c : Thread nD τ) ↦[setL r]{fullShare} f)
/-- Token `r` of the tokens' array, whole. -/
abbrev tokX (r : Fin 1088) : sProp 𝕄 := mX.view.loc (c : Thread nD τ) ↦{Transfers.shareTokN fullShare r.val} X
/-- Token `r` off the row being copied. -/
abbrev offX (e : Fin 16) (r : Fin 1088) : sProp 𝕄 :=
  mX.view.loc (c : Thread nD τ) ↦[Finset.univ \ setX (src T hT e r)]{Transfers.shareTokN fullShare r.val} X
/-- What is left of the tokens' array after the 1088 read tokens. -/
abbrev dropX : sProp 𝕄 := mX.view.loc (c : Thread nD τ) ↦{Transfers.shareDrop fullShare 1088} X
/-- Copy `r`'s delivery for expert `e`: the row landed, and its token on the tokens' row. -/
def dlv (e : Fin 16) (r : Fin 1088) : sProp 𝕄 :=
  iprop((mL.view.loc (c : Thread nD τ) ↦[setL r]{fullShare} gath T hT X e)
    ∗ (mX.view.loc (c : Thread nD τ) ↦[setX (src T hT e r)]{Transfers.shareTokN fullShare r.val} X))
instance dlv_storable (e : Fin 16) (r : Fin 1088) : BI.Storable (upEmb : UEmb _ 𝕄) (dlv c T hT X e r) := by
  unfold dlv; infer_instance

/-- The batch of expert `e`'s copies, the first `k` issued. -/
abbrev bat (e : Fin 16) (k : ℕ) : sProp 𝕄 :=
  Transfers.Batch (countersEmb (U := Pipeline.UD sig nD τ)) (c : Thread nD τ) (.dma fsem) () rowN (dlv c T hT X e) k 0

/-- Expert `e`'s fetch with the first `k` rows issued and none waited for. -/
def Fly (e : Fin 16) (k : ℕ) : sProp 𝕄 :=
  iprop(bat c T hT X e k ∗ bigSep (Ring.rangeSet 1088 0 k) (offX c T hT X e)
    ∗ bigSep (Ring.rangeSet 1088 k 1088) (tokX c X) ∗ bigSep (Ring.rangeSet 1088 k 1088) (freeL (F := F) c) ∗ dropX c X)

/-- No fetch: the cell at zero, the landing buffer held whole at some contents, the tokens held whole. -/
def Idle : sProp 𝕄 :=
  iprop(semVal ((c : Thread nD τ), SemLoc.dma fsem) 0 ∗ (∃ f, pt c mL f) ∗ pt c mX X)

/-- The landing buffer whole is its rows. -/
theorem pieces (f : S1088x16x128.Idx → Elt F .f32) : pt c mL f ⊢ (bigSep (Ring.rangeSet 1088 0 1088) (freeL (F := F) c) : sProp 𝕄) := by
  rw [Ring.rangeSet_univ]
  refine (Entails.of_eq (Ring.pointsTo_blocks (ℓ := mL.view.loc (c : Thread nD τ)) (q := fullShare) setL setL_disjoint setL_cover f)).trans
    (BI.bigSep_mono fun b _ => ?_)
  show (mL.view.loc (c : Thread nD τ) ↦[setL b]{fullShare} f : sProp 𝕄) ⊢ iprop(∃ f, mL.view.loc (c : Thread nD τ) ↦[setL b]{fullShare} f)
  iintro H; iexists f; iexact H

/-- A fetch may start: from no fetch, one with no row issued. -/
theorem start (e : Fin 16) : Idle c X ⊢ |={Set.univ}=> Fly c T hT X e 0 := by
  unfold Idle Fly
  iintro ⟨Hc, ⟨%f, HL⟩, HX⟩
  imod (Transfers.batch_alloc' (Lvl := ℕ) (countersEmb (U := Pipeline.UD sig nD τ)) (c : Thread nD τ) () rowN (dlv c T hT X e) (sm := .dma fsem) (E := Set.univ)) $$ Hc with HB
  ihave HL' := (pieces c f) $$ HL
  ihave HX' := (Transfers.pointsTo_toks_range fullShare 1088).1 $$ HX
  icases HX' with ⟨Hd, Ht⟩
  ihave Ht' := (Entails.of_eq (Ring.bigSep_rangeSet_eq_range (NB := 1088) (lo := 0) (hi := 1088)
    (Φ := tokX c X) le_rfl (fun t => (mX.view.loc (c : Thread nD τ) ↦{Transfers.shareTokN fullShare t} X : sProp 𝕄))
    (fun k hk => by show _ = (mX.view.loc (c : Thread nD τ) ↦{Transfers.shareTokN fullShare (0 + k)} X : sProp 𝕄); rw [Nat.zero_add])).symm) $$ Ht
  imodintro
  isplitl [HB]; · iexact HB
  isplitr
  · rw [Ring.bigSep_rangeSet_empty (le_refl 0)]; iempintro
  isplitl [Ht']; · iexact Ht'
  isplitl [HL']; · iexact HL'
  iexact Hd

/-- A fetch whose deliveries are all in: the landing buffer at expert `e`'s rows, the tokens whole. -/
theorem arrived (e : Fin 16) :
    iprop(bigSep Finset.univ (dlv c T hT X e) ∗ bigSep (Ring.rangeSet 1088 0 1088) (offX c T hT X e) ∗ dropX c X)
      ⊢ iprop(pt c mL (gath T hT X e) ∗ pt c mX X) := by
  rw [Ring.rangeSet_univ]
  unfold dlv
  iintro ⟨HD, Ho, Hd⟩
  ihave HD' := (show bigSep Finset.univ (fun r => iprop((mL.view.loc (c : Thread nD τ) ↦[setL r]{fullShare} gath T hT X e)
        ∗ (mX.view.loc (c : Thread nD τ) ↦[setX (src T hT e r)]{Transfers.shareTokN fullShare r.val} X)))
      ⊢ (iprop(bigSep Finset.univ (fun r => (mL.view.loc (c : Thread nD τ) ↦[setL r]{fullShare} gath T hT X e))
        ∗ bigSep Finset.univ (fun r => (mX.view.loc (c : Thread nD τ) ↦[setX (src T hT e r)]{Transfers.shareTokN fullShare r.val} X))) : sProp 𝕄)
    from Entails.of_eq (BI.bigSep_sep _ _ _)) $$ HD
  icases HD' with ⟨HL, HR⟩
  isplitl [HL]
  · iapply (Entails.of_eq (Ring.pointsTo_blocks (ℓ := mL.view.loc (c : Thread nD τ)) (q := fullShare) setL setL_disjoint setL_cover (gath T hT X e)).symm)
    iexact HL
  ihave HT := (show iprop(bigSep Finset.univ (fun r => (mX.view.loc (c : Thread nD τ) ↦[setX (src T hT e r)]{Transfers.shareTokN fullShare r.val} X))
        ∗ bigSep Finset.univ (offX c T hT X e)) ⊢ (bigSep Finset.univ (tokX c X) : sProp 𝕄)
    from (Entails.of_eq (BI.bigSep_sep Finset.univ (fun r => (mX.view.loc (c : Thread nD τ) ↦[setX (src T hT e r)]{Transfers.shareTokN fullShare r.val} X : sProp 𝕄))
      (offX c T hT X e)).symm).trans (BI.bigSep_mono fun r _ => (pointsTo_split_subset (Finset.subset_univ _)).2)) $$ [HR Ho]
  · isplitl [HR]; · iexact HR
    iexact Ho
  iapply (Transfers.pointsTo_toks_range fullShare 1088).2
  isplitl [Hd]; · iexact Hd
  iapply (Entails.of_eq (Ring.bigSep_rangeSet_eq_range (NB := 1088) (lo := 0) (hi := 1088)
    (Φ := tokX c X) le_rfl (fun t => (mX.view.loc (c : Thread nD τ) ↦{Transfers.shareTokN fullShare t} X : sProp 𝕄))
    (fun k hk => by show _ = (mX.view.loc (c : Thread nD τ) ↦{Transfers.shareTokN fullShare (0 + k)} X : sProp 𝕄); rw [Nat.zero_add])))
  rw [Ring.rangeSet_univ]; iexact HT

end State

end Cert.KernelIdeal.Hand

end
-- ==== Proof.Grid.lean ====
/-
  Hand-written. The kernel's branch conditions and copy offsets at every grid point, in closed form.
-/
module

public import proofs.«01_k».proof.Proof.Inv

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- Trip `k` of the first loop copies row `k`; of the second, at step `s`, row `272 (s - 1) + k`. -/
theorem off5_eq : ∀ (i : grid0.Coords), k0_cond3 i = 1#1 → ∀ k : Fin k0_t2_loop.trips,
    k0_off5 i k = ![272 * ((i 1).val - 1) + k.val, 0, 0] := by decide +kernel
theorem cond1_iff : ∀ i : grid0.Coords, k0_cond1 i = 1#1 ↔ (i 0).val = 0 ∧ (i 1).val = 0 := by decide +kernel
theorem cond3_iff : ∀ i : grid0.Coords, k0_cond3 i = 1#1 ↔ 1 ≤ (i 1).val ∧ (i 1).val ≤ 4 ∧ (i 0).val + 1 < 16 := by decide +kernel
theorem trips1 : k0_t1_loop.trips = 1088 := by decide +kernel
theorem trips2 : k0_t2_loop.trips = 272 := by decide +kernel

theorem cond4_iff : ∀ i : grid0.Coords, k0_cond4 i = 1#1 ↔ (i 1).val < 6 := by decide +kernel
theorem cond5_iff : ∀ i : grid0.Coords, k0_cond5 i = 1#1 ↔ 6 ≤ (i 1).val := by decide +kernel
/-- The condition of the wait: the first step of an expert. -/
theorem cond2_iff : ∀ i : grid0.Coords, Scalar.cmpi .ne (Scalar.extui (Scalar.cmpi .eq (BitVec.ofNat 32 (i 1).val) 0#32) : BitVec 32) 0#32 = 1#1
    ↔ (i 1).val = 0 := by decide +kernel

end Cert.KernelIdeal.Hand

end
-- ==== Proof.Issue.lean ====
/-
  Hand-written. One row's copy of the expert kernel's fetch, and the two loops that issue rows: all 1088 of the first
  expert before the first point, and 272 of the next expert's at each of four points.
-/
module

public import proofs.«01_k».proof.Proof.Grid

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Issue
variable (c : Dev nD) (T : Tbl F) (hT : InRange T) (X : Tok F)

/-- ONE ROW: copy `k` of expert `e` is issued. -/
theorem issue_row (e : Fin 16) (k : ℕ) (hk : k < 1088) {o2 o3 : Fin 3 → ℕ}
    (h2 : o2 = ![k, 0, 0]) (h3 : o3 = ![(src T hT e ⟨k, hk⟩).val, 0, 0])
    (i2 : ∀ a, o2 a + S1x16x128.size a ≤ S1088x16x128.size a) (i3 : ∀ a, o3 a + S1x16x128.size a ≤ S8704x16x128.size a)
    {hs : (mX.slice (Rect.unit (s := S8704x16x128) o3 S1x16x128.size i3) (fun _ => rfl)).view.WordExact}
    {hd : (mL.slice (Rect.unit (s := S1088x16x128) o2 S1x16x128.size i2) (fun _ => rfl)).view.WordExact}
    {hsem} {K : PUnit → Prog (TpuEff nD τ sig (Elt F) Λ₀ .tc) PUnit} {Q : PUnit → sProp 𝕄} :
    Fly c T hT X e k ⊢ iprop((Fly c T hT X e (k + 1) -∗ wp frame (wpE (defs₀ (F := F)) Variants.none (c : Thread nD τ) none) Set.univ (K ⟨⟩) Q)
      -∗ wp frame (wpE (defs₀ (F := F)) Variants.none (c : Thread nD τ) none) Set.univ
          (.op (.enqueueDmaAs (mX.slice (Rect.unit (s := S8704x16x128) o3 S1x16x128.size i3) (fun _ => rfl))
            (.here (mL.slice (Rect.unit (s := S1088x16x128) o2 S1x16x128.size i2) (fun _ => rfl))) .same (.dma fsem) hs hd hsem) K) Q) := by
  subst h2 h3
  have r1 : Ring.rangeSet 1088 0 (k + 1) = insert ⟨k, hk⟩ (Ring.rangeSet 1088 0 k) := by
    have h := Ring.rangeSet_last (NB := 1088) (lo := 0) (hi := k + 1) (by omega) (by omega)
    simpa using h
  have r2 : (⟨k, hk⟩ : Fin 1088) ∉ Ring.rangeSet 1088 0 k := by rw [Ring.mem_rangeSet]; simp
  unfold Fly
  rw [r1, BI.bigSep_insert r2,
    Ring.bigSep_rangeSet_head (Φ := tokX c X) (lo := k) (hi := 1088) hk hk,
    Ring.bigSep_rangeSet_head (Φ := freeL (F := F) c) (lo := k) (hi := 1088) hk hk]
  unfold freeL
  iintro ⟨HB, Ho, ⟨Ht, Hts⟩, ⟨⟨%f, HL⟩, HLs⟩, Hd⟩ Hk
  ihave Ht' := (pointsTo_split_subset (q := Transfers.shareTokN fullShare k) (f := X)
    (Finset.subset_univ (setX (src T hT e ⟨k, hk⟩)))).1 $$ Ht
  icases Ht' with ⟨Hr, Hoff⟩
  iapply (Transfers.wp_dmaBatch (countersEmb (U := Pipeline.UD sig nD τ)) Variants.none (c : Thread nD τ) none
    (src := rowX (src T hT e ⟨k, hk⟩)) (via := .same) (dst := rowL ⟨k, hk⟩) (sm := .dma fsem) (q := Transfers.shareTokN fullShare k)
    (fs := X) (Sd := setL ⟨k, hk⟩) (fd := f) (D := dlv c T hT X e) (j := k) (u := 0)
    () rowN rfl (by rw [rowL_set]; exact Finset.Subset.refl _) hk (Nat.zero_le _) ?hD) $$ [Hr HL HB]
  case hD =>
    rw [rowX_set]
    unfold dlv
    iintro ⟨H1, H2⟩
    isplitl [H1]
    · iapply (Entails.of_eq (pointsTo_congr (ℓ := mL.view.loc (c : Thread nD τ)) (q := fullShare) (landed T hT X e ⟨k, hk⟩ f)))
      iexact H1
    iexact H2
  · isplitl [Hr]; · rw [rowX_set]; iexact Hr
    isplitl [HL]; · iexact HL
    iexact HB
  iintro HB
  iapply Hk
  isplitl [HB]; · iexact HB
  isplitl [Hoff Ho]
  · iapply (show iprop(offX c T hT X e ⟨k, hk⟩ ∗ bigSep (Ring.rangeSet 1088 0 k) (offX c T hT X e))
      ⊢ (BI.sep (offX c T hT X e ⟨k, hk⟩) (bigSep (Ring.rangeSet 1088 0 k) (offX c T hT X e)) : sProp 𝕄) from .rfl)
    isplitl [Hoff]; · iexact Hoff
    iexact Ho
  isplitl [Hts]; · iexact Hts
  isplitl [HLs]; · iexact HLs
  iexact Hd

/-- The index table, held at the share the body has of it. -/
abbrev ptT : sProp 𝕄 := mT.view.loc (c : Thread nD τ) ↦{fullShare.right} T

/-- The word a load of the table at slot `n` reads. -/
theorem word_read (o : Fin 1 → ℕ) (n : Fin 17408) (ho : o = ![n.val]) (inb : ∀ a, o a + S1.size a ≤ S17408.size a) (x) :
    mT.view.readAt (Elt F) (Rect.unit (s := S17408) o S1.size inb).toLoadRect T x = word T n := by
  subst ho
  show T _ = T _
  congr 1
  funext a; apply Fin.ext; fin_cases a
  have : (x 0).val < 1 := (x 0).isLt
  show n.val + 1 * (x 0).val = n.val; omega

/-- Before trip `k` of the first loop: the first expert's fetch with `k` rows issued. -/
def inv1 (k : ℕ) (_ : Unit) : sProp 𝕄 := iprop(Fly c T hT X 0 k ∗ ptT c T)

section
variable (i : grid0.Coords)
  (arg4 : Memref sig .tc .vmem S1x1088x1 .f32) (harg4 : arg4.IsWhole) (arg5 : Memref sig .tc .vmem S1x1x2048x256 .f32) (harg5 : arg5.IsWhole)
  (arg6 : Memref sig .tc .vmem S1x1x2048x256 .f32) (harg6 : arg6.IsWhole) (arg7 : Memref sig .tc .vmem S1x1x1536x1024 .f32) (harg7 : arg7.IsWhole)
  (arg8 : Memref sig .tc .vmem S1x1088x8x128 .f32) (harg8 : arg8.IsWhole)
  (hT2 : mT.IsWhole) (hX2 : mX.IsWhole) (hL2 : mL.IsWhole) (hB2 : mB.IsWhole) (hH2 : mH.IsWhole) (hG2 : mG.IsWhole) (hU2 : mU.IsWhole) (hD2 : mD.IsWhole)

theorem inv1_step (h1 : k0_cond1 i = 1#1) (k : Fin k0_t1_loop.trips) (acc : Unit) :
    inv1 c T hT X k.val acc ⊢ wp frame (wpE (defs₀ (F := F)) Variants.none (c : Thread nD τ) none) Set.univ
      (k0_t1_body (F := F) i mT hT2 mX hX2 arg4 harg4 arg5 harg5 arg6 harg6 arg7 harg7 arg8 harg8 mL hL2 mB hB2 mH hH2 cc0_scratch3 mG hG2 mU hU2 mD hD2 h1 k acc)
      (inv1 c T hT X (k.val + 1)) := by
  have hk : k.val < 1088 := lt_of_lt_of_eq k.isLt trips1
  have hc : k0_chk1 i (word T ⟨(0 : Fin 16).val * 1088 + k.val, by show 0 * 1088 + k.val < 17408; omega⟩) := fun _ a =>
    inbX (src T hT 0 ⟨k.val, hk⟩) a
  unfold inv1 ptT
  iintro ⟨HF, HT⟩
  unfold k0_t1_body
  sl_exec
  have hr : inv1_step.sl.r T i h1 k = word T ⟨(0 : Fin 16).val * 1088 + k.val, by show 0 * 1088 + k.val < 17408; omega⟩ :=
    word_read T _ _ ((k0_off1_eq k).trans (by simp)) _ _
  iapply (wp_assume Variants.none (c : Thread nD τ) none Set.univ (by rw [hr]; exact hc))
  iapply (issue_row c T hT X 0 k.val hk (k0_off2_eq k) (by rw [hr]; rfl) _ _) $$ HF
  iintro HF
  simp only [Prog.bind]
  sl_step
  isplitl [HF]; · iexact HF
  iexact HT

set_option warn.classDefReducibility false in
/-- THE FIRST LOOP: it takes the first expert's fetch from no row issued to all 1088. -/
@[sl_loop] def loop1 (h1 : k0_cond1 i = 1#1) :
    LoopInvTy_k0_t1 (F := F) Unit ℕ (Pipeline.UD sig nD τ) ℕ Variants.none c none Set.univ i mT hT2 mX hX2 arg4 harg4 arg5 harg5 arg6 harg6 arg7 harg7
      arg8 harg8 mL hL2 mB hB2 mH hH2 cc0_scratch3 mG hG2 mU hU2 mD hD2 h1 where
  inv := inv1 c T hT X
  step := inv1_step c T hT X i arg4 harg4 arg5 harg5 arg6 harg6 arg7 harg7 arg8 harg8 hT2 hX2 hL2 hB2 hH2 hG2 hU2 hD2 h1

/-- Before trip `k` of the second loop at step `s`: expert `e`'s fetch with `272 (s - 1) + k` rows issued. -/
def inv2 (e : Fin 16) (k : ℕ) (_ : Unit) : sProp 𝕄 := iprop(Fly c T hT X e (272 * ((i 1).val - 1) + k) ∗ ptT c T)

theorem inv2_step (h3 : k0_cond3 i = 1#1) (e : Fin 16) (he : e.val = (i 0).val + 1) (k : Fin k0_t2_loop.trips) (acc : Unit) :
    inv2 c T hT X i e k.val acc ⊢ wp frame (wpE (defs₀ (F := F)) Variants.none (c : Thread nD τ) none) Set.univ
      (k0_t2_body (F := F) i mT hT2 mX hX2 arg4 harg4 arg5 harg5 arg6 harg6 arg7 harg7 arg8 harg8 mL hL2 mB hB2 mH hH2 cc0_scratch3 mG hG2 mU hU2 mD hD2 h3 k acc)
      (inv2 c T hT X i e (k.val + 1)) := by
  obtain ⟨hs1, hs4, he16⟩ := (cond3_iff i).mp h3
  have hk : k.val < 272 := lt_of_lt_of_eq k.isLt trips2
  have hk' : 272 * ((i 1).val - 1) + k.val < 1088 := by omega
  have hw : e.val * 1088 + (272 * ((i 1).val - 1) + k.val) < 17408 := by omega
  have hc : k0_chk2 i (word T ⟨e.val * 1088 + (272 * ((i 1).val - 1) + k.val), hw⟩) := fun _ a =>
    inbX (src T hT e ⟨272 * ((i 1).val - 1) + k.val, hk'⟩) a
  unfold inv2 ptT
  iintro ⟨HF, HT⟩
  unfold k0_t2_body
  sl_exec
  have hr : inv2_step.sl.r T i h3 k = word T ⟨e.val * 1088 + (272 * ((i 1).val - 1) + k.val), hw⟩ :=
    word_read T _ _ ((k0_off4_eq i k).trans (by congr 1; show 1088 * (i 0).val + 272 * (i 1).val + k.val + 816 = e.val * 1088 + (272 * ((i 1).val - 1) + k.val); omega)) _ _
  iapply (wp_assume Variants.none (c : Thread nD τ) none Set.univ (by rw [hr]; exact hc))
  iapply (issue_row c T hT X e (272 * ((i 1).val - 1) + k.val) hk' (off5_eq i h3 k) (by rw [hr]; rfl) _ _) $$ HF
  iintro HF
  simp only [Prog.bind]
  sl_step
  isplitl [HF]; · iexact HF
  iexact HT

set_option warn.classDefReducibility false in
/-- THE SECOND LOOP at step `s` of an expert: it issues 272 more rows of the next expert's fetch. -/
@[sl_loop] def loop2 (h3 : k0_cond3 i = 1#1) (e : Fin 16) (he : e.val = (i 0).val + 1) :
    LoopInvTy_k0_t2 (F := F) Unit ℕ (Pipeline.UD sig nD τ) ℕ Variants.none c none Set.univ i mT hT2 mX hX2 arg4 harg4 arg5 harg5 arg6 harg6 arg7 harg7
      arg8 harg8 mL hL2 mB hB2 mH hH2 cc0_scratch3 mG hG2 mU hU2 mD hD2 h3 where
  inv := inv2 c T hT X i e
  step := inv2_step c T hT X i arg4 harg4 arg5 harg5 arg6 harg6 arg7 harg7 arg8 harg8 hT2 hX2 hL2 hB2 hH2 hG2 hU2 hD2 h3 e he

end

end Issue

end Cert.KernelIdeal.Hand

end
-- ==== Proof.Vals.lean ====
/-
  Hand-written. What the buffers of the expert kernel's body hold: the two row blocks of the landing buffer, of the cast
  rows and of the hidden tiles, what one point stores in terms of them, and what loads of written buffers read.
-/
module

public import proofs.«01_k».proof.Proof.Issue
public import Idealize.ShloMosaic.Lib.VecWindow
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## The two row blocks -/

/-- Rows 0 … 543 and rows 544 … 1087 of the landing buffer. -/
def Xlo (g : S1088x16x128.Idx → Elt F .f32) : S544x16x128.Idx → Elt F .f32 := fun x =>
  g (ix3 ⟨(x 0).val, lt_trans (show (x 0).val < 544 from (x 0).isLt) (by decide)⟩ (x 1) (x 2))
def Xhi (g : S1088x16x128.Idx → Elt F .f32) : S544x16x128.Idx → Elt F .f32 := fun x =>
  g (ix3 ⟨544 + (x 0).val, by have : (x 0).val < 544 := (x 0).isLt; omega⟩ (x 1) (x 2))
/-- Rows 0 … 543 and rows 544 … 1087 of the cast rows. -/
def Blo (B : S1088x2048.Idx → Elt F .bf16) : S544x2048.Idx → Elt F .bf16 := fun x =>
  B (ix2 ⟨(x 0).val, lt_trans (show (x 0).val < 544 from (x 0).isLt) (by decide)⟩ (x 1))
def Bhi (B : S1088x2048.Idx → Elt F .bf16) : S544x2048.Idx → Elt F .bf16 := fun x =>
  B (ix2 ⟨544 + (x 0).val, by have : (x 0).val < 544 := (x 0).isLt; omega⟩ (x 1))
/-- Rows 0 … 543 and rows 544 … 1087 of hidden tile `j`. -/
def Hlo (g : S6x1088x256.Idx → Elt F .bf16) (j : Fin 6) : S1x544x256.Idx → Elt F .bf16 := fun x =>
  g (ix3 j ⟨(x 1).val, lt_trans (show (x 1).val < 544 from (x 1).isLt) (by decide)⟩ (x 2))
def Hhi (g : S6x1088x256.Idx → Elt F .bf16) (j : Fin 6) : S1x544x256.Idx → Elt F .bf16 := fun x =>
  g (ix3 j ⟨544 + (x 1).val, by have : (x 1).val < 544 := (x 1).isLt; omega⟩ (x 2))
/-- Rows 0 … 543 and rows 544 … 1087 of one expert's gates. -/
def Glo (w : S1x1088x1.Idx → Elt F .f32) : S1x544x1.Idx → Elt F .f32 := fun x =>
  w (ix3 (x 0) ⟨(x 1).val, lt_trans (show (x 1).val < 544 from (x 1).isLt) (by decide)⟩ (x 2))
def Ghi (w : S1x1088x1.Idx → Elt F .f32) : S1x544x1.Idx → Elt F .f32 := fun x =>
  w (ix3 (x 0) ⟨544 + (x 1).val, by have : (x 1).val < 544 := (x 1).isLt; omega⟩ (x 2))

/-! ## What one point computes -/

/-- The cast rows, from the landing buffer's. -/
def castB (g : S1088x16x128.Idx → Elt F .f32) : S1088x2048.Idx → Elt F .bf16 := fun y =>
  if h : (y 0).val < 544 then k0_pay1 (Xlo g) (ix2 ⟨(y 0).val, h⟩ (y 1))
  else k0_pay2 (Xhi g) (ix2 ⟨(y 0).val - 544, by have : (y 0).val < 1088 := (y 0).isLt; omega⟩ (y 1))
/-- A hidden tile's two row blocks, from the cast rows and the tile of the two weights. -/
def hlo (B : S1088x2048.Idx → Elt F .bf16) (w5 w6 : S1x1x2048x256.Idx → Elt F .f32) : S1x544x256.Idx → Elt F .bf16 :=
  k0_pay8 (Blo B) (k0_pay6 w5) (k0_pay7 w6)
def hhi (B : S1088x2048.Idx → Elt F .bf16) (w5 w6 : S1x1x2048x256.Idx → Elt F .f32) : S1x544x256.Idx → Elt F .bf16 :=
  k0_pay3 (Bhi B) (k0_pay9 (Bhi B) (k0_pay6 w5)) (k0_pay7 w6)
/-- The output block's two row blocks, from the hidden tiles, the half of the last weight, and the gates. -/
def olo (l : Fin 6 → S1x544x256.Idx → Elt F .bf16) (w7 : S1x1x1536x1024.Idx → Elt F .f32) (w4 : S1x1088x1.Idx → Elt F .f32) :
    S1x544x8x128.Idx → Elt F .f32 :=
  k0_pay4 (k0_pay11 (l 0) (l 1) (l 2) (l 3) (l 4) (l 5) (k0_pay10 w7) (Glo w4))
def ohi (l : Fin 6 → S1x544x256.Idx → Elt F .bf16) (w7 : S1x1x1536x1024.Idx → Elt F .f32) (w4 : S1x1088x1.Idx → Elt F .f32) :
    S1x544x8x128.Idx → Elt F .f32 :=
  k0_pay5 (l 0) (l 1) (l 2) (l 3) (l 4) (l 5) (k0_pay10 w7) (Ghi w4)
/-- The output block. -/
def outB (l l' : Fin 6 → S1x544x256.Idx → Elt F .bf16) (w7 : S1x1x1536x1024.Idx → Elt F .f32) (w4 : S1x1088x1.Idx → Elt F .f32) :
    S1x1088x8x128.Idx → Elt F .f32 := fun y =>
  if h : (y 1).val < 544 then olo l w7 w4 (ix4 (y 0) ⟨(y 1).val, h⟩ (y 2) (y 3))
  else ohi l' w7 w4 (ix4 (y 0) ⟨(y 1).val - 544, by have : (y 1).val < 1088 := (y 1).isLt; omega⟩ (y 2) (y 3))

/-! ## What loads read -/

theorem read_Xlo (g : S1088x16x128.Idx → Elt F .f32) (inb) :
    mL.view.readAt (Elt F) (Rect.unit (s := S1088x16x128) ![0, 0, 0] S544x16x128.size inb).toLoadRect g = Xlo g := by
  funext x; show g _ = g _; congr 1; funext a; apply Fin.ext; fin_cases a
  · show 0 + 1 * (x 0).val = (x 0).val; omega
  · show 0 + 1 * (x 1).val = (x 1).val; omega
  · show 0 + 1 * (x 2).val = (x 2).val; omega
theorem read_Xhi (g : S1088x16x128.Idx → Elt F .f32) (inb) :
    mL.view.readAt (Elt F) (Rect.unit (s := S1088x16x128) ![544, 0, 0] S544x16x128.size inb).toLoadRect g = Xhi g := by
  funext x; show g _ = g _; congr 1; funext a; apply Fin.ext; fin_cases a
  · show 544 + 1 * (x 0).val = 544 + (x 0).val; omega
  · show 0 + 1 * (x 1).val = (x 1).val; omega
  · show 0 + 1 * (x 2).val = (x 2).val; omega
theorem read_Blo (B : S1088x2048.Idx → Elt F .bf16) (inb) :
    mB.view.readAt (Elt F) (Rect.unit (s := S1088x2048) ![0, 0] S544x2048.size inb).toLoadRect B = Blo B := by
  funext x; show B _ = B _; congr 1; funext a; apply Fin.ext; fin_cases a
  · show 0 + 1 * (x 0).val = (x 0).val; omega
  · show 0 + 1 * (x 1).val = (x 1).val; omega
theorem read_Bhi (B : S1088x2048.Idx → Elt F .bf16) (inb) :
    mB.view.readAt (Elt F) (Rect.unit (s := S1088x2048) ![544, 0] S544x2048.size inb).toLoadRect B = Bhi B := by
  funext x; show B _ = B _; congr 1; funext a; apply Fin.ext; fin_cases a
  · show 544 + 1 * (x 0).val = 544 + (x 0).val; omega
  · show 0 + 1 * (x 1).val = (x 1).val; omega
theorem read_Hlo (g : S6x1088x256.Idx → Elt F .bf16) (j : Fin 6) (inb : ∀ a, (![j.val, 0, 0] : Fin 3 → ℕ) a + S1x544x256.size a ≤ S6x1088x256.size a) :
    mH.view.readAt (Elt F) (Rect.unit (s := S6x1088x256) ![j.val, 0, 0] S1x544x256.size inb).toLoadRect g = Hlo g j := by
  funext x; show g _ = g _; congr 1; funext a; apply Fin.ext; fin_cases a
  · have h : (x 0).val < 1 := (x 0).isLt
    show j.val + 1 * (x 0).val = j.val; omega
  · show 0 + 1 * (x 1).val = (x 1).val; omega
  · show 0 + 1 * (x 2).val = (x 2).val; omega
theorem read_Hhi (g : S6x1088x256.Idx → Elt F .bf16) (j : Fin 6) (inb : ∀ a, (![j.val, 544, 0] : Fin 3 → ℕ) a + S1x544x256.size a ≤ S6x1088x256.size a) :
    mH.view.readAt (Elt F) (Rect.unit (s := S6x1088x256) ![j.val, 544, 0] S1x544x256.size inb).toLoadRect g = Hhi g j := by
  funext x; show g _ = g _; congr 1; funext a; apply Fin.ext; fin_cases a
  · have h : (x 0).val < 1 := (x 0).isLt
    show j.val + 1 * (x 0).val = j.val; omega
  · show 544 + 1 * (x 1).val = 544 + (x 1).val; omega
  · show 0 + 1 * (x 2).val = (x 2).val; omega
theorem read_Glo {M : Memref sig .tc .vmem S1x1088x1 .f32} (f) (w : S1x1088x1.Idx → Elt F .f32) (e : M.view.read (Elt F) f = w) (inb) :
    M.view.readAt (Elt F) (Rect.unit (s := S1x1088x1) ![0, 0, 0] S1x544x1.size inb).toLoadRect f = Glo w := by
  subst e; funext x; show M.view.read (Elt F) f _ = M.view.read (Elt F) f _; congr 1; funext a; apply Fin.ext; fin_cases a
  · show 0 + 1 * (x 0).val = (x 0).val; omega
  · show 0 + 1 * (x 1).val = (x 1).val; omega
  · show 0 + 1 * (x 2).val = (x 2).val; omega
theorem read_Ghi {M : Memref sig .tc .vmem S1x1088x1 .f32} (f) (w : S1x1088x1.Idx → Elt F .f32) (e : M.view.read (Elt F) f = w) (inb) :
    M.view.readAt (Elt F) (Rect.unit (s := S1x1088x1) ![0, 544, 0] S1x544x1.size inb).toLoadRect f = Ghi w := by
  subst e; funext x; show M.view.read (Elt F) f _ = M.view.read (Elt F) f _; congr 1; funext a; apply Fin.ext; fin_cases a
  · show 0 + 1 * (x 0).val = (x 0).val; omega
  · show 544 + 1 * (x 1).val = 544 + (x 1).val; omega
  · show 0 + 1 * (x 2).val = (x 2).val; omega

/-! ## What the stores leave -/

theorem read_mB (f : S1088x2048.Idx → Elt F .bf16) : mB.view.read (Elt F) f = f := rfl
theorem read_mH (f : S6x1088x256.Idx → Elt F .bf16) : mH.view.read (Elt F) f = f := rfl

/-- Two stores of the cast rows' row blocks, read back. -/
theorem read_cast (f : S1088x2048.Idx → Elt F .bf16) (p p' : S544x2048.Idx → Elt F .bf16) (i0 i1) (y : S1088x2048.Idx) :
    mB.view.read (Elt F) (mB.view.writes (Elt F) f [⟨Rect.unit (s := S1088x2048) ![544, 0] S544x2048.size i1, p'⟩,
      ⟨Rect.unit (s := S1088x2048) ![0, 0] S544x2048.size i0, p⟩]) y
      = if h : (y 0).val < 544 then p (ix2 ⟨(y 0).val, h⟩ (y 1))
        else p' (ix2 ⟨(y 0).val - 544, by have : (y 0).val < 1088 := (y 0).isLt; omega⟩ (y 1)) := by
  have h0 : (y 0).val < 1088 := (y 0).isLt
  have h1 : (y 1).val < 2048 := (y 1).isLt
  split_ifs with h
  · rw [View.read_writes_cons_unit_of_not_mem mB.view f i1 _ _ y rfl 0 (Or.inl (show (y 0).val < 544 from h))]
    exact View.read_writes_cons_unit_of_mem mB.view f i0 _ _ y (ix2 ⟨(y 0).val, h⟩ (y 1)) rfl fun a => by
      fin_cases a
      · show (y 0).val = 0 + (y 0).val; omega
      · show (y 1).val = 0 + (y 1).val; omega
  · exact View.read_writes_cons_unit_of_mem mB.view f i1 _ _ y (ix2 ⟨(y 0).val - 544, by omega⟩ (y 1)) rfl fun a => by
      fin_cases a
      · show (y 0).val = 544 + ((y 0).val - 544); omega
      · show (y 1).val = 0 + (y 1).val; omega

/-- The two stores of the cast rows fill the buffer. -/
theorem writes_cast (g : S1088x16x128.Idx → Elt F .f32) (f : S1088x2048.Idx → Elt F .bf16) (i0 i1) :
    mB.view.writes (Elt F) f [⟨Rect.unit (s := S1088x2048) ![544, 0] S544x2048.size i1, k0_pay2 (Xhi g)⟩,
      ⟨Rect.unit (s := S1088x2048) ![0, 0] S544x2048.size i0, k0_pay1 (Xlo g)⟩] = castB g :=
  funext fun y => (congrFun (read_mB _) y).symm.trans (read_cast f (k0_pay1 (Xlo g)) (k0_pay2 (Xhi g)) i0 i1 y)

/-- What holds of the hidden tiles after point `s` stored tile `s`: that tile is the stored one, the others are as they
    were. -/
def Stored (f g : S6x1088x256.Idx → Elt F .bf16) (s : ℕ) (p p' : S1x544x256.Idx → Elt F .bf16) : Prop :=
  ∀ j : Fin 6, (j.val = s → Hlo g j = p ∧ Hhi g j = p') ∧ (j.val ≠ s → Hlo g j = Hlo f j ∧ Hhi g j = Hhi f j)

theorem writes_hidden (f : S6x1088x256.Idx → Elt F .bf16) (s : ℕ) (p p' : S1x544x256.Idx → Elt F .bf16) {o o' : Fin 3 → ℕ}
    (ho : o = ![s, 0, 0]) (ho' : o' = ![s, 544, 0]) (i0 : ∀ a, o a + S1x544x256.size a ≤ S6x1088x256.size a)
    (i1 : ∀ a, o' a + S1x544x256.size a ≤ S6x1088x256.size a) :
    Stored f (mH.view.writes (Elt F) f [⟨Rect.unit (s := S6x1088x256) o' S1x544x256.size i1, p'⟩,
      ⟨Rect.unit (s := S6x1088x256) o S1x544x256.size i0, p⟩]) s p p' := by
  intro j
  constructor
  · intro hj
    constructor
    · funext x
      have h0 : (x 0).val < 1 := (x 0).isLt
      have h1 : (x 1).val < 544 := (x 1).isLt
      unfold Hlo; rw [← read_mH (mH.view.writes (Elt F) f _)]
      rw [View.read_writes_cons_unit_of_not_mem mH.view f i1 _ _ _ ho' 1 (Or.inl (show (x 1).val < 544 from h1))]
      exact View.read_writes_cons_unit_of_mem mH.view f i0 _ _ _ x ho fun a => by
        fin_cases a
        · show j.val = s + (x 0).val; omega
        · show (x 1).val = 0 + (x 1).val; omega
        · show (x 2).val = 0 + (x 2).val; omega
    · funext x
      have h0 : (x 0).val < 1 := (x 0).isLt
      unfold Hhi; rw [← read_mH (mH.view.writes (Elt F) f _)]
      exact View.read_writes_cons_unit_of_mem mH.view f i1 _ _ _ x ho' fun a => by
        fin_cases a
        · show j.val = s + (x 0).val; omega
        · show 544 + (x 1).val = 544 + (x 1).val; omega
        · show (x 2).val = 0 + (x 2).val; omega
  · intro hj
    have hne : j.val < s ∨ s + 1 ≤ j.val := by omega
    constructor
    · funext x
      unfold Hlo; rw [← read_mH (mH.view.writes (Elt F) f _)]
      rw [View.read_writes_cons_unit_of_not_mem mH.view f i1 _ _ _ ho' 0 hne,
        View.read_writes_cons_unit_of_not_mem mH.view f i0 _ _ _ ho 0 hne]
      rfl
    · funext x
      unfold Hhi; rw [← read_mH (mH.view.writes (Elt F) f _)]
      rw [View.read_writes_cons_unit_of_not_mem mH.view f i1 _ _ _ ho' 0 hne,
        View.read_writes_cons_unit_of_not_mem mH.view f i0 _ _ _ ho 0 hne]
      rfl

/-- The two stores of the output block fill it. -/
theorem writes_out (M : Memref sig .tc .vmem S1x1088x8x128 .f32) (f) (l l' : Fin 6 → S1x544x256.Idx → Elt F .bf16)
    (w7 : S1x1x1536x1024.Idx → Elt F .f32) (w4 : S1x1088x1.Idx → Elt F .f32) (i0 i1) :
    M.view.read (Elt F) (M.view.writes (Elt F) f [⟨Rect.unit (s := S1x1088x8x128) ![0, 544, 0, 0] S1x544x8x128.size i1, ohi l' w7 w4⟩,
      ⟨Rect.unit (s := S1x1088x8x128) ![0, 0, 0, 0] S1x544x8x128.size i0, olo l w7 w4⟩]) = outB l l' w7 w4 := by
  funext y
  have h1 : (y 1).val < 1088 := (y 1).isLt
  unfold outB
  split_ifs with h
  · rw [View.read_writes_cons_unit_of_not_mem M.view f i1 _ _ y rfl 1 (Or.inl (show (y 1).val < 544 from h))]
    exact View.read_writes_cons_unit_of_mem M.view f i0 _ _ y (ix4 (y 0) ⟨(y 1).val, h⟩ (y 2) (y 3)) rfl fun a => by
      fin_cases a
      · show (y 0).val = 0 + (y 0).val; omega
      · show (y 1).val = 0 + (y 1).val; omega
      · show (y 2).val = 0 + (y 2).val; omega
      · show (y 3).val = 0 + (y 3).val; omega
  · exact View.read_writes_cons_unit_of_mem M.view f i1 _ _ y (ix4 (y 0) ⟨(y 1).val - 544, by omega⟩ (y 2) (y 3)) rfl fun a => by
      fin_cases a
      · show (y 0).val = 0 + (y 0).val; omega
      · show (y 1).val = 544 + ((y 1).val - 544); omega
      · show (y 2).val = 0 + (y 2).val; omega
      · show (y 3).val = 0 + (y 3).val; omega

end Cert.KernelIdeal.Hand

end
-- ==== Proof.Body.lean ====
/-
  Hand-written. The expert kernel's body at one grid point, in the five cases of its branches.
-/
module

public import proofs.«01_k».proof.Proof.Vals

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Body
variable (c : Dev nD) (T : Tbl F) (hT : InRange T) (X : Tok F)
variable (i : grid0.Coords)
  (arg4 : Memref sig .tc .vmem S1x1088x1 .f32) (harg4 : arg4.IsWhole) (arg5 : Memref sig .tc .vmem S1x1x2048x256 .f32) (harg5 : arg5.IsWhole)
  (arg6 : Memref sig .tc .vmem S1x1x2048x256 .f32) (harg6 : arg6.IsWhole) (arg7 : Memref sig .tc .vmem S1x1x1536x1024 .f32) (harg7 : arg7.IsWhole)
  (arg8 : Memref sig .tc .vmem S1x1088x8x128 .f32) (harg8 : arg8.IsWhole)

/-- The body at point `i` on the launch's operands. -/
abbrev bodyAt : Prog (TpuEff nD τ sig (Elt F) Λ₀ .tc) PUnit :=
  cc0_moe_ffn i mT (Memref.isWhole_whole _) mX (Memref.isWhole_whole _) arg4 harg4 arg5 harg5 arg6 harg6 arg7 harg7 arg8 harg8
    mL (Memref.isWhole_whole _) mB (Memref.isWhole_whole _) mH (Memref.isWhole_whole _) cc0_scratch3 mG (Memref.isWhole_whole _) mU (Memref.isWhole_whole _) mD (Memref.isWhole_whole _)

/-- What the loads of the two weight tiles' casts read. -/
theorem tile_read {M : Memref sig .tc .vmem S1x1x2048x256 .f32} {f} {w : S1x1x2048x256.Idx → Elt F .f32} (e : M.view.read (Elt F) f = w) (inb) :
    M.view.readAt (Elt F) (Rect.unit (s := S1x1x2048x256) ![0, 0, 0, 0] S1x1x2048x256.size inb).toLoadRect f = w := by
  rw [← e]; exact View.readAt_full M.view f inb

/-- The branch the program spells out in place. -/
abbrev cond2 (i : grid0.Coords) : BitVec 1 := Scalar.cmpi .ne (Scalar.extui (Scalar.cmpi .eq (BitVec.ofNat 32 (i 1).val) 0#32) : BitVec 32) 0#32

/-- A POINT WITH NO FETCH TO ISSUE: it stores its hidden tile. -/
theorem run_D (hc1 : ¬ k0_cond1 i = 1#1) (hc2 : ¬ cond2 i = 1#1)
    (hc3 : ¬ k0_cond3 i = 1#1) (hc4 : k0_cond4 i = 1#1) (hc5 : ¬ k0_cond5 i = 1#1)
    (fB : S1088x2048.Idx → Elt F .bf16) (fH : S6x1088x256.Idx → Elt F .bf16) (w5 w6 : S1x1x2048x256.Idx → Elt F .f32) (W : Waits sig Unit) (K : PUnit → sProp 𝕄) :
    iprop(owns (c : Thread nD τ) arg5 fullShare w5 ∗ owns (c : Thread nD τ) arg6 fullShare w6
        ∗ pt c mB fB ∗ pt c mH fH ∗ (∃ f, pt c mG f) ∗ (∃ f, pt c mU f)
        ∗ owes (c : Thread nD τ) 0 W
        ∗ (iprop(owns (c : Thread nD τ) arg5 fullShare w5 ∗ owns (c : Thread nD τ) arg6 fullShare w6
            ∗ pt c mB fB ∗ (∃ g, ⌜Stored fH g (i 1).val (hlo fB w5 w6) (hhi fB w5 w6)⌝ ∗ pt c mH g)
            ∗ (∃ f, pt c mG f) ∗ (∃ f, pt c mU f) ∗ (∃ W', owes (c : Thread nD τ) 0 W')) -∗ K ⟨⟩))
      ⊢ wp frame (wpE (defs₀ (F := F)) Variants.none (c : Thread nD τ) none) Set.univ
          (bodyAt i arg4 harg4 arg5 harg5 arg6 harg6 arg7 harg7 arg8 harg8) K := by
  unfold cond2 at hc2
  unfold bodyAt
  simp only [cc0_moe_ffn_eq_skeleton]; unfold cc0_moe_ffn_skel
  unfold owns
  iintro ⟨⟨%f5, %e5, H5⟩, ⟨%f6, %e6, H6⟩, HB, HH, ⟨%fG, HG⟩, ⟨%fU, HU⟩, HW, Hk⟩
  sl_exec
  have ev5 : run_D.sl.v35_r0 c arg5 f5 = k0_pay6 w5 := by
    unfold run_D.sl.v35_r0 run_D.sl.HG_1; rw [View.readCov_full]
    exact congrArg k0_pay6 (tile_read e5 _)
  have ev6 : run_D.sl.v37_r0 c arg6 f6 = k0_pay7 w6 := by
    unfold run_D.sl.v37_r0 run_D.sl.HU_1; rw [View.readCov_full]
    exact congrArg k0_pay7 (tile_read e6 _)
  sl_step
  iapply Hk
  isplitl [H5]; · iexists f5; isplitr; · ipureintro; exact e5
                  iexact H5
  isplitl [H6]; · iexists f6; isplitr; · ipureintro; exact e6
                  iexact H6
  isplitl [HB]; · iexact HB
  isplitl [HH]
  · iexists _
    isplitr
    rotate_left
    · iexact HH
    · ipureintro
      unfold run_D.sl.r_1 run_D.sl.r
      rw [ev5, ev6]
      have h := writes_hidden fH (i 1).val (hlo fB w5 w6) (hhi fB w5 w6) (k0_off7_eq i) (k0_off8_eq i) (k0_off7_inb i hc4) (k0_off8_inb i hc4)
      unfold hlo hhi at h ⊢
      rw [← read_Blo fB inb_S1088x2048_S544x2048_0_0, ← read_Bhi fB inb_S1088x2048_S544x2048_544_0] at h ⊢
      exact h
  isplitl [HG]; · iexists _; iexact HG
  isplitl [HU]; · iexists _; iexact HU
  iexists _; iexact HW

end Body

end Cert.KernelIdeal.Hand

end
-- ==== Proof.Cases.lean ====
/-
  Hand-written. The expert kernel's body at the points that issue rows, that wait for them, and that store the output.
-/
module

public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Cases
variable (c : Dev nD) (T : Tbl F) (hT : InRange T) (X : Tok F)

/-- THE WAIT: with all 1088 rows issued, the wait for the whole landing buffer leaves it at the expert's rows and the
    fetch over. -/
theorem wait_rows (e : Fin 16) (W : Waits sig Unit) {s' : Shape} {e' : EltTy} {sp' : Space} {srcw : Memref sig .tc sp' s' e'}
    {hs : srcw.view.WordExact} {hd : mL.view.WordExact}
    {K : PUnit → Prog (TpuEff nD τ sig (Elt F) Λ₀ .tc) PUnit} {Q : PUnit → sProp 𝕄} :
    iprop(Fly c T hT X e 1088 ∗ owes (c : Thread nD τ) 0 W) ⊢ iprop((iprop(semVal ((c : Thread nD τ), SemLoc.dma fsem) 0
        ∗ pt c mL (gath T hT X e) ∗ pt c mX X ∗ (∃ W', owes (c : Thread nD τ) 0 W'))
          -∗ wp frame (wpE (defs₀ (F := F)) Variants.none (c : Thread nD τ) none) Set.univ (K ⟨⟩) Q)
      -∗ wp frame (wpE (defs₀ (F := F)) Variants.none (c : Thread nD τ) none) Set.univ
          (.op (.waitDma2 fsem srcw mL hs hd) K) Q) := by
  unfold Fly
  iintro ⟨⟨HB, Ho, Ht, Hf, Hd⟩, HW⟩ Hk
  iapply (Transfers.wp_waitBatchAll (countersEmb (U := Pipeline.UD sig nD τ)) Variants.none (c : Thread nD τ) none
    (dstw := mL) (D := dlv c T hT X e) (u := 0) () rfl rowN_pos ((Nat.zero_add _).trans whole_credit)) $$ [HB HW]
  · isplitl [HB]; · iexact HB
    iexact HW
  iintro ⟨HD, Hv, HW⟩
  ihave HA := (arrived c T hT X e) $$ [HD Ho Hd]
  · isplitl [HD]; · iexact HD
    isplitl [Ho]; · iexact Ho
    iexact Hd
  icases HA with ⟨HL, HX⟩
  iapply Hk
  isplitl [Hv]; · iexact Hv
  isplitl [HL]; · iexact HL
  isplitl [HX]; · iexact HX
  iexists _; iexact HW

variable (i : grid0.Coords)
  (arg4 : Memref sig .tc .vmem S1x1088x1 .f32) (harg4 : arg4.IsWhole) (arg5 : Memref sig .tc .vmem S1x1x2048x256 .f32) (harg5 : arg5.IsWhole)
  (arg6 : Memref sig .tc .vmem S1x1x2048x256 .f32) (harg6 : arg6.IsWhole) (arg7 : Memref sig .tc .vmem S1x1x1536x1024 .f32) (harg7 : arg7.IsWhole)
  (arg8 : Memref sig .tc .vmem S1x1088x8x128 .f32) (harg8 : arg8.IsWhole)

/-- A POINT THAT STORES THE OUTPUT: half of the columns, from the six hidden tiles. -/
theorem run_E (hc1 : ¬ k0_cond1 i = 1#1) (hc2 : ¬ cond2 i = 1#1)
    (hc3 : ¬ k0_cond3 i = 1#1) (hc4 : ¬ k0_cond4 i = 1#1) (hc5 : k0_cond5 i = 1#1)
    (fH : S6x1088x256.Idx → Elt F .bf16) (w4 : S1x1088x1.Idx → Elt F .f32) (w7 : S1x1x1536x1024.Idx → Elt F .f32)
    (v8 : S1x1088x8x128.Idx → Elt F .f32) (W : Waits sig Unit) (K : PUnit → sProp 𝕄) :
    iprop(owns (c : Thread nD τ) arg4 fullShare w4 ∗ owns (c : Thread nD τ) arg7 fullShare w7 ∗ owns (c : Thread nD τ) arg8 fullShare v8
        ∗ pt c mH fH ∗ (∃ f, pt c mD f)
        ∗ owes (c : Thread nD τ) 0 W
        ∗ (iprop(owns (c : Thread nD τ) arg4 fullShare w4 ∗ owns (c : Thread nD τ) arg7 fullShare w7
            ∗ owns (c : Thread nD τ) arg8 fullShare (outB (Hlo fH) (Hhi fH) w7 w4)
            ∗ pt c mH fH ∗ (∃ f, pt c mD f) ∗ (∃ W', owes (c : Thread nD τ) 0 W')) -∗ K ⟨⟩))
      ⊢ wp frame (wpE (defs₀ (F := F)) Variants.none (c : Thread nD τ) none) Set.univ
          (bodyAt i arg4 harg4 arg5 harg5 arg6 harg6 arg7 harg7 arg8 harg8) K := by
  unfold cond2 at hc2
  unfold bodyAt
  simp only [cc0_moe_ffn_eq_skeleton]; unfold cc0_moe_ffn_skel
  unfold owns
  iintro ⟨⟨%f4, %e4, H4⟩, ⟨%f7, %e7, H7⟩, ⟨%f8, %e8, H8⟩, HH, ⟨%fD, HD⟩, HW, Hk⟩
  sl_exec
  have ev7 : run_E.sl.v41_r1 c arg7 f7 = k0_pay10 w7 := by
    unfold run_E.sl.v41_r1 run_E.sl.HD_1; rw [View.readCov_full]
    exact congrArg k0_pay10 (by rw [← e7]; exact View.readAt_full arg7.view f7 _)
  sl_step
  iapply Hk
  isplitl [H4]; · iexists f4; isplitr; · ipureintro; exact e4
                  iexact H4
  isplitl [H7]; · iexists f7; isplitr; · ipureintro; exact e7
                  iexact H7
  isplitl [H8]
  · iexists _
    isplitr
    rotate_left
    · iexact H8
    · ipureintro
      have h := writes_out arg8 f8 (Hlo fH) (Hhi fH) w7 w4 inb_S1x1088x8x128_S1x544x8x128_0_0_0_0 inb_S1x1088x8x128_S1x544x8x128_0_544_0_0
      refine Eq.trans ?_ h
      unfold olo ohi
      rw [← ev7, ← read_Glo f4 w4 e4 inb_S1x1088x1_S1x544x1_0_0_0, ← read_Ghi f4 w4 e4 inb_S1x1088x1_S1x544x1_0_544_0,
        ← read_Hlo fH 0 inb_S6x1088x256_S1x544x256_0_0_0, ← read_Hlo fH 1 inb_S6x1088x256_S1x544x256_1_0_0,
        ← read_Hlo fH 2 inb_S6x1088x256_S1x544x256_2_0_0, ← read_Hlo fH 3 inb_S6x1088x256_S1x544x256_3_0_0,
        ← read_Hlo fH 4 inb_S6x1088x256_S1x544x256_4_0_0, ← read_Hlo fH 5 inb_S6x1088x256_S1x544x256_5_0_0,
        ← read_Hhi fH 0 inb_S6x1088x256_S1x544x256_0_544_0, ← read_Hhi fH 1 inb_S6x1088x256_S1x544x256_1_544_0,
        ← read_Hhi fH 2 inb_S6x1088x256_S1x544x256_2_544_0, ← read_Hhi fH 3 inb_S6x1088x256_S1x544x256_3_544_0,
        ← read_Hhi fH 4 inb_S6x1088x256_S1x544x256_4_544_0, ← read_Hhi fH 5 inb_S6x1088x256_S1x544x256_5_544_0]
      rfl
  isplitl [HH]; · iexact HH
  isplitl [HD]; · iexists _; iexact HD
  iexists _; iexact HW

/-- A POINT THAT ISSUES ROWS: 272 more rows of the next expert's fetch, and its hidden tile. -/
theorem run_C (hc1 : ¬ k0_cond1 i = 1#1) (hc2 : ¬ cond2 i = 1#1)
    (hc3 : k0_cond3 i = 1#1) (hc4 : k0_cond4 i = 1#1) (hc5 : ¬ k0_cond5 i = 1#1) (e : Fin 16) (he : e.val = (i 0).val + 1)
    (fB : S1088x2048.Idx → Elt F .bf16) (fH : S6x1088x256.Idx → Elt F .bf16) (w5 w6 : S1x1x2048x256.Idx → Elt F .f32) (W : Waits sig Unit) (K : PUnit → sProp 𝕄) :
    iprop(owns (c : Thread nD τ) arg5 fullShare w5 ∗ owns (c : Thread nD τ) arg6 fullShare w6
        ∗ inv2 c T hT X i e 0 ()
        ∗ pt c mB fB ∗ pt c mH fH ∗ (∃ f, pt c mG f) ∗ (∃ f, pt c mU f)
        ∗ owes (c : Thread nD τ) 0 W
        ∗ (iprop(owns (c : Thread nD τ) arg5 fullShare w5 ∗ owns (c : Thread nD τ) arg6 fullShare w6
            ∗ inv2 c T hT X i e 272 ()
            ∗ pt c mB fB ∗ (∃ g, ⌜Stored fH g (i 1).val (hlo fB w5 w6) (hhi fB w5 w6)⌝ ∗ pt c mH g)
            ∗ (∃ f, pt c mG f) ∗ (∃ f, pt c mU f) ∗ (∃ W', owes (c : Thread nD τ) 0 W')) -∗ K ⟨⟩))
      ⊢ wp frame (wpE (defs₀ (F := F)) Variants.none (c : Thread nD τ) none) Set.univ
          (bodyAt i arg4 harg4 arg5 harg5 arg6 harg6 arg7 harg7 arg8 harg8) K := by
  unfold cond2 at hc2
  unfold bodyAt
  simp only [cc0_moe_ffn_eq_skeleton]; unfold cc0_moe_ffn_skel
  unfold owns
  iintro ⟨⟨%f5, %e5, H5⟩, ⟨%f6, %e6, H6⟩, HI, HB, HH, ⟨%fG, HG⟩, ⟨%fU, HU⟩, HW, Hk⟩
  sl_exec
  sl_for (inv2 c T hT X i e) $$ [HI]
  case region =>
    intro k acc
    exact inv2_step c T hT X i arg4 harg4 arg5 harg5 arg6 harg6 arg7 harg7 arg8 harg8 _ _ _ _ _ _ _ _ hc3 e he k acc
  · iexact HI
  iintro %acc HI
  sl_exec
  have ev5 : run_C.sl.v35_r0 c arg5 f5 = k0_pay6 w5 := by
    unfold run_C.sl.v35_r0 run_C.sl.HG_1; rw [View.readCov_full]
    exact congrArg k0_pay6 (tile_read e5 _)
  have ev6 : run_C.sl.v37_r0 c arg6 f6 = k0_pay7 w6 := by
    unfold run_C.sl.v37_r0 run_C.sl.HU_1; rw [View.readCov_full]
    exact congrArg k0_pay7 (tile_read e6 _)
  sl_step
  iapply Hk
  isplitl [H5]; · iexists f5; isplitr; · ipureintro; exact e5
                  iexact H5
  isplitl [H6]; · iexists f6; isplitr; · ipureintro; exact e6
                  iexact H6
  isplitl [HI]; · iapply (Entails.of_eq (congrArg (fun n => inv2 c T hT X i e n ()) trips2)); iexact HI
  isplitl [HB]; · iexact HB
  isplitl [HH]
  · iexists _
    isplitr
    rotate_left
    · iexact HH
    · ipureintro
      unfold run_C.sl.r_1 run_C.sl.r
      rw [ev5, ev6]
      have h := writes_hidden fH (i 1).val (hlo fB w5 w6) (hhi fB w5 w6) (k0_off7_eq i) (k0_off8_eq i) (k0_off7_inb i hc4) (k0_off8_inb i hc4)
      unfold hlo hhi at h ⊢
      rw [← read_Blo fB inb_S1088x2048_S544x2048_0_0, ← read_Bhi fB inb_S1088x2048_S544x2048_544_0] at h ⊢
      exact h
  isplitl [HG]; · iexists _; iexact HG
  isplitl [HU]; · iexists _; iexact HU
  iexists _; iexact HW

/-- AN EXPERT'S FIRST POINT after the first expert: it waits for its rows, casts them, and stores its hidden tile. -/
theorem run_B (hc1 : ¬ k0_cond1 i = 1#1) (hc2 : cond2 i = 1#1)
    (hc3 : ¬ k0_cond3 i = 1#1) (hc4 : k0_cond4 i = 1#1) (hc5 : ¬ k0_cond5 i = 1#1) (e : Fin 16)
    (fB : S1088x2048.Idx → Elt F .bf16) (fH : S6x1088x256.Idx → Elt F .bf16) (w5 w6 : S1x1x2048x256.Idx → Elt F .f32) (W : Waits sig Unit) (K : PUnit → sProp 𝕄) :
    iprop(owns (c : Thread nD τ) arg5 fullShare w5 ∗ owns (c : Thread nD τ) arg6 fullShare w6
        ∗ Fly c T hT X e 1088
        ∗ pt c mB fB ∗ pt c mH fH ∗ (∃ f, pt c mG f) ∗ (∃ f, pt c mU f)
        ∗ owes (c : Thread nD τ) 0 W
        ∗ (iprop(owns (c : Thread nD τ) arg5 fullShare w5 ∗ owns (c : Thread nD τ) arg6 fullShare w6
            ∗ Idle c X
            ∗ pt c mB (castB (gath T hT X e)) ∗ (∃ g, ⌜Stored fH g (i 1).val (hlo (castB (gath T hT X e)) w5 w6) (hhi (castB (gath T hT X e)) w5 w6)⌝ ∗ pt c mH g)
            ∗ (∃ f, pt c mG f) ∗ (∃ f, pt c mU f) ∗ (∃ W', owes (c : Thread nD τ) 0 W')) -∗ K ⟨⟩))
      ⊢ wp frame (wpE (defs₀ (F := F)) Variants.none (c : Thread nD τ) none) Set.univ
          (bodyAt i arg4 harg4 arg5 harg5 arg6 harg6 arg7 harg7 arg8 harg8) K := by
  unfold cond2 at hc2
  unfold bodyAt
  simp only [cc0_moe_ffn_eq_skeleton]; unfold cc0_moe_ffn_skel
  unfold owns
  iintro ⟨⟨%f5, %e5, H5⟩, ⟨%f6, %e6, H6⟩, HI, HB, HH, ⟨%fG, HG⟩, ⟨%fU, HU⟩, HW, Hk⟩
  sl_exec
  iapply (wait_rows c T hT X e _) $$ [HI HW]
  · isplitl [HI]; · iexact HI
    iexact HW
  iintro ⟨Hv, HL, HX, ⟨%W', HW⟩⟩
  simp only [Prog.bind]
  sl_exec
  have ev5 : run_B.sl.v35_r0 c arg5 f5 = k0_pay6 w5 := by
    unfold run_B.sl.v35_r0 run_B.sl.HG_1; rw [View.readCov_full]
    exact congrArg k0_pay6 (tile_read e5 _)
  have ev6 : run_B.sl.v37_r0 c arg6 f6 = k0_pay7 w6 := by
    unfold run_B.sl.v37_r0 run_B.sl.HU_1; rw [View.readCov_full]
    exact congrArg k0_pay7 (tile_read e6 _)
  have eHB : ∀ f, mB.view.writes (Elt F) f (run_B.sl.HB_2 T hT X e) = castB (gath T hT X e) := by
    intro f
    have h := writes_cast (gath T hT X e) f inb_S1088x2048_S544x2048_0_0 inb_S1088x2048_S544x2048_544_0
    rw [← read_Xlo (gath T hT X e) inb_S1088x16x128_S544x16x128_0_0_0, ← read_Xhi (gath T hT X e) inb_S1088x16x128_S544x16x128_544_0_0] at h
    exact h
  have eLo : run_B.sl.v34_r0 T hT X e = Blo (castB (gath T hT X e)) := by
    unfold run_B.sl.v34_r0
    exact (congrArg (mB.view.readAt (Elt F) _) (eHB mB.view.junk)).trans (read_Blo _ _)
  have eHi : run_B.sl.v47_r0 T hT X e = Bhi (castB (gath T hT X e)) := by
    unfold run_B.sl.v47_r0
    exact (congrArg (mB.view.readAt (Elt F) _) (eHB mB.view.junk)).trans (read_Bhi _ _)
  have ev6' : run_B.sl.v50_r0 c arg6 f6 = k0_pay7 w6 := by
    unfold run_B.sl.v50_r0 run_B.sl.HU_1; rw [View.readCov_full]
    exact congrArg k0_pay7 (tile_read e6 _)
  have eH := eHB fB
  sl_step
  iapply Hk
  isplitl [H5]; · iexists f5; isplitr; · ipureintro; exact e5
                  iexact H5
  isplitl [H6]; · iexists f6; isplitr; · ipureintro; exact e6
                  iexact H6
  isplitl [Hv HL HX]
  · unfold Idle; isplitl [Hv]; · iexact Hv
    isplitl [HL]; · iexists _; iexact HL
    iexact HX
  isplitl [HB]; · iapply (Entails.of_eq (congrArg (fun f => pt c mB f) eH)); iexact HB
  isplitl [HH]
  · iexists _
    isplitr
    rotate_left
    · iexact HH
    · ipureintro
      unfold run_B.sl.r
      rw [ev5, ev6, ev6', eLo, eHi]
      exact writes_hidden fH (i 1).val (hlo (castB (gath T hT X e)) w5 w6) (hhi (castB (gath T hT X e)) w5 w6) (k0_off7_eq i) (k0_off8_eq i) (k0_off7_inb i hc4) (k0_off8_inb i hc4)
  isplitl [HG]; · iexists _; iexact HG
  isplitl [HU]; · iexists _; iexact HU
  iexists _; iexact HW

/-- THE FIRST POINT: it issues the first expert's rows, waits for its rows, casts them, and stores its hidden tile. -/
theorem run_A (hc1 : k0_cond1 i = 1#1) (hc2 : cond2 i = 1#1)
    (hc3 : ¬ k0_cond3 i = 1#1) (hc4 : k0_cond4 i = 1#1) (hc5 : ¬ k0_cond5 i = 1#1)
    (fB : S1088x2048.Idx → Elt F .bf16) (fH : S6x1088x256.Idx → Elt F .bf16) (w5 w6 : S1x1x2048x256.Idx → Elt F .f32) (W : Waits sig Unit) (K : PUnit → sProp 𝕄) :
    iprop(owns (c : Thread nD τ) arg5 fullShare w5 ∗ owns (c : Thread nD τ) arg6 fullShare w6
        ∗ inv1 c T hT X 0 ()
        ∗ pt c mB fB ∗ pt c mH fH ∗ (∃ f, pt c mG f) ∗ (∃ f, pt c mU f)
        ∗ owes (c : Thread nD τ) 0 W
        ∗ (iprop(owns (c : Thread nD τ) arg5 fullShare w5 ∗ owns (c : Thread nD τ) arg6 fullShare w6
            ∗ Idle c X ∗ ptT c T
            ∗ pt c mB (castB (gath T hT X 0)) ∗ (∃ g, ⌜Stored fH g (i 1).val (hlo (castB (gath T hT X 0)) w5 w6) (hhi (castB (gath T hT X 0)) w5 w6)⌝ ∗ pt c mH g)
            ∗ (∃ f, pt c mG f) ∗ (∃ f, pt c mU f) ∗ (∃ W', owes (c : Thread nD τ) 0 W')) -∗ K ⟨⟩))
      ⊢ wp frame (wpE (defs₀ (F := F)) Variants.none (c : Thread nD τ) none) Set.univ
          (bodyAt i arg4 harg4 arg5 harg5 arg6 harg6 arg7 harg7 arg8 harg8) K := by
  unfold cond2 at hc2
  unfold bodyAt
  simp only [cc0_moe_ffn_eq_skeleton]; unfold cc0_moe_ffn_skel
  unfold owns
  iintro ⟨⟨%f5, %e5, H5⟩, ⟨%f6, %e6, H6⟩, HI, HB, HH, ⟨%fG, HG⟩, ⟨%fU, HU⟩, HW, Hk⟩
  sl_exec
  sl_for (inv1 c T hT X) $$ [HI]
  case region =>
    intro k acc
    exact inv1_step c T hT X i arg4 harg4 arg5 harg5 arg6 harg6 arg7 harg7 arg8 harg8 _ _ _ _ _ _ _ _ hc1 k acc
  · iexact HI
  iintro %acc HI
  ihave HI := (Entails.of_eq (congrArg (fun n => inv1 c T hT X n ()) trips1)) $$ HI
  unfold inv1
  icases HI with ⟨HI, HT⟩
  sl_exec
  iapply (wait_rows c T hT X 0 _) $$ [HI HW]
  · isplitl [HI]; · iexact HI
    iexact HW
  iintro ⟨Hv, HL, HX, ⟨%W', HW⟩⟩
  simp only [Prog.bind]
  sl_exec
  have ev5 : run_A.sl.v35_r0 c arg5 f5 = k0_pay6 w5 := by
    unfold run_A.sl.v35_r0 run_A.sl.HG_1; rw [View.readCov_full]
    exact congrArg k0_pay6 (tile_read e5 _)
  have ev6 : run_A.sl.v37_r0 c arg6 f6 = k0_pay7 w6 := by
    unfold run_A.sl.v37_r0 run_A.sl.HU_1; rw [View.readCov_full]
    exact congrArg k0_pay7 (tile_read e6 _)
  have eHB : ∀ f, mB.view.writes (Elt F) f (run_A.sl.HB_2 T hT X) = castB (gath T hT X 0) := by
    intro f
    have h := writes_cast (gath T hT X 0) f inb_S1088x2048_S544x2048_0_0 inb_S1088x2048_S544x2048_544_0
    rw [← read_Xlo (gath T hT X 0) inb_S1088x16x128_S544x16x128_0_0_0, ← read_Xhi (gath T hT X 0) inb_S1088x16x128_S544x16x128_544_0_0] at h
    exact h
  have eLo : run_A.sl.v34_r0 T hT X = Blo (castB (gath T hT X 0)) := by
    unfold run_A.sl.v34_r0
    exact (congrArg (mB.view.readAt (Elt F) _) (eHB mB.view.junk)).trans (read_Blo _ _)
  have eHi : run_A.sl.v47_r0 T hT X = Bhi (castB (gath T hT X 0)) := by
    unfold run_A.sl.v47_r0
    exact (congrArg (mB.view.readAt (Elt F) _) (eHB mB.view.junk)).trans (read_Bhi _ _)
  have ev6' : run_A.sl.v50_r0 c arg6 f6 = k0_pay7 w6 := by
    unfold run_A.sl.v50_r0 run_A.sl.HU_1; rw [View.readCov_full]
    exact congrArg k0_pay7 (tile_read e6 _)
  have eH := eHB fB
  sl_step
  iapply Hk
  isplitl [H5]; · iexists f5; isplitr; · ipureintro; exact e5
                  iexact H5
  isplitl [H6]; · iexists f6; isplitr; · ipureintro; exact e6
                  iexact H6
  isplitl [Hv HL HX]
  · unfold Idle; isplitl [Hv]; · iexact Hv
    isplitl [HL]; · iexists _; iexact HL
    iexact HX
  isplitl [HT]; · iexact HT
  isplitl [HB]; · iapply (Entails.of_eq (congrArg (fun f => pt c mB f) eH)); iexact HB
  isplitl [HH]
  · iexists _
    isplitr
    rotate_left
    · iexact HH
    · ipureintro
      unfold run_A.sl.r
      rw [ev5, ev6, ev6', eLo, eHi]
      exact writes_hidden fH (i 1).val (hlo (castB (gath T hT X 0)) w5 w6) (hhi (castB (gath T hT X 0)) w5 w6) (k0_off7_eq i) (k0_off8_eq i) (k0_off7_inb i hc4) (k0_off8_inb i hc4)
  isplitl [HG]; · iexists _; iexact HG
  isplitl [HU]; · iexists _; iexact HU
  iexists _; iexact HW

end Cases

end Cert.KernelIdeal.Hand

end
-- ==== Proof.Step.lean ====
/-
  Hand-written. The state between two points of the expert kernel's grid, and that each point's body takes the state
  before it to the state after it.
-/
module

public import proofs.«01_k».proof.Proof.Cases

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- The contents of the launch's buffers when the kernel starts. -/
abbrev Entry (F : FTy → Type) : Type := (c : Dev nD) → (b : Ref sig .tc) → Buf (Elt F) ((c : Thread nD τ).loc b)

section Step
variable (V : Entry F) (c : Dev nD)

/-- The table and the tokens at the kernel's start. -/
abbrev tbl : Tbl F := V c main_v51
abbrev tok : Tok F := V c main_v55

/-- Expert `e`'s gates, the `j`-th column tile of its two first weights, and the `h`-th column half of its last. -/
def gateB (e : Fin 16) : S1x1088x1.Idx → Elt F .f32 := fun y => (show S16x1088x1.Idx → Elt F .f32 from V c main_v53) (ix3 e (y 1) (y 2))
def tile (w : S4x16x2048x1536.Idx → Elt F .f32) (e : Fin 16) (j : Fin 6) : S1x1x2048x256.Idx → Elt F .f32 := fun y =>
  w (ix4 (y 0).castSucc.castSucc.castSucc e (y 2) ⟨256 * j.val + (y 3).val, by have : (y 3).val < 256 := (y 3).isLt; omega⟩)
def wgB (e : Fin 16) (j : Fin 6) : S1x1x2048x256.Idx → Elt F .f32 := tile (V c main_arg2) e j
def wuB (e : Fin 16) (j : Fin 6) : S1x1x2048x256.Idx → Elt F .f32 := tile (V c main_arg3) e j
def wdB (e : Fin 16) (h : Fin 2) : S1x1x1536x1024.Idx → Elt F .f32 := fun y =>
  (show S4x16x1536x2048.Idx → Elt F .f32 from V c main_arg4) (ix4 (y 0).castSucc.castSucc.castSucc e (y 2)
    ⟨1024 * h.val + (y 3).val, by have : (y 3).val < 1024 := (y 3).isLt; omega⟩)

variable (hT : InRange (tbl V c))

/-- Expert `e`'s cast rows, its hidden tiles' two row blocks, and its output's `h`-th half. -/
def rowsB (e : Fin 16) : S1088x2048.Idx → Elt F .bf16 := castB (gath (tbl V c) hT (tok V c) e)
def tileLo (e : Fin 16) (j : Fin 6) : S1x544x256.Idx → Elt F .bf16 := hlo (rowsB V c hT e) (wgB V c e j) (wuB V c e j)
def tileHi (e : Fin 16) (j : Fin 6) : S1x544x256.Idx → Elt F .bf16 := hhi (rowsB V c hT e) (wgB V c e j) (wuB V c e j)
def outAt (e : Fin 16) (h : Fin 2) : S1x1088x8x128.Idx → Elt F .f32 :=
  outB (tileLo V c hT e) (tileHi V c hT e) (wdB V c e h) (gateB V c e)

/-- The expert, the hidden tile and the output half of point `k`. -/
def ex (k : ℕ) : Fin 16 := ⟨k / 8 % 16, Nat.mod_lt _ (by decide)⟩
def tl (k : ℕ) : Fin 6 := ⟨min (k % 8) 5, by omega⟩
def hf (k : ℕ) : Fin 2 := ⟨k % 8 - 6, by omega⟩

/-- The fetch's state before point `k`. -/
def flight (k : ℕ) : sProp 𝕄 :=
  if k % 8 = 0 then
    if k = 0 ∨ 128 ≤ k then Idle c (tok V c) else Fly c (tbl V c) hT (tok V c) (ex k) 1088
  else if k % 8 = 1 ∨ 15 ≤ k / 8 then Idle c (tok V c)
  else Fly c (tbl V c) hT (tok V c) (ex (k + 8)) (272 * min 4 (k % 8 - 1))

/-- The state before point `k`: the fetch's, the table, the cast rows once the expert's first point has cast them, the
    hidden tiles stored so far, the three casts' buffers at any contents, and the generator's register. -/
def Inv (k : ℕ) : sProp 𝕄 :=
  iprop(flight V c hT k ∗ ptT c (tbl V c)
    ∗ (∃ fB, ⌜k % 8 ≠ 0 → fB = rowsB V c hT (ex k)⌝ ∗ pt c mB fB)
    ∗ (∃ fH, ⌜∀ j : Fin 6, j.val < k % 8 → Hlo fH j = tileLo V c hT (ex k) j ∧ Hhi fH j = tileHi V c hT (ex k) j⌝ ∗ pt c mH fH)
    ∗ (∃ f, pt c mG f) ∗ (∃ f, pt c mU f) ∗ (∃ f, pt c mD f) ∗ (∃ r, prngReg c r))

variable (i : grid0.Coords)
  (arg4 : Memref sig .tc .vmem S1x1088x1 .f32) (harg4 : arg4.IsWhole) (arg5 : Memref sig .tc .vmem S1x1x2048x256 .f32) (harg5 : arg5.IsWhole)
  (arg6 : Memref sig .tc .vmem S1x1x2048x256 .f32) (harg6 : arg6.IsWhole) (arg7 : Memref sig .tc .vmem S1x1x1536x1024 .f32) (harg7 : arg7.IsWhole)
  (arg8 : Memref sig .tc .vmem S1x1088x8x128 .f32) (harg8 : arg8.IsWhole)

/-- The tiles stored by the points before `k` and by point `k`. -/
theorem stored_next (k : ℕ) (hk : k % 8 < 6) (f g : S6x1088x256.Idx → Elt F .bf16)
    (hf : ∀ j : Fin 6, j.val < k % 8 → Hlo f j = tileLo V c hT (ex k) j ∧ Hhi f j = tileHi V c hT (ex k) j)
    (hg : Stored f g (k % 8) (hlo (rowsB V c hT (ex k)) (wgB V c (ex k) (tl k)) (wuB V c (ex k) (tl k)))
      (hhi (rowsB V c hT (ex k)) (wgB V c (ex k) (tl k)) (wuB V c (ex k) (tl k)))) :
    ∀ j : Fin 6, j.val < (k + 1) % 8 → Hlo g j = tileLo V c hT (ex (k + 1)) j ∧ Hhi g j = tileHi V c hT (ex (k + 1)) j := by
  have he : ex (k + 1) = ex k := Fin.ext (by show (k + 1) / 8 % 16 = k / 8 % 16; omega)
  intro j hj
  rw [he]
  by_cases h : j.val = k % 8
  · have ht : tl k = j := Fin.ext (by show min (k % 8) 5 = j.val; omega)
    have := (hg j).1 h
    rw [ht] at this
    exact this
  · rw [((hg j).2 h).1, ((hg j).2 h).2]
    exact hf j (by omega)

/-- A point that stores its hidden tile, once the fetch's part of the state is settled: what the state before gives the
    body and what the body gives the state after. -/
theorem next_state (k : ℕ) (hk : k % 8 < 6) (fB : S1088x2048.Idx → Elt F .bf16) (hB : fB = rowsB V c hT (ex k))
    (f : S6x1088x256.Idx → Elt F .bf16)
    (hf : ∀ j : Fin 6, j.val < k % 8 → Hlo f j = tileLo V c hT (ex k) j ∧ Hhi f j = tileHi V c hT (ex k) j) :
    iprop(flight V c hT (k + 1) ∗ ptT c (tbl V c) ∗ pt c mB fB
      ∗ (∃ g, ⌜Stored f g (k % 8) (hlo fB (wgB V c (ex k) (tl k)) (wuB V c (ex k) (tl k))) (hhi fB (wgB V c (ex k) (tl k)) (wuB V c (ex k) (tl k)))⌝ ∗ pt c mH g)
      ∗ (∃ f, pt c mG f) ∗ (∃ f, pt c mU f) ∗ (∃ f, pt c mD f) ∗ (∃ r, prngReg c r))
      ⊢ Inv V c hT (k + 1) := by
  subst hB
  unfold Inv
  iintro ⟨HF, HT, HB, ⟨%g, %hg, HH⟩, HG, HU, HD, Hr⟩
  isplitl [HF]; · iexact HF
  isplitl [HT]; · iexact HT
  isplitl [HB]
  · iexists _; isplitr
    rotate_left
    · iexact HB
    · ipureintro; intro _
      rw [show ex (k + 1) = ex k from Fin.ext (by show (k + 1) / 8 % 16 = k / 8 % 16; omega)]
  isplitl [HH]
  · iexists g; isplitr
    · ipureintro; exact stored_next V c hT k hk f g hf hg
    · iexact HH
  isplitl [HG]; · iexact HG
  isplitl [HU]; · iexact HU
  isplitl [HD]; · iexact HD
  iexact Hr

/-- EVERY POINT'S BODY: from the state before the point, the four input blocks and the output's staging buffer at any
    contents, to the state after it, the input blocks unchanged, and the output's buffer as found at the first six points
    of an expert and at the expert's half of the output at the last two. -/
theorem step (k : ℕ) (hk : k < 128) (h0 : (i 0).val = k / 8) (h1 : (i 1).val = k % 8) (v8 : S1x1088x8x128.Idx → Elt F .f32) (W : Waits sig Unit) :
    iprop(Inv V c hT k ∗ owes (c : Thread nD τ) 0 W
        ∗ owns (c : Thread nD τ) arg4 fullShare (gateB V c (ex k)) ∗ owns (c : Thread nD τ) arg5 fullShare (wgB V c (ex k) (tl k))
        ∗ owns (c : Thread nD τ) arg6 fullShare (wuB V c (ex k) (tl k)) ∗ owns (c : Thread nD τ) arg7 fullShare (wdB V c (ex k) (hf k))
        ∗ owns (c : Thread nD τ) arg8 fullShare v8)
      ⊢ wp frame (wpE (defs₀ (F := F)) Variants.none (c : Thread nD τ) none) Set.univ
          (bodyAt i arg4 harg4 arg5 harg5 arg6 harg6 arg7 harg7 arg8 harg8)
          (fun _ => iprop(Inv V c hT (k + 1) ∗ (∃ W', owes (c : Thread nD τ) 0 W')
            ∗ owns (c : Thread nD τ) arg4 fullShare (gateB V c (ex k)) ∗ owns (c : Thread nD τ) arg5 fullShare (wgB V c (ex k) (tl k))
            ∗ owns (c : Thread nD τ) arg6 fullShare (wuB V c (ex k) (tl k)) ∗ owns (c : Thread nD τ) arg7 fullShare (wdB V c (ex k) (hf k))
            ∗ owns (c : Thread nD τ) arg8 fullShare (if k % 8 < 6 then v8 else outAt V c hT (ex k) (hf k)))) := by
  by_cases hs6 : k % 8 < 6
  · rw [if_pos hs6]
    have hc4 := (cond4_iff i).mpr (h1 ▸ hs6)
    have hc5 : ¬ k0_cond5 i = 1#1 := fun h => by have := (cond5_iff i).mp h; omega
    rw [Inv.eq_def V c hT k]
    iintro ⟨⟨HF, HT, ⟨%fB, %hB, HB⟩, ⟨%fH, %hH, HH⟩, HG, HU, HD, Hr⟩, HW, H4, H5, H6, H7, H8⟩
    by_cases hs0 : k % 8 = 0
    · have hc2 : cond2 i = 1#1 := (cond2_iff i).mpr (h1.trans hs0)
      have hc3 : ¬ k0_cond3 i = 1#1 := fun h => by have := (cond3_iff i).mp h; omega
      have hfl : flight V c hT (k + 1) = Idle c (tok V c) := by
        unfold flight; rw [if_neg (by omega), if_pos (by omega)]
      by_cases hk0 : k = 0
      · -- the first point
        have hc1 : k0_cond1 i = 1#1 := (cond1_iff i).mpr (by omega)
        have he : ex k = 0 := Fin.ext (by show k / 8 % 16 = 0; omega)
        have hst : flight V c hT k ⊢ |={Set.univ}=> Fly c (tbl V c) hT (tok V c) 0 0 := by
          rw [show flight V c hT k = Idle c (tok V c) by unfold flight; rw [if_pos hs0, if_pos (Or.inl hk0)]]
          exact start c (tbl V c) hT (tok V c) 0
        imod hst $$ HF with HF
        iapply (run_A c (tbl V c) hT (tok V c) i arg4 harg4 arg5 harg5 arg6 harg6 arg7 harg7 arg8 harg8 hc1 hc2 hc3 hc4 hc5 fB fH
          (wgB V c (ex k) (tl k)) (wuB V c (ex k) (tl k)) W _)
        isplitl [H5]; · iexact H5
        isplitl [H6]; · iexact H6
        isplitl [HF HT]
        · unfold inv1; isplitl [HF]; · iexact HF
          iexact HT
        isplitl [HB]; · iexact HB
        isplitl [HH]; · iexact HH
        isplitl [HG]; · iexact HG
        isplitl [HU]; · iexact HU
        isplitl [HW]; · iexact HW
        iintro ⟨H5, H6, HF, HT, HB, HH, HG, HU, HW⟩
        isplitl [HF HT HB HH HG HU HD Hr]
        · iapply (next_state V c hT k hs6 (castB (gath (tbl V c) hT (tok V c) 0)) (by unfold rowsB; rw [he]) fH hH)
          isplitl [HF]; · rw [hfl]; iexact HF
          isplitl [HT]; · iexact HT
          isplitl [HB]; · iexact HB
          isplitl [HH]; · rw [← h1]; iexact HH
          isplitl [HG]; · iexact HG
          isplitl [HU]; · iexact HU
          isplitl [HD]; · iexact HD
          iexact Hr
        isplitl [HW]; · iexact HW
        isplitl [H4]; · iexact H4
        isplitl [H5]; · iexact H5
        isplitl [H6]; · iexact H6
        isplitl [H7]; · iexact H7
        iexact H8
      · -- a later expert's first point
        have hc1 : ¬ k0_cond1 i = 1#1 := fun h => by have := (cond1_iff i).mp h; omega
        have hst : flight V c hT k = Fly c (tbl V c) hT (tok V c) (ex k) 1088 := by unfold flight; rw [if_pos hs0, if_neg (by omega)]
        iapply (run_B c (tbl V c) hT (tok V c) i arg4 harg4 arg5 harg5 arg6 harg6 arg7 harg7 arg8 harg8 hc1 hc2 hc3 hc4 hc5 (ex k) fB fH
          (wgB V c (ex k) (tl k)) (wuB V c (ex k) (tl k)) W _)
        isplitl [H5]; · iexact H5
        isplitl [H6]; · iexact H6
        isplitl [HF]; · rw [← hst]; iexact HF
        isplitl [HB]; · iexact HB
        isplitl [HH]; · iexact HH
        isplitl [HG]; · iexact HG
        isplitl [HU]; · iexact HU
        isplitl [HW]; · iexact HW
        iintro ⟨H5, H6, HF, HB, HH, HG, HU, HW⟩
        isplitl [HF HT HB HH HG HU HD Hr]
        · iapply (next_state V c hT k hs6 (castB (gath (tbl V c) hT (tok V c) (ex k))) rfl fH hH)
          isplitl [HF]; · rw [hfl]; iexact HF
          isplitl [HT]; · iexact HT
          isplitl [HB]; · iexact HB
          isplitl [HH]; · rw [← h1]; iexact HH
          isplitl [HG]; · iexact HG
          isplitl [HU]; · iexact HU
          isplitl [HD]; · iexact HD
          iexact Hr
        isplitl [HW]; · iexact HW
        isplitl [H4]; · iexact H4
        isplitl [H5]; · iexact H5
        isplitl [H6]; · iexact H6
        isplitl [H7]; · iexact H7
        iexact H8
    · have hc1 : ¬ k0_cond1 i = 1#1 := fun h => by have := (cond1_iff i).mp h; omega
      have hc2 : ¬ cond2 i = 1#1 := fun h => by have := (cond2_iff i).mp h; omega
      by_cases hc3 : k0_cond3 i = 1#1
      · -- a point that issues rows
        obtain ⟨hs1, hs4, he15⟩ := (cond3_iff i).mp hc3
        have hen : (ex (k + 8)).val = (i 0).val + 1 := by show (k + 8) / 8 % 16 = (i 0).val + 1; omega
        have hfl : flight V c hT (k + 1) = Fly c (tbl V c) hT (tok V c) (ex (k + 8)) (272 * ((i 1).val - 1) + 272) := by
          unfold flight; rw [if_neg (by omega), if_neg (by omega)]
          have e1 : ex (k + 1 + 8) = ex (k + 8) := Fin.ext (by show (k + 1 + 8) / 8 % 16 = (k + 8) / 8 % 16; omega)
          rw [e1]; congr 1; omega
        have hst : flight V c hT k ⊢ |={Set.univ}=> Fly c (tbl V c) hT (tok V c) (ex (k + 8)) (272 * ((i 1).val - 1) + 0) := by
          unfold flight; rw [if_neg hs0]
          by_cases h1' : k % 8 = 1
          · rw [if_pos (by omega), show 272 * ((i 1).val - 1) + 0 = 0 by omega]
            exact start c (tbl V c) hT (tok V c) (ex (k + 8))
          · rw [if_neg (by omega), show 272 * ((i 1).val - 1) + 0 = 272 * min 4 (k % 8 - 1) by omega]
            iintro H; imodintro; iexact H
        imod hst $$ HF with HF
        iapply (run_C c (tbl V c) hT (tok V c) i arg4 harg4 arg5 harg5 arg6 harg6 arg7 harg7 arg8 harg8 hc1 hc2 hc3 hc4 hc5 (ex (k + 8)) hen fB fH
          (wgB V c (ex k) (tl k)) (wuB V c (ex k) (tl k)) W _)
        isplitl [H5]; · iexact H5
        isplitl [H6]; · iexact H6
        isplitl [HF HT]
        · unfold inv2; isplitl [HF]; · iexact HF
          iexact HT
        isplitl [HB]; · iexact HB
        isplitl [HH]; · iexact HH
        isplitl [HG]; · iexact HG
        isplitl [HU]; · iexact HU
        isplitl [HW]; · iexact HW
        unfold inv2
        iintro ⟨H5, H6, ⟨HF, HT⟩, HB, HH, HG, HU, HW⟩
        isplitl [HF HT HB HH HG HU HD Hr]
        · iapply (next_state V c hT k hs6 fB (hB hs0) fH hH)
          isplitl [HF]; · rw [hfl]; iexact HF
          isplitl [HT]; · iexact HT
          isplitl [HB]; · iexact HB
          isplitl [HH]; · rw [← h1]; iexact HH
          isplitl [HG]; · iexact HG
          isplitl [HU]; · iexact HU
          isplitl [HD]; · iexact HD
          iexact Hr
        isplitl [HW]; · iexact HW
        isplitl [H4]; · iexact H4
        isplitl [H5]; · iexact H5
        isplitl [H6]; · iexact H6
        isplitl [H7]; · iexact H7
        iexact H8
      · -- a point with nothing to issue
        have hn : ¬ (1 ≤ (i 1).val ∧ (i 1).val ≤ 4 ∧ (i 0).val + 1 < 16) := fun h => hc3 ((cond3_iff i).mpr h)
        have hfl : flight V c hT (k + 1) = flight V c hT k := by
          unfold flight; rw [if_neg (by omega), if_neg hs0]
          by_cases h15 : 15 ≤ k / 8
          · rw [if_pos (by omega), if_pos (by omega)]
          · rw [if_neg (by omega), if_neg (by omega)]
            have e1 : ex (k + 1 + 8) = ex (k + 8) := Fin.ext (by show (k + 1 + 8) / 8 % 16 = (k + 8) / 8 % 16; omega)
            rw [e1]; congr 1; omega
        iapply (run_D c i arg4 harg4 arg5 harg5 arg6 harg6 arg7 harg7 arg8 harg8 hc1 hc2 hc3 hc4 hc5 fB fH
          (wgB V c (ex k) (tl k)) (wuB V c (ex k) (tl k)) W _)
        isplitl [H5]; · iexact H5
        isplitl [H6]; · iexact H6
        isplitl [HB]; · iexact HB
        isplitl [HH]; · iexact HH
        isplitl [HG]; · iexact HG
        isplitl [HU]; · iexact HU
        isplitl [HW]; · iexact HW
        iintro ⟨H5, H6, HB, HH, HG, HU, HW⟩
        isplitl [HF HT HB HH HG HU HD Hr]
        · iapply (next_state V c hT k hs6 fB (hB hs0) fH hH)
          isplitl [HF]; · rw [hfl]; iexact HF
          isplitl [HT]; · iexact HT
          isplitl [HB]; · iexact HB
          isplitl [HH]; · rw [← h1]; iexact HH
          isplitl [HG]; · iexact HG
          isplitl [HU]; · iexact HU
          isplitl [HD]; · iexact HD
          iexact Hr
        isplitl [HW]; · iexact HW
        isplitl [H4]; · iexact H4
        isplitl [H5]; · iexact H5
        isplitl [H6]; · iexact H6
        isplitl [H7]; · iexact H7
        iexact H8
  · -- a point that stores the output
    rw [if_neg hs6]
    have hc1 : ¬ k0_cond1 i = 1#1 := fun h => by have := (cond1_iff i).mp h; omega
    have hc2 : ¬ cond2 i = 1#1 := fun h => by have := (cond2_iff i).mp h; omega
    have hc3 : ¬ k0_cond3 i = 1#1 := fun h => by have := (cond3_iff i).mp h; omega
    have hc4 : ¬ k0_cond4 i = 1#1 := fun h => by have := (cond4_iff i).mp h; omega
    have hc5 : k0_cond5 i = 1#1 := (cond5_iff i).mpr (by omega)
    have hfl : flight V c hT (k + 1) = flight V c hT k := by
      unfold flight; rw [if_neg (show ¬ k % 8 = 0 by omega)]
      by_cases h7 : k % 8 = 7
      · rw [if_pos (by omega)]
        by_cases h15 : 15 ≤ k / 8
        · rw [if_pos (by omega), if_pos (by omega)]
        · rw [if_neg (by omega), if_neg (by omega)]
          have e1 : ex (k + 1) = ex (k + 8) := Fin.ext (by show (k + 1) / 8 % 16 = (k + 8) / 8 % 16; omega)
          rw [e1]; congr 1; omega
      · rw [if_neg (by omega)]
        by_cases h15 : 15 ≤ k / 8
        · rw [if_pos (by omega), if_pos (by omega)]
        · rw [if_neg (by omega), if_neg (by omega)]
          have e1 : ex (k + 1 + 8) = ex (k + 8) := Fin.ext (by show (k + 1 + 8) / 8 % 16 = (k + 8) / 8 % 16; omega)
          rw [e1]; congr 1; omega
    rw [Inv.eq_def V c hT k]
    iintro ⟨⟨HF, HT, ⟨%fB, %hB, HB⟩, ⟨%fH, %hH, HH⟩, HG, HU, HD, Hr⟩, HW, H4, H5, H6, H7, H8⟩
    have hout : outAt V c hT (ex k) (hf k) = outB (Hlo fH) (Hhi fH) (wdB V c (ex k) (hf k)) (gateB V c (ex k)) := by
      unfold outAt
      rw [show Hlo fH = tileLo V c hT (ex k) from funext fun j => (hH j (by omega)).1,
        show Hhi fH = tileHi V c hT (ex k) from funext fun j => (hH j (by omega)).2]
    iapply (run_E c i arg4 harg4 arg5 harg5 arg6 harg6 arg7 harg7 arg8 harg8 hc1 hc2 hc3 hc4 hc5 fH
      (gateB V c (ex k)) (wdB V c (ex k) (hf k)) v8 W _)
    isplitl [H4]; · iexact H4
    isplitl [H7]; · iexact H7
    isplitl [H8]; · iexact H8
    isplitl [HH]; · iexact HH
    isplitl [HD]; · iexact HD
    isplitl [HW]; · iexact HW
    iintro ⟨H4, H7, H8, HH, HD, HW⟩
    isplitl [HF HT HB HH HG HU HD Hr]
    · unfold Inv
      isplitl [HF]; · rw [hfl]; iexact HF
      isplitl [HT]; · iexact HT
      isplitl [HB]
      · iexists fB; isplitr
        · ipureintro; intro h
          rw [hB (by omega)]
          congr 1; exact Fin.ext (by show k / 8 % 16 = (k + 1) / 8 % 16; omega)
        · iexact HB
      isplitl [HH]
      · iexists fH; isplitr
        · ipureintro; intro j hj
          have e1 : ex (k + 1) = ex k := Fin.ext (by show (k + 1) / 8 % 16 = k / 8 % 16; omega)
          rw [e1]; exact hH j (by omega)
        · iexact HH
      isplitl [HG]; · iexact HG
      isplitl [HU]; · iexact HU
      isplitl [HD]; · iexact HD
      iexact Hr
    isplitl [HW]; · iexact HW
    isplitl [H4]; · iexact H4
    isplitl [H5]; · iexact H5
    isplitl [H6]; · iexact H6
    isplitl [H7]; · iexact H7
    rw [hout]; iexact H8

end Step

end Cert.KernelIdeal.Hand

end
-- ==== Proof.Run.lean ====
/-
  Hand-written. The expert kernel's launch: the arrays as the host operations leave them, the window blocks of a grid point, the
  body's obligation at every point, and the run.
-/
module

public import proofs.«01_k».proof.Proof.Step
public import Idealize.ShloMosaic.Lib.Pipeline.ValueKit
public import Idealize.ShloMosaic.Lib.StableHlo.RunRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Dats
variable (V : Entry F) (a : (p : Fin 1) → (pcfgs (F := F) p).Adm)

theorem coords0 : ∀ t : Fin grid0.N, (grid0.coords t 0).val = t.val / 8 := by decide +kernel
theorem coords1 : ∀ t : Fin grid0.N, (grid0.coords t 1).val = t.val % 8 := by decide +kernel
theorem map0 : ∀ t : Fin grid0.N, cc0_transform_1 (grid0.coords t) = ![t.val / 8, 0, 0] := by decide +kernel
theorem map1 : ∀ t : Fin grid0.N, cc0_transform_2 (grid0.coords t) = ![0, t.val / 8, 0, min (t.val % 8) 5] := by decide +kernel
theorem map2 : ∀ t : Fin grid0.N, cc0_transform_3 (grid0.coords t) = ![0, t.val / 8, 0, min (t.val % 8) 5] := by decide +kernel
theorem map3 : ∀ t : Fin grid0.N, cc0_transform_4 (grid0.coords t) = ![0, t.val / 8, 0, t.val % 8 - 6] := by decide +kernel
theorem map4 : ∀ t : Fin grid0.N, cc0_transform_5 (grid0.coords t) = ![t.val / 8, 0, t.val % 8 - 6, 0] := by decide +kernel

variable (hT : ∀ c, InRange (tbl V c))

/-- The proof data of the one pipeline: the arrays as the launch finds them, every input's staging buffer after the body
    at its block, the output's at the expert's half, the state between points, nothing owed, full shares. -/
def dats (p : Fin 1) (c : Dev nD) : Dat τ (Elt F) Unit ℕ (Pipeline.UD sig nD τ) ℕ (Pipeline.pin pcfgs a p) c where
  A w := V c (Pipeline.arrRef spec0 w)
  after w t := match w with
    | ⟨0, _⟩ => gateB V c (ex t.val)
    | ⟨1, _⟩ => wgB V c (ex t.val) (tl t.val)
    | ⟨2, _⟩ => wuB V c (ex t.val) (tl t.val)
    | ⟨3, _⟩ => wdB V c (ex t.val) (hf t.val)
    | ⟨4, _⟩ => outAt V c (hT c) (ex t.val) (hf t.val)
  Φ k := Inv V c (hT c) k.val
  q _ := fullShare
  owed _ := 0

theorem A_eq (c : Dev nD) (w : Fin 5) : (dats V a hT 0 c).A w = V c (Pipeline.arrRef spec0 w) := by dsimp only [dats]
theorem after_0 (c : Dev nD) (t : Fin grid0.N) : (dats V a hT 0 c).after 0 t = gateB V c (ex t.val) := rfl
theorem after_1 (c : Dev nD) (t : Fin grid0.N) : (dats V a hT 0 c).after 1 t = wgB V c (ex t.val) (tl t.val) := rfl
theorem after_2 (c : Dev nD) (t : Fin grid0.N) : (dats V a hT 0 c).after 2 t = wuB V c (ex t.val) (tl t.val) := rfl
theorem after_3 (c : Dev nD) (t : Fin grid0.N) : (dats V a hT 0 c).after 3 t = wdB V c (ex t.val) (hf t.val) := rfl
theorem after_4 (c : Dev nD) (t : Fin grid0.N) : (dats V a hT 0 c).after 4 t = outAt V c (hT c) (ex t.val) (hf t.val) := rfl

/-! ## The input blocks -/

theorem block_0 (c : Dev nD) (t : Fin grid0.N) : gateB V c (ex t.val) = (dats V a hT 0 c).blockOf 0 t := by
  have ht : t.val < 128 := t.isLt
  funext y
  unfold Dat.blockOf
  rw [A_eq]
  show (show S16x1088x1.Idx → Elt F .f32 from V c main_v53) _ = (show S16x1088x1.Idx → Elt F .f32 from V c main_v53) _
  congr 1
  funext k; apply Fin.ext
  show _ = cc0_transform_1 (grid0.coords t) k * S1x1088x1.size k + 1 * (y k).val
  rw [map0]
  fin_cases k
  · show t.val / 8 % 16 = t.val / 8 * 1 + 1 * (y 0).val
    have : (y 0).val < 1 := (y 0).isLt; omega
  · show (y 1).val = 0 * 1088 + 1 * (y 1).val; omega
  · show (y 2).val = 0 * 1 + 1 * (y 2).val; omega

theorem block_1 (c : Dev nD) (t : Fin grid0.N) : wgB V c (ex t.val) (tl t.val) = (dats V a hT 0 c).blockOf 1 t := by
  have ht : t.val < 128 := t.isLt
  funext y
  unfold Dat.blockOf
  rw [A_eq]
  show (show S4x16x2048x1536.Idx → Elt F .f32 from V c main_arg2) _ = (show S4x16x2048x1536.Idx → Elt F .f32 from V c main_arg2) _
  congr 1
  funext k; apply Fin.ext
  show _ = cc0_transform_2 (grid0.coords t) k * S1x1x2048x256.size k + 1 * (y k).val
  rw [map1]
  fin_cases k
  · show (y 0).val = 0 * 1 + 1 * (y 0).val; omega
  · show t.val / 8 % 16 = t.val / 8 * 1 + 1 * (y 1).val
    have : (y 1).val < 1 := (y 1).isLt; omega
  · show (y 2).val = 0 * 2048 + 1 * (y 2).val; omega
  · show 256 * min (t.val % 8) 5 + (y 3).val = min (t.val % 8) 5 * 256 + 1 * (y 3).val; omega

theorem block_2 (c : Dev nD) (t : Fin grid0.N) : wuB V c (ex t.val) (tl t.val) = (dats V a hT 0 c).blockOf 2 t := by
  have ht : t.val < 128 := t.isLt
  funext y
  unfold Dat.blockOf
  rw [A_eq]
  show (show S4x16x2048x1536.Idx → Elt F .f32 from V c main_arg3) _ = (show S4x16x2048x1536.Idx → Elt F .f32 from V c main_arg3) _
  congr 1
  funext k; apply Fin.ext
  show _ = cc0_transform_3 (grid0.coords t) k * S1x1x2048x256.size k + 1 * (y k).val
  rw [map2]
  fin_cases k
  · show (y 0).val = 0 * 1 + 1 * (y 0).val; omega
  · show t.val / 8 % 16 = t.val / 8 * 1 + 1 * (y 1).val
    have : (y 1).val < 1 := (y 1).isLt; omega
  · show (y 2).val = 0 * 2048 + 1 * (y 2).val; omega
  · show 256 * min (t.val % 8) 5 + (y 3).val = min (t.val % 8) 5 * 256 + 1 * (y 3).val; omega

theorem block_3 (c : Dev nD) (t : Fin grid0.N) : wdB V c (ex t.val) (hf t.val) = (dats V a hT 0 c).blockOf 3 t := by
  have ht : t.val < 128 := t.isLt
  funext y
  unfold Dat.blockOf
  rw [A_eq]
  show (show S4x16x1536x2048.Idx → Elt F .f32 from V c main_arg4) _ = (show S4x16x1536x2048.Idx → Elt F .f32 from V c main_arg4) _
  congr 1
  funext k; apply Fin.ext
  show _ = cc0_transform_4 (grid0.coords t) k * S1x1x1536x1024.size k + 1 * (y k).val
  rw [map3]
  fin_cases k
  · show (y 0).val = 0 * 1 + 1 * (y 0).val; omega
  · show t.val / 8 % 16 = t.val / 8 * 1 + 1 * (y 1).val
    have : (y 1).val < 1 := (y 1).isLt; omega
  · show (y 2).val = 0 * 1536 + 1 * (y 2).val; omega
  · show 1024 * (t.val % 8 - 6) + (y 3).val = (t.val % 8 - 6) * 1024 + 1 * (y 3).val; omega

theorem before_0 (c : Dev nD) (t : Fin grid0.N) (d) : (dats V a hT 0 c).before 0 t d = gateB V c (ex t.val) :=
  ((dats V a hT 0 c).before_in_eq_fetched 0 rfl (fun _ => rfl) (fun _ _ _ => rfl)
    (fun t => by rw [after_0, block_0 V a hT c t]) t d).trans (block_0 V a hT c t).symm
theorem before_1 (c : Dev nD) (t : Fin grid0.N) (d) : (dats V a hT 0 c).before 1 t d = wgB V c (ex t.val) (tl t.val) :=
  ((dats V a hT 0 c).before_in_eq_fetched 1 rfl (fun _ => rfl) (fun _ _ _ => rfl)
    (fun t => by rw [after_1, block_1 V a hT c t]) t d).trans (block_1 V a hT c t).symm
theorem before_2 (c : Dev nD) (t : Fin grid0.N) (d) : (dats V a hT 0 c).before 2 t d = wuB V c (ex t.val) (tl t.val) :=
  ((dats V a hT 0 c).before_in_eq_fetched 2 rfl (fun _ => rfl) (fun _ _ _ => rfl)
    (fun t => by rw [after_2, block_2 V a hT c t]) t d).trans (block_2 V a hT c t).symm
theorem before_3 (c : Dev nD) (t : Fin grid0.N) (d) : (dats V a hT 0 c).before 3 t d = wdB V c (ex t.val) (hf t.val) :=
  ((dats V a hT 0 c).before_in_eq_fetched 3 rfl (fun _ => rfl) (fun _ _ _ => rfl)
    (fun t => by rw [after_3, block_3 V a hT c t]) t d).trans (block_3 V a hT c t).symm

/-! ## The body's obligation -/

abbrev ms0 (t : Fin grid0.N) : Memref sig .tc .vmem S1x1088x1 .f32 := spec0_0.stage ((cfg0 (a 0)).slots t 0)
abbrev ms1 (t : Fin grid0.N) : Memref sig .tc .vmem S1x1x2048x256 .f32 := spec0_1.stage ((cfg0 (a 0)).slots t 1)
abbrev ms2 (t : Fin grid0.N) : Memref sig .tc .vmem S1x1x2048x256 .f32 := spec0_2.stage ((cfg0 (a 0)).slots t 2)
abbrev ms3 (t : Fin grid0.N) : Memref sig .tc .vmem S1x1x1536x1024 .f32 := spec0_3.stage ((cfg0 (a 0)).slots t 3)
abbrev ms4 (t : Fin grid0.N) : Memref sig .tc .vmem S1x1088x8x128 .f32 := spec0_4.stage ((cfg0 (a 0)).slots t 4)
abbrev bodyT (t : Fin grid0.N) :=
  bodyAt (F := F) (grid0.coords t) (ms0 a t) (hstage0_0 (((cfg0 (a 0)).slots t 0).cast nbuf0_0)) (ms1 a t) (hstage0_1 (((cfg0 (a 0)).slots t 1).cast nbuf0_1))
    (ms2 a t) (hstage0_2 (((cfg0 (a 0)).slots t 2).cast nbuf0_2)) (ms3 a t) (hstage0_3 (((cfg0 (a 0)).slots t 3).cast nbuf0_3))
    (ms4 a t) (hstage0_4 (((cfg0 (a 0)).slots t 4).cast nbuf0_4))

theorem defs₀_row (t : Fin grid0.N) :
    defs₀ (F := F) .tc (cfg0 (a 0)).body ((cfg0 (a 0)).bodyArgs t ((cfg0 (a 0)).slots t)) = bodyT a t := by
  unfold defs₀; rw [Defs.onTc_tc]

theorem idle4 : ∀ t : Fin grid0.N, idle0 4 (grid0.coords t) = decide (t.val % 8 < 6) := by decide +kernel
theorem flush4_of : ∀ t : Fin grid0.N, Window.flushOf grid0 true cc0_transform_5 t = decide (6 ≤ t.val % 8) := by decide +kernel
theorem flush4 (t : Fin grid0.N) : ((cfg0 (a 0)).win 4).flush t = decide (6 ≤ t.val % 8) := flush4_of t

/-- What the body leaves the output's staging buffer at: as found at the points that store nothing into it, the expert's
    half at the others. -/
def leaves4 (c : Dev nD) (t : Fin grid0.N) : sProp 𝕄 :=
  if t.val % 8 < 6 then iprop(∃ d, owns (c : Thread nD τ) (ms4 a t) fullShare ((dats V a hT 0 c).before 4 t d))
  else owns (c : Thread nD τ) (ms4 a t) fullShare (outAt V c (hT c) (ex t.val) (hf t.val))

def bodyPre (c : Dev nD) (t : Fin grid0.N) : sProp 𝕄 :=
  iprop((dats V a hT 0 c).Φ t.castSucc ∗ (dats V a hT 0 c).owesAt () t.castSucc
    ∗ (∃ d, owns (c : Thread nD τ) (ms0 a t) fullShare ((dats V a hT 0 c).before 0 t d))
    ∗ (∃ d, owns (c : Thread nD τ) (ms1 a t) fullShare ((dats V a hT 0 c).before 1 t d))
    ∗ (∃ d, owns (c : Thread nD τ) (ms2 a t) fullShare ((dats V a hT 0 c).before 2 t d))
    ∗ (∃ d, owns (c : Thread nD τ) (ms3 a t) fullShare ((dats V a hT 0 c).before 3 t d))
    ∗ (∃ d, owns (c : Thread nD τ) (ms4 a t) fullShare ((dats V a hT 0 c).before 4 t d)))
def bodyPost (c : Dev nD) (t : Fin grid0.N) : sProp 𝕄 :=
  iprop((dats V a hT 0 c).Φ t.succ ∗ (dats V a hT 0 c).owesAt () t.succ
    ∗ owns (c : Thread nD τ) (ms0 a t) fullShare ((dats V a hT 0 c).after 0 t)
    ∗ owns (c : Thread nD τ) (ms1 a t) fullShare ((dats V a hT 0 c).after 1 t)
    ∗ owns (c : Thread nD τ) (ms2 a t) fullShare ((dats V a hT 0 c).after 2 t)
    ∗ owns (c : Thread nD τ) (ms3 a t) fullShare ((dats V a hT 0 c).after 3 t)
    ∗ leaves4 V a hT c t)

theorem to_post (c : Dev nD) {P : sProp 𝕄} {p : Prog (TpuEff nD τ sig (Elt F) Λ₀ .tc) PUnit} {Q K : PUnit → sProp 𝕄}
    (h : P ⊢ wp frame (wpE (defs₀ (F := F)) Variants.none (c : Thread nD τ) none) Set.univ p Q) :
    iprop(P ∗ (∀ r, Q r -∗ K r)) ⊢ wp frame (wpE (defs₀ (F := F)) Variants.none (c : Thread nD τ) none) Set.univ p K :=
  (BI.sep_mono_l h).trans (wp_wand_r _ _ _)

theorem sound_body (c : Dev nD) (t : Fin grid0.N) :
    bodyPre V a hT c t ⊢ wp frame (wpE (defs₀ (F := F)) Variants.none (c : Thread nD τ) none) Set.univ (bodyT a t) (fun _ => bodyPost V a hT c t) := by
  have ht : t.val < 128 := t.isLt
  unfold bodyPre
  simp only [before_0, before_1, before_2, before_3]
  rw [show (dats V a hT 0 c).Φ t.castSucc = Inv V c (hT c) t.val from rfl]
  unfold Dat.owesAt Pipeline.owesWithin
  rw [show (dats V a hT 0 c).owed t.castSucc = 0 from rfl]
  iintro ⟨HI, ⟨%W, -, HW⟩, ⟨%d0, H0⟩, ⟨%d1, H1⟩, ⟨%d2, H2⟩, ⟨%d3, H3⟩, ⟨%d4, H4⟩⟩
  iapply (to_post c (step V c (hT c) (grid0.coords t) (ms0 a t) (hstage0_0 (((cfg0 (a 0)).slots t 0).cast nbuf0_0)) (ms1 a t) (hstage0_1 (((cfg0 (a 0)).slots t 1).cast nbuf0_1))
    (ms2 a t) (hstage0_2 (((cfg0 (a 0)).slots t 2).cast nbuf0_2)) (ms3 a t) (hstage0_3 (((cfg0 (a 0)).slots t 3).cast nbuf0_3))
    (ms4 a t) (hstage0_4 (((cfg0 (a 0)).slots t 4).cast nbuf0_4)) t.val ht (coords0 t) (coords1 t) ((dats V a hT 0 c).before 4 t d4) W))
  isplitl [HI HW H0 H1 H2 H3 H4]
  · isplitl [HI]; · iexact HI
    isplitl [HW]; · iexact HW
    isplitl [H0]; · iexact H0
    isplitl [H1]; · iexact H1
    isplitl [H2]; · iexact H2
    isplitl [H3]; · iexact H3
    iexact H4
  iintro %_ ⟨HI, ⟨%W', HW⟩, H0, H1, H2, H3, H4⟩
  unfold bodyPost
  rw [after_0, after_1, after_2, after_3, show (dats V a hT 0 c).Φ t.succ = Inv V c (hT c) (t.val + 1) from rfl]
  unfold Dat.owesAt Pipeline.owesWithin
  rw [show (dats V a hT 0 c).owed t.succ = 0 from rfl]
  isplitl [HI]; · iexact HI
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  unfold leaves4
  by_cases hs : t.val % 8 < 6
  · simp only [hs, ↓reduceIte]
    iexists d4; iexact H4
  · simp only [hs, ↓reduceIte]
    iexact H4

theorem leaves4_le (c : Dev nD) (t : Fin grid0.N) : leaves4 V a hT c t ⊢ (dats V a hT 0 c).leaves 4 t := by
  unfold leaves4
  by_cases hs : t.val % 8 < 6
  · rw [if_pos hs, (dats V a hT 0 c).leaves_idle 4 t ((idle4 t).trans (decide_eq_true hs)) ((flush4 a t).trans (decide_eq_false (by omega)))]
    exact .rfl
  · rw [if_neg hs]
    unfold Dat.leaves
    rw [show (Pipeline.pin pcfgs a 0).idle 4 ((Pipeline.pin pcfgs a 0).grid.coords t) = false from (idle4 t).trans (decide_eq_false hs)]
    exact .rfl

theorem body_obligation (c : Dev nD) : Pipeline.BodyObligationLoose (dats V a hT 0 c) (defs₀ (F := F)) Variants.none () Set.univ := fun t => by
  rw [bigSep_W0, bigSep_W0, defs₀_row]
  refine triple_restated (sound_body V a hT c t) rfl .rfl fun _ => ?_
  unfold bodyPost
  iintro ⟨HI, HW, H0, H1, H2, H3, H4⟩
  isplitl [HI]; · iexact HI
  isplitl [HW]; · iexact HW
  isplitl [H0]; · iexact H0
  isplitl [H1]; · iexact H1
  isplitl [H2]; · iexact H2
  isplitl [H3]; · iexact H3
  iapply (leaves4_le V a hT c t); iexact H4

/-! ## The state at the launch's two ends -/

abbrev osem0 : Fin 1 → SemLoc sig := fun _ => SemLoc.dma 10
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 10) 0 := by
  rw [Pipeline.ownSems0_eq_of_list c osem0 [0] (by decide) (by decide)]; rfl
def H0 : Finset (Ref sig .tc) := {main_v55}
theorem H0_sub : H0 ⊆ Pipeline.restRefsP sig pre0 spec0 := by decide
theorem hbmPts0_eq (c : Dev nD) :
    (bigSep H0 (fun b => ((c : Thread nD τ).loc b) ↦{fullShare} V c b) : sProp 𝕄) = pt c mX (tok V c) := by
  rw [BI.bigSep_eq_bigSepL_of_eq [main_v55] (by decide) (by decide)]; rfl
theorem table_eq (c : Dev nD) (v : pre0.Contents (Elt F)) :
    (Pipeline.ΦT (U := Pipeline.UD sig nD τ) pre0 v c : sProp 𝕄) = ptT c (v 0) := by
  unfold Pipeline.ΦT Pipeline.prefHeld
  rw [bigSep_univ_eq_bigSepL [(0 : Fin 1)] (by decide) (by decide)]; rfl
theorem PhiD0_eq (c : Dev nD) :
    (Pipeline.ΦD osem0 spec0 H0 V c : sProp 𝕄)
      = iprop(iprop((∃ f, pt c mL f) ∗ (∃ f, pt c mB f) ∗ (∃ f, pt c mH f) ∗ (∃ f, pt c mG f) ∗ (∃ f, pt c mU f) ∗ (∃ f, pt c mD f))
          ∗ (∃ r, prngReg c r) ∗ semVal ((c : Thread nD τ), SemLoc.dma 10) 0 ∗ pt c mX (tok V c)) := by
  rw [Pipeline.ΦD_eq, scopedRest0_eq, ownSems00_eq, hbmPts0_eq]

theorem hin (c : Dev nD) (hv : V c main_v51 = (a 0).1 0) :
    iprop(Pipeline.ΦD osem0 spec0 H0 V c ∗ Pipeline.ΦT (U := Pipeline.UD sig nD τ) pre0 (a 0).1 c) ⊢ (dats V a hT 0 c).Φ 0 := by
  rw [PhiD0_eq, table_eq, show (dats V a hT 0 c).Φ 0 = Inv V c (hT c) 0 from rfl, ← hv]
  unfold Inv flight
  rw [if_pos rfl, if_pos (Or.inl rfl)]
  unfold Idle
  iintro ⟨⟨⟨HL, ⟨%fB, HB⟩, ⟨%fH, HH⟩, HG, HU, HD⟩, Hr, Hs, HX⟩, HT⟩
  isplitl [HL Hs HX]
  · isplitl [Hs]; · iexact Hs
    isplitl [HL]; · iexact HL
    iexact HX
  isplitl [HT]; · iexact HT
  isplitl [HB]
  · iexists fB; isplitr; · ipureintro; exact fun h => absurd rfl h
    iexact HB
  isplitl [HH]
  · iexists fH; isplitr; · ipureintro; exact fun j h => absurd h (Nat.not_lt_zero _)
    iexact HH
  isplitl [HG]; · iexact HG
  isplitl [HU]; · iexact HU
  isplitl [HD]; · iexact HD
  iexact Hr

theorem hout (c : Dev nD) : (dats V a hT 0 c).Φ (Fin.last grid0.N) ⊢ Pipeline.ΦD osem0 spec0 H0 V c := by
  rw [PhiD0_eq, show (dats V a hT 0 c).Φ (Fin.last grid0.N) = Inv V c (hT c) 128 from congrArg (Inv V c (hT c)) N_0]
  unfold Inv flight
  rw [if_pos (by omega), if_pos (by omega)]
  unfold Idle
  iintro ⟨⟨Hs, HL, HX⟩, -, ⟨%fB, -, HB⟩, ⟨%fH, -, HH⟩, HG, HU, HD, Hr⟩
  isplitl [HL HB HH HG HU HD]
  · isplitl [HL]; · iexact HL
    isplitl [HB]; · iexists fB; iexact HB
    isplitl [HH]; · iexists fH; iexact HH
    isplitl [HG]; · iexact HG
    isplitl [HU]; · iexact HU
    iexact HD
  isplitl [Hr]; · iexact Hr
  isplitl [Hs]; · iexact Hs
  iexact HX

/-- What the run's end says of the arguments' buffers. -/
theorem ends_of (r : PUnit × MemSt nD τ sig (Elt F)) (h : Pipeline.FramePost (Pipeline.pin pcfgs a) (dats V a hT) 0 V r) (c : Dev nD) :
    r.2.mem ((c : Thread nD τ).loc main_arg0) = V c main_arg0 ∧ r.2.mem ((c : Thread nD τ).loc main_arg1) = V c main_arg1
      ∧ r.2.mem ((c : Thread nD τ).loc main_arg2) = V c main_arg2 ∧ r.2.mem ((c : Thread nD τ).loc main_arg3) = V c main_arg3
      ∧ r.2.mem ((c : Thread nD τ).loc main_arg4) = V c main_arg4 :=
  ⟨(h c).2 main_arg0 (Pipeline.mem_restRefs_of main_arg0 (by decide) (show ∀ w : Fin 5, (spec0 w).arr.view.ref ≠ main_arg0 by decide)),
    (h c).2 main_arg1 (Pipeline.mem_restRefs_of main_arg1 (by decide) (show ∀ w : Fin 5, (spec0 w).arr.view.ref ≠ main_arg1 by decide)),
    ((h c).1 1).trans ((dats V a hT 0 c).arrAt_in 1 rfl _), ((h c).1 2).trans ((dats V a hT 0 c).arrAt_in 2 rfl _),
    ((h c).1 3).trans ((dats V a hT 0 c).arrAt_in 3 rfl _)⟩

end Dats

/-! ## The run -/

section Main
variable (m : (ℓ : Loc nD τ sig) → Buf (Elt F) ℓ) (ρ : Dev nD → PrngReg)

/-- The launch's buffers as the host operations before the kernel leave them. -/
def entry : Entry F := fun c b => StableHlo.after hostOps0 (fun b => m (c, b)) b

theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem hmain : Pipeline.HMainP (Ix := Unit) (Name := ℕ) (U := Pipeline.UD sig nD τ) (Lvl := ℕ) pcfgs 0 (defs₀ (F := F)) Variants.none m (main (F := F)) (entry m) :=
  Pipeline.hmainP_prefix pcfgs 0 defs₀ Variants.none m main hostOps0 hostOps0_sub hostOps0_fresh main_chain

theorem admissible (v : pre0.Contents (Elt F)) : ok0 v := by unfold ok0; trivial

/-- The table the kernel is handed. -/
def tables : (p : Fin 1) → (pcfgs (F := F) p).Adm := fun _ => ⟨fun k => entry m 0 (pre0.ref k), admissible (F := F) (fun k => entry m 0 (pre0.ref k))⟩

variable (hT : ∀ c, InRange (tbl (entry m) c))

set_option backward.isDefEq.respectTransparency.types false in
theorem run_main : θ_run defs (onTc (τ := τ) (main (F := F))) (s₀ m ρ)
    (fun r => Pipeline.FramePost (Pipeline.pin pcfgs (tables m)) (dats (entry m) (tables m) hT) 0 (entry m) r ∧ r.2.sem = fun _ => 0) :=
  Pipeline.θ_run_frameP_dma (Q' := _) pcfgs (tables m) (dats (entry m) (tables m) hT) (0 : Fin 1) launch0 osem0 defs₀ Variants.none ownSemFacts0 H0 H0_sub m ρ main
    (hbody := body_obligation (entry m) (tables m) hT) (hshare := fun c => (dats (entry m) (tables m) hT 0 c).share_full fun _ => rfl)
    (howed := fun _ _ => rfl) (V := entry m) (hmain := hmain m) (hA := A_eq (entry m) (tables m) hT)
    (hpf := fun c k => by rw [Subsingleton.elim c 0]; rfl)
    (hin := fun c => hin (entry m) (tables m) hT c (by rw [Subsingleton.elim c 0]; rfl)) (hout := hout (entry m) (tables m) hT)

/-- What the host operations write, in order. -/
def written : List (Ref sig .tc) := [main_v0, main_cst, main_v1, main_cst_0, main_v2, main_v3, main_v4, main_v5, main_v6, main_v7, main_cst_1, main_v8, main_v9, main_v10, main_v11, main_v12, main_values, main_indices, main_v13, main_v14, main_c, main_v15, main_v16, main_c_2, main_v17, main_v18, main_v19, main_v20, main_v21, main_v22, main_v23, main_v24, main_v25, main_cst_3, main_v26, main_cst_4, main_v27, main_v28, main_v29, main_v30, main_v31, main_v32, main_cst_5, main_v33, main_v34, main_v35, main_v36, main_v37, main_values_6, main_indices_7, main_v38, main_v39, main_c_8, main_v40, main_v41, main_c_9, main_v42, main_v43, main_v44, main_v45, main_v46, main_v47, main_v48, main_v49, main_v50, main_v51, main_v52, main_v53, main_v54, main_v55]
theorem written_eq : (hostOps0 : List (HloOp τ sig (Elt F))).map HloOp.writes = written.map fun w => {Proc.devRef (τ := τ) .tc w} := rfl

theorem entry_arg (c : Dev nD) (b : Ref sig .tc) (hb : b ∉ written) : entry m c b = m ((c : Thread nD τ).loc b) :=
  StableHlo.after_unwritten written written_eq hb (fun b => m (c, b))

include hT in
/-- The launch leaves every argument as it found it, and the result at what the points wrote back. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => by
      obtain ⟨h0, h1, h2, h3, h4⟩ := ends_of (entry m) (tables m) hT r h.1 c
      exact ⟨h0.trans (entry_arg m c main_arg0 (by decide)), h1.trans (entry_arg m c main_arg1 (by decide)),
        h2.trans (entry_arg m c main_arg2 (by decide)), h3.trans (entry_arg m c main_arg3 (by decide)),
        h4.trans (entry_arg m c main_arg4 (by decide))⟩, h.2⟩)
    (run_main m ρ hT)

end Main

end Cert.KernelIdeal.Hand

end
-- ==== Proof.Host.lean ====
/-
  Hand-written. What the host operations before the launch leave in the kernel's operands: the routing table, the gates, the tokens;
  and that every word of the table names a row of the tokens.
-/
module

public import proofs.«01_k».proof.Proof.Run
public import Idealize.ShloMosaic.Lib.StableHlo.RunRead
public import Idealize.ShloMosaic.Lib.ValueIdx

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- The router's weights of the latent tokens: for each of the two members and each expert, over that member's tokens. -/
def probA (lg : (⟨S2x4352x16, .f32⟩ : BufTy).Contents (Elt F)) : (⟨S2x16x4096, .f32⟩ : BufTy).Contents (Elt F) :=
  transpose S2x16x4096 [0, 2, 1] (Host.divf (Host.exp (subf (extractStridedSlice S2x4096x16 ![0, 256, 0] lg slices_S2x4352x16_S2x4096x16_0_256_0) (broadcastInDim S2x4096x16 ![0, 1, 2] bcast_S2x4096x1_S2x4096x16_0_1_2 (broadcastInDim S2x4096x1 ![0, 1] bcast_S2x4096_S2x4096x1_0_1 (maximumf (broadcastInDim S2x4096 ![] bcast_S_S2x4096 (constant S_ .f32 0xFF800000#32)) (Host.reduce FloatOps.maximumf (extractStridedSlice S2x4096x16 ![0, 256, 0] lg slices_S2x4352x16_S2x4096x16_0_256_0) (constant S_ .f32 0xFF800000#32) reducesTo_S2x4096x16_S2x4096_d2 h_S_)))))) (broadcastInDim S2x4096x16 ![0, 1, 2] bcast_S2x4096x1_S2x4096x16_0_1_2 (broadcastInDim S2x4096x1 ![0, 1] bcast_S2x4096_S2x4096x1_0_1 (Host.reduceAdd (Host.exp (subf (extractStridedSlice S2x4096x16 ![0, 256, 0] lg slices_S2x4352x16_S2x4096x16_0_256_0) (broadcastInDim S2x4096x16 ![0, 1, 2] bcast_S2x4096x1_S2x4096x16_0_1_2 (broadcastInDim S2x4096x1 ![0, 1] bcast_S2x4096_S2x4096x1_0_1 (maximumf (broadcastInDim S2x4096 ![] bcast_S_S2x4096 (constant S_ .f32 0xFF800000#32)) (Host.reduce FloatOps.maximumf (extractStridedSlice S2x4096x16 ![0, 256, 0] lg slices_S2x4352x16_S2x4096x16_0_256_0) (constant S_ .f32 0xFF800000#32) reducesTo_S2x4096x16_S2x4096_d2 h_S_)))))) (constant S_ .f32 0x00000000#32) reducesTo_S2x4096x16_S2x4096_d2 h_S_)))) transposes_S2x4096x16_S2x16x4096_0_2_1

/-- The router's weights of the context tokens. -/
def probB (lg : (⟨S2x4352x16, .f32⟩ : BufTy).Contents (Elt F)) : (⟨S2x16x256, .f32⟩ : BufTy).Contents (Elt F) :=
  transpose S2x16x256 [0, 2, 1] (Host.divf (Host.exp (subf (extractStridedSlice S2x256x16 ![0, 0, 0] lg slices_S2x4352x16_S2x256x16_0_0_0) (broadcastInDim S2x256x16 ![0, 1, 2] bcast_S2x256x1_S2x256x16_0_1_2 (broadcastInDim S2x256x1 ![0, 1] bcast_S2x256_S2x256x1_0_1 (maximumf (broadcastInDim S2x256 ![] bcast_S_S2x256 (constant S_ .f32 0xFF800000#32)) (Host.reduce FloatOps.maximumf (extractStridedSlice S2x256x16 ![0, 0, 0] lg slices_S2x4352x16_S2x256x16_0_0_0) (constant S_ .f32 0xFF800000#32) reducesTo_S2x256x16_S2x256_d2 h_S_)))))) (broadcastInDim S2x256x16 ![0, 1, 2] bcast_S2x256x1_S2x256x16_0_1_2 (broadcastInDim S2x256x1 ![0, 1] bcast_S2x256_S2x256x1_0_1 (Host.reduceAdd (Host.exp (subf (extractStridedSlice S2x256x16 ![0, 0, 0] lg slices_S2x4352x16_S2x256x16_0_0_0) (broadcastInDim S2x256x16 ![0, 1, 2] bcast_S2x256x1_S2x256x16_0_1_2 (broadcastInDim S2x256x1 ![0, 1] bcast_S2x256_S2x256x1_0_1 (maximumf (broadcastInDim S2x256 ![] bcast_S_S2x256 (constant S_ .f32 0xFF800000#32)) (Host.reduce FloatOps.maximumf (extractStridedSlice S2x256x16 ![0, 0, 0] lg slices_S2x4352x16_S2x256x16_0_0_0) (constant S_ .f32 0xFF800000#32) reducesTo_S2x256x16_S2x256_d2 h_S_)))))) (constant S_ .f32 0x00000000#32) reducesTo_S2x256x16_S2x256_d2 h_S_)))) transposes_S2x256x16_S2x16x256_0_2_1

/-- The 512 greatest weights of each expert among the latent tokens. -/
def valA (P : (⟨S2x16x4096, .f32⟩ : BufTy).Contents (Elt F)) : (⟨S2x16x512, .f32⟩ : BufTy).Contents (Elt F) :=
  (Host.topK S2x16x512 2 (FloatOps.cmpfTotal .gt) P sliceFits_S2x16x4096_S2x16x512).1
/-- The tokens they stand at. -/
def idxA (P : (⟨S2x16x4096, .f32⟩ : BufTy).Contents (Elt F)) : (⟨S2x16x512, .i32⟩ : BufTy).Contents (Elt F) :=
  (Host.topK S2x16x512 2 (FloatOps.cmpfTotal .gt) P sliceFits_S2x16x4096_S2x16x512).2
/-- The 32 greatest weights of each expert among the context tokens. -/
def valB (P : (⟨S2x16x256, .f32⟩ : BufTy).Contents (Elt F)) : (⟨S2x16x32, .f32⟩ : BufTy).Contents (Elt F) :=
  (Host.topK S2x16x32 2 (FloatOps.cmpfTotal .gt) P sliceFits_S2x16x256_S2x16x32).1
/-- The tokens they stand at. -/
def idxB (P : (⟨S2x16x256, .f32⟩ : BufTy).Contents (Elt F)) : (⟨S2x16x32, .i32⟩ : BufTy).Contents (Elt F) :=
  (Host.topK S2x16x32 2 (FloatOps.cmpfTotal .gt) P sliceFits_S2x16x256_S2x16x32).2

/-- Each index a top-k hands back is a position on the axis it was taken along. -/
theorem topK_index {α : Type} {s t : Shape} (d : Nat) (hd : d < s.rank) (gt : α → α → BitVec 1) (x : s.Idx → α) (h : s.Slices (fun _ => 0) t) (j : t.Idx) :
    ∃ k : Fin (s.size ⟨d, hd⟩), (Host.topK t d gt x h).2 j = BitVec.ofNat 32 k.val := by
  unfold Host.topK Host.sort2
  simp only [dif_pos hd]
  exact ⟨_, congrArg (fun k : Fin (s.size ⟨d, hd⟩) => BitVec.ofNat 32 k.val) (Function.update_self ..)⟩

theorem idxA_lt (P : (⟨S2x16x4096, .f32⟩ : BufTy).Contents (Elt F)) (j : S2x16x512.Idx) :
    (show BitVec 32 from idxA P j).toNat < 4096 := by
  obtain ⟨k, hk⟩ := topK_index (s := S2x16x4096) 2 (by decide) (FloatOps.cmpfTotal .gt) P sliceFits_S2x16x4096_S2x16x512 j
  have hk' : k.val < 4096 := k.isLt
  show (BitVec.toNat (w := 32) ((Host.topK S2x16x512 2 (FloatOps.cmpfTotal .gt) P sliceFits_S2x16x4096_S2x16x512).2 j)) < 4096
  rw [hk, BitVec.toNat_ofNat]; omega

theorem idxB_lt (P : (⟨S2x16x256, .f32⟩ : BufTy).Contents (Elt F)) (j : S2x16x32.Idx) :
    (show BitVec 32 from idxB P j).toNat < 256 := by
  obtain ⟨k, hk⟩ := topK_index (s := S2x16x256) 2 (by decide) (FloatOps.cmpfTotal .gt) P sliceFits_S2x16x256_S2x16x32 j
  have hk' : k.val < 256 := k.isLt
  show (BitVec.toNat (w := 32) ((Host.topK S2x16x32 2 (FloatOps.cmpfTotal .gt) P sliceFits_S2x16x256_S2x16x32).2 j)) < 256
  rw [hk, BitVec.toNat_ofNat]; omega

/-- The routing table of the latent tokens: member times 4352, and 256, and the token. -/
def tblA (I : (⟨S2x16x512, .i32⟩ : BufTy).Contents (Elt F)) : (⟨S16x1024, .i32⟩ : BufTy).Contents (Elt F) :=
  shapeCast S16x1024 (transpose S16x2x512 [1, 0, 2]
    (addi (broadcastInDim S2x16x512 ![0, 1, 2] bcast_S2x1x1_S2x16x512_0_1_2
      (addi (muli (broadcastInDim S2x1x1 ![0] bcast_S2_S2x1x1_0 (iotaInDim S2 32 0)) (broadcastInDim S2x1x1 ![] bcast_S_S2x1x1 (constantI S_ 32 4352#32)))
        (broadcastInDim S2x1x1 ![] bcast_S_S2x1x1 (constantI S_ 32 256#32)))) I) transposes_S2x16x512_S16x2x512_1_0_2) shapeCasts_S16x2x512_S16x1024

/-- The routing table of the context tokens: member times 4352, and the token. -/
def tblB (I : (⟨S2x16x32, .i32⟩ : BufTy).Contents (Elt F)) : (⟨S16x64, .i32⟩ : BufTy).Contents (Elt F) :=
  shapeCast S16x64 (transpose S16x2x32 [1, 0, 2]
    (addi (broadcastInDim S2x16x32 ![0, 1, 2] bcast_S2x1x1_S2x16x32_0_1_2
      (addi (muli (broadcastInDim S2x1x1 ![0] bcast_S2_S2x1x1_0 (iotaInDim S2 32 0)) (broadcastInDim S2x1x1 ![] bcast_S_S2x1x1 (constantI S_ 32 4352#32)))
        (broadcastInDim S2x1x1 ![] bcast_S_S2x1x1 (constantI S_ 32 0#32)))) I) transposes_S2x16x32_S16x2x32_1_0_2) shapeCasts_S16x2x32_S16x64

variable (m : (ℓ : Loc nD τ sig) → Buf (Elt F) ℓ)

/-- The router's logits, as the program is handed them. -/
abbrev lgt (c : Dev nD) : (⟨S2x4352x16, .f32⟩ : BufTy).Contents (Elt F) := m ((c : Thread nD τ).loc main_arg0)

set_option maxHeartbeats 4000000 in
set_option maxRecDepth 200000 in
theorem tbl_eq (c : Dev nD) : tbl (entry m) c = shapeCast S17408 (concatenate S16x1088 1
    [⟨S16x1024, tblA (F := F) (idxA (probA (lgt m c)))⟩, ⟨S16x64, tblB (F := F) (idxB (probB (lgt m c)))⟩] concatenates_S16x1024_S16x64_S16x1088_d1) shapeCasts_S16x1088_S17408 := by
  show StableHlo.after hostOps0 (fun b => m (c, b)) main_v51 = _
  after_reads_simp
  rfl

set_option maxHeartbeats 4000000 in
set_option maxRecDepth 200000 in
theorem gates_eq (c : Dev nD) : entry m c main_v53 = broadcastInDim S16x1088x1 ![0, 1] bcast_S16x1088_S16x1088x1_0_1 (concatenate S16x1088 1
    [⟨S16x1024, shapeCast S16x1024 (transpose S16x2x512 [1, 0, 2] (valA (probA (lgt m c))) transposes_S2x16x512_S16x2x512_1_0_2) shapeCasts_S16x2x512_S16x1024⟩,
     ⟨S16x64, shapeCast S16x64 (transpose S16x2x32 [1, 0, 2] (valB (probB (lgt m c))) transposes_S2x16x32_S16x2x32_1_0_2) shapeCasts_S16x2x32_S16x64⟩] concatenates_S16x1024_S16x64_S16x1088_d1) := by
  show StableHlo.after hostOps0 (fun b => m (c, b)) main_v53 = _
  after_reads_simp
  rfl

theorem tok_eq (c : Dev nD) : tok (entry m) c = shapeCast S8704x16x128 (shapeCast S2x4352x16x128 (m ((c : Thread nD τ).loc main_arg1) : (⟨S2x4352x2048, .f32⟩ : BufTy).Contents (Elt F)) shapeCasts_S2x4352x2048_S2x4352x16x128) shapeCasts_S2x4352x16x128_S8704x16x128 := by
  show StableHlo.after hostOps0 (fun b => m (c, b)) main_v55 = _
  after_reads_simp
  rfl

end Cert.KernelIdeal.Hand

end
-- ==== Proof.Table.lean ====
/-
  Hand-written. The routing table and the gates read at a row of an expert: a latent row is one of the 512 tokens chosen in either
  member, a context row one of the 32. Every word of the table names a row of the tokens.
-/
module

public import proofs.«01_k».proof.Proof.Host

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

theorem tblA_toNat (I : (⟨S2x16x512, .i32⟩ : BufTy).Contents (Elt F)) (e : Fin 16) (g : Fin 2) (r : Fin 512) (j : Fin 1024) (hj : j.val = g.val * 512 + r.val)
    (hI : (show BitVec 32 from I (ix3 g e r)).toNat < 4096) :
    (show BitVec 32 from tblA (F := F) I (ix2 e j)).toNat = g.val * 4352 + 256 + (show BitVec 32 from I (ix3 g e r)).toNat := by
  have h1 : tblA (F := F) I (ix2 e j) = (BitVec.ofNat 32 g.val * 4352#32 + 256#32) + (show BitVec 32 from I (ix3 g e r)) := by
    unfold tblA
    refine (shapeCast_apply _ _ _ (ix3 e g r) ?_).trans ((transpose_apply _ _ _ _ (ix3 g e r) ?_).trans ?_)
    · rw [Shape.rowMajor_val_three, Shape.rowMajor_val_two]
      show (e.val * 2 + g.val) * 512 + r.val = e.val * 1024 + j.val
      omega
    · intro c; match c with | ⟨0, _⟩ => rfl | ⟨1, _⟩ => rfl | ⟨2, _⟩ => rfl
    · refine congrArg (IntOp.addi · (I (ix3 g e r))) ((broadcastInDim_apply _ _ _ _ (ix3 g (0 : Fin 1) (0 : Fin 1)) ?_).trans ?_)
      · intro a; match a with | ⟨0, _⟩ => rfl | ⟨1, _⟩ => rfl | ⟨2, _⟩ => rfl
      · rfl
  rw [h1]
  have hg := g.isLt
  generalize (show BitVec 32 from I (ix3 g e r)) = w at hI ⊢
  rw [BitVec.toNat_add, BitVec.toNat_add, BitVec.toNat_mul, BitVec.toNat_ofNat, BitVec.toNat_ofNat, BitVec.toNat_ofNat]
  omega

theorem tblB_toNat (I : (⟨S2x16x32, .i32⟩ : BufTy).Contents (Elt F)) (e : Fin 16) (g : Fin 2) (r : Fin 32) (j : Fin 64) (hj : j.val = g.val * 32 + r.val)
    (hI : (show BitVec 32 from I (ix3 g e r)).toNat < 256) :
    (show BitVec 32 from tblB (F := F) I (ix2 e j)).toNat = g.val * 4352 + (show BitVec 32 from I (ix3 g e r)).toNat := by
  have h1 : tblB (F := F) I (ix2 e j) = (BitVec.ofNat 32 g.val * 4352#32 + 0#32) + (show BitVec 32 from I (ix3 g e r)) := by
    unfold tblB
    refine (shapeCast_apply _ _ _ (ix3 e g r) ?_).trans ((transpose_apply _ _ _ _ (ix3 g e r) ?_).trans ?_)
    · rw [Shape.rowMajor_val_three, Shape.rowMajor_val_two]
      show (e.val * 2 + g.val) * 32 + r.val = e.val * 64 + j.val
      omega
    · intro c; match c with | ⟨0, _⟩ => rfl | ⟨1, _⟩ => rfl | ⟨2, _⟩ => rfl
    · refine congrArg (IntOp.addi · (I (ix3 g e r))) ((broadcastInDim_apply _ _ _ _ (ix3 g (0 : Fin 1) (0 : Fin 1)) ?_).trans ?_)
      · intro a; match a with | ⟨0, _⟩ => rfl | ⟨1, _⟩ => rfl | ⟨2, _⟩ => rfl
      · rfl
  rw [h1]
  have hg := g.isLt
  generalize (show BitVec 32 from I (ix3 g e r)) = w at hI ⊢
  rw [BitVec.toNat_add, BitVec.toNat_add, BitVec.toNat_mul, BitVec.toNat_ofNat, BitVec.toNat_ofNat, BitVec.toNat_ofNat]
  omega

/-- The two kinds of row side by side, read at a latent row. -/
theorem cat_left {α : Type} (x : S16x1024.Idx → α) (y : S16x64.Idx → α) (e : Fin 16) (k : Fin 1088) (i : Fin 1024) (hi : k.val = i.val) :
    concatenate S16x1088 1 [⟨S16x1024, x⟩, ⟨S16x64, y⟩] concatenates_S16x1024_S16x64_S16x1088_d1 (ix2 e k) = x (ix2 e i) :=
  concatenate_pair_apply_left (t := S16x1088) (s₁ := S16x1024) (s₂ := S16x64) 1 x y concatenates_S16x1024_S16x64_S16x1088_d1 (ix2 e k) rfl (ix2 e i) (by
    intro b; match b with | ⟨0, _⟩ => rfl | ⟨1, _⟩ => exact hi.symm)

/-- The two kinds of row side by side, read at a context row. -/
theorem cat_right {α : Type} (x : S16x1024.Idx → α) (y : S16x64.Idx → α) (e : Fin 16) (k : Fin 1088) (i : Fin 64) (hi : k.val = 1024 + i.val) :
    concatenate S16x1088 1 [⟨S16x1024, x⟩, ⟨S16x64, y⟩] concatenates_S16x1024_S16x64_S16x1088_d1 (ix2 e k) = y (ix2 e i) :=
  concatenate_pair_apply_right (t := S16x1088) (s₁ := S16x1024) (s₂ := S16x64) 1 x y concatenates_S16x1024_S16x64_S16x1088_d1 (ix2 e k) rfl rfl (ix2 e i) (by
    intro b hb
    match b with
    | ⟨0, _⟩ => rfl
    | ⟨1, _⟩ => exact absurd rfl hb) (by
    show i.val + 1024 = k.val
    omega)

/-- An expert's rows flattened member by member. -/
theorem flat_lat {α : Type} (x : S2x16x512.Idx → α) (e : Fin 16) (g : Fin 2) (r : Fin 512) (j : Fin 1024) (hj : j.val = g.val * 512 + r.val) :
    shapeCast S16x1024 (transpose S16x2x512 [1, 0, 2] x transposes_S2x16x512_S16x2x512_1_0_2) shapeCasts_S16x2x512_S16x1024 (ix2 e j) = x (ix3 g e r) := by
  refine (shapeCast_apply _ _ _ (ix3 e g r) ?_).trans (transpose_apply _ _ _ _ (ix3 g e r) ?_)
  · rw [Shape.rowMajor_val_three, Shape.rowMajor_val_two]
    show (e.val * 2 + g.val) * 512 + r.val = e.val * 1024 + j.val
    omega
  · intro b; match b with | ⟨0, _⟩ => rfl | ⟨1, _⟩ => rfl | ⟨2, _⟩ => rfl

theorem flat_ctx {α : Type} (x : S2x16x32.Idx → α) (e : Fin 16) (g : Fin 2) (r : Fin 32) (j : Fin 64) (hj : j.val = g.val * 32 + r.val) :
    shapeCast S16x64 (transpose S16x2x32 [1, 0, 2] x transposes_S2x16x32_S16x2x32_1_0_2) shapeCasts_S16x2x32_S16x64 (ix2 e j) = x (ix3 g e r) := by
  refine (shapeCast_apply _ _ _ (ix3 e g r) ?_).trans (transpose_apply _ _ _ _ (ix3 g e r) ?_)
  · rw [Shape.rowMajor_val_three, Shape.rowMajor_val_two]
    show (e.val * 2 + g.val) * 32 + r.val = e.val * 64 + j.val
    omega
  · intro b; match b with | ⟨0, _⟩ => rfl | ⟨1, _⟩ => rfl | ⟨2, _⟩ => rfl

variable (m : (ℓ : Loc nD τ sig) → Buf (Elt F) ℓ)

/-- A latent row of the table. -/
theorem tbl_lat (c : Dev nD) (e : Fin 16) (g : Fin 2) (r : Fin 512) (k : S17408.Idx) (hk : (k 0).val = e.val * 1088 + (g.val * 512 + r.val)) :
    (show BitVec 32 from tbl (entry m) c k).toNat = g.val * 4352 + 256 + (show BitVec 32 from idxA (probA (lgt m c)) (ix3 g e r)).toNat := by
  have hg := g.isLt
  have hr := r.isLt
  rw [← tblA_toNat (F := F) (idxA (probA (lgt m c))) e g r ⟨g.val * 512 + r.val, by omega⟩ rfl (idxA_lt _ _), tbl_eq m c]
  refine congrArg BitVec.toNat ?_
  refine (shapeCast_apply _ _ k (ix2 e (⟨g.val * 512 + r.val, by omega⟩ : Fin 1088)) ?_).trans (cat_left _ _ e _ _ rfl)
  rw [Shape.rowMajor_val_two, Shape.rowMajor_val_one]
  exact hk.symm

/-- A context row of the table. -/
theorem tbl_ctx (c : Dev nD) (e : Fin 16) (g : Fin 2) (r : Fin 32) (k : S17408.Idx) (hk : (k 0).val = e.val * 1088 + (1024 + (g.val * 32 + r.val))) :
    (show BitVec 32 from tbl (entry m) c k).toNat = g.val * 4352 + (show BitVec 32 from idxB (probB (lgt m c)) (ix3 g e r)).toNat := by
  have hg := g.isLt
  have hr := r.isLt
  rw [← tblB_toNat (F := F) (idxB (probB (lgt m c))) e g r ⟨g.val * 32 + r.val, by omega⟩ rfl (idxB_lt _ _), tbl_eq m c]
  refine congrArg BitVec.toNat ?_
  refine (shapeCast_apply _ _ k (ix2 e (⟨1024 + (g.val * 32 + r.val), by omega⟩ : Fin 1088)) ?_).trans (cat_right _ _ e _ _ rfl)
  rw [Shape.rowMajor_val_two, Shape.rowMajor_val_one]
  exact hk.symm

/-- Every word of the table names a row of the tokens. -/
theorem inRange (c : Dev nD) : InRange (tbl (entry m) c) := by
  intro k
  have hk : (k 0).val < 17408 := (k 0).isLt
  by_cases h : (k 0).val % 1088 < 1024
  · rw [tbl_lat m c ⟨(k 0).val / 1088, by omega⟩ ⟨(k 0).val % 1088 / 512, by omega⟩ ⟨(k 0).val % 1088 % 512, by omega⟩ k (by
      show (k 0).val = (k 0).val / 1088 * 1088 + ((k 0).val % 1088 / 512 * 512 + (k 0).val % 1088 % 512)
      omega)]
    have := idxA_lt (probA (lgt m c)) (ix3 (⟨(k 0).val % 1088 / 512, by omega⟩ : Fin 2) (⟨(k 0).val / 1088, by omega⟩ : Fin 16) (⟨(k 0).val % 1088 % 512, by omega⟩ : Fin 512))
    dsimp only at this ⊢
    omega
  · rw [tbl_ctx m c ⟨(k 0).val / 1088, by omega⟩ ⟨((k 0).val % 1088 - 1024) / 32, by omega⟩ ⟨((k 0).val % 1088 - 1024) % 32, by omega⟩ k (by
      show (k 0).val = (k 0).val / 1088 * 1088 + (1024 + (((k 0).val % 1088 - 1024) / 32 * 32 + ((k 0).val % 1088 - 1024) % 32))
      omega)]
    have := idxB_lt (probB (lgt m c)) (ix3 (⟨((k 0).val % 1088 - 1024) / 32, by omega⟩ : Fin 2) (⟨(k 0).val / 1088, by omega⟩ : Fin 16) (⟨((k 0).val % 1088 - 1024) % 32, by omega⟩ : Fin 32))
    dsimp only at this ⊢
    omega

/-- The gate of a latent row. -/
theorem gate_lat (c : Dev nD) (e : Fin 16) (g : Fin 2) (r : Fin 512) (k : Fin 1088) (hk : k.val = g.val * 512 + r.val) :
    (entry m c main_v53 : (⟨S16x1088x1, .f32⟩ : BufTy).Contents (Elt F)) (ix3 e k (0 : Fin 1)) = valA (probA (lgt m c)) (ix3 g e r) := by
  have hg := g.isLt
  have hr := r.isLt
  rw [gates_eq m c]
  refine (broadcastInDim_apply _ _ _ _ (ix2 e k) ?_).trans ((cat_left _ _ e k ⟨g.val * 512 + r.val, by omega⟩ hk).trans (flat_lat _ e g r _ rfl))
  intro b; match b with | ⟨0, _⟩ => rfl | ⟨1, _⟩ => rfl

/-- The gate of a context row. -/
theorem gate_ctx (c : Dev nD) (e : Fin 16) (g : Fin 2) (r : Fin 32) (k : Fin 1088) (hk : k.val = 1024 + (g.val * 32 + r.val)) :
    (entry m c main_v53 : (⟨S16x1088x1, .f32⟩ : BufTy).Contents (Elt F)) (ix3 e k (0 : Fin 1)) = valB (probB (lgt m c)) (ix3 g e r) := by
  have hg := g.isLt
  have hr := r.isLt
  rw [gates_eq m c]
  refine (broadcastInDim_apply _ _ _ _ (ix2 e k) ?_).trans ((cat_right _ _ e k ⟨g.val * 32 + r.val, by omega⟩ hk).trans (flat_ctx _ e g r _ rfl))
  intro b; match b with | ⟨0, _⟩ => rfl | ⟨1, _⟩ => rfl

/-- A row of the tokens: row `4352 g + t` of the kernel's operand, its column the pair of a 128-lane group and a lane. -/
theorem tok_apply (c : Dev nD) (g : Fin 2) (t : Fin 4352) (n : Fin 8704) (hn : n.val = g.val * 4352 + t.val) (a : Fin 16) (b : Fin 128) (d : Fin 2048) (hd : d.val = a.val * 128 + b.val) :
    tok (entry m) c (ix3 n a b) = (m ((c : Thread nD τ).loc main_arg1) : (⟨S2x4352x2048, .f32⟩ : BufTy).Contents (Elt F)) (ix3 g t d) := by
  rw [tok_eq m c]
  refine (shapeCast_apply _ _ _ (ix4 g t a b) ?_).trans (shapeCast_apply _ _ _ (ix3 g t d) ?_)
  · rw [Shape.rowMajor_val_four, Shape.rowMajor_val_three]
    show ((g.val * 4352 + t.val) * 16 + a.val) * 128 + b.val = (n.val * 16 + a.val) * 128 + b.val
    rw [hn]
  · rw [Shape.rowMajor_val_four, Shape.rowMajor_val_three]
    show (g.val * 4352 + t.val) * 2048 + d.val = ((g.val * 4352 + t.val) * 16 + a.val) * 128 + b.val
    omega

end Cert.KernelIdeal.Hand

end
-- ==== Proof.Frames.lean ====
/-
  Hand-written. The frame claims: the kernel's, as printed and read over the extended reals, from its one run; the reference's from its run.
-/
module

public import proofs.«01_k».proof.Defs
public import proofs.«01_k».proof.Proof.Table
public import proofs.«01_k».proof.Proof.Gen.Kernel
public import proofs.«01_k».proof.Proof.Gen.Kernel.Launch
public import proofs.«01_k».proof.Proof.Gen.KernelIdeal.Launch
public import proofs.«01_k».proof.Proof.Gen.ReferenceIdeal
public import proofs.«01_k».proof.Proof.Gen.ReferenceIdeal.Run

@[expose] public section

noncomputable section

namespace Cert.Proof

open Idealize.ShloMosaic Idealize.SL.Sem

attribute [local instance] Cert.Kernel.Gen.facts Cert.KernelIdeal.Gen.facts Cert.ReferenceIdeal.Gen.facts

theorem frame_kernelideal : Cert.quiescent_KernelIdeal := fun m ρ _ =>
  Cert.KernelIdeal.Hand.frame_main (F := Ideal) m ρ (Cert.KernelIdeal.Hand.inRange m)

section Same

variable {F : FTy → Type} [FloatOps F]

set_option maxRecDepth 65536

/-- The two printed programs are one text: the same body … -/
theorem defs₀_same : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl

/-- … the same launches … -/
theorem defs_same : Cert.Kernel.defs (F := F) = Cert.KernelIdeal.defs (F := F) :=
  congrArg (fun d => Pipeline.defs (Cert.KernelIdeal.pcfgs (F := F)) d) defs₀_same

/-- … the same host operations … -/
theorem ops_same : Cert.Kernel.Gen.hostOps0 (F := F) = Cert.KernelIdeal.Gen.hostOps0 (F := F) := rfl

/-- … and so the same main function. -/
theorem main_same : Cert.Kernel.main (F := F) = Cert.KernelIdeal.main (F := F) := funext fun c =>
  (Cert.Kernel.Gen.main_chain c).trans ((congrArg (fun l => (Pipeline.chain [StableHlo.seq l, Prog.lift (.customCall (Pipeline.entry 0) ())] :
    Prog (TpuEff Cert.KernelIdeal.nD Cert.KernelIdeal.τ Cert.KernelIdeal.sig (Elt F) (Pipeline.Sig Cert.KernelIdeal.Λ₀ (Fin 1) fun p => (Cert.KernelIdeal.pcfgs (F := F) p).Adm) .tc) PUnit)) ops_same).trans
    (Cert.KernelIdeal.Gen.main_chain c).symm)

/-- A run of one main function is a run of an equal one. -/
theorem run_same {d d' : type_of% (Cert.KernelIdeal.defs (F := F))} (hd : d = d') {f f' : type_of% (Cert.KernelIdeal.main (F := F))} (hf : f = f')
    {s} {Q} (h : θ_run d' (onTc (τ := Cert.KernelIdeal.τ) f') s Q) : θ_run d (onTc (τ := Cert.KernelIdeal.τ) f) s Q := by
  subst hd hf; exact h

end Same

set_option maxRecDepth 65536 in
theorem frame_kernel : Cert.quiescent_Kernel := fun m ρ _ =>
  run_same (F := Bits) defs_same main_same (Cert.KernelIdeal.Hand.frame_main (F := Bits) m ρ (Cert.KernelIdeal.Hand.inRange (F := Bits) m))

theorem frame_reference : Cert.quiescent_ReferenceIdeal := fun m ρ _ =>
  (θ_run Cert.ReferenceIdeal.defs _ _).mono (fun r h => ⟨fun c => (h c).2, funext fun s => by first | exact (nomatch s) | (obtain ⟨_, s⟩ := s; cases s; done) | (exact absurd s (by decide))⟩) (Cert.ReferenceIdeal.Value.run (F := Ideal) m ρ)

end Cert.Proof

end
-- ==== Proof.Pay.lean ====
/-
  Hand-written. What the kernel's vector computations give over the extended reals, element by element: the casts and reshapes
  move elements, a hidden tile is the gated product of two sums, an output block is a sum over the six hidden tiles times the
  gate.
-/
module

public import proofs.«01_k».proof.Proof.Vals
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.Tactic

/-- A hidden unit's value: the gate sum times its logistic, times the up sum. -/
def unit (x : Fin 2048 → EReal) (wg wu : Fin 2048 → EReal) : EReal :=
  ((∑ d, x d * wg d) * Ideal.logistic (∑ d, x d * wg d)) * ∑ d, x d * wu d

theorem pay6_apply (w : S1x1x2048x256.Idx → Elt Ideal .f32) (d : Fin 2048) (f : Fin 256) :
    k0_pay6 w (ix2 d f) = w (ix4 0 0 d f) := by
  pointwise [k0_pay6]
theorem pay7_apply (w : S1x1x2048x256.Idx → Elt Ideal .f32) (d : Fin 2048) (f : Fin 256) :
    k0_pay7 w (ix2 d f) = w (ix4 0 0 d f) := by
  pointwise [k0_pay7]
theorem pay10_apply (w : S1x1x1536x1024.Idx → Elt Ideal .f32) (f : Fin 1536) (d : Fin 1024) :
    k0_pay10 w (ix2 f d) = w (ix4 0 0 f d) := by
  pointwise [k0_pay10]
theorem pay1_apply (v : S544x16x128.Idx → Elt Ideal .f32) (r : Fin 544) (d : Fin 2048) :
    k0_pay1 v (ix2 r d) = v (ix3 r ⟨d.val / 128, by omega⟩ ⟨d.val % 128, by omega⟩) := by
  pointwise [k0_pay1]
theorem pay2_apply (v : S544x16x128.Idx → Elt Ideal .f32) (r : Fin 544) (d : Fin 2048) :
    k0_pay2 v (ix2 r d) = v (ix3 r ⟨d.val / 128, by omega⟩ ⟨d.val % 128, by omega⟩) := by
  pointwise [k0_pay2]
theorem pay4_apply (v : S544x8x128.Idx → Elt Ideal .f32) (r : Fin 544) (a : Fin 8) (b : Fin 128) :
    k0_pay4 (F := Ideal) v (ix4 0 r a b) = v (ix3 r a b) := by
  pointwise [k0_pay4]

/-- A hidden tile's two row blocks, element by element. -/
theorem pay8_apply (B : S544x2048.Idx → Elt Ideal .bf16) (g u : S2048x256.Idx → Elt Ideal .bf16) (r : Fin 544) (f : Fin 256) :
    k0_pay8 B g u (ix3 0 r f) = unit (fun d => B (ix2 r d)) (fun d => g (ix2 d f)) fun d => u (ix2 d f) := by
  pointwise [k0_pay8, unit]
theorem pay9_apply (B : S544x2048.Idx → Elt Ideal .bf16) (g : S2048x256.Idx → Elt Ideal .bf16) (r : Fin 544) (f : Fin 256) :
    k0_pay9 B g (ix2 r f) = ∑ d, B (ix2 r d) * g (ix2 d f) := by
  pointwise [k0_pay9]
theorem pay3_apply (B : S544x2048.Idx → Elt Ideal .bf16) (g u : S2048x256.Idx → Elt Ideal .bf16) (r : Fin 544) (f : Fin 256) :
    k0_pay3 B (k0_pay9 B g) u (ix3 0 r f) = unit (fun d => B (ix2 r d)) (fun d => g (ix2 d f)) fun d => u (ix2 d f) := by
  pointwise [k0_pay3, k0_pay9, unit]

/-- Row `r` of the six hidden tiles side by side. -/
def catRow (l : Fin 6 → S1x544x256.Idx → Elt Ideal .bf16) (r : Fin 544) (f : Fin 1536) : EReal :=
  l ⟨f.val / 256, by omega⟩ (ix3 0 r ⟨f.val % 256, by omega⟩)

theorem catRow_at (l : Fin 6 → S1x544x256.Idx → Elt Ideal .bf16) (r : Fin 544) (f : Fin 1536) (j : Fin 6) (k : Fin 256)
    (h : f.val = 256 * j.val + k.val) : l j (ix3 0 r k) = catRow l r f := by
  unfold catRow
  rw [show (⟨f.val / 256, by omega⟩ : Fin 6) = j from Fin.ext (by show f.val / 256 = j.val; omega),
    show (⟨f.val % 256, by omega⟩ : Fin 256) = k from Fin.ext (by show f.val % 256 = k.val; omega)]

theorem cat_row (l : Fin 6 → S1x544x256.Idx → Elt Ideal .bf16) (r : Fin 544) (f : Fin 1536) :
    concatenate (α := Ideal .bf16) S544x1536 1 [⟨S544x256, shapeCast S544x256 (l 0) shapeCasts_S1x544x256_S544x256⟩, ⟨S544x256, shapeCast S544x256 (l 1) shapeCasts_S1x544x256_S544x256⟩,
      ⟨S544x256, shapeCast S544x256 (l 2) shapeCasts_S1x544x256_S544x256⟩, ⟨S544x256, shapeCast S544x256 (l 3) shapeCasts_S1x544x256_S544x256⟩,
      ⟨S544x256, shapeCast S544x256 (l 4) shapeCasts_S1x544x256_S544x256⟩, ⟨S544x256, shapeCast S544x256 (l 5) shapeCasts_S1x544x256_S544x256⟩]
      concatenates_S544x256_S544x256_S544x256_S544x256_S544x256_S544x256_S544x1536_d1 (ix2 r f) = catRow l r f := by
  have hf := f.isLt
  pointwise
  by_cases h0 : f.val < 256
  · rw [dif_pos h0]
    refine catRow_at l r f 0 ⟨f.val, h0⟩ ?_
    show f.val = 256 * 0 + (f.val); omega
  rw [dif_neg h0]
  by_cases h1 : f.val - 256 < 256
  · rw [dif_pos h1]
    refine catRow_at l r f 1 ⟨f.val - 256, h1⟩ ?_
    show f.val = 256 * 1 + (f.val - 256); omega
  rw [dif_neg h1]
  by_cases h2 : f.val - 256 - 256 < 256
  · rw [dif_pos h2]
    refine catRow_at l r f 2 ⟨f.val - 256 - 256, h2⟩ ?_
    show f.val = 256 * 2 + (f.val - 256 - 256); omega
  rw [dif_neg h2]
  by_cases h3 : f.val - 256 - 256 - 256 < 256
  · rw [dif_pos h3]
    refine catRow_at l r f 3 ⟨f.val - 256 - 256 - 256, h3⟩ ?_
    show f.val = 256 * 3 + (f.val - 256 - 256 - 256); omega
  rw [dif_neg h3]
  by_cases h4 : f.val - 256 - 256 - 256 - 256 < 256
  · rw [dif_pos h4]
    refine catRow_at l r f 4 ⟨f.val - 256 - 256 - 256 - 256, h4⟩ ?_
    show f.val = 256 * 4 + (f.val - 256 - 256 - 256 - 256); omega
  rw [dif_neg h4]
  refine catRow_at l r f 5 ⟨f.val - 256 - 256 - 256 - 256 - 256, by omega⟩ ?_
  show f.val = 256 * 5 + (f.val - 256 - 256 - 256 - 256 - 256); omega

theorem pay11_apply (l : Fin 6 → S1x544x256.Idx → Elt Ideal .bf16) (w : S1536x1024.Idx → Elt Ideal .bf16) (g : S1x544x1.Idx → Elt Ideal .f32)
    (r : Fin 544) (a : Fin 8) (b : Fin 128) :
    k0_pay11 (l 0) (l 1) (l 2) (l 3) (l 4) (l 5) w g (ix3 r a b)
      = (∑ f, catRow l r f * w (ix2 f ⟨a.val * 128 + b.val, by omega⟩)) * g (ix3 0 r 0) := by
  rw [show (∑ f, catRow l r f * w (ix2 f ⟨a.val * 128 + b.val, by omega⟩)) = ∑ f, _ * w (ix2 f ⟨a.val * 128 + b.val, by omega⟩) from
    Finset.sum_congr rfl fun f _ => congrArg (· * w (ix2 f ⟨a.val * 128 + b.val, by omega⟩)) (cat_row l r f).symm]
  unfold k0_pay11
  generalize concatenate _ _ _ _ = C
  pointwise

theorem pay5_apply (l : Fin 6 → S1x544x256.Idx → Elt Ideal .bf16) (w : S1536x1024.Idx → Elt Ideal .bf16) (g : S1x544x1.Idx → Elt Ideal .f32)
    (r : Fin 544) (a : Fin 8) (b : Fin 128) :
    k0_pay5 (l 0) (l 1) (l 2) (l 3) (l 4) (l 5) w g (ix4 0 r a b)
      = (∑ f, catRow l r f * w (ix2 f ⟨a.val * 128 + b.val, by omega⟩)) * g (ix3 0 r 0) := by
  rw [show (∑ f, catRow l r f * w (ix2 f ⟨a.val * 128 + b.val, by omega⟩)) = ∑ f, _ * w (ix2 f ⟨a.val * 128 + b.val, by omega⟩) from
    Finset.sum_congr rfl fun f _ => congrArg (· * w (ix2 f ⟨a.val * 128 + b.val, by omega⟩)) (cat_row l r f).symm]
  unfold k0_pay5
  generalize concatenate _ _ _ _ = C
  pointwise

end Cert.KernelIdeal.Hand

end
-- ==== Proof.Out.lean ====
/-
  Hand-written. What the kernel's result array holds over the extended reals: at every expert, row and column the sum over the
  hidden units of the row's gated products with the last weight's column, times the row's gate.
-/
module

public import proofs.«01_k».proof.Proof.Run
public import proofs.«01_k».proof.Proof.Pay

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

section Block
variable (V : Entry Ideal) (c : Dev nD) (hT : InRange (tbl V c))

/-- Row `k` of expert `e`'s gathered tokens. -/
def xrow (e : Fin 16) (k : Fin 1088) (d : Fin 2048) : EReal :=
  gath (tbl V c) hT (tok V c) e (ix3 k ⟨d.val / 128, by omega⟩ ⟨d.val % 128, by omega⟩)
/-- Layer 0 of the three weights, and the gates. -/
def wG (e : Fin 16) (d : Fin 2048) (f : Fin 1536) : EReal := (show S4x16x2048x1536.Idx → EReal from V c main_arg2) (ix4 0 e d f)
def wU (e : Fin 16) (d : Fin 2048) (f : Fin 1536) : EReal := (show S4x16x2048x1536.Idx → EReal from V c main_arg3) (ix4 0 e d f)
def wD (e : Fin 16) (f : Fin 1536) (d : Fin 2048) : EReal := (show S4x16x1536x2048.Idx → EReal from V c main_arg4) (ix4 0 e f d)
def gateOf (e : Fin 16) (k : Fin 1088) : EReal := (show S16x1088x1.Idx → EReal from V c main_v53) (ix3 e k 0)

/-- One element of the result. -/
def outVal (e : Fin 16) (k : Fin 1088) (d : Fin 2048) : EReal :=
  (∑ f : Fin 1536, unit (xrow V c hT e k) (fun d => wG V c e d f) (fun d => wU V c e d f) * wD V c e f d) * gateOf V c e k

theorem rows_apply (e : Fin 16) (k : Fin 1088) (d : Fin 2048) : rowsB V c hT e (ix2 k d) = xrow V c hT e k d := by
  unfold rowsB castB
  split_ifs with h
  · exact pay1_apply _ ⟨k.val, h⟩ d
  · refine (pay2_apply _ ⟨k.val - 544, by have := k.isLt; omega⟩ d).trans ?_
    exact congrArg (fun k' => gath (tbl V c) hT (tok V c) e (ix3 k' ⟨d.val / 128, by omega⟩ ⟨d.val % 128, by omega⟩))
      (Fin.ext (show 544 + (k.val - 544) = k.val from by have h' : ¬ k.val < 544 := h; omega))

theorem tile_apply (w : S4x16x2048x1536.Idx → EReal) (e : Fin 16) (j : Fin 6) (d : Fin 2048) (f : Fin 256) (f' : Fin 1536)
    (hf : f'.val = 256 * j.val + f.val) : tile (F := Ideal) w e j (ix4 0 0 d f) = w (ix4 0 e d f') :=
  congrArg (fun x => w (ix4 0 e d x)) (Fin.ext hf.symm)

/-- A hidden tile's two row blocks, element by element. -/
theorem tileLo_apply (e : Fin 16) (r : Fin 544) (k : Fin 1088) (hk : k.val = r.val) (f : Fin 1536) :
    catRow (tileLo V c hT e) r f = unit (xrow V c hT e k) (fun d => wG V c e d f) fun d => wU V c e d f := by
  unfold catRow tileLo hlo
  rw [pay8_apply]
  have hf := f.isLt
  have h1 : (fun d => Blo (rowsB V c hT e) (ix2 r d)) = xrow V c hT e k := funext fun d =>
    (congrArg (fun k' => rowsB V c hT e (ix2 k' d)) (Fin.ext hk.symm)).trans (rows_apply V c hT e k d)
  have h2 : ∀ d, k0_pay6 (wgB V c e ⟨f.val / 256, by omega⟩) (ix2 d ⟨f.val % 256, by omega⟩) = wG V c e d f := fun d =>
    (pay6_apply _ _ _).trans (tile_apply _ e _ d _ f (show f.val = 256 * (f.val / 256) + f.val % 256 by omega))
  have h3 : ∀ d, k0_pay7 (wuB V c e ⟨f.val / 256, by omega⟩) (ix2 d ⟨f.val % 256, by omega⟩) = wU V c e d f := fun d =>
    (pay7_apply _ _ _).trans (tile_apply _ e _ d _ f (show f.val = 256 * (f.val / 256) + f.val % 256 by omega))
  exact congr (congr (congrArg unit h1) (funext h2)) (funext h3)
theorem tileHi_apply (e : Fin 16) (r : Fin 544) (k : Fin 1088) (hk : k.val = 544 + r.val) (f : Fin 1536) :
    catRow (tileHi V c hT e) r f = unit (xrow V c hT e k) (fun d => wG V c e d f) fun d => wU V c e d f := by
  unfold catRow tileHi hhi
  rw [pay3_apply]
  have hf := f.isLt
  have h1 : (fun d => Bhi (rowsB V c hT e) (ix2 r d)) = xrow V c hT e k := funext fun d =>
    (congrArg (fun k' => rowsB V c hT e (ix2 k' d)) (Fin.ext hk.symm)).trans (rows_apply V c hT e k d)
  have h2 : ∀ d, k0_pay6 (wgB V c e ⟨f.val / 256, by omega⟩) (ix2 d ⟨f.val % 256, by omega⟩) = wG V c e d f := fun d =>
    (pay6_apply _ _ _).trans (tile_apply _ e _ d _ f (show f.val = 256 * (f.val / 256) + f.val % 256 by omega))
  have h3 : ∀ d, k0_pay7 (wuB V c e ⟨f.val / 256, by omega⟩) (ix2 d ⟨f.val % 256, by omega⟩) = wU V c e d f := fun d =>
    (pay7_apply _ _ _).trans (tile_apply _ e _ d _ f (show f.val = 256 * (f.val / 256) + f.val % 256 by omega))
  exact congr (congr (congrArg unit h1) (funext h2)) (funext h3)

theorem down_apply (e : Fin 16) (h : Fin 2) (f : Fin 1536) (j : Fin 1024) (d : Fin 2048) (hd : d.val = 1024 * h.val + j.val) :
    k0_pay10 (wdB V c e h) (ix2 f j) = wD V c e f d :=
  (pay10_apply _ _ _).trans (congrArg (fun x => wD V c e f x) (Fin.ext hd.symm))

/-- A half of an expert's output, element by element. -/
theorem out_apply (e : Fin 16) (h : Fin 2) (k : Fin 1088) (a : Fin 8) (b : Fin 128) (d : Fin 2048) (hd : d.val = 1024 * h.val + (a.val * 128 + b.val)) :
    outAt V c hT e h (ix4 0 k a b) = outVal V c hT e k d := by
  have ha := a.isLt
  have hb := b.isLt
  unfold outAt outB
  split_ifs with hk
  · refine (pay4_apply _ ⟨k.val, hk⟩ a b).trans ((pay11_apply (tileLo V c hT e) _ _ ⟨k.val, hk⟩ a b).trans ?_)
    refine congrArg₂ (fun x y : EReal => x * y) (Finset.sum_congr rfl fun f _ => ?_) rfl
    rw [tileLo_apply V c hT e ⟨k.val, hk⟩ k rfl f, down_apply V c e h f ⟨a.val * 128 + b.val, by omega⟩ d hd]
  · have hk' : ¬ k.val < 544 := hk
    have hlt := k.isLt
    have hkk : k.val = 544 + (k.val - 544) := by omega
    refine (pay5_apply (tileHi V c hT e) _ _ ⟨k.val - 544, by omega⟩ a b).trans ?_
    refine congrArg₂ (fun x y : EReal => x * y) (Finset.sum_congr rfl fun f _ => ?_) ?_
    · rw [tileHi_apply V c hT e ⟨k.val - 544, by omega⟩ k hkk f, down_apply V c e h f ⟨a.val * 128 + b.val, by omega⟩ d hd]
    · exact congrArg (fun k' => gateOf V c e k') (Fin.ext hkk.symm)

end Block

section Array
variable (V : Entry Ideal) (a : (p : Fin 1) → (pcfgs (F := Ideal) p).Adm) (hT : ∀ c, InRange (tbl V c))

/-- The whole result. -/
def outArr (c : Dev nD) : S16x1088x16x128.Idx → EReal := fun y =>
  outVal V c (hT c) (y 0) (y 1) ⟨(y 2).val * 128 + (y 3).val, by
    have h2 : (y 2).val < 16 := (y 2).isLt
    have h3 : (y 3).val < 128 := (y 3).isLt
    omega⟩

/-- The points that write back reach every block of the result. -/
theorem covers4 : ((Pipeline.pin pcfgs a 0).win 4).Covers := by
  refine ⟨show ∀ x : Fin 4, 0 < S1x1088x8x128.size x by decide, fun β => ?_⟩
  have h0 : (β (0 : Fin 4)).val < 16 := lt_of_lt_of_eq (β (0 : Fin 4)).isLt (show (16 + 1 - 1) / 1 = 16 by decide)
  have h1 : (β (1 : Fin 4)).val < 1 := lt_of_lt_of_eq (β (1 : Fin 4)).isLt (show (1088 + 1088 - 1) / 1088 = 1 by decide)
  have h2 : (β (2 : Fin 4)).val < 2 := lt_of_lt_of_eq (β (2 : Fin 4)).isLt (show (16 + 8 - 1) / 8 = 2 by decide)
  have h3 : (β (3 : Fin 4)).val < 1 := lt_of_lt_of_eq (β (3 : Fin 4)).isLt (show (128 + 128 - 1) / 128 = 1 by decide)
  have hN : 8 * (β (0 : Fin 4)).val + 6 + (β (2 : Fin 4)).val < grid0.N := by rw [N_0]; omega
  refine ⟨⟨_, hN⟩, (flush4 a ⟨_, hN⟩).trans (decide_eq_true (show 6 ≤ (8 * (β (0 : Fin 4)).val + 6 + (β (2 : Fin 4)).val) % 8 by omega)), fun x => ⟨?_, Or.inl rfl⟩⟩
  refine (congrFun (map4 ⟨_, hN⟩) x).trans ?_
  match x with
  | ⟨0, _⟩ => exact show (8 * (β (0 : Fin 4)).val + 6 + (β (2 : Fin 4)).val) / 8 = (β (0 : Fin 4)).val by omega
  | ⟨1, _⟩ => exact show 0 = (β (1 : Fin 4)).val by omega
  | ⟨2, _⟩ => exact show (8 * (β (0 : Fin 4)).val + 6 + (β (2 : Fin 4)).val) % 8 - 6 = (β (2 : Fin 4)).val by omega
  | ⟨3, _⟩ => exact show 0 = (β (3 : Fin 4)).val by omega

/-- A point's block in the result: where it puts an element. -/
theorem emb4 (c : Dev nD) (t : Fin grid0.N) (h6 : 6 ≤ t.val % 8) (y : S1x1088x8x128.Idx) (z : S16x1088x16x128.Idx)
    (h0 : (z 0).val = t.val / 8 + (y 0).val) (h1 : (z 1).val = (y 1).val) (h2 : (z 2).val = (t.val % 8 - 6) * 8 + (y 2).val) (h3 : (z 3).val = (y 3).val) :
    outAt V c (hT c) (ex t.val) (hf t.val) y = outArr V hT c z := by
  have hN : t.val < 128 := lt_of_lt_of_eq t.isLt N_0
  obtain ⟨y0, y1, y2, y3, rfl⟩ : ∃ (a : Fin 1) (b : Fin 1088) (c : Fin 8) (d : Fin 128), y = ix4 a b c d := ⟨y 0, y 1, y 2, y 3, eq_ix4 y⟩
  obtain ⟨z0, z1, z2, z3, rfl⟩ : ∃ (a : Fin 16) (b : Fin 1088) (c : Fin 16) (d : Fin 128), z = ix4 a b c d := ⟨z 0, z 1, z 2, z 3, eq_ix4 z⟩
  replace h0 : z0.val = t.val / 8 + y0.val := h0
  replace h1 : z1.val = y1.val := h1
  replace h2 : z2.val = (t.val % 8 - 6) * 8 + y2.val := h2
  replace h3 : z3.val = y3.val := h3
  have e0 : y0 = 0 := Subsingleton.elim _ _
  subst e0
  have e1 : y1 = z1 := Fin.ext h1.symm
  have e2 : ex t.val = z0 := Fin.ext (show t.val / 8 % 16 = z0.val by have : ((0 : Fin 1)).val = 0 := rfl; omega)
  subst e1
  rw [e2]
  exact out_apply V c (hT c) z0 (hf t.val) y1 y2 y3 ⟨z2.val * 128 + z3.val, by omega⟩
    (show z2.val * 128 + z3.val = 1024 * (t.val % 8 - 6) + (y2.val * 128 + y3.val) by omega)

/-- The result array after the last point. -/
theorem arr_eq (c : Dev nD) : (dats V a hT 0 c).arrAt 4 (Pipeline.pin pcfgs a 0).N = outArr V hT c := by
  refine (dats V a hT 0 c).arrAt_eq_of_covers 4 _ (covers4 a) fun t hf y => ?_
  blk_simp
  rw [after_4]
  have h6 : 6 ≤ t.val % 8 := of_decide_eq_true ((flush4 a t).symm.trans hf)
  refine emb4 V hT c t h6 (show S1x1088x8x128.Idx from y) _ ?_ ?_ ?_ ?_
  · show cc0_transform_5 (grid0.coords t) 0 * 1 + 1 * ((show S1x1088x8x128.Idx from y) 0).val = _; rw [map4]; show t.val / 8 * 1 + 1 * ((show S1x1088x8x128.Idx from y) 0).val = _; omega
  · show cc0_transform_5 (grid0.coords t) 1 * 1088 + 1 * ((show S1x1088x8x128.Idx from y) 1).val = _; rw [map4]; show 0 * 1088 + 1 * ((show S1x1088x8x128.Idx from y) 1).val = _; omega
  · show cc0_transform_5 (grid0.coords t) 2 * 8 + 1 * ((show S1x1088x8x128.Idx from y) 2).val = _; rw [map4]; show (t.val % 8 - 6) * 8 + 1 * ((show S1x1088x8x128.Idx from y) 2).val = _; omega
  · show cc0_transform_5 (grid0.coords t) 3 * 128 + 1 * ((show S1x1088x8x128.Idx from y) 3).val = _; rw [map4]; show 0 * 128 + 1 * ((show S1x1088x8x128.Idx from y) 3).val = _; omega

end Array

end Cert.KernelIdeal.Hand

end
-- ==== Proof.RefVal.lean ====
/-
  Hand-written. What the reference's operations give over the extended reals, element by element, for each of its two parts: the
  gathered rows, the hidden units, the products back to the width, the gates.
-/
module

public import proofs.«01_k».proof.Proof.Gen.ReferenceIdeal.Run
public import Idealize.ShloMosaic.Lib.Pointwise
public import Idealize.ShloMosaic.Lib.ValueIdx

@[expose] public section

set_option maxRecDepth 16384

noncomputable section

namespace Cert.ReferenceIdeal.Hand

open Cert.ReferenceIdeal Cert.ReferenceIdeal.Gen
open Idealize.ShloMosaic Idealize.ShloMosaic.Tactic

/-- The choice between an index and the index from the end: the index itself where it is not negative. -/
theorem word_sel (a b : BitVec 32) (h : a.toNat < 2147483648) :
    (if IntOp.cmpi .slt a 0#32 = 1#1 then b else a) = a := by
  refine if_neg fun hc => ?_
  have h0 : (a.slt 0#32) = false := by
    rw [BitVec.slt, BitVec.toInt_eq_toNat_of_lt (by omega)]
    exact decide_eq_false (by simp)
  unfold IntOp.cmpi at hc
  simp only [h0] at hc
  exact absurd hc (by decide)

/-- The rows the reference gathers: each index as it is, or from the end where it is negative. -/
def rowsA (x : S2x4352x2048.Idx → EReal) (I : S2x16x512.Idx → BitVec 32) : S2x16x512x2048.Idx → EReal :=
  Host.gather gather_S2x4096x2048_S2x16x512x1_S2x16x512x2048_3_1_0_0_1_3_112048 (extractStridedSlice S2x4096x2048 ![0, 256, 0] x slices_S2x4352x2048_S2x4096x2048_0_256_0)
    (broadcastInDim S2x16x512x1 ![0, 1, 2] bcast_S2x16x512_S2x16x512x1_0_1_2 (select (cmpi .slt I (broadcastInDim S2x16x512 ![] bcast_S_S2x16x512 (constantI S_ 32 0#32)))
      (addi I (broadcastInDim S2x16x512 ![] bcast_S_S2x16x512 (constantI S_ 32 4096#32))) I))
/-- A row's products with an expert's weights, from the width to the hidden units. -/
def upA (w : S4x16x2048x1536.Idx → EReal) (X : S2x16x512x2048.Idx → EReal) : S2x16x512x1536.Idx → EReal :=
  transpose S2x16x512x1536 [2, 0, 3, 1] (Host.dotGeneral (F := Ideal) (φ₁ := .f32) (φ₂ := .f32) dot_S16x2048x1536_S2x16x512x2048_S16x1536x2x512_1_3_2_02_0_1 none
    (shapeCast S16x2048x1536 (extractStridedSlice S1x16x2048x1536 ![0, 0, 0, 0] w slices_S4x16x2048x1536_S1x16x2048x1536_0_0_0_0) shapeCasts_S1x16x2048x1536_S16x2048x1536) X) transposes_S16x1536x2x512_S2x16x512x1536_2_0_3_1
/-- A row's products with an expert's weights, from the hidden units to the width. -/
def downA (w : S4x16x1536x2048.Idx → EReal) (H : S2x16x512x1536.Idx → EReal) : S2x16x512x2048.Idx → EReal :=
  transpose S2x16x512x2048 [2, 0, 3, 1] (Host.dotGeneral (F := Ideal) (φ₁ := .f32) (φ₂ := .f32) dot_S16x1536x2048_S2x16x512x1536_S16x2048x2x512_1_3_2_02_0_1 none
    (shapeCast S16x1536x2048 (extractStridedSlice S1x16x1536x2048 ![0, 0, 0, 0] w slices_S4x16x1536x2048_S1x16x1536x2048_0_0_0_0) shapeCasts_S1x16x1536x2048_S16x1536x2048) H) transposes_S16x2048x2x512_S2x16x512x2048_2_0_3_1
/-- The hidden units. -/
def hidA (G U : S2x16x512x1536.Idx → EReal) : S2x16x512x1536.Idx → EReal :=
  mulf (F := Ideal) (φ := .f32) (mulf (F := Ideal) (φ := .f32) G (Host.divf (F := Ideal) (φ := .f32) (broadcastInDim S2x16x512x1536 ![] bcast_S_S2x16x512x1536 (constant S_ .f32 0x3F800000#32))
    (addf (F := Ideal) (φ := .f32) (broadcastInDim S2x16x512x1536 ![] bcast_S_S2x16x512x1536 (constant S_ .f32 0x3F800000#32)) (Host.exp (F := Ideal) (φ := .f32) (Host.negf (F := Ideal) (φ := .f32) G))))) U
/-- The part's rows, expert by expert. -/
def partA (Y : S2x16x512x2048.Idx → EReal) (v : S2x16x512.Idx → EReal) : S16x1024x2048.Idx → EReal :=
  shapeCast S16x1024x2048 (transpose S16x2x512x2048 [1, 0, 2, 3] (mulf (F := Ideal) (φ := .f32) Y (broadcastInDim S2x16x512x2048 ![0, 1, 2, 3] bcast_S2x16x512x1_S2x16x512x2048_0_1_2_3
    (broadcastInDim S2x16x512x1 ![0, 1, 2] bcast_S2x16x512_S2x16x512x1_0_1_2 v))) transposes_S2x16x512x2048_S16x2x512x2048_1_0_2_3) shapeCasts_S16x2x512x2048_S16x1024x2048

theorem upA_apply (w : S4x16x2048x1536.Idx → EReal) (X : S2x16x512x2048.Idx → EReal) (g : Fin 2) (e : Fin 16) (r : Fin 512) (f : Fin 1536) :
    upA w X (ix4 g e r f) = ∑ d : Fin 2048, X (ix4 g e r d) * w (ix4 (0 : Fin 4) e d f) := by
  rw [show (∑ d : Fin 2048, X (ix4 g e r d) * w (ix4 (0 : Fin 4) e d f)) = ∑ d : Fin 2048, w (ix4 (0 : Fin 4) e d f) * X (ix4 g e r d) from
    Finset.sum_congr rfl fun d _ => mul_comm _ _]
  pointwise [upA]
theorem downA_apply (w : S4x16x1536x2048.Idx → EReal) (H : S2x16x512x1536.Idx → EReal) (g : Fin 2) (e : Fin 16) (r : Fin 512) (d : Fin 2048) :
    downA w H (ix4 g e r d) = ∑ f : Fin 1536, H (ix4 g e r f) * w (ix4 (0 : Fin 4) e f d) := by
  rw [show (∑ f : Fin 1536, H (ix4 g e r f) * w (ix4 (0 : Fin 4) e f d)) = ∑ f : Fin 1536, w (ix4 (0 : Fin 4) e f d) * H (ix4 g e r f) from
    Finset.sum_congr rfl fun d _ => mul_comm _ _]
  pointwise [downA]
theorem hidA_apply (G U : S2x16x512x1536.Idx → EReal) (y : S2x16x512x1536.Idx) :
    hidA G U y = (G y * Ideal.logistic (G y)) * U y := by
  unfold Ideal.logistic
  pointwise [hidA]
theorem partA_apply (Y : S2x16x512x2048.Idx → EReal) (v : S2x16x512.Idx → EReal) (e : Fin 16) (g : Fin 2) (r : Fin 512) (k : Fin 1024) (hk : k.val = g.val * 512 + r.val) (d : Fin 2048) :
    partA Y v (ix3 e k d) = Y (ix4 g e r d) * v (ix3 g e r) := by
  unfold partA
  refine (shapeCast_apply _ _ _ (ix4 e g r d) ?_).trans ((transpose_apply _ _ _ _ (ix4 g e r d) ?_).trans ?_)
  · rw [Shape.rowMajor_val_four, Shape.rowMajor_val_three]
    show ((e.val * 2 + g.val) * 512 + r.val) * 2048 + d.val = (e.val * 1024 + k.val) * 2048 + d.val
    omega
  · intro b; match b with | ⟨0, _⟩ => rfl | ⟨1, _⟩ => rfl | ⟨2, _⟩ => rfl | ⟨3, _⟩ => rfl
  · pointwise

theorem rowsA_apply (x : S2x4352x2048.Idx → EReal) (I : S2x16x512.Idx → BitVec 32) (g : Fin 2) (e : Fin 16) (r : Fin 512) (d : Fin 2048)
    (hI : (I (ix3 g e r)).toNat < 4096) (t : Fin 4352) (ht : t.val = 256 + (I (ix3 g e r)).toNat) :
    rowsA x I (ix4 g e r d) = x (ix3 g t d) := by
  have hsel : (select (cmpi .slt I (broadcastInDim S2x16x512 ![] bcast_S_S2x16x512 (constantI S_ 32 0#32)))
      (addi I (broadcastInDim S2x16x512 ![] bcast_S_S2x16x512 (constantI S_ 32 4096#32))) I) (ix3 g e r) = I (ix3 g e r) := word_sel _ _ (by omega)
  unfold rowsA
  generalize (select (cmpi .slt I (broadcastInDim S2x16x512 ![] bcast_S_S2x16x512 (constantI S_ 32 0#32)))
      (addi I (broadcastInDim S2x16x512 ![] bcast_S_S2x16x512 (constantI S_ 32 4096#32))) I) = J at hsel ⊢
  rw [← hsel] at hI ht
  have hpos := BitVec.toInt_eq_toNat_of_lt (x := J (ix3 g e r)) (by omega)
  refine (congrArg _ (show _ = ix3 g (⟨(J (ix3 g e r)).toNat, hI⟩ : Fin 4096) d from ?_)).trans
    (congrArg x (show _ = ix3 g t d from ?_))
  · funext b
    refine Fin.ext ?_
    match b with
    | ⟨0, _⟩ => exact show 0 + g.val + 0 = g.val by omega
    | ⟨1, _⟩ =>
      refine Eq.trans (b := min (J (ix3 g e r)).toInt.toNat (4096 - 1) + 0 + 0) (congrArg (fun z : BitVec 32 => min z.toInt.toNat (4096 - 1) + 0 + 0)
        (broadcastInDim_apply _ _ _ _ (ix3 g e r) (by intro a; match a with | ⟨0, _⟩ => rfl | ⟨1, _⟩ => rfl | ⟨2, _⟩ => rfl))) ?_
      rw [hpos]
      show min (((J (ix3 g e r)).toNat : ℤ)).toNat (4096 - 1) + 0 + 0 = (J (ix3 g e r)).toNat
      omega
    | ⟨2, _⟩ => exact show 0 + 0 + d.val = d.val by omega
  · funext b
    refine Fin.ext ?_
    match b with
    | ⟨0, _⟩ => exact show 0 + g.val = g.val by omega
    | ⟨1, _⟩ => exact show 256 + (J (ix3 g e r)).toNat = t.val by omega
    | ⟨2, _⟩ => exact show 0 + d.val = d.val by omega

/-- The rows the reference gathers: each index as it is, or from the end where it is negative. -/
def rowsB (x : S2x4352x2048.Idx → EReal) (I : S2x16x32.Idx → BitVec 32) : S2x16x32x2048.Idx → EReal :=
  Host.gather gather_S2x256x2048_S2x16x32x1_S2x16x32x2048_3_1_0_0_1_3_112048 (extractStridedSlice S2x256x2048 ![0, 0, 0] x slices_S2x4352x2048_S2x256x2048_0_0_0)
    (broadcastInDim S2x16x32x1 ![0, 1, 2] bcast_S2x16x32_S2x16x32x1_0_1_2 (select (cmpi .slt I (broadcastInDim S2x16x32 ![] bcast_S_S2x16x32 (constantI S_ 32 0#32)))
      (addi I (broadcastInDim S2x16x32 ![] bcast_S_S2x16x32 (constantI S_ 32 256#32))) I))
/-- A row's products with an expert's weights, from the width to the hidden units. -/
def upB (w : S4x16x2048x1536.Idx → EReal) (X : S2x16x32x2048.Idx → EReal) : S2x16x32x1536.Idx → EReal :=
  transpose S2x16x32x1536 [2, 0, 3, 1] (Host.dotGeneral (F := Ideal) (φ₁ := .f32) (φ₂ := .f32) dot_S16x2048x1536_S2x16x32x2048_S16x1536x2x32_1_3_2_02_0_1 none
    (shapeCast S16x2048x1536 (extractStridedSlice S1x16x2048x1536 ![0, 0, 0, 0] w slices_S4x16x2048x1536_S1x16x2048x1536_0_0_0_0) shapeCasts_S1x16x2048x1536_S16x2048x1536) X) transposes_S16x1536x2x32_S2x16x32x1536_2_0_3_1
/-- A row's products with an expert's weights, from the hidden units to the width. -/
def downB (w : S4x16x1536x2048.Idx → EReal) (H : S2x16x32x1536.Idx → EReal) : S2x16x32x2048.Idx → EReal :=
  transpose S2x16x32x2048 [2, 0, 3, 1] (Host.dotGeneral (F := Ideal) (φ₁ := .f32) (φ₂ := .f32) dot_S16x1536x2048_S2x16x32x1536_S16x2048x2x32_1_3_2_02_0_1 none
    (shapeCast S16x1536x2048 (extractStridedSlice S1x16x1536x2048 ![0, 0, 0, 0] w slices_S4x16x1536x2048_S1x16x1536x2048_0_0_0_0) shapeCasts_S1x16x1536x2048_S16x1536x2048) H) transposes_S16x2048x2x32_S2x16x32x2048_2_0_3_1
/-- The hidden units. -/
def hidB (G U : S2x16x32x1536.Idx → EReal) : S2x16x32x1536.Idx → EReal :=
  mulf (F := Ideal) (φ := .f32) (mulf (F := Ideal) (φ := .f32) G (Host.divf (F := Ideal) (φ := .f32) (broadcastInDim S2x16x32x1536 ![] bcast_S_S2x16x32x1536 (constant S_ .f32 0x3F800000#32))
    (addf (F := Ideal) (φ := .f32) (broadcastInDim S2x16x32x1536 ![] bcast_S_S2x16x32x1536 (constant S_ .f32 0x3F800000#32)) (Host.exp (F := Ideal) (φ := .f32) (Host.negf (F := Ideal) (φ := .f32) G))))) U
/-- The part's rows, expert by expert. -/
def partB (Y : S2x16x32x2048.Idx → EReal) (v : S2x16x32.Idx → EReal) : S16x64x2048.Idx → EReal :=
  shapeCast S16x64x2048 (transpose S16x2x32x2048 [1, 0, 2, 3] (mulf (F := Ideal) (φ := .f32) Y (broadcastInDim S2x16x32x2048 ![0, 1, 2, 3] bcast_S2x16x32x1_S2x16x32x2048_0_1_2_3
    (broadcastInDim S2x16x32x1 ![0, 1, 2] bcast_S2x16x32_S2x16x32x1_0_1_2 v))) transposes_S2x16x32x2048_S16x2x32x2048_1_0_2_3) shapeCasts_S16x2x32x2048_S16x64x2048

theorem upB_apply (w : S4x16x2048x1536.Idx → EReal) (X : S2x16x32x2048.Idx → EReal) (g : Fin 2) (e : Fin 16) (r : Fin 32) (f : Fin 1536) :
    upB w X (ix4 g e r f) = ∑ d : Fin 2048, X (ix4 g e r d) * w (ix4 (0 : Fin 4) e d f) := by
  rw [show (∑ d : Fin 2048, X (ix4 g e r d) * w (ix4 (0 : Fin 4) e d f)) = ∑ d : Fin 2048, w (ix4 (0 : Fin 4) e d f) * X (ix4 g e r d) from
    Finset.sum_congr rfl fun d _ => mul_comm _ _]
  pointwise [upB]
theorem downB_apply (w : S4x16x1536x2048.Idx → EReal) (H : S2x16x32x1536.Idx → EReal) (g : Fin 2) (e : Fin 16) (r : Fin 32) (d : Fin 2048) :
    downB w H (ix4 g e r d) = ∑ f : Fin 1536, H (ix4 g e r f) * w (ix4 (0 : Fin 4) e f d) := by
  rw [show (∑ f : Fin 1536, H (ix4 g e r f) * w (ix4 (0 : Fin 4) e f d)) = ∑ f : Fin 1536, w (ix4 (0 : Fin 4) e f d) * H (ix4 g e r f) from
    Finset.sum_congr rfl fun d _ => mul_comm _ _]
  pointwise [downB]
theorem hidB_apply (G U : S2x16x32x1536.Idx → EReal) (y : S2x16x32x1536.Idx) :
    hidB G U y = (G y * Ideal.logistic (G y)) * U y := by
  unfold Ideal.logistic
  pointwise [hidB]
theorem partB_apply (Y : S2x16x32x2048.Idx → EReal) (v : S2x16x32.Idx → EReal) (e : Fin 16) (g : Fin 2) (r : Fin 32) (k : Fin 64) (hk : k.val = g.val * 32 + r.val) (d : Fin 2048) :
    partB Y v (ix3 e k d) = Y (ix4 g e r d) * v (ix3 g e r) := by
  unfold partB
  refine (shapeCast_apply _ _ _ (ix4 e g r d) ?_).trans ((transpose_apply _ _ _ _ (ix4 g e r d) ?_).trans ?_)
  · rw [Shape.rowMajor_val_four, Shape.rowMajor_val_three]
    show ((e.val * 2 + g.val) * 32 + r.val) * 2048 + d.val = (e.val * 64 + k.val) * 2048 + d.val
    omega
  · intro b; match b with | ⟨0, _⟩ => rfl | ⟨1, _⟩ => rfl | ⟨2, _⟩ => rfl | ⟨3, _⟩ => rfl
  · pointwise

theorem rowsB_apply (x : S2x4352x2048.Idx → EReal) (I : S2x16x32.Idx → BitVec 32) (g : Fin 2) (e : Fin 16) (r : Fin 32) (d : Fin 2048)
    (hI : (I (ix3 g e r)).toNat < 256) (t : Fin 4352) (ht : t.val = 0 + (I (ix3 g e r)).toNat) :
    rowsB x I (ix4 g e r d) = x (ix3 g t d) := by
  have hsel : (select (cmpi .slt I (broadcastInDim S2x16x32 ![] bcast_S_S2x16x32 (constantI S_ 32 0#32)))
      (addi I (broadcastInDim S2x16x32 ![] bcast_S_S2x16x32 (constantI S_ 32 256#32))) I) (ix3 g e r) = I (ix3 g e r) := word_sel _ _ (by omega)
  unfold rowsB
  generalize (select (cmpi .slt I (broadcastInDim S2x16x32 ![] bcast_S_S2x16x32 (constantI S_ 32 0#32)))
      (addi I (broadcastInDim S2x16x32 ![] bcast_S_S2x16x32 (constantI S_ 32 256#32))) I) = J at hsel ⊢
  rw [← hsel] at hI ht
  have hpos := BitVec.toInt_eq_toNat_of_lt (x := J (ix3 g e r)) (by omega)
  refine (congrArg _ (show _ = ix3 g (⟨(J (ix3 g e r)).toNat, hI⟩ : Fin 256) d from ?_)).trans
    (congrArg x (show _ = ix3 g t d from ?_))
  · funext b
    refine Fin.ext ?_
    match b with
    | ⟨0, _⟩ => exact show 0 + g.val + 0 = g.val by omega
    | ⟨1, _⟩ =>
      refine Eq.trans (b := min (J (ix3 g e r)).toInt.toNat (256 - 1) + 0 + 0) (congrArg (fun z : BitVec 32 => min z.toInt.toNat (256 - 1) + 0 + 0)
        (broadcastInDim_apply _ _ _ _ (ix3 g e r) (by intro a; match a with | ⟨0, _⟩ => rfl | ⟨1, _⟩ => rfl | ⟨2, _⟩ => rfl))) ?_
      rw [hpos]
      show min (((J (ix3 g e r)).toNat : ℤ)).toNat (256 - 1) + 0 + 0 = (J (ix3 g e r)).toNat
      omega
    | ⟨2, _⟩ => exact show 0 + 0 + d.val = d.val by omega
  · funext b
    refine Fin.ext ?_
    match b with
    | ⟨0, _⟩ => exact show 0 + g.val = g.val by omega
    | ⟨1, _⟩ => exact show 0 + (J (ix3 g e r)).toNat = t.val by omega
    | ⟨2, _⟩ => exact show 0 + d.val = d.val by omega

end Cert.ReferenceIdeal.Hand

end
-- ==== Proof.Equal.lean ====
/-
  Hand-written. The launch's result is the reference's: row by row, the latent part's rows and the context part's rows, each the
  gated product of the row's sums with the expert's weights, summed back to the width and scaled by the gate.
-/
module

public import proofs.«01_k».proof.Proof.Out
public import proofs.«01_k».proof.Proof.Table
public import proofs.«01_k».proof.Proof.RefVal

@[expose] public section

set_option maxRecDepth 16384

noncomputable section

namespace Cert.Proof

open Cert.ReferenceIdeal Cert.ReferenceIdeal.Gen Cert.ReferenceIdeal.Hand
open Cert.KernelIdeal.Hand (unit idxA idxB valA valB probA probB lgt xrow wG wU wD gateOf outVal outArr)
open Idealize.ShloMosaic Idealize.ShloMosaic.TcCoe Idealize.ShloMosaic.Tactic

attribute [local instance] Cert.KernelIdeal.Gen.facts Cert.ReferenceIdeal.Gen.facts

/-- One row of the reference against one expert: the sum over the hidden units. -/
def rowVal (x : Fin 2048 → EReal) (w2 w3 : S4x16x2048x1536.Idx → EReal) (w4 : S4x16x1536x2048.Idx → EReal) (e : Fin 16) (d : Fin 2048) : EReal :=
  ∑ f : Fin 1536, unit x (fun d => w2 (ix4 (0 : Fin 4) e d f)) (fun d => w3 (ix4 (0 : Fin 4) e d f)) * w4 (ix4 (0 : Fin 4) e f d)

section Ref
variable (lg : S2x4352x16.Idx → EReal) (x : S2x4352x2048.Idx → EReal) (w2 w3 : S4x16x2048x1536.Idx → EReal) (w4 : S4x16x1536x2048.Idx → EReal)

/-- A part of the reference's rows. -/
def refA : S16x1024x2048.Idx → EReal :=
  partA (downA w4 (hidA (upA w2 (rowsA x (idxA (F := Ideal) (probA (F := Ideal) lg)))) (upA w3 (rowsA x (idxA (F := Ideal) (probA (F := Ideal) lg)))))) (valA (F := Ideal) (probA (F := Ideal) lg))

theorem refA_apply (e : Fin 16) (g : Fin 2) (r : Fin 512) (k : Fin 1024) (hk : k.val = g.val * 512 + r.val) (d : Fin 2048)
    (t : Fin 4352) (ht : t.val = 256 + (show BitVec 32 from idxA (F := Ideal) (probA (F := Ideal) lg) (ix3 g e r)).toNat) :
    refA lg x w2 w3 w4 (ix3 e k d) = rowVal (fun d => x (ix3 g t d)) w2 w3 w4 e d * (show EReal from valA (F := Ideal) (probA (F := Ideal) lg) (ix3 g e r)) := by
  have hI := Cert.KernelIdeal.Hand.idxA_lt (F := Ideal) (probA (F := Ideal) lg) (ix3 g e r)
  have hrow : ∀ d : Fin 2048, rowsA x (idxA (F := Ideal) (probA (F := Ideal) lg)) (ix4 g e r d) = x (ix3 g t d) := fun d => rowsA_apply x _ g e r d hI t ht
  unfold refA
  rw [partA_apply _ _ e g r k hk d, downA_apply]
  refine congrArg (fun y : EReal => y * _) (Finset.sum_congr rfl fun f _ => congrArg (fun y : EReal => y * _) ?_)
  rw [hidA_apply, upA_apply, upA_apply]
  simp only [hrow]
  rfl

/-- A part of the reference's rows. -/
def refB : S16x64x2048.Idx → EReal :=
  partB (downB w4 (hidB (upB w2 (rowsB x (idxB (F := Ideal) (probB (F := Ideal) lg)))) (upB w3 (rowsB x (idxB (F := Ideal) (probB (F := Ideal) lg)))))) (valB (F := Ideal) (probB (F := Ideal) lg))

theorem refB_apply (e : Fin 16) (g : Fin 2) (r : Fin 32) (k : Fin 64) (hk : k.val = g.val * 32 + r.val) (d : Fin 2048)
    (t : Fin 4352) (ht : t.val = 0 + (show BitVec 32 from idxB (F := Ideal) (probB (F := Ideal) lg) (ix3 g e r)).toNat) :
    refB lg x w2 w3 w4 (ix3 e k d) = rowVal (fun d => x (ix3 g t d)) w2 w3 w4 e d * (show EReal from valB (F := Ideal) (probB (F := Ideal) lg) (ix3 g e r)) := by
  have hI := Cert.KernelIdeal.Hand.idxB_lt (F := Ideal) (probB (F := Ideal) lg) (ix3 g e r)
  have hrow : ∀ d : Fin 2048, rowsB x (idxB (F := Ideal) (probB (F := Ideal) lg)) (ix4 g e r d) = x (ix3 g t d) := fun d => rowsB_apply x _ g e r d hI t ht
  unfold refB
  rw [partB_apply _ _ e g r k hk d, downB_apply]
  refine congrArg (fun y : EReal => y * _) (Finset.sum_congr rfl fun f _ => congrArg (fun y : EReal => y * _) ?_)
  rw [hidB_apply, upB_apply, upB_apply]
  simp only [hrow]
  rfl

end Ref

section Both
variable (m : (ℓ : Loc Cert.KernelIdeal.nD Cert.KernelIdeal.τ Cert.KernelIdeal.sig) → Buf (Elt Ideal) ℓ) (c : Dev Cert.KernelIdeal.nD)

abbrev ka0 : S2x4352x16.Idx → EReal := m ((c.tc : Thread Cert.KernelIdeal.nD Cert.KernelIdeal.τ).loc Cert.KernelIdeal.main_arg0)
abbrev ka1 : S2x4352x2048.Idx → EReal := m ((c.tc : Thread Cert.KernelIdeal.nD Cert.KernelIdeal.τ).loc Cert.KernelIdeal.main_arg1)
abbrev ka2 : S4x16x2048x1536.Idx → EReal := m ((c.tc : Thread Cert.KernelIdeal.nD Cert.KernelIdeal.τ).loc Cert.KernelIdeal.main_arg2)
abbrev ka3 : S4x16x2048x1536.Idx → EReal := m ((c.tc : Thread Cert.KernelIdeal.nD Cert.KernelIdeal.τ).loc Cert.KernelIdeal.main_arg3)
abbrev ka4 : S4x16x1536x2048.Idx → EReal := m ((c.tc : Thread Cert.KernelIdeal.nD Cert.KernelIdeal.τ).loc Cert.KernelIdeal.main_arg4)

/-- The token a row is gathered from: what its word says. -/
theorem src_val (T : Cert.KernelIdeal.S17408.Idx → BitVec 32) (hT : Cert.KernelIdeal.Hand.InRange (F := Ideal) T) (e : Fin 16) (k : Fin 1088) :
    (Cert.KernelIdeal.Hand.src (F := Ideal) T hT e k).val = (T (ix1 (⟨e.val * 1088 + k.val, by omega⟩ : Fin 17408))).toNat := rfl

/-- The launch's value at a row whose word names token `t` of member `g`. -/
theorem outVal_row (e : Fin 16) (k : Fin 1088) (d : Fin 2048) (g : Fin 2) (t : Fin 4352)
    (h : ∀ n : Cert.KernelIdeal.S17408.Idx, (n 0).val = e.val * 1088 + k.val → (show BitVec 32 from Cert.KernelIdeal.Hand.tbl (Cert.KernelIdeal.Hand.entry m) c n).toNat = g.val * 4352 + t.val) :
    outVal (Cert.KernelIdeal.Hand.entry m) c (Cert.KernelIdeal.Hand.inRange m c) e k d
      = rowVal (fun d => ka1 m c (ix3 g t d)) (ka2 m c) (ka3 m c) (ka4 m c) e d * gateOf (Cert.KernelIdeal.Hand.entry m) c e k := by
  have hx : xrow (Cert.KernelIdeal.Hand.entry m) c (Cert.KernelIdeal.Hand.inRange m c) e k = fun d => ka1 m c (ix3 g t d) := by
    funext d
    have hn : (Cert.KernelIdeal.Hand.src (Cert.KernelIdeal.Hand.tbl (Cert.KernelIdeal.Hand.entry m) c) (Cert.KernelIdeal.Hand.inRange m c) e k).val = g.val * 4352 + t.val :=
      (src_val _ _ e k).trans (h (ix1 (⟨e.val * 1088 + k.val, by omega⟩ : Fin 17408)) rfl)
    unfold xrow Cert.KernelIdeal.Hand.gath
    generalize Cert.KernelIdeal.Hand.src (Cert.KernelIdeal.Hand.tbl (Cert.KernelIdeal.Hand.entry m) c) (Cert.KernelIdeal.Hand.inRange m c) e = n at hn ⊢
    exact Cert.KernelIdeal.Hand.tok_apply (F := Ideal) m c g t (n k) hn ⟨d.val / 128, by omega⟩ ⟨d.val % 128, by omega⟩ d (show d.val = d.val / 128 * 128 + d.val % 128 by omega)
  unfold outVal
  rw [hx]
  refine congrArg (fun y : EReal => y * _) (Finset.sum_congr rfl fun f _ => ?_)
  unfold wG wU wD
  rw [Cert.KernelIdeal.Hand.entry_arg m c Cert.KernelIdeal.main_arg2 (by decide), Cert.KernelIdeal.Hand.entry_arg m c Cert.KernelIdeal.main_arg3 (by decide), Cert.KernelIdeal.Hand.entry_arg m c Cert.KernelIdeal.main_arg4 (by decide)]

/-- The reference's rows, both parts, over the launch's arguments. -/
def refAll : S16x1088x16x128.Idx → EReal :=
  shapeCast S16x1088x16x128 (concatenate S16x1088x2048 1 [⟨S16x1024x2048, refA (ka0 m c) (ka1 m c) (ka2 m c) (ka3 m c) (ka4 m c)⟩, ⟨S16x64x2048, refB (ka0 m c) (ka1 m c) (ka2 m c) (ka3 m c) (ka4 m c)⟩]
    concatenates_S16x1024x2048_S16x64x2048_S16x1088x2048_d1) shapeCasts_S16x1088x2048_S16x1088x16x128

/-- The launch's value at a latent row. -/
theorem outVal_lat (e : Fin 16) (g : Fin 2) (r : Fin 512) (k : Fin 1088) (hk : k.val = g.val * 512 + r.val) (d : Fin 2048)
    (t : Fin 4352) (ht : t.val = 256 + (show BitVec 32 from idxA (F := Ideal) (probA (F := Ideal) (lgt m c)) (ix3 g e r)).toNat) :
    outVal (Cert.KernelIdeal.Hand.entry m) c (Cert.KernelIdeal.Hand.inRange m c) e k d
      = rowVal (fun d => ka1 m c (ix3 g t d)) (ka2 m c) (ka3 m c) (ka4 m c) e d * (show EReal from valA (F := Ideal) (probA (F := Ideal) (lgt m c)) (ix3 g e r)) := by
  rw [outVal_row m c e k d g t fun n hn => (Cert.KernelIdeal.Hand.tbl_lat (F := Ideal) m c e g r n (hn.trans (congrArg (e.val * 1088 + ·) hk))).trans
    ((Nat.add_assoc _ _ _).trans (congrArg (g.val * 4352 + ·) ht.symm))]
  exact congrArg (fun y : EReal => _ * y) (Cert.KernelIdeal.Hand.gate_lat (F := Ideal) m c e g r k hk)

/-- The launch's value at a context row. -/
theorem outVal_ctx (e : Fin 16) (g : Fin 2) (r : Fin 32) (k : Fin 1088) (hk : k.val = 1024 + (g.val * 32 + r.val)) (d : Fin 2048)
    (t : Fin 4352) (ht : t.val = 0 + (show BitVec 32 from idxB (F := Ideal) (probB (F := Ideal) (lgt m c)) (ix3 g e r)).toNat) :
    outVal (Cert.KernelIdeal.Hand.entry m) c (Cert.KernelIdeal.Hand.inRange m c) e k d
      = rowVal (fun d => ka1 m c (ix3 g t d)) (ka2 m c) (ka3 m c) (ka4 m c) e d * (show EReal from valB (F := Ideal) (probB (F := Ideal) (lgt m c)) (ix3 g e r)) := by
  rw [outVal_row m c e k d g t fun n hn => (Cert.KernelIdeal.Hand.tbl_ctx (F := Ideal) m c e g r n (hn.trans (congrArg (e.val * 1088 + ·) hk))).trans
    (congrArg (g.val * 4352 + ·) (ht.trans (Nat.zero_add _)).symm)]
  exact congrArg (fun y : EReal => _ * y) (Cert.KernelIdeal.Hand.gate_ctx (F := Ideal) m c e g r k hk)

/-- The launch's result is the reference's rows. -/
theorem out_eq : outArr (Cert.KernelIdeal.Hand.entry m) (Cert.KernelIdeal.Hand.inRange m) c = refAll m c := by
  funext y
  obtain ⟨e, k, a, b, rfl⟩ : ∃ (e : Fin 16) (k : Fin 1088) (a : Fin 16) (b : Fin 128), y = ix4 e k a b := ⟨y 0, y 1, y 2, y 3, eq_ix4 y⟩
  have hk := k.isLt
  refine Eq.trans (b := outVal (Cert.KernelIdeal.Hand.entry m) c (Cert.KernelIdeal.Hand.inRange m c) e k (⟨a.val * 128 + b.val, by omega⟩ : Fin 2048)) rfl ?_
  generalize hd : (⟨a.val * 128 + b.val, by omega⟩ : Fin 2048) = d
  replace hd : a.val * 128 + b.val = d.val := congrArg Fin.val hd
  unfold refAll
  refine Eq.trans ?_ (shapeCast_apply _ _ (ix4 e k a b) (ix3 e k d) ?_).symm
  swap
  · rw [Shape.rowMajor_val_four, Shape.rowMajor_val_three]
    show (e.val * 1088 + k.val) * 2048 + d.val = ((e.val * 1088 + k.val) * 16 + a.val) * 128 + b.val
    omega
  by_cases h : k.val < 1024
  · obtain ⟨g, r, hgr⟩ : ∃ (g : Fin 2) (r : Fin 512), k.val = g.val * 512 + r.val :=
      ⟨⟨k.val / 512, by omega⟩, ⟨k.val % 512, by omega⟩, show k.val = k.val / 512 * 512 + k.val % 512 by omega⟩
    obtain ⟨t, ht⟩ : ∃ t : Fin 4352, t.val = 256 + (show BitVec 32 from idxA (F := Ideal) (probA (F := Ideal) (lgt m c)) (ix3 g e r)).toNat :=
      ⟨⟨_, lt_of_lt_of_le (Nat.add_lt_add_left (Cert.KernelIdeal.Hand.idxA_lt (F := Ideal) (probA (F := Ideal) (lgt m c)) (ix3 g e r)) 256) (by decide)⟩, rfl⟩
    refine (outVal_lat m c e g r k hgr d t ht).trans (Eq.trans ?_ (concatenate_pair_apply_left (t := S16x1088x2048) (s₁ := S16x1024x2048) (s₂ := S16x64x2048) 1 _ _ concatenates_S16x1024x2048_S16x64x2048_S16x1088x2048_d1 (ix3 e k d) rfl
      (ix3 e (⟨k.val, h⟩ : Fin 1024) d) (by intro b; match b with | ⟨0, _⟩ => rfl | ⟨1, _⟩ => rfl | ⟨2, _⟩ => rfl)).symm)
    exact (refA_apply (ka0 m c) (ka1 m c) (ka2 m c) (ka3 m c) (ka4 m c) e g r ⟨k.val, h⟩ hgr d t ht).symm
  · obtain ⟨g, r, hgr⟩ : ∃ (g : Fin 2) (r : Fin 32), k.val - 1024 = g.val * 32 + r.val :=
      ⟨⟨(k.val - 1024) / 32, by omega⟩, ⟨(k.val - 1024) % 32, by omega⟩, show k.val - 1024 = (k.val - 1024) / 32 * 32 + (k.val - 1024) % 32 by omega⟩
    obtain ⟨t, ht⟩ : ∃ t : Fin 4352, t.val = 0 + (show BitVec 32 from idxB (F := Ideal) (probB (F := Ideal) (lgt m c)) (ix3 g e r)).toNat :=
      ⟨⟨_, lt_of_lt_of_le (Nat.add_lt_add_left (Cert.KernelIdeal.Hand.idxB_lt (F := Ideal) (probB (F := Ideal) (lgt m c)) (ix3 g e r)) 0) (by decide)⟩, rfl⟩
    refine (outVal_ctx m c e g r k (by omega) d t ht).trans (Eq.trans ?_ (concatenate_pair_apply_right (t := S16x1088x2048) (s₁ := S16x1024x2048) (s₂ := S16x64x2048) 1 _ _ concatenates_S16x1024x2048_S16x64x2048_S16x1088x2048_d1 (ix3 e k d) rfl rfl
      (ix3 e (⟨k.val - 1024, by omega⟩ : Fin 64) d) (by
        intro b hb
        match b with
        | ⟨0, _⟩ => rfl
        | ⟨1, _⟩ => exact absurd rfl hb
        | ⟨2, _⟩ => rfl) (show k.val - 1024 + 1024 = k.val by omega)).symm)
    exact (refB_apply (ka0 m c) (ka1 m c) (ka2 m c) (ka3 m c) (ka4 m c) e g r ⟨k.val - 1024, by omega⟩ hgr d t ht).symm

/-- The reference's composed term, from equal arguments, is those rows. -/
theorem res_eq (m' : (ℓ : Loc nD τ sig) → Buf (Elt Ideal) ℓ)
    (h0 : m' ((c.tc : Thread nD τ).loc main_arg0) = ka0 m c) (h1 : m' ((c.tc : Thread nD τ).loc main_arg1) = ka1 m c) (h2 : m' ((c.tc : Thread nD τ).loc main_arg2) = ka2 m c)
    (h3 : m' ((c.tc : Thread nD τ).loc main_arg3) = ka3 m c) (h4 : m' ((c.tc : Thread nD τ).loc main_arg4) = ka4 m c) :
    Cert.ReferenceIdeal.Value.res_main_v81 (F := Ideal) m' c = refAll m c := by
  unfold Cert.ReferenceIdeal.Value.res_main_v81 refAll refA refB
  rw [← h0, ← h1, ← h2, ← h3, ← h4]
  rfl

end Both

end Cert.Proof

end
-- ==== Proof.Algebra.lean ====
/-
  Hand-written. From equal arguments the launch and the reference end with one result.
-/
module

public import proofs.«01_k».proof.Defs
public import proofs.«01_k».proof.Proof.Equal

@[expose] public section

set_option maxRecDepth 16384

noncomputable section

namespace Cert.Proof

open Idealize.ShloMosaic Idealize.ShloMosaic.TcCoe Idealize.SL.Sem

attribute [local instance] Cert.KernelIdeal.Gen.facts Cert.ReferenceIdeal.Gen.facts

/-- The launch's run: the result at the reference's rows, every argument as it was found. -/
theorem run_kernel (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v56) = refAll m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run (Cert.KernelIdeal.defs (F := Ideal)) _ _).mono (fun r h c => by
      obtain ⟨h0, h1, h2, h3, h4⟩ := Cert.KernelIdeal.Hand.ends_of (Cert.KernelIdeal.Hand.entry m) (Cert.KernelIdeal.Hand.tables m) (Cert.KernelIdeal.Hand.inRange m) r h.1 c
      refine ⟨?_, h0.trans (Cert.KernelIdeal.Hand.entry_arg m c Cert.KernelIdeal.main_arg0 (by decide)), h1.trans (Cert.KernelIdeal.Hand.entry_arg m c Cert.KernelIdeal.main_arg1 (by decide)),
        h2.trans (Cert.KernelIdeal.Hand.entry_arg m c Cert.KernelIdeal.main_arg2 (by decide)), h3.trans (Cert.KernelIdeal.Hand.entry_arg m c Cert.KernelIdeal.main_arg3 (by decide)),
        h4.trans (Cert.KernelIdeal.Hand.entry_arg m c Cert.KernelIdeal.main_arg4 (by decide))⟩
      exact ((h.1 c).1 4).trans ((Cert.KernelIdeal.Hand.arr_eq (Cert.KernelIdeal.Hand.entry m) (Cert.KernelIdeal.Hand.tables m) (Cert.KernelIdeal.Hand.inRange m) c).trans (out_eq m c)))
    (Cert.KernelIdeal.Hand.run_main (F := Ideal) m g (Cert.KernelIdeal.Hand.inRange m))

theorem algebraic_kernel : Cert.algebraic_KernelIdeal_ReferenceIdeal := fun m g m' g' _ hargs =>
  ⟨fun c => refAll m c, run_kernel m g,
    (θ_run (Cert.ReferenceIdeal.defs (F := Ideal)) _ _).mono (fun r h c => by
      obtain ⟨hv, h⟩ := h c
      obtain ⟨e0, e1, e2, e3, e4⟩ := hargs c
      exact ⟨hv.trans (res_eq m c m' e0 e1 e2 e3 e4), h⟩)
    (Cert.ReferenceIdeal.Value.run (F := Ideal) m' g')⟩

end Cert.Proof

end
-- ==== Proof.ProjTile.lean ====
/-
  Hand-written. The in-projection's packed output: each of its 32 stores holds the columns of one packed lane group, read back from
  the scratch the product's lane slices were stored in, so an output block is the product with its elements moved.
-/
module

public import proofs.«01_k».proof.Proof.Gen.Kernel2Ideal.Value
public import Idealize.ShloMosaic.Lib.Pointwise

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic Idealize.SL.Sem

variable {F : FTy → Type} [FloatOps F]

/-- Eight lane slices of a row block side by side along a new leading axis. -/
def scr (U : S256x1024.Idx → Elt F .f32) : S8x256x128.Idx → Elt F .f32 := fun y =>
  U (ix2 (n0 := 256) (n1 := 1024) (y 1) ⟨128 * (y 0).val + (y 2).val, by
    have h0 : (y 0).val < 8 := (y 0).isLt
    have h2 : (y 2).val < 128 := (y 2).isLt
    omega⟩)

theorem scr_eq (U : S256x1024.Idx → Elt F .f32) (y : S8x256x128.Idx) (r : Fin 256) (l : Fin 1024) (hr : (y 1).val = r.val)
    (hl : 128 * (y 0).val + (y 2).val = l.val) : scr U y = U (ix2 r l) := by
  unfold scr
  have e1 : (y 1 : Fin 256) = r := Fin.ext hr
  have e2 : (⟨128 * (y 0).val + (y 2).val, by omega⟩ : Fin 1024) = l := Fin.ext hl
  rw [← e2, ← e1]

/-- One slice's store holds it. -/
theorem scr_piece (U : S256x1024.Idx → Elt F .f32) (k o : ℕ) (hk : k < 8) (ho : o = 128 * k) (hs : Shape.Slices S256x1024 ![0, o] S256x128)
    (inb : ∀ a, (![k, 0, 0] : Fin 3 → ℕ) a + S1x256x128.size a ≤ S8x256x128.size a)
    (x : (Rect.unit (s := S8x256x128) ![k, 0, 0] S1x256x128.size inb).shape.Idx) :
    shapeCast S1x256x128 (extractStridedSlice S256x128 ![0, o] U hs) shapeCasts_S256x128_S1x256x128 x
      = scr U ((Rect.unit (s := S8x256x128) ![k, 0, 0] S1x256x128.size inb).emb x) := by
  obtain ⟨a, b, c, rfl⟩ : ∃ (a : Fin 1) (b : Fin 256) (c : Fin 128), x = ix3 a b c := ⟨x 0, x 1, x 2, eq_ix3 x⟩
  have ha : a = 0 := Subsingleton.elim _ _
  subst ha
  have hc := c.isLt
  refine Eq.trans (b := U (ix2 (n0 := 256) (n1 := 1024) b ⟨o + c.val, by omega⟩)) ?_ ?_
  · pointwise
  · refine (scr_eq U _ _ _ ?_ ?_).symm
    · exact show 0 + 1 * b.val = b.val by omega
    · exact show 128 * (k + 1 * 0) + (0 + 1 * c.val) = o + c.val by omega

/-- A strided load of the scratch. -/
def LD (v : View sig .tc .vmem S8x256x128 .f32) (HS : List (View.Piece (Elt F) S8x256x128 .f32)) (k n : ℕ)
    (inb : ∀ a, S1x16x128.size a = 0 ∨ (![k, n, 0] : Fin 3 → ℕ) a + (![1, 16, 1] : Fin 3 → ℕ) a * (S1x16x128.size a - 1) < S8x256x128.size a) :
    S1x16x128.Idx → Elt F .f32 :=
  v.readCov HS (⟨![k, n, 0], S1x16x128.size, ![1, 16, 1], inb⟩ : LoadRect S8x256x128)

theorem inbLD (k n : ℕ) (hk : k < 8) (hn : n < 16) :
    ∀ a, S1x16x128.size a = 0 ∨ (![k, n, 0] : Fin 3 → ℕ) a + (![1, 16, 1] : Fin 3 → ℕ) a * (S1x16x128.size a - 1) < S8x256x128.size a := by
  intro a
  match a with
  | ⟨0, _⟩ => exact Or.inr (show k + 1 * (1 - 1) < 8 by omega)
  | ⟨1, _⟩ => exact Or.inr (show n + 16 * (16 - 1) < 256 by omega)
  | ⟨2, _⟩ => exact Or.inr (show 0 + 1 * (128 - 1) < 128 by omega)

section Pack
variable (U : S256x1024.Idx → Elt F .f32) (v : View sig .tc .vmem S8x256x128 .f32) (HS : List (View.Piece (Elt F) S8x256x128 .f32))

theorem LD_apply (hG : ∀ p ∈ HS, ∀ x : p.1.shape.Idx, p.2 x = scr U (p.1.emb x)) (hc : ∀ y, ∃ p ∈ HS, y ∈ p.1.set) (k n : ℕ)
    (hk : k < 8) (hn : n < 16) (inb) (r : Fin 16) (l : Fin 128) :
    LD v HS k n inb (ix3 0 r l) = U (ix2 (n0 := 256) (n1 := 1024) ⟨16 * r.val + n, by omega⟩ ⟨128 * k + l.val, by omega⟩) := by
  refine (View.read_writes_apply_of_pieces v v.junk (scr U) HS hG _ (hc _)).trans ?_
  refine scr_eq U _ _ _ ?_ ?_
  · exact show n + 16 * r.val = 16 * r.val + n by omega
  · exact show 128 * (k + 1 * 0) + (0 + 1 * l.val) = 128 * k + l.val by omega

theorem slicesCol (q : ℕ) (hq : q < 4) : Shape.Slices S16x128 ![0, 32 * q] S16x32 := by
  refine ⟨rfl, fun a => ?_⟩
  match a with
  | ⟨0, _⟩ => exact show 0 + 16 ≤ 16 by omega
  | ⟨1, _⟩ => exact show 32 * q + 32 ≤ 128 by omega

/-- One load's columns of a packed lane group. -/
def col (k q n : ℕ) (hk : k < 8) (hq : q < 4) (hn : n < 16) : FVec F S16x32 .f32 :=
  extractStridedSlice S16x32 ![0, 32 * q] (shapeCast S16x128 (LD v HS k n (inbLD k n hk hn)) shapeCasts_S1x16x128_S16x128) (slicesCol q hq)

theorem col_apply (hG : ∀ p ∈ HS, ∀ x : p.1.shape.Idx, p.2 x = scr U (p.1.emb x)) (hc : ∀ y, ∃ p ∈ HS, y ∈ p.1.set) (k q n : ℕ)
    (hk : k < 8) (hq : q < 4) (hn : n < 16) (r : Fin 16) (l : Fin 32) :
    col v HS k q n hk hq hn (ix2 r l)
      = U (ix2 (n0 := 256) (n1 := 1024) ⟨16 * r.val + n, by omega⟩ ⟨128 * k + (32 * q + l.val), by omega⟩) := by
  refine Eq.trans ?_ (LD_apply U v HS hG hc k n hk hn (inbLD k n hk hn) r ⟨32 * q + l.val, by omega⟩)
  unfold col
  generalize LD v HS k n _ = X
  pointwise

/-- The columns of one packed lane group. -/
def cols (k q : ℕ) (hk : k < 8) (hq : q < 4) : FVec F S1x16x512 .f32 :=
  shapeCast S1x16x512 (concatenate S16x512 1 [
    ⟨S16x32, col v HS k q 0 hk hq (by decide)⟩,
    ⟨S16x32, col v HS k q 1 hk hq (by decide)⟩,
    ⟨S16x32, col v HS k q 2 hk hq (by decide)⟩,
    ⟨S16x32, col v HS k q 3 hk hq (by decide)⟩,
    ⟨S16x32, col v HS k q 4 hk hq (by decide)⟩,
    ⟨S16x32, col v HS k q 5 hk hq (by decide)⟩,
    ⟨S16x32, col v HS k q 6 hk hq (by decide)⟩,
    ⟨S16x32, col v HS k q 7 hk hq (by decide)⟩,
    ⟨S16x32, col v HS k q 8 hk hq (by decide)⟩,
    ⟨S16x32, col v HS k q 9 hk hq (by decide)⟩,
    ⟨S16x32, col v HS k q 10 hk hq (by decide)⟩,
    ⟨S16x32, col v HS k q 11 hk hq (by decide)⟩,
    ⟨S16x32, col v HS k q 12 hk hq (by decide)⟩,
    ⟨S16x32, col v HS k q 13 hk hq (by decide)⟩,
    ⟨S16x32, col v HS k q 14 hk hq (by decide)⟩,
    ⟨S16x32, col v HS k q 15 hk hq (by decide)⟩] concatenates_S16x32_S16x32_S16x32_S16x32_S16x32_S16x32_S16x32_S16x32_S16x32_S16x32_S16x32_S16x32_S16x32_S16x32_S16x32_S16x32_S16x512_d1) shapeCasts_S16x512_S1x16x512

theorem cols_eq (k q : ℕ) (hk : k < 8) (hq : q < 4) (r : Fin 16) (l : Fin 512) :
    cols v HS k q hk hq (ix3 0 r l) = col v HS k q (l.val / 32) hk hq (by omega) (ix2 r ⟨l.val % 32, by omega⟩) := by
  unfold cols
  refine Eq.trans (b := concatenate S16x512 1 (List.ofFn fun n : Fin 16 => (⟨S16x32, col v HS k q n.val hk hq n.isLt⟩ : (s : Shape) × (s.Idx → Elt F .f32))) concatenates_S16x32_S16x32_S16x32_S16x32_S16x32_S16x32_S16x32_S16x32_S16x32_S16x32_S16x32_S16x32_S16x32_S16x32_S16x32_S16x32_S16x512_d1 (ix2 r l)) ?_ ?_
  · refine Eq.trans (b := concatenate S16x512 1 [
      ⟨S16x32, col v HS k q 0 hk hq (by decide)⟩,
      ⟨S16x32, col v HS k q 1 hk hq (by decide)⟩,
      ⟨S16x32, col v HS k q 2 hk hq (by decide)⟩,
      ⟨S16x32, col v HS k q 3 hk hq (by decide)⟩,
      ⟨S16x32, col v HS k q 4 hk hq (by decide)⟩,
      ⟨S16x32, col v HS k q 5 hk hq (by decide)⟩,
      ⟨S16x32, col v HS k q 6 hk hq (by decide)⟩,
      ⟨S16x32, col v HS k q 7 hk hq (by decide)⟩,
      ⟨S16x32, col v HS k q 8 hk hq (by decide)⟩,
      ⟨S16x32, col v HS k q 9 hk hq (by decide)⟩,
      ⟨S16x32, col v HS k q 10 hk hq (by decide)⟩,
      ⟨S16x32, col v HS k q 11 hk hq (by decide)⟩,
      ⟨S16x32, col v HS k q 12 hk hq (by decide)⟩,
      ⟨S16x32, col v HS k q 13 hk hq (by decide)⟩,
      ⟨S16x32, col v HS k q 14 hk hq (by decide)⟩,
      ⟨S16x32, col v HS k q 15 hk hq (by decide)⟩] concatenates_S16x32_S16x32_S16x32_S16x32_S16x32_S16x32_S16x32_S16x32_S16x32_S16x32_S16x32_S16x32_S16x32_S16x32_S16x32_S16x32_S16x512_d1 (ix2 r l)) ?_ rfl
    generalize concatenate S16x512 1 _ _ = X
    pointwise
  · exact concatenate_ofFn_apply (t := S16x512) (s₁ := S16x32) 1 (fun n : Fin 16 => col v HS k q n.val hk hq n.isLt) _ rfl 32 rfl (ix2 r l)
      ⟨l.val / 32, by omega⟩ rfl (ix2 r ⟨l.val % 32, by omega⟩) rfl (fun b hb => by
        match b with
        | ⟨0, _⟩ => rfl
        | ⟨1, _⟩ => exact absurd rfl hb)

/-- A block of the packed output: row group and lane group by row and column of the product. -/
def packed : S32x16x512.Idx → Elt F .f32 := fun y =>
  U (ix2 (n0 := 256) (n1 := 1024) ⟨16 * (y 1).val + (y 2).val / 32, by
      have h1 : (y 1).val < 16 := (y 1).isLt
      have h2 : (y 2).val < 512 := (y 2).isLt
      omega⟩ ⟨32 * (y 0).val + (y 2).val % 32, by
      have h0 : (y 0).val < 32 := (y 0).isLt
      omega⟩)

theorem packed_eq (y : S32x16x512.Idx) (r : Fin 256) (l : Fin 1024) (hr : 16 * (y 1).val + (y 2).val / 32 = r.val)
    (hl : 32 * (y 0).val + (y 2).val % 32 = l.val) : packed U y = U (ix2 r l) := by
  unfold packed
  have e1 : (⟨16 * (y 1).val + (y 2).val / 32, by omega⟩ : Fin 256) = r := Fin.ext hr
  have e2 : (⟨32 * (y 0).val + (y 2).val % 32, by omega⟩ : Fin 1024) = l := Fin.ext hl
  exact congrArg₂ (fun (a : Fin 256) (b : Fin 1024) => U (ix2 a b)) e1 e2

/-- One store holds one lane group of it. -/
theorem cols_apply (hG : ∀ p ∈ HS, ∀ x : p.1.shape.Idx, p.2 x = scr U (p.1.emb x)) (hc : ∀ y, ∃ p ∈ HS, y ∈ p.1.set) (j k q : ℕ)
    (hk : k < 8) (hq : q < 4) (hj : j = 4 * k + q) (inb : ∀ a, (![j, 0, 0] : Fin 3 → ℕ) a + (![1, 16, 512] : Fin 3 → ℕ) a ≤ S32x16x512.size a)
    (x : (Rect.unit (s := S32x16x512) ![j, 0, 0] ![1, 16, 512] inb).shape.Idx) :
    cols v HS k q hk hq x = packed U ((Rect.unit (s := S32x16x512) ![j, 0, 0] ![1, 16, 512] inb).emb x) := by
  obtain ⟨a, r, l, rfl⟩ : ∃ (a : Fin 1) (b : Fin 16) (c : Fin 512), x = ix3 a b c := ⟨x 0, x 1, x 2, eq_ix3 x⟩
  have ha : a = 0 := Subsingleton.elim _ _
  subst ha
  refine (cols_eq v HS k q hk hq r l).trans ((col_apply U v HS hG hc k q _ hk hq _ r _).trans (packed_eq U _ _ _ ?_ ?_).symm)
  · exact show 16 * (0 + 1 * r.val) + (0 + 1 * l.val) / 32 = 16 * r.val + l.val / 32 by omega
  · exact show 32 * (j + 1 * 0) + (0 + 1 * l.val) % 32 = 128 * k + (32 * q + l.val % 32) by omega

end Pack

section Body
variable (c : Dev nD) (i : grid0.Coords) (arg2 : Memref sig .tc .vmem S1x256x2048 .f32) (harg2 : arg2.IsWhole) (arg3 : Memref sig .tc .vmem S1x256x2048 .f32) (harg3 : arg3.IsWhole) (arg4 : Memref sig .tc .vmem S1x2048 .f32) (harg4 : arg4.IsWhole) (arg5 : Memref sig .tc .vmem S8x2048 .f32) (harg5 : arg5.IsWhole) (arg6 : Memref sig .tc .vmem S8x2048 .f32) (harg6 : arg6.IsWhole) (arg7 : Memref sig .tc .vmem S2048x1024 .bf16) (harg7 : arg7.IsWhole) (arg8 : Memref sig .tc .vmem S2048x1024 .bf16) (harg8 : arg8.IsWhole) (arg9 : Memref sig .tc .vmem S2048x1536 .bf16) (harg9 : arg9.IsWhole) (arg10 : Memref sig .tc .vmem S2048x16 .bf16) (harg10 : arg10.IsWhole) (arg11 : Memref sig .tc .vmem S2048x16 .bf16) (harg11 : arg11.IsWhole) (arg12 : Memref sig .tc .vmem S32x16x512 .f32) (harg12 : arg12.IsWhole) (arg13 : Memref sig .tc .vmem S1x256x1024 .f32) (harg13 : arg13.IsWhole) (arg14 : Memref sig .tc .vmem S1x256x1536 .f32) (harg14 : arg14.IsWhole) (arg15 : Memref sig .tc .vmem S1x256x16 .f32) (harg15 : arg15.IsWhole) (arg16 : Memref sig .tc .vmem S1x256x16 .f32) (harg16 : arg16.IsWhole) (arg17 : Memref sig .tc .vmem S8x256x128 .f32) (harg17 : arg17.IsWhole)
  (x0 : Vec F S1x256x2048 .f32) (x1 : Vec F S1x256x2048 .f32) (x2 : Vec F S1x2048 .f32) (x3 : Vec F S8x2048 .f32) (x4 : Vec F S8x2048 .f32) (x5 : Vec F S2048x1024 .bf16) (x6 : Vec F S2048x1024 .bf16) (x7 : Vec F S2048x1536 .bf16) (x8 : Vec F S2048x16 .bf16) (x9 : Vec F S2048x16 .bf16)

/-- The row of a table of rows that a point reads. -/
def pick (w : Vec F S8x2048 .f32) : Vec F S1x2048 .f32 := View.ld w (Rect.unit (k0_off1 i) S1x2048.size (k0_off1_inb i))

/-- The normalised rows of a point. -/
def rows : FVec F S256x2048 .bf16 := k0_pay3 i x0 x1 x2 (pick i x3) (pick i x4)
/-- Their product with the first weight. -/
def prod : FVec F S256x1024 .f32 := k0_pay4 i x0 x1 x2 (pick i x3) (pick i x4) x5

theorem r1_eq : kernelRun0_A.sl.r_1 c i arg2 harg2 arg3 harg3 arg4 harg4 arg5 harg5 arg6 harg6 arg7 harg7 x0 x1 x2 x3 x4 x5 = prod i x0 x1 x2 x3 x4 x5 := by
  unfold kernelRun0_A.sl.r_1 prod pick
  simp only [View.readAt_eq_ld, harg2.read_unread, harg3.read_unread, harg4.read_unread, harg5.read_unread, harg6.read_unread, harg7.read_unread]
  exact congr (congr (congr (congr (congrArg₂ (k0_pay4 i) (View.ld_unit_zero (by funext a; match a with | ⟨0, _⟩ => rfl | ⟨1, _⟩ => rfl | ⟨2, _⟩ => rfl) _ x0) (View.ld_unit_zero (by funext a; match a with | ⟨0, _⟩ => rfl | ⟨1, _⟩ => rfl | ⟨2, _⟩ => rfl) _ x1))
    (View.ld_unit_zero (by funext a; match a with | ⟨0, _⟩ => rfl | ⟨1, _⟩ => rfl) _ x2)) rfl) rfl) (View.ld_unit_zero (by funext a; match a with | ⟨0, _⟩ => rfl | ⟨1, _⟩ => rfl) _ x5)

theorem agree (p) (hp : p ∈ kernelRun0_A.sl.HS0_8 c i arg2 harg2 arg3 harg3 arg4 harg4 arg5 harg5 arg6 harg6 arg7 harg7 x0 x1 x2 x3 x4 x5) (x : p.1.shape.Idx) :
    p.2 x = scr (prod i x0 x1 x2 x3 x4 x5) (p.1.emb x) := by
  revert x
  revert p
  rw [← r1_eq c i arg2 harg2 arg3 harg3 arg4 harg4 arg5 harg5 arg6 harg6 arg7 harg7]
  unfold kernelRun0_A.sl.HS0_8
  refine List.forall_mem_cons.2 ⟨fun x => scr_piece _ 7 896 (by decide) rfl slices_S256x1024_o0_896_S256x128 inb_S8x256x128_S1x256x128_7_0_0 x, ?_⟩
  refine List.forall_mem_cons.2 ⟨fun x => scr_piece _ 6 768 (by decide) rfl slices_S256x1024_o0_768_S256x128 inb_S8x256x128_S1x256x128_6_0_0 x, ?_⟩
  refine List.forall_mem_cons.2 ⟨fun x => scr_piece _ 5 640 (by decide) rfl slices_S256x1024_o0_640_S256x128 inb_S8x256x128_S1x256x128_5_0_0 x, ?_⟩
  refine List.forall_mem_cons.2 ⟨fun x => scr_piece _ 4 512 (by decide) rfl slices_S256x1024_o0_512_S256x128 inb_S8x256x128_S1x256x128_4_0_0 x, ?_⟩
  refine List.forall_mem_cons.2 ⟨fun x => scr_piece _ 3 384 (by decide) rfl slices_S256x1024_o0_384_S256x128 inb_S8x256x128_S1x256x128_3_0_0 x, ?_⟩
  refine List.forall_mem_cons.2 ⟨fun x => scr_piece _ 2 256 (by decide) rfl slices_S256x1024_o0_256_S256x128 inb_S8x256x128_S1x256x128_2_0_0 x, ?_⟩
  refine List.forall_mem_cons.2 ⟨fun x => scr_piece _ 1 128 (by decide) rfl slices_S256x1024_o0_128_S256x128 inb_S8x256x128_S1x256x128_1_0_0 x, ?_⟩
  refine List.forall_mem_cons.2 ⟨fun x => scr_piece _ 0 0 (by decide) rfl slices_S256x1024_o0_0_S256x128 inb_S8x256x128_S1x256x128_0_0_0 x, ?_⟩
  exact fun p hp => absurd hp List.not_mem_nil

theorem scrCover (y : S8x256x128.Idx) : ∃ p ∈ kernelRun0_A.sl.HS0_8 c i arg2 harg2 arg3 harg3 arg4 harg4 arg5 harg5 arg6 harg6 arg7 harg7 x0 x1 x2 x3 x4 x5, y ∈ p.1.set :=
  View.cover_of_tiledL (kernelRun0_A.sl.HS0_8 c i arg2 harg2 arg3 harg3 arg4 harg4 arg5 harg5 arg6 harg6 arg7 harg7 x0 x1 x2 x3 x4 x5) S1x256x128.size (by sl_kernel_rfl) y

/-- The body's stores, last first. -/
theorem pieces : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).1 = [
      ⟨Rect.unit ![31, 0, 0] ![1, 16, 512] inb_S32x16x512_S1x16x512_31_0_0, cols arg17.view (kernelRun0_A.sl.HS0_8 c i arg2 harg2 arg3 harg3 arg4 harg4 arg5 harg5 arg6 harg6 arg7 harg7 x0 x1 x2 x3 x4 x5) 7 3 (by decide) (by decide)⟩,
      ⟨Rect.unit ![30, 0, 0] ![1, 16, 512] inb_S32x16x512_S1x16x512_30_0_0, cols arg17.view (kernelRun0_A.sl.HS0_8 c i arg2 harg2 arg3 harg3 arg4 harg4 arg5 harg5 arg6 harg6 arg7 harg7 x0 x1 x2 x3 x4 x5) 7 2 (by decide) (by decide)⟩,
      ⟨Rect.unit ![29, 0, 0] ![1, 16, 512] inb_S32x16x512_S1x16x512_29_0_0, cols arg17.view (kernelRun0_A.sl.HS0_8 c i arg2 harg2 arg3 harg3 arg4 harg4 arg5 harg5 arg6 harg6 arg7 harg7 x0 x1 x2 x3 x4 x5) 7 1 (by decide) (by decide)⟩,
      ⟨Rect.unit ![28, 0, 0] ![1, 16, 512] inb_S32x16x512_S1x16x512_28_0_0, cols arg17.view (kernelRun0_A.sl.HS0_8 c i arg2 harg2 arg3 harg3 arg4 harg4 arg5 harg5 arg6 harg6 arg7 harg7 x0 x1 x2 x3 x4 x5) 7 0 (by decide) (by decide)⟩,
      ⟨Rect.unit ![27, 0, 0] ![1, 16, 512] inb_S32x16x512_S1x16x512_27_0_0, cols arg17.view (kernelRun0_A.sl.HS0_8 c i arg2 harg2 arg3 harg3 arg4 harg4 arg5 harg5 arg6 harg6 arg7 harg7 x0 x1 x2 x3 x4 x5) 6 3 (by decide) (by decide)⟩,
      ⟨Rect.unit ![26, 0, 0] ![1, 16, 512] inb_S32x16x512_S1x16x512_26_0_0, cols arg17.view (kernelRun0_A.sl.HS0_8 c i arg2 harg2 arg3 harg3 arg4 harg4 arg5 harg5 arg6 harg6 arg7 harg7 x0 x1 x2 x3 x4 x5) 6 2 (by decide) (by decide)⟩,
      ⟨Rect.unit ![25, 0, 0] ![1, 16, 512] inb_S32x16x512_S1x16x512_25_0_0, cols arg17.view (kernelRun0_A.sl.HS0_8 c i arg2 harg2 arg3 harg3 arg4 harg4 arg5 harg5 arg6 harg6 arg7 harg7 x0 x1 x2 x3 x4 x5) 6 1 (by decide) (by decide)⟩,
      ⟨Rect.unit ![24, 0, 0] ![1, 16, 512] inb_S32x16x512_S1x16x512_24_0_0, cols arg17.view (kernelRun0_A.sl.HS0_8 c i arg2 harg2 arg3 harg3 arg4 harg4 arg5 harg5 arg6 harg6 arg7 harg7 x0 x1 x2 x3 x4 x5) 6 0 (by decide) (by decide)⟩,
      ⟨Rect.unit ![23, 0, 0] ![1, 16, 512] inb_S32x16x512_S1x16x512_23_0_0, cols arg17.view (kernelRun0_A.sl.HS0_8 c i arg2 harg2 arg3 harg3 arg4 harg4 arg5 harg5 arg6 harg6 arg7 harg7 x0 x1 x2 x3 x4 x5) 5 3 (by decide) (by decide)⟩,
      ⟨Rect.unit ![22, 0, 0] ![1, 16, 512] inb_S32x16x512_S1x16x512_22_0_0, cols arg17.view (kernelRun0_A.sl.HS0_8 c i arg2 harg2 arg3 harg3 arg4 harg4 arg5 harg5 arg6 harg6 arg7 harg7 x0 x1 x2 x3 x4 x5) 5 2 (by decide) (by decide)⟩,
      ⟨Rect.unit ![21, 0, 0] ![1, 16, 512] inb_S32x16x512_S1x16x512_21_0_0, cols arg17.view (kernelRun0_A.sl.HS0_8 c i arg2 harg2 arg3 harg3 arg4 harg4 arg5 harg5 arg6 harg6 arg7 harg7 x0 x1 x2 x3 x4 x5) 5 1 (by decide) (by decide)⟩,
      ⟨Rect.unit ![20, 0, 0] ![1, 16, 512] inb_S32x16x512_S1x16x512_20_0_0, cols arg17.view (kernelRun0_A.sl.HS0_8 c i arg2 harg2 arg3 harg3 arg4 harg4 arg5 harg5 arg6 harg6 arg7 harg7 x0 x1 x2 x3 x4 x5) 5 0 (by decide) (by decide)⟩,
      ⟨Rect.unit ![19, 0, 0] ![1, 16, 512] inb_S32x16x512_S1x16x512_19_0_0, cols arg17.view (kernelRun0_A.sl.HS0_8 c i arg2 harg2 arg3 harg3 arg4 harg4 arg5 harg5 arg6 harg6 arg7 harg7 x0 x1 x2 x3 x4 x5) 4 3 (by decide) (by decide)⟩,
      ⟨Rect.unit ![18, 0, 0] ![1, 16, 512] inb_S32x16x512_S1x16x512_18_0_0, cols arg17.view (kernelRun0_A.sl.HS0_8 c i arg2 harg2 arg3 harg3 arg4 harg4 arg5 harg5 arg6 harg6 arg7 harg7 x0 x1 x2 x3 x4 x5) 4 2 (by decide) (by decide)⟩,
      ⟨Rect.unit ![17, 0, 0] ![1, 16, 512] inb_S32x16x512_S1x16x512_17_0_0, cols arg17.view (kernelRun0_A.sl.HS0_8 c i arg2 harg2 arg3 harg3 arg4 harg4 arg5 harg5 arg6 harg6 arg7 harg7 x0 x1 x2 x3 x4 x5) 4 1 (by decide) (by decide)⟩,
      ⟨Rect.unit ![16, 0, 0] ![1, 16, 512] inb_S32x16x512_S1x16x512_16_0_0, cols arg17.view (kernelRun0_A.sl.HS0_8 c i arg2 harg2 arg3 harg3 arg4 harg4 arg5 harg5 arg6 harg6 arg7 harg7 x0 x1 x2 x3 x4 x5) 4 0 (by decide) (by decide)⟩,
      ⟨Rect.unit ![15, 0, 0] ![1, 16, 512] inb_S32x16x512_S1x16x512_15_0_0, cols arg17.view (kernelRun0_A.sl.HS0_8 c i arg2 harg2 arg3 harg3 arg4 harg4 arg5 harg5 arg6 harg6 arg7 harg7 x0 x1 x2 x3 x4 x5) 3 3 (by decide) (by decide)⟩,
      ⟨Rect.unit ![14, 0, 0] ![1, 16, 512] inb_S32x16x512_S1x16x512_14_0_0, cols arg17.view (kernelRun0_A.sl.HS0_8 c i arg2 harg2 arg3 harg3 arg4 harg4 arg5 harg5 arg6 harg6 arg7 harg7 x0 x1 x2 x3 x4 x5) 3 2 (by decide) (by decide)⟩,
      ⟨Rect.unit ![13, 0, 0] ![1, 16, 512] inb_S32x16x512_S1x16x512_13_0_0, cols arg17.view (kernelRun0_A.sl.HS0_8 c i arg2 harg2 arg3 harg3 arg4 harg4 arg5 harg5 arg6 harg6 arg7 harg7 x0 x1 x2 x3 x4 x5) 3 1 (by decide) (by decide)⟩,
      ⟨Rect.unit ![12, 0, 0] ![1, 16, 512] inb_S32x16x512_S1x16x512_12_0_0, cols arg17.view (kernelRun0_A.sl.HS0_8 c i arg2 harg2 arg3 harg3 arg4 harg4 arg5 harg5 arg6 harg6 arg7 harg7 x0 x1 x2 x3 x4 x5) 3 0 (by decide) (by decide)⟩,
      ⟨Rect.unit ![11, 0, 0] ![1, 16, 512] inb_S32x16x512_S1x16x512_11_0_0, cols arg17.view (kernelRun0_A.sl.HS0_8 c i arg2 harg2 arg3 harg3 arg4 harg4 arg5 harg5 arg6 harg6 arg7 harg7 x0 x1 x2 x3 x4 x5) 2 3 (by decide) (by decide)⟩,
      ⟨Rect.unit ![10, 0, 0] ![1, 16, 512] inb_S32x16x512_S1x16x512_10_0_0, cols arg17.view (kernelRun0_A.sl.HS0_8 c i arg2 harg2 arg3 harg3 arg4 harg4 arg5 harg5 arg6 harg6 arg7 harg7 x0 x1 x2 x3 x4 x5) 2 2 (by decide) (by decide)⟩,
      ⟨Rect.unit ![9, 0, 0] ![1, 16, 512] inb_S32x16x512_S1x16x512_9_0_0, cols arg17.view (kernelRun0_A.sl.HS0_8 c i arg2 harg2 arg3 harg3 arg4 harg4 arg5 harg5 arg6 harg6 arg7 harg7 x0 x1 x2 x3 x4 x5) 2 1 (by decide) (by decide)⟩,
      ⟨Rect.unit ![8, 0, 0] ![1, 16, 512] inb_S32x16x512_S1x16x512_8_0_0, cols arg17.view (kernelRun0_A.sl.HS0_8 c i arg2 harg2 arg3 harg3 arg4 harg4 arg5 harg5 arg6 harg6 arg7 harg7 x0 x1 x2 x3 x4 x5) 2 0 (by decide) (by decide)⟩,
      ⟨Rect.unit ![7, 0, 0] ![1, 16, 512] inb_S32x16x512_S1x16x512_7_0_0, cols arg17.view (kernelRun0_A.sl.HS0_8 c i arg2 harg2 arg3 harg3 arg4 harg4 arg5 harg5 arg6 harg6 arg7 harg7 x0 x1 x2 x3 x4 x5) 1 3 (by decide) (by decide)⟩,
      ⟨Rect.unit ![6, 0, 0] ![1, 16, 512] inb_S32x16x512_S1x16x512_6_0_0, cols arg17.view (kernelRun0_A.sl.HS0_8 c i arg2 harg2 arg3 harg3 arg4 harg4 arg5 harg5 arg6 harg6 arg7 harg7 x0 x1 x2 x3 x4 x5) 1 2 (by decide) (by decide)⟩,
      ⟨Rect.unit ![5, 0, 0] ![1, 16, 512] inb_S32x16x512_S1x16x512_5_0_0, cols arg17.view (kernelRun0_A.sl.HS0_8 c i arg2 harg2 arg3 harg3 arg4 harg4 arg5 harg5 arg6 harg6 arg7 harg7 x0 x1 x2 x3 x4 x5) 1 1 (by decide) (by decide)⟩,
      ⟨Rect.unit ![4, 0, 0] ![1, 16, 512] inb_S32x16x512_S1x16x512_4_0_0, cols arg17.view (kernelRun0_A.sl.HS0_8 c i arg2 harg2 arg3 harg3 arg4 harg4 arg5 harg5 arg6 harg6 arg7 harg7 x0 x1 x2 x3 x4 x5) 1 0 (by decide) (by decide)⟩,
      ⟨Rect.unit ![3, 0, 0] ![1, 16, 512] inb_S32x16x512_S1x16x512_3_0_0, cols arg17.view (kernelRun0_A.sl.HS0_8 c i arg2 harg2 arg3 harg3 arg4 harg4 arg5 harg5 arg6 harg6 arg7 harg7 x0 x1 x2 x3 x4 x5) 0 3 (by decide) (by decide)⟩,
      ⟨Rect.unit ![2, 0, 0] ![1, 16, 512] inb_S32x16x512_S1x16x512_2_0_0, cols arg17.view (kernelRun0_A.sl.HS0_8 c i arg2 harg2 arg3 harg3 arg4 harg4 arg5 harg5 arg6 harg6 arg7 harg7 x0 x1 x2 x3 x4 x5) 0 2 (by decide) (by decide)⟩,
      ⟨Rect.unit ![1, 0, 0] ![1, 16, 512] inb_S32x16x512_S1x16x512_1_0_0, cols arg17.view (kernelRun0_A.sl.HS0_8 c i arg2 harg2 arg3 harg3 arg4 harg4 arg5 harg5 arg6 harg6 arg7 harg7 x0 x1 x2 x3 x4 x5) 0 1 (by decide) (by decide)⟩,
      ⟨Rect.unit ![0, 0, 0] ![1, 16, 512] inb_S32x16x512_S1x16x512_0_0_0, cols arg17.view (kernelRun0_A.sl.HS0_8 c i arg2 harg2 arg3 harg3 arg4 harg4 arg5 harg5 arg6 harg6 arg7 harg7 x0 x1 x2 x3 x4 x5) 0 0 (by decide) (by decide)⟩] := by
  sl_kernel_rfl

theorem agree10 : ∀ p ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).1, ∀ x : p.1.shape.Idx, p.2 x = packed (prod i x0 x1 x2 x3 x4 x5) (p.1.emb x) := by
  rw [pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9]
  have hG := agree c i arg2 harg2 arg3 harg3 arg4 harg4 arg5 harg5 arg6 harg6 arg7 harg7 x0 x1 x2 x3 x4 x5
  have hc := scrCover c i arg2 harg2 arg3 harg3 arg4 harg4 arg5 harg5 arg6 harg6 arg7 harg7 x0 x1 x2 x3 x4 x5
  generalize kernelRun0_A.sl.HS0_8 c i arg2 harg2 arg3 harg3 arg4 harg4 arg5 harg5 arg6 harg6 arg7 harg7 x0 x1 x2 x3 x4 x5 = HS at hG hc ⊢
  generalize prod i x0 x1 x2 x3 x4 x5 = U at hG ⊢
  refine List.forall_mem_cons.2 ⟨cols_apply U arg17.view HS hG hc 31 7 3 (by decide) (by decide) rfl inb_S32x16x512_S1x16x512_31_0_0, ?_⟩
  refine List.forall_mem_cons.2 ⟨cols_apply U arg17.view HS hG hc 30 7 2 (by decide) (by decide) rfl inb_S32x16x512_S1x16x512_30_0_0, ?_⟩
  refine List.forall_mem_cons.2 ⟨cols_apply U arg17.view HS hG hc 29 7 1 (by decide) (by decide) rfl inb_S32x16x512_S1x16x512_29_0_0, ?_⟩
  refine List.forall_mem_cons.2 ⟨cols_apply U arg17.view HS hG hc 28 7 0 (by decide) (by decide) rfl inb_S32x16x512_S1x16x512_28_0_0, ?_⟩
  refine List.forall_mem_cons.2 ⟨cols_apply U arg17.view HS hG hc 27 6 3 (by decide) (by decide) rfl inb_S32x16x512_S1x16x512_27_0_0, ?_⟩
  refine List.forall_mem_cons.2 ⟨cols_apply U arg17.view HS hG hc 26 6 2 (by decide) (by decide) rfl inb_S32x16x512_S1x16x512_26_0_0, ?_⟩
  refine List.forall_mem_cons.2 ⟨cols_apply U arg17.view HS hG hc 25 6 1 (by decide) (by decide) rfl inb_S32x16x512_S1x16x512_25_0_0, ?_⟩
  refine List.forall_mem_cons.2 ⟨cols_apply U arg17.view HS hG hc 24 6 0 (by decide) (by decide) rfl inb_S32x16x512_S1x16x512_24_0_0, ?_⟩
  refine List.forall_mem_cons.2 ⟨cols_apply U arg17.view HS hG hc 23 5 3 (by decide) (by decide) rfl inb_S32x16x512_S1x16x512_23_0_0, ?_⟩
  refine List.forall_mem_cons.2 ⟨cols_apply U arg17.view HS hG hc 22 5 2 (by decide) (by decide) rfl inb_S32x16x512_S1x16x512_22_0_0, ?_⟩
  refine List.forall_mem_cons.2 ⟨cols_apply U arg17.view HS hG hc 21 5 1 (by decide) (by decide) rfl inb_S32x16x512_S1x16x512_21_0_0, ?_⟩
  refine List.forall_mem_cons.2 ⟨cols_apply U arg17.view HS hG hc 20 5 0 (by decide) (by decide) rfl inb_S32x16x512_S1x16x512_20_0_0, ?_⟩
  refine List.forall_mem_cons.2 ⟨cols_apply U arg17.view HS hG hc 19 4 3 (by decide) (by decide) rfl inb_S32x16x512_S1x16x512_19_0_0, ?_⟩
  refine List.forall_mem_cons.2 ⟨cols_apply U arg17.view HS hG hc 18 4 2 (by decide) (by decide) rfl inb_S32x16x512_S1x16x512_18_0_0, ?_⟩
  refine List.forall_mem_cons.2 ⟨cols_apply U arg17.view HS hG hc 17 4 1 (by decide) (by decide) rfl inb_S32x16x512_S1x16x512_17_0_0, ?_⟩
  refine List.forall_mem_cons.2 ⟨cols_apply U arg17.view HS hG hc 16 4 0 (by decide) (by decide) rfl inb_S32x16x512_S1x16x512_16_0_0, ?_⟩
  refine List.forall_mem_cons.2 ⟨cols_apply U arg17.view HS hG hc 15 3 3 (by decide) (by decide) rfl inb_S32x16x512_S1x16x512_15_0_0, ?_⟩
  refine List.forall_mem_cons.2 ⟨cols_apply U arg17.view HS hG hc 14 3 2 (by decide) (by decide) rfl inb_S32x16x512_S1x16x512_14_0_0, ?_⟩
  refine List.forall_mem_cons.2 ⟨cols_apply U arg17.view HS hG hc 13 3 1 (by decide) (by decide) rfl inb_S32x16x512_S1x16x512_13_0_0, ?_⟩
  refine List.forall_mem_cons.2 ⟨cols_apply U arg17.view HS hG hc 12 3 0 (by decide) (by decide) rfl inb_S32x16x512_S1x16x512_12_0_0, ?_⟩
  refine List.forall_mem_cons.2 ⟨cols_apply U arg17.view HS hG hc 11 2 3 (by decide) (by decide) rfl inb_S32x16x512_S1x16x512_11_0_0, ?_⟩
  refine List.forall_mem_cons.2 ⟨cols_apply U arg17.view HS hG hc 10 2 2 (by decide) (by decide) rfl inb_S32x16x512_S1x16x512_10_0_0, ?_⟩
  refine List.forall_mem_cons.2 ⟨cols_apply U arg17.view HS hG hc 9 2 1 (by decide) (by decide) rfl inb_S32x16x512_S1x16x512_9_0_0, ?_⟩
  refine List.forall_mem_cons.2 ⟨cols_apply U arg17.view HS hG hc 8 2 0 (by decide) (by decide) rfl inb_S32x16x512_S1x16x512_8_0_0, ?_⟩
  refine List.forall_mem_cons.2 ⟨cols_apply U arg17.view HS hG hc 7 1 3 (by decide) (by decide) rfl inb_S32x16x512_S1x16x512_7_0_0, ?_⟩
  refine List.forall_mem_cons.2 ⟨cols_apply U arg17.view HS hG hc 6 1 2 (by decide) (by decide) rfl inb_S32x16x512_S1x16x512_6_0_0, ?_⟩
  refine List.forall_mem_cons.2 ⟨cols_apply U arg17.view HS hG hc 5 1 1 (by decide) (by decide) rfl inb_S32x16x512_S1x16x512_5_0_0, ?_⟩
  refine List.forall_mem_cons.2 ⟨cols_apply U arg17.view HS hG hc 4 1 0 (by decide) (by decide) rfl inb_S32x16x512_S1x16x512_4_0_0, ?_⟩
  refine List.forall_mem_cons.2 ⟨cols_apply U arg17.view HS hG hc 3 0 3 (by decide) (by decide) rfl inb_S32x16x512_S1x16x512_3_0_0, ?_⟩
  refine List.forall_mem_cons.2 ⟨cols_apply U arg17.view HS hG hc 2 0 2 (by decide) (by decide) rfl inb_S32x16x512_S1x16x512_2_0_0, ?_⟩
  refine List.forall_mem_cons.2 ⟨cols_apply U arg17.view HS hG hc 1 0 1 (by decide) (by decide) rfl inb_S32x16x512_S1x16x512_1_0_0, ?_⟩
  refine List.forall_mem_cons.2 ⟨cols_apply U arg17.view HS hG hc 0 0 0 (by decide) (by decide) rfl inb_S32x16x512_S1x16x512_0_0_0, ?_⟩
  exact fun p hp => absurd hp List.not_mem_nil

theorem out10_eq : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 = packed (prod i x0 x1 x2 x3 x4 x5) := by
  funext y
  unfold out0_A_10
  exact View.read_writes_apply_of_pieces _ _ _ _ (agree10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9) y (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 y)

end Body

end Cert.Kernel2Ideal.Hand

end
-- ==== Proof.ProjSpec.lean ====
/-
  Hand-written. The in-projection as one formula over the extended reals: each token's row over its root mean square, scaled and
  shifted, times the weight.
-/
module

public import Idealize.ShloMosaic.Lib.Pointwise
public import Idealize.ShloMosaic.Lib.ValueIdx

@[expose] public section

noncomputable section

namespace Cert.Proj

open Idealize.ShloMosaic

/-- An element of a row over its root mean square, times the gain, scaled and shifted. -/
def nrm (x g s b : Fin 2048 → EReal) (d : Fin 2048) : EReal :=
  x d * Ideal.rsqrt (Ideal.div (∑ k, x k * x k) (FloatOps.ofBits (F := Ideal) .f32 0x45000000#32) + FloatOps.ofBits (F := Ideal) .f32 0x358637BD#32) * g d * (FloatOps.ofBits (F := Ideal) .f32 0x3F800000#32 + s d) + b d

/-- A token's row: the context's tokens first, then the latents. -/
def src (C : Fin 2 → Fin 256 → Fin 2048 → EReal) (L : Fin 2 → Fin 4096 → Fin 2048 → EReal) (b : Fin 2) (R : Fin 4352) : Fin 2048 → EReal :=
  if h : R.val < 256 then C b ⟨R.val, h⟩ else L b ⟨R.val - 256, by omega⟩

/-- The row of the scales and shifts a token takes: the last of the three for the context, its member's for the latents. -/
def mrow (b : Fin 2) (R : Fin 4352) : Fin 8 := if R.val < 256 then 2 else ⟨b.val, by omega⟩

/-- A token's row, normalised. -/
def hid (C : Fin 2 → Fin 256 → Fin 2048 → EReal) (L : Fin 2 → Fin 4096 → Fin 2048 → EReal) (g : Fin 2048 → EReal) (s t : Fin 8 → Fin 2048 → EReal)
    (b : Fin 2) (R : Fin 4352) : Fin 2048 → EReal :=
  nrm (src C L b R) g (s (mrow b R)) (t (mrow b R))

/-- One element of a token's product with the weight. -/
def projAt (C : Fin 2 → Fin 256 → Fin 2048 → EReal) (L : Fin 2 → Fin 4096 → Fin 2048 → EReal) (g : Fin 2048 → EReal) (s t : Fin 8 → Fin 2048 → EReal)
    (W : Fin 2048 → Fin 3616 → EReal) (b : Fin 2) (R : Fin 4352) (n : Fin 3616) : EReal :=
  ∑ d, hid C L g s t b R d * W d n

/-- The row of the tokens that a row of the mixers' operand starts at: sixteen rows of one member's latents, and after them of its context. -/
def uTok (k : Fin 544) (q : Fin 16) : Fin 4352 :=
  if h : k.val < 512 then ⟨256 + 16 * (k.val % 256) + q.val, by omega⟩ else ⟨16 * ((k.val - 512) % 16) + q.val, by omega⟩
/-- … and its member. -/
def uMem (k : Fin 544) : Fin 2 := if h : k.val < 512 then ⟨k.val / 256, by omega⟩ else ⟨(k.val - 512) / 16, by omega⟩

end Cert.Proj

end
-- ==== Proof.ProjPay.lean ====
/-
  Hand-written. What the in-projection's vector computations give over the extended reals, element by element: a row over its root
  mean square, scaled and shifted, and its products with the weights.
-/
module

public import proofs.«01_k».proof.Proof.ProjTile
public import proofs.«01_k».proof.Proof.ProjSpec

@[expose] public section

set_option maxRecDepth 16384

noncomputable section

namespace Cert.Kernel2Ideal.Hand

open Cert.Kernel2Ideal Cert.Kernel2Ideal.Gen Cert.Proj
open Idealize.ShloMosaic Idealize.ShloMosaic.TcCoe Idealize.ShloMosaic.Tactic Idealize.SL.Sem

theorem pay3_apply (i : grid0.Coords) (v1 v3 : S1x256x2048.Idx → Elt Ideal .f32) (v18 v23 v29 : S1x2048.Idx → Elt Ideal .f32) (r : Fin 256) (d : Fin 2048) :
    k0_pay3 (F := Ideal) i v1 v3 v18 v23 v29 (ix2 r d)
      = nrm (fun d => if (i 1).val = 0 then v1 (ix3 0 r d) else v3 (ix3 0 r d)) (fun d => v18 (ix2 0 d)) (fun d => v23 (ix2 0 d)) (fun d => v29 (ix2 0 d)) d := by
  have h1 : (i 1).val < 17 := (i 1).isLt
  by_cases h : (i 1).val = 0
  · simp only [h, if_true]
    pointwise [k0_pay3, nrm, h]
  · simp only [h, if_false]
    have hb : Scalar.cmpi .eq (BitVec.ofNat 32 (i 1).val) 0#32 = 0#1 :=
      (by decide +kernel : ∀ j : Fin 17, j.val ≠ 0 → Scalar.cmpi .eq (BitVec.ofNat 32 j.val) 0#32 = 0#1) (i 1) h
    pointwise [k0_pay3, nrm, hb]

/-- The row of a table of rows that a point reads: the last for the context, the batch's own for the latents. -/
theorem off1_val (i : grid0.Coords) : k0_off1 i 0 = if (i 1).val = 0 then 2 else (i 0).val :=
  (by decide +kernel : ∀ (a : Fin 2) (b : Fin 17), BitVec.toNat (Scalar.indexCast (Scalar.select (Scalar.cmpi .eq (BitVec.ofNat 32 b.val) 0#32) 2#32 (BitVec.ofNat 32 a.val)))
    = if b.val = 0 then 2 else a.val) (i 0) (i 1)

theorem pick_apply (i : grid0.Coords) (w : S8x2048.Idx → Elt Ideal .f32) (k : Fin 8) (hk : k.val = if (i 1).val = 0 then 2 else (i 0).val) (d : Fin 2048) :
    pick (F := Ideal) i w (ix2 0 d) = w (ix2 k d) := by
  refine congrArg w (funext fun a => Fin.ext ?_)
  match a with
  | ⟨0, _⟩ => show k0_off1 i 0 + 1 * 0 = k.val; rw [off1_val, hk]; omega
  | ⟨1, _⟩ => show 0 + 1 * d.val = d.val; omega

theorem rows_apply (i : grid0.Coords) (x0 x1 : S1x256x2048.Idx → Elt Ideal .f32) (x2 : S1x2048.Idx → Elt Ideal .f32) (x3 x4 : S8x2048.Idx → Elt Ideal .f32)
    (k : Fin 8) (hk : k.val = if (i 1).val = 0 then 2 else (i 0).val) (r : Fin 256) (d : Fin 2048) :
    rows (F := Ideal) i x0 x1 x2 x3 x4 (ix2 r d)
      = nrm (fun d => if (i 1).val = 0 then x0 (ix3 0 r d) else x1 (ix3 0 r d)) (fun d => x2 (ix2 0 d)) (fun d => x3 (ix2 k d)) (fun d => x4 (ix2 k d)) d := by
  unfold rows
  rw [pay3_apply]
  simp only [pick_apply i _ k hk]

theorem prod_apply (i : grid0.Coords) (x0 x1 : S1x256x2048.Idx → Elt Ideal .f32) (x2 : S1x2048.Idx → Elt Ideal .f32) (x3 x4 : S8x2048.Idx → Elt Ideal .f32) (w : S2048x1024.Idx → Elt Ideal .bf16)
    (r : Fin 256) (n : Fin 1024) : prod (F := Ideal) i x0 x1 x2 x3 x4 w (ix2 r n) = ∑ d : Fin 2048, rows (F := Ideal) i x0 x1 x2 x3 x4 (ix2 r d) * w (ix2 d n) := by
  unfold prod k0_pay4
  rw [show k0_pay3 i x0 x1 x2 (pick i x3) (pick i x4) = rows (F := Ideal) i x0 x1 x2 x3 x4 from rfl]
  generalize rows (F := Ideal) i x0 x1 x2 x3 x4 = h
  pointwise

theorem pay232_apply (h : S256x2048.Idx → Elt Ideal .bf16) (w : S2048x1024.Idx → Elt Ideal .bf16) (r : Fin 256) (n : Fin 1024) :
    k0_pay232 (F := Ideal) h w (ix3 0 r n) = ∑ d : Fin 2048, h (ix2 r d) * w (ix2 d n) := by
  pointwise [k0_pay232]
theorem pay233_apply (h : S256x2048.Idx → Elt Ideal .bf16) (w : S2048x1536.Idx → Elt Ideal .bf16) (r : Fin 256) (n : Fin 1536) :
    k0_pay233 (F := Ideal) h w (ix3 0 r n) = ∑ d : Fin 2048, h (ix2 r d) * w (ix2 d n) := by
  pointwise [k0_pay233]
theorem pay1_apply (h : S256x2048.Idx → Elt Ideal .bf16) (w : S2048x16.Idx → Elt Ideal .bf16) (r : Fin 256) (n : Fin 16) :
    k0_pay1 (F := Ideal) h (k0_pay234 (F := Ideal) w) (ix3 0 r n) = ∑ d : Fin 2048, h (ix2 r d) * w (ix2 d n) := by
  pointwise [k0_pay1, k0_pay234]
theorem pay2_apply (h : S256x2048.Idx → Elt Ideal .bf16) (w : S2048x16.Idx → Elt Ideal .bf16) (r : Fin 256) (n : Fin 16) :
    k0_pay2 (F := Ideal) h w (ix3 0 r n) = ∑ d : Fin 2048, h (ix2 r d) * w (ix2 d n) := by
  pointwise [k0_pay2]

end Cert.Kernel2Ideal.Hand

end
-- ==== Proof.ProjOut.lean ====
/-
  Hand-written. What a point of the in-projection leaves in its four plain results: the point's rows times each weight.
-/
module

public import proofs.«01_k».proof.Proof.ProjTile

@[expose] public section

set_option maxRecDepth 100000

noncomputable section

namespace Cert.Kernel2Ideal.Hand

open Cert.Kernel2Ideal Cert.Kernel2Ideal.Gen
open Idealize.ShloMosaic Idealize.ShloMosaic.TcCoe Idealize.ShloMosaic.Tactic Idealize.SL.Sem

variable {F : FTy → Type} [FloatOps F]

theorem one_eq {s : Shape} {e : EltTy} {r : Rect s} {w w' : r.shape.Idx → Elt F e} (h : w = w') : ([⟨r, w⟩] : List (View.Piece (Elt F) s e)) = [⟨r, w'⟩] := by rw [h]

theorem one_agree {s : Shape} {e : EltTy} {L : List (View.Piece (Elt F) s e)} {r : Rect s} {w : r.shape.Idx → Elt F e} (hL : L = [⟨r, w⟩]) (G : s.Idx → Elt F e)
    (h : ∀ x, w x = G (r.emb x)) : ∀ p ∈ L, ∀ x, p.2 x = G (p.1.emb x) := by
  subst hL
  exact List.forall_mem_singleton.2 h

theorem emb_whole (n : ℕ) (h : ∀ a, (![0, 0, 0] : Fin 3 → ℕ) a + (![1, 256, n] : Fin 3 → ℕ) a ≤ (⟨3, ![1, 256, n]⟩ : Shape).size a) (z : (⟨3, ![1, 256, n]⟩ : Shape).Idx) :
    (Rect.unit (s := ⟨3, ![1, 256, n]⟩) ![0, 0, 0] ![1, 256, n] h).emb z = z := by
  funext a; apply Fin.ext
  match a with
  | ⟨0, _⟩ => show 0 + 1 * (z 0).val = (z 0).val; omega
  | ⟨1, _⟩ => show 0 + 1 * (z 1).val = (z 1).val; omega
  | ⟨2, _⟩ => show 0 + 1 * (z 2).val = (z 2).val; omega

variable (c : Dev nD) (i : grid0.Coords) (arg2 : Memref sig .tc .vmem S1x256x2048 .f32) (harg2 : arg2.IsWhole) (arg3 : Memref sig .tc .vmem S1x256x2048 .f32) (harg3 : arg3.IsWhole) (arg4 : Memref sig .tc .vmem S1x2048 .f32) (harg4 : arg4.IsWhole) (arg5 : Memref sig .tc .vmem S8x2048 .f32) (harg5 : arg5.IsWhole) (arg6 : Memref sig .tc .vmem S8x2048 .f32) (harg6 : arg6.IsWhole) (arg7 : Memref sig .tc .vmem S2048x1024 .bf16) (harg7 : arg7.IsWhole) (arg8 : Memref sig .tc .vmem S2048x1024 .bf16) (harg8 : arg8.IsWhole) (arg9 : Memref sig .tc .vmem S2048x1536 .bf16) (harg9 : arg9.IsWhole) (arg10 : Memref sig .tc .vmem S2048x16 .bf16) (harg10 : arg10.IsWhole) (arg11 : Memref sig .tc .vmem S2048x16 .bf16) (harg11 : arg11.IsWhole) (arg12 : Memref sig .tc .vmem S32x16x512 .f32) (harg12 : arg12.IsWhole) (arg13 : Memref sig .tc .vmem S1x256x1024 .f32) (harg13 : arg13.IsWhole) (arg14 : Memref sig .tc .vmem S1x256x1536 .f32) (harg14 : arg14.IsWhole) (arg15 : Memref sig .tc .vmem S1x256x16 .f32) (harg15 : arg15.IsWhole) (arg16 : Memref sig .tc .vmem S1x256x16 .f32) (harg16 : arg16.IsWhole) (arg17 : Memref sig .tc .vmem S8x256x128 .f32) (harg17 : arg17.IsWhole)
  (x0 : Vec F S1x256x2048 .f32) (x1 : Vec F S1x256x2048 .f32) (x2 : Vec F S1x2048 .f32) (x3 : Vec F S8x2048 .f32) (x4 : Vec F S8x2048 .f32) (x5 : Vec F S2048x1024 .bf16) (x6 : Vec F S2048x1024 .bf16) (x7 : Vec F S2048x1536 .bf16) (x8 : Vec F S2048x16 .bf16) (x9 : Vec F S2048x16 .bf16)

/-- The rows as a point reads them. -/
def rowsRd : FVec F S256x2048 .bf16 := k0_pay3 i (View.readAt (Elt F) arg2.view (Rect.unit ![0, 0, 0] S1x256x2048.size inb_S1x256x2048_S1x256x2048_0_0_0).toLoadRect (harg2.unread x0))
    (View.readAt (Elt F) arg3.view (Rect.unit ![0, 0, 0] S1x256x2048.size inb_S1x256x2048_S1x256x2048_0_0_0).toLoadRect (harg3.unread x1))
    (View.readAt (Elt F) arg4.view (Rect.unit ![0, 0] S1x2048.size inb_S1x2048_S1x2048_0_0).toLoadRect (harg4.unread x2))
    (View.readAt (Elt F) arg5.view (Rect.unit (s := S8x2048) (k0_off1 i) S1x2048.size (k0_off1_inb i)).toLoadRect (harg5.unread x3))
    (View.readAt (Elt F) arg6.view (Rect.unit (s := S8x2048) (k0_off1 i) S1x2048.size (k0_off1_inb i)).toLoadRect (harg6.unread x4))

theorem rowsRd_eq : rowsRd i arg2 harg2 arg3 harg3 arg4 harg4 arg5 harg5 arg6 harg6 x0 x1 x2 x3 x4 = rows i x0 x1 x2 x3 x4 := by
  unfold rowsRd rows pick
  simp only [View.readAt_eq_ld, harg2.read_unread, harg3.read_unread, harg4.read_unread, harg5.read_unread, harg6.read_unread]
  exact congr (congr (congr (congrArg₂ (k0_pay3 i) (View.ld_unit_zero (by funext a; match a with | ⟨0, _⟩ => rfl | ⟨1, _⟩ => rfl | ⟨2, _⟩ => rfl) _ x0) (View.ld_unit_zero (by funext a; match a with | ⟨0, _⟩ => rfl | ⟨1, _⟩ => rfl | ⟨2, _⟩ => rfl) _ x1))
    (View.ld_unit_zero (by funext a; match a with | ⟨0, _⟩ => rfl | ⟨1, _⟩ => rfl) _ x2)) rfl) rfl

theorem pieces11 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).2.1 = [⟨Rect.unit ![0, 0, 0] ![1, 256, 1024] inb_S1x256x1024_S1x256x1024_0_0_0,
    k0_pay232 (rowsRd i arg2 harg2 arg3 harg3 arg4 harg4 arg5 harg5 arg6 harg6 x0 x1 x2 x3 x4) (View.readAt (Elt F) arg8.view (Rect.unit ![0, 0] S2048x1024.size inb_S2048x1024_S2048x1024_0_0).toLoadRect (harg8.unread x6))⟩] := by
  sl_kernel_rfl

theorem pieces11' : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).2.1 = [⟨Rect.unit ![0, 0, 0] ![1, 256, 1024] inb_S1x256x1024_S1x256x1024_0_0_0, k0_pay232 (rows i x0 x1 x2 x3 x4) x6⟩] := by
  refine (pieces11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).trans (one_eq (F := F) (s := S1x256x1024) (e := .f32) (r := Rect.unit ![0, 0, 0] ![1, 256, 1024] inb_S1x256x1024_S1x256x1024_0_0_0) ?_)
  rw [rowsRd_eq]
  simp only [View.readAt_eq_ld, harg8.read_unread]
  exact congrArg (fun u : Vec F S2048x1024 .bf16 => k0_pay232 (rows i x0 x1 x2 x3 x4) u) (View.ld_unit_zero (by funext a; match a with | ⟨0, _⟩ => rfl | ⟨1, _⟩ => rfl) _ x6)

theorem out11_eq : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 = k0_pay232 (rows i x0 x1 x2 x3 x4) x6 := by
  funext y
  unfold out0_A_11
  exact View.read_writes_apply_of_pieces _ _ _ _ (one_agree (pieces11' c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9) _ fun z => congrArg _ (emb_whole 1024 inb_S1x256x1024_S1x256x1024_0_0_0 z).symm) y (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 y)

theorem pieces12 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).2.2.1 = [⟨Rect.unit ![0, 0, 0] ![1, 256, 1536] inb_S1x256x1536_S1x256x1536_0_0_0,
    k0_pay233 (rowsRd i arg2 harg2 arg3 harg3 arg4 harg4 arg5 harg5 arg6 harg6 x0 x1 x2 x3 x4) (View.readAt (Elt F) arg9.view (Rect.unit ![0, 0] S2048x1536.size inb_S2048x1536_S2048x1536_0_0).toLoadRect (harg9.unread x7))⟩] := by
  sl_kernel_rfl

theorem pieces12' : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).2.2.1 = [⟨Rect.unit ![0, 0, 0] ![1, 256, 1536] inb_S1x256x1536_S1x256x1536_0_0_0, k0_pay233 (rows i x0 x1 x2 x3 x4) x7⟩] := by
  refine (pieces12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).trans (one_eq (F := F) (s := S1x256x1536) (e := .f32) (r := Rect.unit ![0, 0, 0] ![1, 256, 1536] inb_S1x256x1536_S1x256x1536_0_0_0) ?_)
  rw [rowsRd_eq]
  simp only [View.readAt_eq_ld, harg9.read_unread]
  exact congrArg (fun u : Vec F S2048x1536 .bf16 => k0_pay233 (rows i x0 x1 x2 x3 x4) u) (View.ld_unit_zero (by funext a; match a with | ⟨0, _⟩ => rfl | ⟨1, _⟩ => rfl) _ x7)

theorem out12_eq : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 = k0_pay233 (rows i x0 x1 x2 x3 x4) x7 := by
  funext y
  unfold out0_A_12
  exact View.read_writes_apply_of_pieces _ _ _ _ (one_agree (pieces12' c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9) _ fun z => congrArg _ (emb_whole 1536 inb_S1x256x1536_S1x256x1536_0_0_0 z).symm) y (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 y)

theorem pieces13 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).2.2.2.1 = [⟨Rect.unit ![0, 0, 0] ![1, 256, 16] inb_S1x256x16_S1x256x16_0_0_0,
    k0_pay1 (rowsRd i arg2 harg2 arg3 harg3 arg4 harg4 arg5 harg5 arg6 harg6 x0 x1 x2 x3 x4) (k0_pay234 (View.readAt (Elt F) arg10.view (Rect.unit ![0, 0] S2048x16.size inb_S2048x16_S2048x16_0_0).toLoadRect (harg10.unread x8)))⟩] := by
  sl_kernel_rfl

theorem pieces13' : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).2.2.2.1 = [⟨Rect.unit ![0, 0, 0] ![1, 256, 16] inb_S1x256x16_S1x256x16_0_0_0, k0_pay1 (rows i x0 x1 x2 x3 x4) (k0_pay234 x8)⟩] := by
  refine (pieces13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).trans (one_eq (F := F) (s := S1x256x16) (e := .f32) (r := Rect.unit ![0, 0, 0] ![1, 256, 16] inb_S1x256x16_S1x256x16_0_0_0) ?_)
  rw [rowsRd_eq]
  simp only [View.readAt_eq_ld, harg10.read_unread]
  exact congrArg (fun u : Vec F S2048x16 .bf16 => k0_pay1 (rows i x0 x1 x2 x3 x4) (k0_pay234 u)) (View.ld_unit_zero (by funext a; match a with | ⟨0, _⟩ => rfl | ⟨1, _⟩ => rfl) _ x8)

theorem out13_eq : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 = k0_pay1 (rows i x0 x1 x2 x3 x4) (k0_pay234 x8) := by
  funext y
  unfold out0_A_13
  exact View.read_writes_apply_of_pieces _ _ _ _ (one_agree (pieces13' c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9) _ fun z => congrArg _ (emb_whole 16 inb_S1x256x16_S1x256x16_0_0_0 z).symm) y (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 y)

theorem pieces14 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).2.2.2.2.1 = [⟨Rect.unit ![0, 0, 0] ![1, 256, 16] inb_S1x256x16_S1x256x16_0_0_0,
    k0_pay2 (rowsRd i arg2 harg2 arg3 harg3 arg4 harg4 arg5 harg5 arg6 harg6 x0 x1 x2 x3 x4) (View.readAt (Elt F) arg11.view (Rect.unit ![0, 0] S2048x16.size inb_S2048x16_S2048x16_0_0).toLoadRect (harg11.unread x9))⟩] := by
  sl_kernel_rfl

theorem pieces14' : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).2.2.2.2.1 = [⟨Rect.unit ![0, 0, 0] ![1, 256, 16] inb_S1x256x16_S1x256x16_0_0_0, k0_pay2 (rows i x0 x1 x2 x3 x4) x9⟩] := by
  refine (pieces14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).trans (one_eq (F := F) (s := S1x256x16) (e := .f32) (r := Rect.unit ![0, 0, 0] ![1, 256, 16] inb_S1x256x16_S1x256x16_0_0_0) ?_)
  rw [rowsRd_eq]
  simp only [View.readAt_eq_ld, harg11.read_unread]
  exact congrArg (fun u : Vec F S2048x16 .bf16 => k0_pay2 (rows i x0 x1 x2 x3 x4) u) (View.ld_unit_zero (by funext a; match a with | ⟨0, _⟩ => rfl | ⟨1, _⟩ => rfl) _ x9)

theorem out14_eq : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 = k0_pay2 (rows i x0 x1 x2 x3 x4) x9 := by
  funext y
  unfold out0_A_14
  exact View.read_writes_apply_of_pieces _ _ _ _ (one_agree (pieces14' c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9) _ fun z => congrArg _ (emb_whole 16 inb_S1x256x16_S1x256x16_0_0_0 z).symm) y (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 y)

end Cert.Kernel2Ideal.Hand

end
-- ==== Proof.ProjVal.lean ====
/-
  Hand-written. What the in-projection's launch leaves in each of its five results, from the arguments.
-/
module

public import proofs.«01_k».proof.Proof.ProjPay
public import proofs.«01_k».proof.Proof.ProjOut
public import proofs.«01_k».proof.Proof.Gen.Kernel2Ideal.Value
public import Idealize.ShloMosaic.Lib.StableHlo.RunRead

@[expose] public section

set_option maxRecDepth 16384

noncomputable section

namespace Cert.Kernel2Ideal.Hand

open Cert.Kernel2Ideal Cert.Kernel2Ideal.Gen Cert.Proj
open Idealize.ShloMosaic Idealize.ShloMosaic.TcCoe Idealize.ShloMosaic.Tactic Idealize.SL.Sem

variable (m : (ℓ : Loc nD τ sig) → Buf (Elt Ideal) ℓ)

/-- What the host operations write, in order. -/
def hostWritten : List (Ref sig .tc) := [main_v0, main_v1, main_v2, main_v3, main_v4, main_v5, main_v6]
theorem hostWritten_eq : (hostOps0 : List (HloOp τ sig (Elt Ideal))).map HloOp.writes = hostWritten.map fun w => {Proc.devRef (τ := τ) .tc w} := rfl
theorem V_arg (c : Dev nD) (b : Ref sig .tc) (hb : b ∉ hostWritten) : V m c b = m ((c : Thread nD τ).loc b) :=
  StableHlo.after_unwritten hostWritten hostWritten_eq hb (fun b => m (c, b))

/-- The arguments, as functions of their coordinates. -/
def ctxOf (c : Dev nD) (b : Fin 2) (r : Fin 256) (d : Fin 2048) : EReal := (m ((c : Thread nD τ).loc main_arg0) : S2x256x2048.Idx → EReal) (ix3 b r d)
def latOf (c : Dev nD) (b : Fin 2) (r : Fin 4096) (d : Fin 2048) : EReal := (m ((c : Thread nD τ).loc main_arg1) : S2x4096x2048.Idx → EReal) (ix3 b r d)
def gainOf (c : Dev nD) (d : Fin 2048) : EReal := (m ((c : Thread nD τ).loc main_arg2) : S2048.Idx → EReal) (ix1 d)
def scaleOf (c : Dev nD) (k : Fin 8) (d : Fin 2048) : EReal := (m ((c : Thread nD τ).loc main_arg3) : S8x2048.Idx → EReal) (ix2 k d)
def shiftOf (c : Dev nD) (k : Fin 8) (d : Fin 2048) : EReal := (m ((c : Thread nD τ).loc main_arg4) : S8x2048.Idx → EReal) (ix2 k d)
def wOf (c : Dev nD) (d : Fin 2048) (n : Fin 3616) : EReal := (m ((c : Thread nD τ).loc main_arg5) : S2048x3616.Idx → EReal) (ix2 d n)

/-- A token's normalised row, and its products, from the arguments. -/
def hidOf (c : Dev nD) (b : Fin 2) (R : Fin 4352) : Fin 2048 → EReal := hid (ctxOf m c) (latOf m c) (gainOf m c) (scaleOf m c) (shiftOf m c) b R
def projOf (c : Dev nD) (b : Fin 2) (R : Fin 4352) (n : Fin 3616) : EReal := projAt (ctxOf m c) (latOf m c) (gainOf m c) (scaleOf m c) (shiftOf m c) (wOf m c) b R n

theorem V6_apply (c : Dev nD) (d : Fin 2048) : (V m c main_v6 : S1x2048.Idx → EReal) (ix2 0 d) = gainOf m c d := by
  have e : V m c main_v6 = shapeCast S1x2048 (m ((c : Thread nD τ).loc main_arg2) : (⟨S2048, .f32⟩ : BufTy).Contents (Elt Ideal)) shapeCasts_S2048_S1x2048 := by
    show StableHlo.after hostOps0 (fun b => m (c, b)) main_v6 = _
    after_reads_simp
    rfl
  rw [e]
  unfold gainOf
  generalize (m ((c : Thread nD τ).loc main_arg2) : S2048.Idx → EReal) = g
  pointwise

theorem V1_apply (c : Dev nD) (d : Fin 2048) (n : Fin 1024) : (V m c main_v1 : S2048x1024.Idx → EReal) (ix2 d n) = wOf m c d ⟨0 + n.val, by omega⟩ := by
  have e : V m c main_v1 = extractStridedSlice S2048x1024 ![0, 0] (truncf (F := Ideal) .bf16 (m ((c : Thread nD τ).loc main_arg5) : (⟨S2048x3616, .f32⟩ : BufTy).Contents (Elt Ideal)) bitsLt_bf16_f32) slices_S2048x3616_S2048x1024_0_0 := by
    show StableHlo.after hostOps0 (fun b => m (c, b)) main_v1 = _
    after_reads_simp
  rw [e]
  unfold wOf
  generalize (m ((c : Thread nD τ).loc main_arg5) : S2048x3616.Idx → EReal) = g
  pointwise

theorem V2_apply (c : Dev nD) (d : Fin 2048) (n : Fin 1024) : (V m c main_v2 : S2048x1024.Idx → EReal) (ix2 d n) = wOf m c d ⟨1024 + n.val, by omega⟩ := by
  have e : V m c main_v2 = extractStridedSlice S2048x1024 ![0, 1024] (truncf (F := Ideal) .bf16 (m ((c : Thread nD τ).loc main_arg5) : (⟨S2048x3616, .f32⟩ : BufTy).Contents (Elt Ideal)) bitsLt_bf16_f32) slices_S2048x3616_S2048x1024_0_1024 := by
    show StableHlo.after hostOps0 (fun b => m (c, b)) main_v2 = _
    after_reads_simp
  rw [e]
  unfold wOf
  generalize (m ((c : Thread nD τ).loc main_arg5) : S2048x3616.Idx → EReal) = g
  pointwise

theorem V3_apply (c : Dev nD) (d : Fin 2048) (n : Fin 1536) : (V m c main_v3 : S2048x1536.Idx → EReal) (ix2 d n) = wOf m c d ⟨2048 + n.val, by omega⟩ := by
  have e : V m c main_v3 = extractStridedSlice S2048x1536 ![0, 2048] (truncf (F := Ideal) .bf16 (m ((c : Thread nD τ).loc main_arg5) : (⟨S2048x3616, .f32⟩ : BufTy).Contents (Elt Ideal)) bitsLt_bf16_f32) slices_S2048x3616_S2048x1536_0_2048 := by
    show StableHlo.after hostOps0 (fun b => m (c, b)) main_v3 = _
    after_reads_simp
  rw [e]
  unfold wOf
  generalize (m ((c : Thread nD τ).loc main_arg5) : S2048x3616.Idx → EReal) = g
  pointwise

theorem V4_apply (c : Dev nD) (d : Fin 2048) (n : Fin 16) : (V m c main_v4 : S2048x16.Idx → EReal) (ix2 d n) = wOf m c d ⟨3584 + n.val, by omega⟩ := by
  have e : V m c main_v4 = extractStridedSlice S2048x16 ![0, 3584] (truncf (F := Ideal) .bf16 (m ((c : Thread nD τ).loc main_arg5) : (⟨S2048x3616, .f32⟩ : BufTy).Contents (Elt Ideal)) bitsLt_bf16_f32) slices_S2048x3616_S2048x16_0_3584 := by
    show StableHlo.after hostOps0 (fun b => m (c, b)) main_v4 = _
    after_reads_simp
  rw [e]
  unfold wOf
  generalize (m ((c : Thread nD τ).loc main_arg5) : S2048x3616.Idx → EReal) = g
  pointwise

theorem V5_apply (c : Dev nD) (d : Fin 2048) (n : Fin 16) : (V m c main_v5 : S2048x16.Idx → EReal) (ix2 d n) = wOf m c d ⟨3600 + n.val, by omega⟩ := by
  have e : V m c main_v5 = extractStridedSlice S2048x16 ![0, 3600] (truncf (F := Ideal) .bf16 (m ((c : Thread nD τ).loc main_arg5) : (⟨S2048x3616, .f32⟩ : BufTy).Contents (Elt Ideal)) bitsLt_bf16_f32) slices_S2048x3616_S2048x16_0_3600 := by
    show StableHlo.after hostOps0 (fun b => m (c, b)) main_v5 = _
    after_reads_simp
  rw [e]
  unfold wOf
  generalize (m ((c : Thread nD τ).loc main_arg5) : S2048x3616.Idx → EReal) = g
  pointwise

/-- Where the blocks of a point lie. -/
theorem coords_val : ∀ t : Fin grid0.N, (grid0.coords t 0).val = t.val / 17 ∧ (grid0.coords t 1).val = t.val % 17 :=
  (by decide +kernel : ∀ t : Fin grid0.N, _)
theorem idx0 : ∀ t : Fin grid0.N, win0_0.index t (0 : Fin 3) = t.val / 17 ∧ win0_0.index t (1 : Fin 3) = 0 ∧ win0_0.index t (2 : Fin 3) = 0 :=
  (by decide +kernel : ∀ t : Fin grid0.N, _)
theorem idx1 : ∀ t : Fin grid0.N, win0_1.index t (0 : Fin 3) = t.val / 17 ∧ win0_1.index t (1 : Fin 3) = t.val % 17 - 1 ∧ win0_1.index t (2 : Fin 3) = 0 :=
  (by decide +kernel : ∀ t : Fin grid0.N, _)
theorem idx2 : ∀ t : Fin grid0.N, win0_2.index t (0 : Fin 2) = 0 ∧ win0_2.index t (1 : Fin 2) = 0 :=
  (by decide +kernel : ∀ t : Fin grid0.N, _)
theorem idx3 : ∀ t : Fin grid0.N, win0_3.index t (0 : Fin 2) = 0 ∧ win0_3.index t (1 : Fin 2) = 0 :=
  (by decide +kernel : ∀ t : Fin grid0.N, _)
theorem idx4 : ∀ t : Fin grid0.N, win0_4.index t (0 : Fin 2) = 0 ∧ win0_4.index t (1 : Fin 2) = 0 :=
  (by decide +kernel : ∀ t : Fin grid0.N, _)
theorem idx5 : ∀ t : Fin grid0.N, win0_5.index t (0 : Fin 2) = 0 ∧ win0_5.index t (1 : Fin 2) = 0 :=
  (by decide +kernel : ∀ t : Fin grid0.N, _)
theorem idx6 : ∀ t : Fin grid0.N, win0_6.index t (0 : Fin 2) = 0 ∧ win0_6.index t (1 : Fin 2) = 0 :=
  (by decide +kernel : ∀ t : Fin grid0.N, _)
theorem idx7 : ∀ t : Fin grid0.N, win0_7.index t (0 : Fin 2) = 0 ∧ win0_7.index t (1 : Fin 2) = 0 :=
  (by decide +kernel : ∀ t : Fin grid0.N, _)
theorem idx8 : ∀ t : Fin grid0.N, win0_8.index t (0 : Fin 2) = 0 ∧ win0_8.index t (1 : Fin 2) = 0 :=
  (by decide +kernel : ∀ t : Fin grid0.N, _)
theorem idx9 : ∀ t : Fin grid0.N, win0_9.index t (0 : Fin 2) = 0 ∧ win0_9.index t (1 : Fin 2) = 0 :=
  (by decide +kernel : ∀ t : Fin grid0.N, _)
theorem idx10 : ∀ t : Fin grid0.N, win0_10.index t (0 : Fin 3) = 0 ∧ win0_10.index t (1 : Fin 3) = (if t.val % 17 = 0 then 32 + t.val / 17 else 16 * (t.val / 17) + (t.val % 17 - 1)) ∧ win0_10.index t (2 : Fin 3) = 0 :=
  (by decide +kernel : ∀ t : Fin grid0.N, _)
theorem idx11 : ∀ t : Fin grid0.N, win0_11.index t (0 : Fin 3) = t.val / 17 ∧ win0_11.index t (1 : Fin 3) = t.val % 17 ∧ win0_11.index t (2 : Fin 3) = 0 :=
  (by decide +kernel : ∀ t : Fin grid0.N, _)
theorem idx12 : ∀ t : Fin grid0.N, win0_12.index t (0 : Fin 3) = t.val / 17 ∧ win0_12.index t (1 : Fin 3) = t.val % 17 ∧ win0_12.index t (2 : Fin 3) = 0 :=
  (by decide +kernel : ∀ t : Fin grid0.N, _)
theorem idx13 : ∀ t : Fin grid0.N, win0_13.index t (0 : Fin 3) = t.val / 17 ∧ win0_13.index t (1 : Fin 3) = t.val % 17 ∧ win0_13.index t (2 : Fin 3) = 0 :=
  (by decide +kernel : ∀ t : Fin grid0.N, _)
theorem idx14 : ∀ t : Fin grid0.N, win0_14.index t (0 : Fin 3) = t.val / 17 ∧ win0_14.index t (1 : Fin 3) = t.val % 17 ∧ win0_14.index t (2 : Fin 3) = 0 :=
  (by decide +kernel : ∀ t : Fin grid0.N, _)

theorem iblk2_apply (c : Dev nD) (t : Fin grid0.N) (y : S1x2048.Idx) : (iblk m c 2 t : S1x2048.Idx → EReal) y = (V m c main_v6 : S1x2048.Idx → EReal) y := by
  show V m c main_v6 (((cfg0.win 2).blk t).view.emb y) = _
  refine congrArg (V m c main_v6) ?_
  obtain ⟨e0, e1⟩ := idx2 t
  funext a; apply Fin.ext
  match a with
  | ⟨0, _⟩ => show win0_2.index t (0 : Fin 2) * 1 + 1 * (y 0).val = (y 0).val; omega
  | ⟨1, _⟩ => show win0_2.index t (1 : Fin 2) * 2048 + 1 * (y 1).val = (y 1).val; omega

theorem iblk3_apply (c : Dev nD) (t : Fin grid0.N) (y : S8x2048.Idx) : (iblk m c 3 t : S8x2048.Idx → EReal) y = (V m c main_arg3 : S8x2048.Idx → EReal) y := by
  show V m c main_arg3 (((cfg0.win 3).blk t).view.emb y) = _
  refine congrArg (V m c main_arg3) ?_
  obtain ⟨e0, e1⟩ := idx3 t
  funext a; apply Fin.ext
  match a with
  | ⟨0, _⟩ => show win0_3.index t (0 : Fin 2) * 8 + 1 * (y 0).val = (y 0).val; omega
  | ⟨1, _⟩ => show win0_3.index t (1 : Fin 2) * 2048 + 1 * (y 1).val = (y 1).val; omega

theorem iblk4_apply (c : Dev nD) (t : Fin grid0.N) (y : S8x2048.Idx) : (iblk m c 4 t : S8x2048.Idx → EReal) y = (V m c main_arg4 : S8x2048.Idx → EReal) y := by
  show V m c main_arg4 (((cfg0.win 4).blk t).view.emb y) = _
  refine congrArg (V m c main_arg4) ?_
  obtain ⟨e0, e1⟩ := idx4 t
  funext a; apply Fin.ext
  match a with
  | ⟨0, _⟩ => show win0_4.index t (0 : Fin 2) * 8 + 1 * (y 0).val = (y 0).val; omega
  | ⟨1, _⟩ => show win0_4.index t (1 : Fin 2) * 2048 + 1 * (y 1).val = (y 1).val; omega

theorem iblk5_apply (c : Dev nD) (t : Fin grid0.N) (y : S2048x1024.Idx) : (iblk m c 5 t : S2048x1024.Idx → EReal) y = (V m c main_v1 : S2048x1024.Idx → EReal) y := by
  show V m c main_v1 (((cfg0.win 5).blk t).view.emb y) = _
  refine congrArg (V m c main_v1) ?_
  obtain ⟨e0, e1⟩ := idx5 t
  funext a; apply Fin.ext
  match a with
  | ⟨0, _⟩ => show win0_5.index t (0 : Fin 2) * 2048 + 1 * (y 0).val = (y 0).val; omega
  | ⟨1, _⟩ => show win0_5.index t (1 : Fin 2) * 1024 + 1 * (y 1).val = (y 1).val; omega

theorem iblk6_apply (c : Dev nD) (t : Fin grid0.N) (y : S2048x1024.Idx) : (iblk m c 6 t : S2048x1024.Idx → EReal) y = (V m c main_v2 : S2048x1024.Idx → EReal) y := by
  show V m c main_v2 (((cfg0.win 6).blk t).view.emb y) = _
  refine congrArg (V m c main_v2) ?_
  obtain ⟨e0, e1⟩ := idx6 t
  funext a; apply Fin.ext
  match a with
  | ⟨0, _⟩ => show win0_6.index t (0 : Fin 2) * 2048 + 1 * (y 0).val = (y 0).val; omega
  | ⟨1, _⟩ => show win0_6.index t (1 : Fin 2) * 1024 + 1 * (y 1).val = (y 1).val; omega

theorem iblk7_apply (c : Dev nD) (t : Fin grid0.N) (y : S2048x1536.Idx) : (iblk m c 7 t : S2048x1536.Idx → EReal) y = (V m c main_v3 : S2048x1536.Idx → EReal) y := by
  show V m c main_v3 (((cfg0.win 7).blk t).view.emb y) = _
  refine congrArg (V m c main_v3) ?_
  obtain ⟨e0, e1⟩ := idx7 t
  funext a; apply Fin.ext
  match a with
  | ⟨0, _⟩ => show win0_7.index t (0 : Fin 2) * 2048 + 1 * (y 0).val = (y 0).val; omega
  | ⟨1, _⟩ => show win0_7.index t (1 : Fin 2) * 1536 + 1 * (y 1).val = (y 1).val; omega

theorem iblk8_apply (c : Dev nD) (t : Fin grid0.N) (y : S2048x16.Idx) : (iblk m c 8 t : S2048x16.Idx → EReal) y = (V m c main_v4 : S2048x16.Idx → EReal) y := by
  show V m c main_v4 (((cfg0.win 8).blk t).view.emb y) = _
  refine congrArg (V m c main_v4) ?_
  obtain ⟨e0, e1⟩ := idx8 t
  funext a; apply Fin.ext
  match a with
  | ⟨0, _⟩ => show win0_8.index t (0 : Fin 2) * 2048 + 1 * (y 0).val = (y 0).val; omega
  | ⟨1, _⟩ => show win0_8.index t (1 : Fin 2) * 16 + 1 * (y 1).val = (y 1).val; omega

theorem iblk9_apply (c : Dev nD) (t : Fin grid0.N) (y : S2048x16.Idx) : (iblk m c 9 t : S2048x16.Idx → EReal) y = (V m c main_v5 : S2048x16.Idx → EReal) y := by
  show V m c main_v5 (((cfg0.win 9).blk t).view.emb y) = _
  refine congrArg (V m c main_v5) ?_
  obtain ⟨e0, e1⟩ := idx9 t
  funext a; apply Fin.ext
  match a with
  | ⟨0, _⟩ => show win0_9.index t (0 : Fin 2) * 2048 + 1 * (y 0).val = (y 0).val; omega
  | ⟨1, _⟩ => show win0_9.index t (1 : Fin 2) * 16 + 1 * (y 1).val = (y 1).val; omega

theorem iblk0_apply (c : Dev nD) (t : Fin grid0.N) (r : Fin 256) (d : Fin 2048) (b : Fin 2) (R : Fin 256) (hb : b.val = t.val / 17) (hR : R.val = r.val) :
    (iblk m c 0 t : S1x256x2048.Idx → EReal) (ix3 0 r d) = ctxOf m c b R d := by
  show V m c main_arg0 (((cfg0.win 0).blk t).view.emb (show S1x256x2048.Idx from ix3 0 r d)) = _
  rw [V_arg m c main_arg0 (by decide)]
  refine congrArg (m ((c : Thread nD τ).loc main_arg0)) ?_
  obtain ⟨e0, e1, e2⟩ := idx0 t
  funext a; apply Fin.ext
  match a with
  | ⟨0, _⟩ => show win0_0.index t (0 : Fin 3) * 1 + 1 * 0 = b.val; omega
  | ⟨1, _⟩ => show win0_0.index t (1 : Fin 3) * 256 + 1 * r.val = R.val; omega
  | ⟨2, _⟩ => show win0_0.index t (2 : Fin 3) * 2048 + 1 * d.val = d.val; omega

theorem iblk1_apply (c : Dev nD) (t : Fin grid0.N) (r : Fin 256) (d : Fin 2048) (b : Fin 2) (R : Fin 4096) (hb : b.val = t.val / 17) (hR : R.val = 256 * (t.val % 17 - 1) + r.val) :
    (iblk m c 1 t : S1x256x2048.Idx → EReal) (ix3 0 r d) = latOf m c b R d := by
  show V m c main_arg1 (((cfg0.win 1).blk t).view.emb (show S1x256x2048.Idx from ix3 0 r d)) = _
  rw [V_arg m c main_arg1 (by decide)]
  refine congrArg (m ((c : Thread nD τ).loc main_arg1)) ?_
  obtain ⟨e0, e1, e2⟩ := idx1 t
  funext a; apply Fin.ext
  match a with
  | ⟨0, _⟩ => show win0_1.index t (0 : Fin 3) * 1 + 1 * 0 = b.val; omega
  | ⟨1, _⟩ => show win0_1.index t (1 : Fin 3) * 256 + 1 * r.val = R.val; omega
  | ⟨2, _⟩ => show win0_1.index t (2 : Fin 3) * 2048 + 1 * d.val = d.val; omega

/-- The rows of a point are its tokens', normalised. -/
theorem rows_at (c : Dev nD) (t : Fin grid0.N) (r : Fin 256) (d : Fin 2048) (b : Fin 2) (R : Fin 4352) (hb : b.val = t.val / 17) (hR : R.val = 256 * (t.val % 17) + r.val) :
    rows (F := Ideal) (grid0.coords t) (iblk m c 0 t) (iblk m c 1 t) (iblk m c 2 t) (iblk m c 3 t) (iblk m c 4 t) (ix2 r d) = hidOf m c b R d := by
  obtain ⟨c0, c1⟩ := coords_val t
  have hr := r.isLt
  rw [rows_apply _ _ _ _ _ _ (mrow b R) (by
    unfold mrow
    by_cases h : t.val % 17 = 0
    · rw [if_pos (c1.trans h), if_pos (show R.val < 256 by omega)]; rfl
    · rw [if_neg (fun h' => h (c1.symm.trans h')), if_neg (show ¬ R.val < 256 by omega)]; exact hb.trans c0.symm)]
  unfold hidOf hid
  have hx : (fun d : Fin 2048 => if (grid0.coords t 1).val = 0 then (iblk m c 0 t : S1x256x2048.Idx → EReal) (ix3 0 r d) else (iblk m c 1 t : S1x256x2048.Idx → EReal) (ix3 0 r d))
      = src (ctxOf m c) (latOf m c) b R := by
    funext d
    unfold src
    by_cases h : t.val % 17 = 0
    · have hlt : R.val < 256 := by omega
      rw [if_pos (c1.trans h), dif_pos hlt]
      exact iblk0_apply m c t r d b ⟨R.val, hlt⟩ hb (show R.val = r.val by omega)
    · have hge : ¬ R.val < 256 := by omega
      rw [if_neg (fun h' => h (c1.symm.trans h')), dif_neg hge]
      exact iblk1_apply m c t r d b ⟨R.val - 256, by omega⟩ hb (show R.val - 256 = 256 * (t.val % 17 - 1) + r.val by omega)
  have hg : (fun d : Fin 2048 => (iblk m c 2 t : S1x2048.Idx → EReal) (ix2 0 d)) = gainOf m c := funext fun d => (iblk2_apply m c t _).trans (V6_apply m c d)
  have hs : (fun d : Fin 2048 => (iblk m c 3 t : S8x2048.Idx → EReal) (ix2 (mrow b R) d)) = scaleOf m c (mrow b R) := funext fun d => by
    rw [iblk3_apply, V_arg m c main_arg3 (by decide)]; rfl
  have ht : (fun d : Fin 2048 => (iblk m c 4 t : S8x2048.Idx → EReal) (ix2 (mrow b R) d)) = shiftOf m c (mrow b R) := funext fun d => by
    rw [iblk4_apply, V_arg m c main_arg4 (by decide)]; rfl
  exact congr (congr (congr (congr (congrArg nrm hx) hg) hs) ht) rfl

/-- The result of window 11. -/
theorem arr11_apply (c : Dev nD) (b : Fin 2) (R : Fin 4352) (n : Fin 1024) :
    ((dats m 0 c).arrAt 11 cfg0.N : S2x4352x1024.Idx → EReal) (ix3 b R n) = projOf m c b R ⟨1024 + n.val, by omega⟩ := by
  have hN : 17 * b.val + R.val / 256 < grid0.N := by rw [N_0]; omega
  have e := congrFun (Value.blocks11 m c ⟨_, hN⟩ (flush0_11 _)) (show S1x256x1024.Idx from ix3 0 ⟨R.val % 256, by omega⟩ n)
  rw [Value.flushed11_A, out11_eq] at e
  have e' : ((dats m 0 c).arrAt 11 cfg0.N : S2x4352x1024.Idx → EReal) (((cfg0.win 11).blk (⟨17 * b.val + R.val / 256, hN⟩ : Fin grid0.N)).view.emb (show S1x256x1024.Idx from ix3 0 ⟨R.val % 256, by omega⟩ n)) = _ := e
  rw [show ((cfg0.win 11).blk (⟨17 * b.val + R.val / 256, hN⟩ : Fin grid0.N)).view.emb (show S1x256x1024.Idx from ix3 0 ⟨R.val % 256, by omega⟩ n) = (ix3 b R n : S2x4352x1024.Idx) from by
    obtain ⟨e0, e1, e2⟩ := idx11 (⟨17 * b.val + R.val / 256, hN⟩ : Fin grid0.N)
    replace e0 : win0_11.index (⟨17 * b.val + R.val / 256, hN⟩ : Fin grid0.N) (0 : Fin 3) = (17 * b.val + R.val / 256) / 17 := e0
    replace e1 : win0_11.index (⟨17 * b.val + R.val / 256, hN⟩ : Fin grid0.N) (1 : Fin 3) = (17 * b.val + R.val / 256) % 17 := e1
    funext a; apply Fin.ext
    match a with
    | ⟨0, _⟩ => show win0_11.index _ (0 : Fin 3) * 1 + 1 * 0 = b.val; rw [e0]; omega
    | ⟨1, _⟩ => show win0_11.index _ (1 : Fin 3) * 256 + 1 * (R.val % 256) = R.val; rw [e1]; omega
    | ⟨2, _⟩ => show win0_11.index _ (2 : Fin 3) * 1024 + 1 * n.val = n.val; rw [e2]; omega] at e'
  refine e'.trans ((pay232_apply _ _ _ _).trans ?_)
  unfold projOf projAt
  refine Finset.sum_congr rfl fun d _ => congrArg₂ (fun x y : EReal => x * y) (rows_at m c _ _ d b R ?_ ?_) ((iblk6_apply m c _ _).trans (V2_apply m c d n))
  · show b.val = (17 * b.val + R.val / 256) / 17; omega
  · show R.val = 256 * ((17 * b.val + R.val / 256) % 17) + R.val % 256; omega

/-- The result of window 12. -/
theorem arr12_apply (c : Dev nD) (b : Fin 2) (R : Fin 4352) (n : Fin 1536) :
    ((dats m 0 c).arrAt 12 cfg0.N : S2x4352x1536.Idx → EReal) (ix3 b R n) = projOf m c b R ⟨2048 + n.val, by omega⟩ := by
  have hN : 17 * b.val + R.val / 256 < grid0.N := by rw [N_0]; omega
  have e := congrFun (Value.blocks12 m c ⟨_, hN⟩ (flush0_12 _)) (show S1x256x1536.Idx from ix3 0 ⟨R.val % 256, by omega⟩ n)
  rw [Value.flushed12_A, out12_eq] at e
  have e' : ((dats m 0 c).arrAt 12 cfg0.N : S2x4352x1536.Idx → EReal) (((cfg0.win 12).blk (⟨17 * b.val + R.val / 256, hN⟩ : Fin grid0.N)).view.emb (show S1x256x1536.Idx from ix3 0 ⟨R.val % 256, by omega⟩ n)) = _ := e
  rw [show ((cfg0.win 12).blk (⟨17 * b.val + R.val / 256, hN⟩ : Fin grid0.N)).view.emb (show S1x256x1536.Idx from ix3 0 ⟨R.val % 256, by omega⟩ n) = (ix3 b R n : S2x4352x1536.Idx) from by
    obtain ⟨e0, e1, e2⟩ := idx12 (⟨17 * b.val + R.val / 256, hN⟩ : Fin grid0.N)
    replace e0 : win0_12.index (⟨17 * b.val + R.val / 256, hN⟩ : Fin grid0.N) (0 : Fin 3) = (17 * b.val + R.val / 256) / 17 := e0
    replace e1 : win0_12.index (⟨17 * b.val + R.val / 256, hN⟩ : Fin grid0.N) (1 : Fin 3) = (17 * b.val + R.val / 256) % 17 := e1
    funext a; apply Fin.ext
    match a with
    | ⟨0, _⟩ => show win0_12.index _ (0 : Fin 3) * 1 + 1 * 0 = b.val; rw [e0]; omega
    | ⟨1, _⟩ => show win0_12.index _ (1 : Fin 3) * 256 + 1 * (R.val % 256) = R.val; rw [e1]; omega
    | ⟨2, _⟩ => show win0_12.index _ (2 : Fin 3) * 1536 + 1 * n.val = n.val; rw [e2]; omega] at e'
  refine e'.trans ((pay233_apply _ _ _ _).trans ?_)
  unfold projOf projAt
  refine Finset.sum_congr rfl fun d _ => congrArg₂ (fun x y : EReal => x * y) (rows_at m c _ _ d b R ?_ ?_) ((iblk7_apply m c _ _).trans (V3_apply m c d n))
  · show b.val = (17 * b.val + R.val / 256) / 17; omega
  · show R.val = 256 * ((17 * b.val + R.val / 256) % 17) + R.val % 256; omega

/-- The result of window 13. -/
theorem arr13_apply (c : Dev nD) (b : Fin 2) (R : Fin 4352) (n : Fin 16) :
    ((dats m 0 c).arrAt 13 cfg0.N : S2x4352x16.Idx → EReal) (ix3 b R n) = projOf m c b R ⟨3584 + n.val, by omega⟩ := by
  have hN : 17 * b.val + R.val / 256 < grid0.N := by rw [N_0]; omega
  have e := congrFun (Value.blocks13 m c ⟨_, hN⟩ (flush0_13 _)) (show S1x256x16.Idx from ix3 0 ⟨R.val % 256, by omega⟩ n)
  rw [Value.flushed13_A, out13_eq] at e
  have e' : ((dats m 0 c).arrAt 13 cfg0.N : S2x4352x16.Idx → EReal) (((cfg0.win 13).blk (⟨17 * b.val + R.val / 256, hN⟩ : Fin grid0.N)).view.emb (show S1x256x16.Idx from ix3 0 ⟨R.val % 256, by omega⟩ n)) = _ := e
  rw [show ((cfg0.win 13).blk (⟨17 * b.val + R.val / 256, hN⟩ : Fin grid0.N)).view.emb (show S1x256x16.Idx from ix3 0 ⟨R.val % 256, by omega⟩ n) = (ix3 b R n : S2x4352x16.Idx) from by
    obtain ⟨e0, e1, e2⟩ := idx13 (⟨17 * b.val + R.val / 256, hN⟩ : Fin grid0.N)
    replace e0 : win0_13.index (⟨17 * b.val + R.val / 256, hN⟩ : Fin grid0.N) (0 : Fin 3) = (17 * b.val + R.val / 256) / 17 := e0
    replace e1 : win0_13.index (⟨17 * b.val + R.val / 256, hN⟩ : Fin grid0.N) (1 : Fin 3) = (17 * b.val + R.val / 256) % 17 := e1
    funext a; apply Fin.ext
    match a with
    | ⟨0, _⟩ => show win0_13.index _ (0 : Fin 3) * 1 + 1 * 0 = b.val; rw [e0]; omega
    | ⟨1, _⟩ => show win0_13.index _ (1 : Fin 3) * 256 + 1 * (R.val % 256) = R.val; rw [e1]; omega
    | ⟨2, _⟩ => show win0_13.index _ (2 : Fin 3) * 16 + 1 * n.val = n.val; rw [e2]; omega] at e'
  refine e'.trans ((pay1_apply _ _ _ _).trans ?_)
  unfold projOf projAt
  refine Finset.sum_congr rfl fun d _ => congrArg₂ (fun x y : EReal => x * y) (rows_at m c _ _ d b R ?_ ?_) ((iblk8_apply m c _ _).trans (V4_apply m c d n))
  · show b.val = (17 * b.val + R.val / 256) / 17; omega
  · show R.val = 256 * ((17 * b.val + R.val / 256) % 17) + R.val % 256; omega

/-- The result of window 14. -/
theorem arr14_apply (c : Dev nD) (b : Fin 2) (R : Fin 4352) (n : Fin 16) :
    ((dats m 0 c).arrAt 14 cfg0.N : S2x4352x16.Idx → EReal) (ix3 b R n) = projOf m c b R ⟨3600 + n.val, by omega⟩ := by
  have hN : 17 * b.val + R.val / 256 < grid0.N := by rw [N_0]; omega
  have e := congrFun (Value.blocks14 m c ⟨_, hN⟩ (flush0_14 _)) (show S1x256x16.Idx from ix3 0 ⟨R.val % 256, by omega⟩ n)
  rw [Value.flushed14_A, out14_eq] at e
  have e' : ((dats m 0 c).arrAt 14 cfg0.N : S2x4352x16.Idx → EReal) (((cfg0.win 14).blk (⟨17 * b.val + R.val / 256, hN⟩ : Fin grid0.N)).view.emb (show S1x256x16.Idx from ix3 0 ⟨R.val % 256, by omega⟩ n)) = _ := e
  rw [show ((cfg0.win 14).blk (⟨17 * b.val + R.val / 256, hN⟩ : Fin grid0.N)).view.emb (show S1x256x16.Idx from ix3 0 ⟨R.val % 256, by omega⟩ n) = (ix3 b R n : S2x4352x16.Idx) from by
    obtain ⟨e0, e1, e2⟩ := idx14 (⟨17 * b.val + R.val / 256, hN⟩ : Fin grid0.N)
    replace e0 : win0_14.index (⟨17 * b.val + R.val / 256, hN⟩ : Fin grid0.N) (0 : Fin 3) = (17 * b.val + R.val / 256) / 17 := e0
    replace e1 : win0_14.index (⟨17 * b.val + R.val / 256, hN⟩ : Fin grid0.N) (1 : Fin 3) = (17 * b.val + R.val / 256) % 17 := e1
    funext a; apply Fin.ext
    match a with
    | ⟨0, _⟩ => show win0_14.index _ (0 : Fin 3) * 1 + 1 * 0 = b.val; rw [e0]; omega
    | ⟨1, _⟩ => show win0_14.index _ (1 : Fin 3) * 256 + 1 * (R.val % 256) = R.val; rw [e1]; omega
    | ⟨2, _⟩ => show win0_14.index _ (2 : Fin 3) * 16 + 1 * n.val = n.val; rw [e2]; omega] at e'
  refine e'.trans ((pay2_apply _ _ _ _).trans ?_)
  unfold projOf projAt
  refine Finset.sum_congr rfl fun d _ => congrArg₂ (fun x y : EReal => x * y) (rows_at m c _ _ d b R ?_ ?_) ((iblk9_apply m c _ _).trans (V5_apply m c d n))
  · show b.val = (17 * b.val + R.val / 256) / 17; omega
  · show R.val = 256 * ((17 * b.val + R.val / 256) % 17) + R.val % 256; omega

/-- The mixers' operand. -/
theorem arr10_apply (c : Dev nD) (j : Fin 32) (k : Fin 544) (l : Fin 512) :
    ((dats m 0 c).arrAt 10 cfg0.N : S32x544x512.Idx → EReal) (ix3 j k l)
      = projOf m c (uMem k) (uTok k ⟨l.val / 32, by omega⟩) ⟨32 * j.val + l.val % 32, by omega⟩ := by
  obtain ⟨T, hT⟩ : ∃ T : ℕ, T = if k.val < 512 then 17 * (k.val / 256) + k.val % 256 / 16 + 1 else 17 * ((k.val - 512) / 16) := ⟨_, rfl⟩
  have hN : T < grid0.N := by rw [N_0, hT]; split <;> omega
  have e := congrFun (Value.blocks10 m c ⟨T, hN⟩ (flush0_10 _)) (show S32x16x512.Idx from ix3 j ⟨k.val % 16, by omega⟩ l)
  rw [Value.flushed10_A, out10_eq] at e
  have e' : ((dats m 0 c).arrAt 10 cfg0.N : S32x544x512.Idx → EReal) (((cfg0.win 10).blk (⟨T, hN⟩ : Fin grid0.N)).view.emb (show S32x16x512.Idx from ix3 j ⟨k.val % 16, by omega⟩ l)) = _ := e
  rw [show ((cfg0.win 10).blk (⟨T, hN⟩ : Fin grid0.N)).view.emb (show S32x16x512.Idx from ix3 j ⟨k.val % 16, by omega⟩ l) = (ix3 j k l : S32x544x512.Idx) from by
    obtain ⟨e0, e1, e2⟩ := idx10 (⟨T, hN⟩ : Fin grid0.N)
    replace e1 : win0_10.index (⟨T, hN⟩ : Fin grid0.N) (1 : Fin 3) = if T % 17 = 0 then 32 + T / 17 else 16 * (T / 17) + (T % 17 - 1) := e1
    funext a; apply Fin.ext
    match a with
    | ⟨0, _⟩ => show win0_10.index _ (0 : Fin 3) * 32 + 1 * j.val = j.val; rw [e0]; omega
    | ⟨1, _⟩ =>
      show win0_10.index _ (1 : Fin 3) * 16 + 1 * (k.val % 16) = k.val; rw [e1]
      by_cases h : k.val < 512
      · rw [if_pos h] at hT; rw [if_neg (by omega)]; omega
      · rw [if_neg h] at hT; rw [if_pos (by omega)]; omega
    | ⟨2, _⟩ => show win0_10.index _ (2 : Fin 3) * 512 + 1 * l.val = l.val; rw [e2]; omega] at e'
  refine e'.trans ((prod_apply _ _ _ _ _ _ _ (⟨16 * (k.val % 16) + l.val / 32, by omega⟩ : Fin 256) (⟨32 * j.val + l.val % 32, by omega⟩ : Fin 1024)).trans ?_)
  unfold projOf projAt
  refine Finset.sum_congr rfl fun d _ => congrArg₂ (fun x y : EReal => x * y) (rows_at m c _ _ d _ _ ?_ ?_)
    ((iblk5_apply m c _ _).trans ((V1_apply m c d _).trans (congrArg (wOf m c d) (Fin.ext (show 0 + (32 * j.val + l.val % 32) = 32 * j.val + l.val % 32 by omega)))))
  · show (uMem k).val = T / 17
    unfold uMem
    by_cases h : k.val < 512
    · rw [if_pos h] at hT; rw [dif_pos h]; show k.val / 256 = _; omega
    · rw [if_neg h] at hT; rw [dif_neg h]; show (k.val - 512) / 16 = _; omega
  · show (uTok k _).val = 256 * (T % 17) + (16 * (k.val % 16) + l.val / 32)
    unfold uTok
    by_cases h : k.val < 512
    · rw [if_pos h] at hT; rw [dif_pos h]; show 256 + 16 * (k.val % 256) + l.val / 32 = _; omega
    · rw [if_neg h] at hT; rw [dif_neg h]; show 16 * ((k.val - 512) % 16) + l.val / 32 = _; omega

end Cert.Kernel2Ideal.Hand

end
-- ==== Proof.ProjRef.lean ====
/-
  Hand-written. What the in-projection's reference gives over the extended reals, element by element.
-/
module

public import proofs.«01_k».proof.Proof.Gen.Reference2Ideal.Run
public import proofs.«01_k».proof.Proof.ProjSpec
public import Idealize.ShloMosaic.Lib.Pointwise
public import Idealize.ShloMosaic.Lib.ValueIdx

@[expose] public section

set_option maxRecDepth 16384

noncomputable section

namespace Cert.Reference2Ideal.Hand

open Cert.Reference2Ideal Cert.Reference2Ideal.Gen Cert.Proj
open Idealize.ShloMosaic Idealize.ShloMosaic.TcCoe Idealize.ShloMosaic.Tactic

/-- The context's rows, normalised. -/
def normC (C : S2x256x2048.Idx → EReal) (g : S2048.Idx → EReal) (s t : S8x2048.Idx → EReal) : S2x256x2048.Idx → EReal :=
  (addf (F := Ideal) (φ := .f32) (mulf (F := Ideal) (φ := .f32) (mulf (F := Ideal) (φ := .f32) (mulf (F := Ideal) (φ := .f32) C (broadcastInDim S2x256x2048 ![0, 1, 2] bcast_S2x256x1_S2x256x2048_0_1_2 (Host.rsqrt (F := Ideal) (φ := .f32) (addf (F := Ideal) (φ := .f32) (Host.divf (F := Ideal) (φ := .f32) (broadcastInDim S2x256x1 ![0, 1] bcast_S2x256_S2x256x1_0_1 (Host.reduceAdd (F := Ideal) (φ := .f32) (mulf (F := Ideal) (φ := .f32) C C) (constant (F := Ideal) S_ .f32 0x00000000#32) reducesTo_S2x256x2048_S2x256_d2 h_S_)) (broadcastInDim S2x256x1 ![] bcast_S_S2x256x1 (constant (F := Ideal) S_ .f32 0x45000000#32))) (broadcastInDim S2x256x1 ![] bcast_S_S2x256x1 (constant (F := Ideal) S_ .f32 0x358637BD#32)))))) (broadcastInDim S2x256x2048 ![0, 1, 2] bcast_S1x1x2048_S2x256x2048_0_1_2 (broadcastInDim S1x1x2048 ![2] bcast_S2048_S1x1x2048_2 g))) (broadcastInDim S2x256x2048 ![0, 1, 2] bcast_S1x1x2048_S2x256x2048_0_1_2 (broadcastInDim S1x1x2048 ![2] bcast_S2048_S1x1x2048_2 (addf (F := Ideal) (φ := .f32) (broadcastInDim S2048 ![] bcast_S_S2048 (constant (F := Ideal) S_ .f32 0x3F800000#32)) (shapeCast S2048 (extractStridedSlice S1x2048 ![2, 0] s slices_S8x2048_S1x2048_2_0) shapeCasts_S1x2048_S2048))))) (broadcastInDim S2x256x2048 ![0, 1, 2] bcast_S1x1x2048_S2x256x2048_0_1_2 (broadcastInDim S1x1x2048 ![2] bcast_S2048_S1x1x2048_2 (shapeCast S2048 (extractStridedSlice S1x2048 ![2, 0] t slices_S8x2048_S1x2048_2_0) shapeCasts_S1x2048_S2048))))
/-- The latents' rows, normalised. -/
def normL (L : S2x4096x2048.Idx → EReal) (g : S2048.Idx → EReal) (s t : S8x2048.Idx → EReal) : S2x4096x2048.Idx → EReal :=
  (addf (F := Ideal) (φ := .f32) (mulf (F := Ideal) (φ := .f32) (mulf (F := Ideal) (φ := .f32) (mulf (F := Ideal) (φ := .f32) L (broadcastInDim S2x4096x2048 ![0, 1, 2] bcast_S2x4096x1_S2x4096x2048_0_1_2 (Host.rsqrt (F := Ideal) (φ := .f32) (addf (F := Ideal) (φ := .f32) (Host.divf (F := Ideal) (φ := .f32) (broadcastInDim S2x4096x1 ![0, 1] bcast_S2x4096_S2x4096x1_0_1 (Host.reduceAdd (F := Ideal) (φ := .f32) (mulf (F := Ideal) (φ := .f32) L L) (constant (F := Ideal) S_ .f32 0x00000000#32) reducesTo_S2x4096x2048_S2x4096_d2 h_S_)) (broadcastInDim S2x4096x1 ![] bcast_S_S2x4096x1 (constant (F := Ideal) S_ .f32 0x45000000#32))) (broadcastInDim S2x4096x1 ![] bcast_S_S2x4096x1 (constant (F := Ideal) S_ .f32 0x358637BD#32)))))) (broadcastInDim S2x4096x2048 ![0, 1, 2] bcast_S1x1x2048_S2x4096x2048_0_1_2 (broadcastInDim S1x1x2048 ![2] bcast_S2048_S1x1x2048_2 g))) (broadcastInDim S2x4096x2048 ![0, 1, 2] bcast_S2x1x2048_S2x4096x2048_0_1_2 (addf (F := Ideal) (φ := .f32) (broadcastInDim S2x1x2048 ![] bcast_S_S2x1x2048 (constant (F := Ideal) S_ .f32 0x3F800000#32)) (broadcastInDim S2x1x2048 ![0, 2] bcast_S2x2048_S2x1x2048_0_2 (extractStridedSlice S2x2048 ![0, 0] s slices_S8x2048_S2x2048_0_0))))) (broadcastInDim S2x4096x2048 ![0, 1, 2] bcast_S2x1x2048_S2x4096x2048_0_1_2 (broadcastInDim S2x1x2048 ![0, 2] bcast_S2x2048_S2x1x2048_0_2 (extractStridedSlice S2x2048 ![0, 0] t slices_S8x2048_S2x2048_0_0))))
/-- The two in one array. -/
def both (A : S2x256x2048.Idx → EReal) (B : S2x4096x2048.Idx → EReal) : S2x4352x2048.Idx → EReal :=
  concatenate S2x4352x2048 1 [⟨S2x256x2048, A⟩, ⟨S2x4096x2048, B⟩] concatenates_S2x256x2048_S2x4096x2048_S2x4352x2048_d1
/-- The product with the weight. -/
def times (H : S2x4352x2048.Idx → EReal) (W : S2048x3616.Idx → EReal) : S2x4352x3616.Idx → EReal :=
  Host.dotGeneral (F := Ideal) (φ₁ := .f32) (φ₂ := .f32) dot_S2x4352x2048_S2048x3616_S2x4352x3616_2_0_01_1_n_n none H W
/-- The mixers' operand: the latents' part, and the context's. -/
def packL (P : S2x4352x3616.Idx → EReal) : S32x512x512.Idx → EReal :=
  (shapeCast S32x512x512 (transpose S32x512x16x32 [2, 0, 1, 3] (shapeCast S512x16x32x32 (extractStridedSlice S2x4096x1024 ![0, 256, 0] (extractStridedSlice S2x4352x1024 ![0, 0, 0] P slices_S2x4352x3616_S2x4352x1024_0_0_0) slices_S2x4352x1024_S2x4096x1024_0_256_0) shapeCasts_S2x4096x1024_S512x16x32x32) transposes_S512x16x32x32_S32x512x16x32_2_0_1_3) shapeCasts_S32x512x16x32_S32x512x512)
def packC (P : S2x4352x3616.Idx → EReal) : S32x32x512.Idx → EReal :=
  (shapeCast S32x32x512 (transpose S32x32x16x32 [2, 0, 1, 3] (shapeCast S32x16x32x32 (extractStridedSlice S2x256x1024 ![0, 0, 0] (extractStridedSlice S2x4352x1024 ![0, 0, 0] P slices_S2x4352x3616_S2x4352x1024_0_0_0) slices_S2x4352x1024_S2x256x1024_0_0_0) shapeCasts_S2x256x1024_S32x16x32x32) transposes_S32x16x32x32_S32x32x16x32_2_0_1_3) shapeCasts_S32x32x16x32_S32x32x512)

theorem ix3_congr {P : S2x4352x3616.Idx → EReal} {a a' : Fin 2} {b b' c c' : ℕ} {hb : b < 4352} {hc : c < 3616} (ha : a = a') (eb : b = b') (ec : c = c') :
    P (ix3 a ⟨b, hb⟩ ⟨c, hc⟩) = P (ix3 a' ⟨b', eb ▸ hb⟩ ⟨c', ec ▸ hc⟩) := by
  subst ha; subst eb; subst ec; rfl

/-- All the products, from the arguments. -/
def allP (C : S2x256x2048.Idx → EReal) (L : S2x4096x2048.Idx → EReal) (g : S2048.Idx → EReal) (s t : S8x2048.Idx → EReal) (W : S2048x3616.Idx → EReal) : S2x4352x3616.Idx → EReal :=
  times (both (normC C g s t) (normL L g s t)) W

theorem normC_apply (C : S2x256x2048.Idx → EReal) (g : S2048.Idx → EReal) (s t : S8x2048.Idx → EReal) (b : Fin 2) (r : Fin 256) (d : Fin 2048) :
    normC C g s t (ix3 b r d) = nrm (fun d => C (ix3 b r d)) (fun d => g (ix1 d)) (fun d => s (ix2 2 d)) (fun d => t (ix2 2 d)) d := by
  pointwise [normC, nrm]
theorem normL_apply (L : S2x4096x2048.Idx → EReal) (g : S2048.Idx → EReal) (s t : S8x2048.Idx → EReal) (b : Fin 2) (k : Fin 8) (hk : k.val = b.val) (r : Fin 4096) (d : Fin 2048) :
    normL L g s t (ix3 b r d) = nrm (fun d => L (ix3 b r d)) (fun d => g (ix1 d)) (fun d => s (ix2 k d)) (fun d => t (ix2 k d)) d := by
  have e : (⟨b.val, by omega⟩ : Fin 8) = k := Fin.ext hk.symm
  rw [← e]
  pointwise [normL, nrm]
theorem times_apply (H : S2x4352x2048.Idx → EReal) (W : S2048x3616.Idx → EReal) (b : Fin 2) (R : Fin 4352) (n : Fin 3616) :
    times H W (ix3 b R n) = ∑ d : Fin 2048, H (ix3 b R d) * W (ix2 d n) := by
  pointwise [times]
theorem both_lo (A : S2x256x2048.Idx → EReal) (B : S2x4096x2048.Idx → EReal) (b : Fin 2) (R : Fin 4352) (h : R.val < 256) (d : Fin 2048) :
    both A B (ix3 b R d) = A (ix3 b ⟨R.val, h⟩ d) := by
  exact concatenate_pair_apply_left (t := S2x4352x2048) (s₁ := S2x256x2048) (s₂ := S2x4096x2048) 1 A B concatenates_S2x256x2048_S2x4096x2048_S2x4352x2048_d1 (ix3 b R d) rfl
    (ix3 b (⟨R.val, h⟩ : Fin 256) d) (by intro a; match a with | ⟨0, _⟩ => rfl | ⟨1, _⟩ => rfl | ⟨2, _⟩ => rfl)
theorem both_hi (A : S2x256x2048.Idx → EReal) (B : S2x4096x2048.Idx → EReal) (b : Fin 2) (R : Fin 4352) (h : ¬ R.val < 256) (d : Fin 2048) :
    both A B (ix3 b R d) = B (ix3 b ⟨R.val - 256, by omega⟩ d) := by
  exact concatenate_pair_apply_right (t := S2x4352x2048) (s₁ := S2x256x2048) (s₂ := S2x4096x2048) 1 A B concatenates_S2x256x2048_S2x4096x2048_S2x4352x2048_d1 (ix3 b R d) rfl rfl
    (ix3 b (⟨R.val - 256, by omega⟩ : Fin 4096) d) (by
      intro a ha
      match a with
      | ⟨0, _⟩ => rfl
      | ⟨1, _⟩ => exact absurd rfl ha
      | ⟨2, _⟩ => rfl) (show R.val - 256 + 256 = R.val by omega)
theorem packL_apply (P : S2x4352x3616.Idx → EReal) (j : Fin 32) (k : Fin 512) (l : Fin 512) :
    packL P (ix3 j k l) = P (ix3 ⟨k.val / 256, by omega⟩ ⟨256 + 16 * (k.val % 256) + l.val / 32, by omega⟩ ⟨32 * j.val + l.val % 32, by omega⟩) := by
  rw [ix3_congr (P := P) (rfl : (⟨k.val / 256, by omega⟩ : Fin 2) = ⟨k.val / 256, by omega⟩) (show 256 + 16 * (k.val % 256) + l.val / 32 = 256 + (k.val % 256 * 16 + l.val / 32) by omega) (show 32 * j.val + l.val % 32 = j.val * 32 + l.val % 32 by omega)]
  pointwise [packL]
theorem packC_apply (P : S2x4352x3616.Idx → EReal) (j : Fin 32) (k : Fin 32) (l : Fin 512) :
    packC P (ix3 j k l) = P (ix3 ⟨k.val / 16, by omega⟩ ⟨16 * (k.val % 16) + l.val / 32, by omega⟩ ⟨32 * j.val + l.val % 32, by omega⟩) := by
  rw [ix3_congr (P := P) (rfl : (⟨k.val / 16, by omega⟩ : Fin 2) = ⟨k.val / 16, by omega⟩) (show 16 * (k.val % 16) + l.val / 32 = k.val % 16 * 16 + l.val / 32 by omega) (show 32 * j.val + l.val % 32 = j.val * 32 + l.val % 32 by omega)]
  pointwise [packC]

/-- The mixers' operand, whole. -/
def pack (P : S2x4352x3616.Idx → EReal) : S32x544x512.Idx → EReal :=
  concatenate S32x544x512 1 [⟨S32x512x512, packL P⟩, ⟨S32x32x512, packC P⟩] concatenates_S32x512x512_S32x32x512_S32x544x512_d1

theorem pack_apply (P : S2x4352x3616.Idx → EReal) (j : Fin 32) (k : Fin 544) (l : Fin 512) :
    pack P (ix3 j k l) = P (ix3 (uMem k) (uTok k ⟨l.val / 32, by omega⟩) ⟨32 * j.val + l.val % 32, by omega⟩) := by
  by_cases h : k.val < 512
  · refine (concatenate_pair_apply_left (t := S32x544x512) (s₁ := S32x512x512) (s₂ := S32x32x512) 1 (packL P) (packC P) concatenates_S32x512x512_S32x32x512_S32x544x512_d1 (ix3 j k l) rfl
      (ix3 j (⟨k.val, h⟩ : Fin 512) l) (by intro a; match a with | ⟨0, _⟩ => rfl | ⟨1, _⟩ => rfl | ⟨2, _⟩ => rfl)).trans ?_
    rw [packL_apply]
    unfold uMem uTok
    rw [dif_pos h, dif_pos h]
  · refine (concatenate_pair_apply_right (t := S32x544x512) (s₁ := S32x512x512) (s₂ := S32x32x512) 1 (packL P) (packC P) concatenates_S32x512x512_S32x32x512_S32x544x512_d1 (ix3 j k l) rfl rfl
      (ix3 j (⟨k.val - 512, by omega⟩ : Fin 32) l) (by
        intro a ha
        match a with
        | ⟨0, _⟩ => rfl
        | ⟨1, _⟩ => exact absurd rfl ha
        | ⟨2, _⟩ => rfl) (show k.val - 512 + 512 = k.val by omega)).trans ?_
    rw [packC_apply]
    unfold uMem uTok
    rw [dif_neg h, dif_neg h]

/-- A product, from the arguments. -/
theorem allP_apply (C : S2x256x2048.Idx → EReal) (L : S2x4096x2048.Idx → EReal) (g : S2048.Idx → EReal) (s t : S8x2048.Idx → EReal) (W : S2048x3616.Idx → EReal) (b : Fin 2) (R : Fin 4352) (n : Fin 3616) :
    allP C L g s t W (ix3 b R n) = projAt (fun b r d => C (ix3 b r d)) (fun b r d => L (ix3 b r d)) (fun d => g (ix1 d)) (fun k d => s (ix2 k d)) (fun k d => t (ix2 k d)) (fun d n => W (ix2 d n)) b R n := by
  unfold allP projAt
  rw [times_apply]
  refine Finset.sum_congr rfl fun d _ => congrArg (fun x : EReal => x * W (ix2 d n)) ?_
  unfold hid
  by_cases h : R.val < 256
  · rw [both_lo _ _ b R h, normC_apply]
    unfold src mrow
    rw [dif_pos h, if_pos h]
  · rw [both_hi _ _ b R h]
    refine (normL_apply L g s t b ⟨b.val, by omega⟩ rfl _ d).trans ?_
    unfold src mrow
    rw [dif_neg h, if_neg h]

end Cert.Reference2Ideal.Hand

end
-- ==== Proof.ProjAlgebra.lean ====
/-
  Hand-written. From equal arguments the in-projection's launch and its reference end with the same five results; and the frames of the two.
-/
module

public import proofs.«01_k».proof.Defs
public import proofs.«01_k».proof.Proof.ProjVal
public import proofs.«01_k».proof.Proof.ProjRef
public import proofs.«01_k».proof.Proof.Gen.Kernel2
public import proofs.«01_k».proof.Proof.Gen.Kernel2.Frame
public import proofs.«01_k».proof.Proof.Gen.Kernel2Ideal.Frame
public import proofs.«01_k».proof.Proof.Gen.Reference2Ideal

@[expose] public section

set_option maxRecDepth 16384

noncomputable section

namespace Cert.Proof

open Idealize.ShloMosaic Idealize.ShloMosaic.TcCoe Idealize.ShloMosaic.Tactic Idealize.SL.Sem

attribute [local instance] Cert.Kernel2.Gen.facts Cert.Kernel2Ideal.Gen.facts Cert.Reference2Ideal.Gen.facts

section Results
variable (m : (ℓ : Loc Cert.Kernel2Ideal.nD Cert.Kernel2Ideal.τ Cert.Kernel2Ideal.sig) → Buf (Elt Ideal) ℓ) (m' : (ℓ : Loc Cert.Reference2Ideal.nD Cert.Reference2Ideal.τ Cert.Reference2Ideal.sig) → Buf (Elt Ideal) ℓ) (c : Dev Cert.Kernel2Ideal.nD)

/-- The reference's products, from its arguments. -/
def refP : Cert.Reference2Ideal.S2x4352x3616.Idx → EReal :=
  Cert.Reference2Ideal.Hand.allP (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5))

theorem refP_apply (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (b : Fin 2) (R : Fin 4352) (n : Fin 3616) : refP m' c (ix3 b R n) = Cert.Kernel2Ideal.Hand.projOf m c b R n := by
  unfold refP
  rw [Cert.Reference2Ideal.Hand.allP_apply, h0, h1, h2, h3, h4, h5]
  rfl

theorem res10 (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) :
    Cert.Reference2Ideal.Hand.pack (refP m' c) = (Cert.Kernel2Ideal.Gen.dats m 0 c).arrAt 10 Cert.Kernel2Ideal.cfg0.N := by
  funext y
  obtain ⟨j, k, l, rfl⟩ : ∃ (j : Fin 32) (k : Fin 544) (l : Fin 512), y = ix3 j k l := ⟨y 0, y 1, y 2, eq_ix3 y⟩
  exact (Cert.Reference2Ideal.Hand.pack_apply _ j k l).trans ((refP_apply m m' c h0 h1 h2 h3 h4 h5 _ _ _).trans (Cert.Kernel2Ideal.Hand.arr10_apply m c j k l).symm)

theorem slice11 (P : Cert.Reference2Ideal.S2x4352x3616.Idx → EReal) (b : Fin 2) (R : Fin 4352) (n : Fin 1024) :
    extractStridedSlice Cert.Reference2Ideal.S2x4352x1024 ![0, 0, 1024] P Cert.Reference2Ideal.Gen.slices_S2x4352x3616_S2x4352x1024_0_0_1024 (ix3 b R n) = P (ix3 b R ⟨1024 + n.val, by omega⟩) := by
  pointwise

theorem res11 (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) :
    extractStridedSlice Cert.Reference2Ideal.S2x4352x1024 ![0, 0, 1024] (refP m' c) Cert.Reference2Ideal.Gen.slices_S2x4352x3616_S2x4352x1024_0_0_1024 = (Cert.Kernel2Ideal.Gen.dats m 0 c).arrAt 11 Cert.Kernel2Ideal.cfg0.N := by
  funext y
  obtain ⟨b, R, n, rfl⟩ : ∃ (b : Fin 2) (R : Fin 4352) (n : Fin 1024), y = ix3 b R n := ⟨y 0, y 1, y 2, eq_ix3 y⟩
  exact (slice11 _ b R n).trans ((refP_apply m m' c h0 h1 h2 h3 h4 h5 _ _ _).trans (Cert.Kernel2Ideal.Hand.arr11_apply m c b R n).symm)

theorem slice12 (P : Cert.Reference2Ideal.S2x4352x3616.Idx → EReal) (b : Fin 2) (R : Fin 4352) (n : Fin 1536) :
    extractStridedSlice Cert.Reference2Ideal.S2x4352x1536 ![0, 0, 2048] P Cert.Reference2Ideal.Gen.slices_S2x4352x3616_S2x4352x1536_0_0_2048 (ix3 b R n) = P (ix3 b R ⟨2048 + n.val, by omega⟩) := by
  pointwise

theorem res12 (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) :
    extractStridedSlice Cert.Reference2Ideal.S2x4352x1536 ![0, 0, 2048] (refP m' c) Cert.Reference2Ideal.Gen.slices_S2x4352x3616_S2x4352x1536_0_0_2048 = (Cert.Kernel2Ideal.Gen.dats m 0 c).arrAt 12 Cert.Kernel2Ideal.cfg0.N := by
  funext y
  obtain ⟨b, R, n, rfl⟩ : ∃ (b : Fin 2) (R : Fin 4352) (n : Fin 1536), y = ix3 b R n := ⟨y 0, y 1, y 2, eq_ix3 y⟩
  exact (slice12 _ b R n).trans ((refP_apply m m' c h0 h1 h2 h3 h4 h5 _ _ _).trans (Cert.Kernel2Ideal.Hand.arr12_apply m c b R n).symm)

theorem slice13 (P : Cert.Reference2Ideal.S2x4352x3616.Idx → EReal) (b : Fin 2) (R : Fin 4352) (n : Fin 16) :
    extractStridedSlice Cert.Reference2Ideal.S2x4352x16 ![0, 0, 0] (extractStridedSlice Cert.Reference2Ideal.S2x4352x32 ![0, 0, 3584] P Cert.Reference2Ideal.Gen.slices_S2x4352x3616_S2x4352x32_0_0_3584) Cert.Reference2Ideal.Gen.slices_S2x4352x32_S2x4352x16_0_0_0 (ix3 b R n) = P (ix3 b R ⟨3584 + n.val, by omega⟩) := by
  pointwise

theorem res13 (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) :
    extractStridedSlice Cert.Reference2Ideal.S2x4352x16 ![0, 0, 0] (extractStridedSlice Cert.Reference2Ideal.S2x4352x32 ![0, 0, 3584] (refP m' c) Cert.Reference2Ideal.Gen.slices_S2x4352x3616_S2x4352x32_0_0_3584) Cert.Reference2Ideal.Gen.slices_S2x4352x32_S2x4352x16_0_0_0 = (Cert.Kernel2Ideal.Gen.dats m 0 c).arrAt 13 Cert.Kernel2Ideal.cfg0.N := by
  funext y
  obtain ⟨b, R, n, rfl⟩ : ∃ (b : Fin 2) (R : Fin 4352) (n : Fin 16), y = ix3 b R n := ⟨y 0, y 1, y 2, eq_ix3 y⟩
  exact (slice13 _ b R n).trans ((refP_apply m m' c h0 h1 h2 h3 h4 h5 _ _ _).trans (Cert.Kernel2Ideal.Hand.arr13_apply m c b R n).symm)

theorem slice14 (P : Cert.Reference2Ideal.S2x4352x3616.Idx → EReal) (b : Fin 2) (R : Fin 4352) (n : Fin 16) :
    extractStridedSlice Cert.Reference2Ideal.S2x4352x16 ![0, 0, 16] (extractStridedSlice Cert.Reference2Ideal.S2x4352x32 ![0, 0, 3584] P Cert.Reference2Ideal.Gen.slices_S2x4352x3616_S2x4352x32_0_0_3584) Cert.Reference2Ideal.Gen.slices_S2x4352x32_S2x4352x16_0_0_16 (ix3 b R n) = P (ix3 b R ⟨3600 + n.val, by omega⟩) := by
  rw [show (⟨3600 + n.val, by omega⟩ : Fin 3616) = ⟨3584 + (16 + n.val), by omega⟩ from Fin.ext (show 3600 + n.val = 3584 + (16 + n.val) by omega)]
  pointwise

theorem res14 (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) :
    extractStridedSlice Cert.Reference2Ideal.S2x4352x16 ![0, 0, 16] (extractStridedSlice Cert.Reference2Ideal.S2x4352x32 ![0, 0, 3584] (refP m' c) Cert.Reference2Ideal.Gen.slices_S2x4352x3616_S2x4352x32_0_0_3584) Cert.Reference2Ideal.Gen.slices_S2x4352x32_S2x4352x16_0_0_16 = (Cert.Kernel2Ideal.Gen.dats m 0 c).arrAt 14 Cert.Kernel2Ideal.cfg0.N := by
  funext y
  obtain ⟨b, R, n, rfl⟩ : ∃ (b : Fin 2) (R : Fin 4352) (n : Fin 16), y = ix3 b R n := ⟨y 0, y 1, y 2, eq_ix3 y⟩
  exact (slice14 _ b R n).trans ((refP_apply m m' c h0 h1 h2 h3 h4 h5 _ _ _).trans (Cert.Kernel2Ideal.Hand.arr14_apply m c b R n).symm)

end Results

theorem frame_kernel2 : Cert.quiescent_Kernel2 := fun m ρ _ => Cert.Kernel2.Gen.frame m ρ
theorem frame_kernel2ideal : Cert.quiescent_Kernel2Ideal := fun m ρ _ => Cert.Kernel2Ideal.Gen.frame m ρ
theorem frame_reference2 : Cert.quiescent_Reference2Ideal := fun m ρ _ =>
  (θ_run Cert.Reference2Ideal.defs _ _).mono (fun r h => ⟨fun c => (h c).2.2.2.2.2, funext fun s => by first | exact (nomatch s) | (obtain ⟨_, s⟩ := s; cases s; done) | (exact absurd s (by decide))⟩) (Cert.Reference2Ideal.Value.run (F := Ideal) m ρ)

theorem algebraic_kernel2 : Cert.algebraic_Kernel2Ideal_Reference2Ideal := fun m g m' g' _ hargs =>
  ⟨fun c => (Cert.Kernel2Ideal.Gen.dats m 0 c).arrAt 10 Cert.Kernel2Ideal.cfg0.N, fun c => (Cert.Kernel2Ideal.Gen.dats m 0 c).arrAt 11 Cert.Kernel2Ideal.cfg0.N,
    fun c => (Cert.Kernel2Ideal.Gen.dats m 0 c).arrAt 12 Cert.Kernel2Ideal.cfg0.N, fun c => (Cert.Kernel2Ideal.Gen.dats m 0 c).arrAt 13 Cert.Kernel2Ideal.cfg0.N,
    fun c => (Cert.Kernel2Ideal.Gen.dats m 0 c).arrAt 14 Cert.Kernel2Ideal.cfg0.N, Cert.Kernel2Ideal.Value.run_blocks (F := Ideal) m g,
    (θ_run (Cert.Reference2Ideal.defs (F := Ideal)) _ _).mono (fun r h c => by
      obtain ⟨v0, v1, v2, v3, v4, h⟩ := h c
      obtain ⟨e0, e1, e2, e3, e4, e5⟩ := hargs c
      exact ⟨v0.trans (res10 m m' c e0 e1 e2 e3 e4 e5), v1.trans (res11 m m' c e0 e1 e2 e3 e4 e5), v2.trans (res12 m m' c e0 e1 e2 e3 e4 e5), v3.trans (res13 m m' c e0 e1 e2 e3 e4 e5), v4.trans (res14 m m' c e0 e1 e2 e3 e4 e5), h⟩)
    (Cert.Reference2Ideal.Value.run (F := Ideal) m' g')⟩

end Cert.Proof

end
-- ==== Proof.OutProjStep.lean ====
/-
  Hand-written. A point of the output projection: what its body leaves in the four result windows, at the first point of a member,
  which takes the context's rows, and at a later one, which takes a tile of the latents'.
-/
module

public import proofs.«01_k».proof.Proof.Gen.Kernel3Ideal.Skeleton
public import proofs.«01_k».proof.Proof.Gen.Kernel3Ideal.Points
public import proofs.«01_k».proof.Proof.Gen.Kernel3Ideal.Launch
public import Idealize.ShloMosaic.Lib.VecWindow

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Values
variable (i : grid0.Coords) (x0 : Vec F S1x256x1024 .bf16) (x1 : Vec F S1x256x1024 .bf16) (x2 : Vec F S1x256x2048 .f32) (x3 : Vec F S1x256x2048 .f32) (x4 : Vec F S1024x2048 .bf16) (x5 : Vec F S1024x2048 .bf16) (x6 : Vec F S1x2048 .f32) (x7 : Vec F S8x2048 .f32) (x8 : Vec F S1x2048 .f32) (x9 : Vec F S8x2048 .f32) (x10 : Vec F S8x2048 .f32) (x11 : Vec F S2048x16 .bf16)

/-- The row of a table of rows that a point reads. -/
def pick (w : Vec F S8x2048 .f32) : Vec F S1x2048 .f32 := View.ld w (Rect.unit (k0_off1 i) S1x2048.size (k0_off1_inb i))

/-- The new rows of a point: the old ones and the gated, normalised product of the mixers' rows. -/
def xnew : FVec F S256x2048 .f32 := k0_pay4 (k0_pay2 i x2 x3) (pick i x7) (k0_pay3 x0 x4 x1 x5) x6

/-- … as a result window holds them. -/
def xout : Vec F S1x256x2048 .f32 := shapeCast S1x256x2048 (xnew i x0 x1 x2 x3 x4 x5 x6 x7) shapeCasts_S256x2048_S1x256x2048

/-- The new rows, normalised, scaled and shifted, as the result window holds them. -/
def hout : Vec F S1x256x16x128 .f32 := k0_pay8 (k0_pay2 i x2 x3) (pick i x7) (k0_pay3 x0 x4 x1 x5) x6 x8 (pick i x9) (pick i x10)

/-- … and their products with the router's weight. -/
def lout : Vec F S1x256x16 .f32 := k0_pay1 (k0_pay7 (k0_pay2 i x2 x3) (pick i x7) (k0_pay3 x0 x4 x1 x5) x6 x8 (pick i x9) (pick i x10)) x11

end Values

/-- A load of a whole window reads what it holds. -/
theorem read_all {s : Shape} {e : EltTy} (M : Memref sig .tc .vmem s e) (hM : M.IsWhole) (x : s.Idx → Elt F e) {off : Fin s.rank → ℕ} (h : ∀ a, off a + s.size a ≤ s.size a) :
    View.readAt (Elt F) M.view (Rect.unit off s.size h).toLoadRect (hM.unread x) = x :=
  (View.readAt_full M.view (hM.unread x) h).trans (hM.read_unread x)

/-- A load of one row of a table of rows reads that row. -/
theorem read_pick (i : grid0.Coords) (M : Memref sig .tc .vmem S8x2048 .f32) (hM : M.IsWhole) (x : Vec F S8x2048 .f32) :
    View.readAt (Elt F) M.view (Rect.unit (s := S8x2048) (k0_off1 i) S1x2048.size (k0_off1_inb i)).toLoadRect (hM.unread x) = pick i x := by
  unfold pick; rw [View.readAt_eq_ld, hM.read_unread]

section Runs
variable (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S1x2048 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048 .f32) (harg11 : arg11.IsWhole) (arg12 : Memref sig .tc .vmem S8x2048 .f32) (harg12 : arg12.IsWhole) (arg13 : Memref sig .tc .vmem S2048x16 .bf16) (harg13 : arg13.IsWhole) (arg14 : Memref sig .tc .vmem S1x256x2048 .f32) (harg14 : arg14.IsWhole) (arg15 : Memref sig .tc .vmem S1x256x2048 .f32) (harg15 : arg15.IsWhole) (arg16 : Memref sig .tc .vmem S1x256x16x128 .f32) (harg16 : arg16.IsWhole) (arg17 : Memref sig .tc .vmem S1x256x16 .f32) (harg17 : arg17.IsWhole)
  (x0 : Vec F S1x256x1024 .bf16) (x1 : Vec F S1x256x1024 .bf16) (x2 : Vec F S1x256x2048 .f32) (x3 : Vec F S1x256x2048 .f32) (x4 : Vec F S1024x2048 .bf16) (x5 : Vec F S1024x2048 .bf16) (x6 : Vec F S1x2048 .f32) (x7 : Vec F S8x2048 .f32) (x8 : Vec F S1x2048 .f32) (x9 : Vec F S8x2048 .f32) (x10 : Vec F S8x2048 .f32) (x11 : Vec F S2048x16 .bf16) (w12 : Vec F S1x256x2048 .f32) (w13 : Vec F S1x256x2048 .f32) (w14 : Vec F S1x256x16x128 .f32) (w15 : Vec F S1x256x16 .f32)

set_option maxHeartbeats 1600000 in
/-- The first point of a member: the context's new rows stored, the latents' window as found. -/
theorem run_first (h1 : k0_cond1 i = 1#1) (h2 : ¬ k0_cond2 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare w12 ∗ owns (c : Thread nD τ) arg15 fullShare w13 ∗ owns (c : Thread nD τ) arg16 fullShare w14 ∗ owns (c : Thread nD τ) arg17 fullShare w15
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare w12 ∗ owns (c : Thread nD τ) arg15 fullShare (xout i x0 x1 x2 x3 x4 x5 x6 x7) ∗ owns (c : Thread nD τ) arg16 fullShare (hout i x0 x1 x2 x3 x4 x5 x6 x7 x8 x9 x10) ∗ owns (c : Thread nD τ) arg17 fullShare (lout i x0 x1 x2 x3 x4 x5 x6 x7 x8 x9 x10 x11)) -∗ K ⟨⟩))
      ⊢ wp frame (wpE (defs₀ (F := F)) Variants.none c none) E (cc0_out_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_out_proj_eq_skeleton]; unfold cc0_out_proj_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec
  have e0 : run_first.sl.r c i arg4 harg4 arg5 harg5 x2 x3 = k0_pay2 i x2 x3 :=
    congrArg₂ (k0_pay2 i) (read_all arg4 harg4 x2 inb_S1x256x2048_S1x256x2048_0_0_0) (read_all arg5 harg5 x3 inb_S1x256x2048_S1x256x2048_0_0_0)
  have e1 : run_first.sl.r_1 c i arg9 harg9 x7 = pick i x7 := read_pick i arg9 harg9 x7
  have e2 : run_first.sl.r_2 c arg2 harg2 arg3 harg3 arg6 harg6 arg7 harg7 x0 x1 x4 x5 = k0_pay3 x0 x4 x1 x5 := by
    have h := congr (congr (congr (congrArg k0_pay3 (read_all arg2 harg2 x0 inb_S1x256x1024_S1x256x1024_0_0_0)) (read_all arg6 harg6 x4 inb_S1024x2048_S1024x2048_0_0))
      (read_all arg3 harg3 x1 inb_S1x256x1024_S1x256x1024_0_0_0)) (read_all arg7 harg7 x5 inb_S1024x2048_S1024x2048_0_0)
    exact h
  have e6 := read_all arg8 harg8 x6 inb_S1x2048_S1x2048_0_0
  have e8 := read_all arg10 harg10 x8 inb_S1x2048_S1x2048_0_0
  have e9 := read_pick i arg11 harg11 x9
  have e10 := read_pick i arg12 harg12 x10
  have e11 := read_all arg13 harg13 x11 inb_S2048x16_S2048x16_0_0
  have e3 : run_first.sl.r_3 c i arg2 harg2 arg3 harg3 arg4 harg4 arg5 harg5 arg6 harg6 arg7 harg7 arg8 harg8 arg9 harg9 arg10 harg10 arg11 harg11 arg12 harg12 x0 x1 x2 x3 x4 x5 x6 x7 x8 x9 x10
      = k0_pay7 (k0_pay2 i x2 x3) (pick i x7) (k0_pay3 x0 x4 x1 x5) x6 x8 (pick i x9) (pick i x10) := by
    have h := congr (congr (congr (congr (congr (congr (congrArg k0_pay7 e0) e1) e2) e6) e8) e9) e10
    exact h
  rw [wp_ret]; imodintro
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists f12; isplitr; · ipureintro; exact hf12
    iexact H12
  isplitl [H13]
  · iexists _; isplitr
    swap; · iexact H13
    ipureintro
    refine (View.read_writes_full _ _ _ _ _).trans ?_
    exact congr (congr (congr (congrArg k0_pay5 e0) e1) e2) e6
  isplitl [H14]
  · iexists _; isplitr
    swap; · iexact H14
    ipureintro
    refine (View.read_writes_full _ _ _ _ _).trans ?_
    exact congr (congr (congr (congr (congr (congr (congrArg k0_pay8 e0) e1) e2) e6) e8) e9) e10
  iexists _; isplitr
  swap; · iexact H15
  ipureintro
  refine (View.read_writes_full _ _ _ _ _).trans ?_
  exact congrArg₂ k0_pay1 e3 e11

set_option maxHeartbeats 1600000 in
/-- A later point: a tile of the latents' new rows stored, the context's window as found. -/
theorem run_later (h1 : ¬ k0_cond1 i = 1#1) (h2 : k0_cond2 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare w12 ∗ owns (c : Thread nD τ) arg15 fullShare w13 ∗ owns (c : Thread nD τ) arg16 fullShare w14 ∗ owns (c : Thread nD τ) arg17 fullShare w15
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (xout i x0 x1 x2 x3 x4 x5 x6 x7) ∗ owns (c : Thread nD τ) arg15 fullShare w13 ∗ owns (c : Thread nD τ) arg16 fullShare (hout i x0 x1 x2 x3 x4 x5 x6 x7 x8 x9 x10) ∗ owns (c : Thread nD τ) arg17 fullShare (lout i x0 x1 x2 x3 x4 x5 x6 x7 x8 x9 x10 x11)) -∗ K ⟨⟩))
      ⊢ wp frame (wpE (defs₀ (F := F)) Variants.none c none) E (cc0_out_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_out_proj_eq_skeleton]; unfold cc0_out_proj_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec
  have e0 : run_later.sl.r c i arg4 harg4 arg5 harg5 x2 x3 = k0_pay2 i x2 x3 :=
    congrArg₂ (k0_pay2 i) (read_all arg4 harg4 x2 inb_S1x256x2048_S1x256x2048_0_0_0) (read_all arg5 harg5 x3 inb_S1x256x2048_S1x256x2048_0_0_0)
  have e1 : run_later.sl.r_1 c i arg9 harg9 x7 = pick i x7 := read_pick i arg9 harg9 x7
  have e2 : run_later.sl.r_2 c arg2 harg2 arg3 harg3 arg6 harg6 arg7 harg7 x0 x1 x4 x5 = k0_pay3 x0 x4 x1 x5 := by
    have h := congr (congr (congr (congrArg k0_pay3 (read_all arg2 harg2 x0 inb_S1x256x1024_S1x256x1024_0_0_0)) (read_all arg6 harg6 x4 inb_S1024x2048_S1024x2048_0_0))
      (read_all arg3 harg3 x1 inb_S1x256x1024_S1x256x1024_0_0_0)) (read_all arg7 harg7 x5 inb_S1024x2048_S1024x2048_0_0)
    exact h
  have e6 := read_all arg8 harg8 x6 inb_S1x2048_S1x2048_0_0
  have e8 := read_all arg10 harg10 x8 inb_S1x2048_S1x2048_0_0
  have e9 := read_pick i arg11 harg11 x9
  have e10 := read_pick i arg12 harg12 x10
  have e11 := read_all arg13 harg13 x11 inb_S2048x16_S2048x16_0_0
  have e3 : run_later.sl.r_3 c i arg2 harg2 arg3 harg3 arg4 harg4 arg5 harg5 arg6 harg6 arg7 harg7 arg8 harg8 arg9 harg9 arg10 harg10 arg11 harg11 arg12 harg12 x0 x1 x2 x3 x4 x5 x6 x7 x8 x9 x10
      = k0_pay7 (k0_pay2 i x2 x3) (pick i x7) (k0_pay3 x0 x4 x1 x5) x6 x8 (pick i x9) (pick i x10) := by
    have h := congr (congr (congr (congr (congr (congr (congrArg k0_pay7 e0) e1) e2) e6) e8) e9) e10
    exact h
  rw [wp_ret]; imodintro
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr
    swap; · iexact H12
    ipureintro
    refine (View.read_writes_full _ _ _ _ _).trans ?_
    exact congr (congr (congr (congrArg k0_pay6 e0) e1) e2) e6
  isplitl [H13]
  · iexists f13; isplitr; · ipureintro; exact hf13
    iexact H13
  isplitl [H14]
  · iexists _; isplitr
    swap; · iexact H14
    ipureintro
    refine (View.read_writes_full _ _ _ _ _).trans ?_
    exact congr (congr (congr (congr (congr (congr (congrArg k0_pay8 e0) e1) e2) e6) e8) e9) e10
  iexists _; isplitr
  swap; · iexact H15
  ipureintro
  refine (View.read_writes_full _ _ _ _ _).trans ?_
  exact congrArg₂ k0_pay1 e3 e11

end Runs

end Cert.Kernel3Ideal.Hand

end
-- ==== Proof.OutProjRun.lean ====
/-
  Hand-written. The output projection's launch: the arrays as the host operations leave them, the window blocks of a grid point, the
  body's obligation at every point, and the run.
-/
module

public import proofs.«01_k».proof.Proof.OutProjStep
public import Idealize.ShloMosaic.Lib.Pipeline.Frame
public import Idealize.ShloMosaic.Lib.Pipeline.FrameBody
public import Idealize.ShloMosaic.Lib.Pipeline.TableIdle
public import Idealize.ShloMosaic.Lib.Pipeline.ValueKit
public import Idealize.ShloMosaic.Lib.StableHlo.RunRead

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays and their blocks -/

/-- The launch's buffers as the host operations before the kernel leave them. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := ⟨rfl, rfl, rfl, rfl, rfl, rfl⟩

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- What the host operations write, in order. -/
def hostWritten : List (Ref sig .tc) := [main_v0, main_v1, main_v2, main_v3, main_v4, main_v5]
theorem hostWritten_eq : (hostOps0 : List (HloOp τ sig (Elt F))).map HloOp.writes = hostWritten.map fun w => {Proc.devRef (τ := τ) .tc w} := rfl

theorem V_arg (c : Dev nD) (b : Ref sig .tc) (hb : b ∉ hostWritten) : V m c b = m ((c : Thread nD τ).loc b) :=
  StableHlo.after_unwritten hostWritten hostWritten_eq hb (fun b => m (c, b))

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What a point leaves in the result windows it stores into. -/
def xoutAt (c : Dev nD) (t : Fin cfg0.N) : Vec F S1x256x2048 .f32 :=
  xout (grid0.coords t) (iblk m c 0 t) (iblk m c 1 t) (iblk m c 2 t) (iblk m c 3 t) (iblk m c 4 t) (iblk m c 5 t) (iblk m c 6 t) (iblk m c 7 t)
def houtAt (c : Dev nD) (t : Fin cfg0.N) : Vec F S1x256x16x128 .f32 :=
  hout (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)
def loutAt (c : Dev nD) (t : Fin cfg0.N) : Vec F S1x256x16 .f32 :=
  lout (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- The first point of a point's member. -/
def head (t : Fin cfg0.N) : Fin cfg0.N := ⟨17 * (t.val / 17), Nat.lt_of_le_of_lt (Nat.mul_div_le t.val 17) t.isLt⟩

/-! ## The pipeline's proof data -/

/-- The arrays as the launch finds them; every input's staging buffer after the body at its block; the context's window at what the
    member's first point stored, at every point of the member; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => xoutAt m c t
    | ⟨13, _⟩ => xoutAt m c (head t)
    | ⟨14, _⟩ => houtAt m c t
    | ⟨15, _⟩ => loutAt m c t
    | ⟨_ + 16, h⟩ => absurd h (Nat.not_lt.2 (Nat.le_add_left 16 _))
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = xoutAt m c t := by dsimp only [dats]
theorem after0_13 (c : Dev nD) (t : Fin cfg0.N) : (dats m 0 c).after 13 t = xoutAt m c (head t) := by dsimp only [dats]
theorem after0_14 (c : Dev nD) (t : Fin cfg0.N) : (dats m 0 c).after 14 t = houtAt m c t := by dsimp only [dats]
theorem after0_15 (c : Dev nD) (t : Fin cfg0.N) : (dats m 0 c).after 15 t = loutAt m c t := by dsimp only [dats]

/-! An input's staging buffer holds its block at every point, fetched there or not. -/

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)

/-! ## The schedule of the two windows that a point may leave -/

theorem cond1_iff : ∀ t : Fin grid0.N, k0_cond1 (grid0.coords t) = 1#1 ↔ t.val % 17 = 0 := by decide +kernel
theorem cond2_iff : ∀ t : Fin grid0.N, k0_cond2 (grid0.coords t) = 1#1 ↔ t.val % 17 ≠ 0 := by decide +kernel
theorem idle12 : ∀ t : Fin grid0.N, idle0 12 (grid0.coords t) = decide (t.val % 17 = 0) := by decide +kernel
theorem idle13 : ∀ t : Fin grid0.N, idle0 13 (grid0.coords t) = decide (t.val % 17 ≠ 0) := by decide +kernel
theorem flush12 : ∀ t : Fin grid0.N, win0_12.flush t = decide (t.val % 17 ≠ 0) := by decide +kernel
theorem flush13 : ∀ t : Fin grid0.N, win0_13.flush t = decide (t.val % 17 = 16) := by decide +kernel

/-- The context's window holds nothing stored at a member's first point only. -/
theorem fresh13 (n : ℕ) (h : n ≤ cfg0.N) : cfg0.fresh 13 n = decide (n % 17 = 0) :=
  cfg0.fresh_tab 13 (fun n => decide (n % 17 = 0)) rfl
    (by decide +kernel : ∀ t : Fin grid0.N, decide ((t.val + 1) % 17 = 0) = (win0_13.flush t || (idle0 13 (grid0.coords t) && decide (t.val % 17 = 0)))) n h

theorem head_pred (t : Fin cfg0.N) (h : t.val % 17 ≠ 0) : head (⟨t.val - 1, Nat.lt_of_le_of_lt (Nat.sub_le _ _) t.isLt⟩ : Fin cfg0.N) = head t :=
  Fin.ext (by show 17 * ((t.val - 1) / 17) = 17 * (t.val / 17); omega)

theorem head_self (t : Fin cfg0.N) (h : t.val % 17 = 0) : head t = t :=
  Fin.ext (by show 17 * (t.val / 17) = t.val; omega)

/-- At a later point of a member the context's window holds what the first stored. -/
theorem before0_13 (c : Dev nD) (t : Fin cfg0.N) (h : t.val % 17 ≠ 0) (d) : (dats m 0 c).before 13 t d = xoutAt m c (head t) := by
  rw [(dats m 0 c).before_out_traj 13 rfl (fun _ _ => rfl) (fun t _ hi hf => by
    have hm : t.val % 17 ≠ 0 := of_decide_eq_true ((idle13 t).symm.trans hi)
    rw [after0_13, after0_13, head_pred t hm]) t.val t rfl d, fresh13 t.val (Nat.le_of_lt t.isLt), if_neg (by simpa using h), after0_13, head_pred t h]

/-! ## The body's obligation -/

abbrev ms0 (t : Fin cfg0.N) : Memref sig .tc .vmem S1x256x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x2048 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x2048 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x2048 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S8x2048 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x2048 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S8x2048 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S8x2048 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S2048x16 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x256x2048 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x256x2048 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x256x16x128 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S1x256x16 .f32 := win0_15.stage (cfg0.slots t 15)
abbrev hs15 (t : Fin cfg0.N) : (ms15 t).IsWhole := hstage0_15 ((cfg0.slots t 15).cast nbuf0_15)

/-- What the body leaves the latents' window at: as found at a member's first point, the new rows at the others. -/
def leaves12 (c : Dev nD) (t : Fin cfg0.N) : sProp 𝕄 :=
  if t.val % 17 = 0 then iprop(∃ d, owns (c : Thread nD τ) (ms12 t) fullShare ((dats m 0 c).before 12 t d))
  else owns (c : Thread nD τ) (ms12 t) fullShare (xoutAt m c t)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d)))

def bodyPost (c : Dev nD) (t : Fin cfg0.N) : sProp 𝕄 :=
  iprop((dats m 0 c).Φ t.succ ∗ (dats m 0 c).owesAt () t.succ
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (iblk m c 5 t)
    ∗ owns (c : Thread nD τ) (ms6 t) fullShare (iblk m c 6 t)
    ∗ owns (c : Thread nD τ) (ms7 t) fullShare (iblk m c 7 t)
    ∗ owns (c : Thread nD τ) (ms8 t) fullShare (iblk m c 8 t)
    ∗ owns (c : Thread nD τ) (ms9 t) fullShare (iblk m c 9 t)
    ∗ owns (c : Thread nD τ) (ms10 t) fullShare (iblk m c 10 t)
    ∗ owns (c : Thread nD τ) (ms11 t) fullShare (iblk m c 11 t)
    ∗ leaves12 m c t
    ∗ owns (c : Thread nD τ) (ms13 t) fullShare (xoutAt m c (head t))
    ∗ owns (c : Thread nD τ) (ms14 t) fullShare (houtAt m c t)
    ∗ owns (c : Thread nD τ) (ms15 t) fullShare (loutAt m c t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl]
  unfold leaves12
  by_cases h : t.val % 17 = 0
  · rw [if_pos h, head_self t h]
    iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (run_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((dats m 0 c).before 12 t d12) ((dats m 0 c).before 13 t d13) ((dats m 0 c).before 14 t d14) ((dats m 0 c).before 15 t d15)
      ((cond1_iff t).2 h) (fun h2 => (cond2_iff t).1 h2 h) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iintro ⟨H0, H1, H2, H3, H4, H5, H6, H7, H8, H9, H10, H11, H12, H13, H14, H15⟩
    isplitl [HI]; · iexact HI
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists d12; iexact H12
    isplitl [H13]; · unfold xoutAt; iexact H13
    isplitl [H14]; · unfold houtAt; iexact H14
    unfold loutAt; iexact H15
  · rw [if_neg h]
    simp only [before0_13 m c t h]
    iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (run_later c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((dats m 0 c).before 12 t d12) (xoutAt m c (head t)) ((dats m 0 c).before 14 t d14) ((dats m 0 c).before 15 t d15)
      (fun h1 => h ((cond1_iff t).1 h1)) ((cond2_iff t).2 h) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iintro ⟨H0, H1, H2, H3, H4, H5, H6, H7, H8, H9, H10, H11, H12, H13, H14, H15⟩
    isplitl [HI]; · iexact HI
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · unfold xoutAt; iexact H12
    isplitl [H13]; · iexact H13
    isplitl [H14]; · unfold houtAt; iexact H14
    unfold loutAt; iexact H15

theorem defs₀_row (t : Fin cfg0.N) :
    defs₀ (F := F) .tc cfg0.body (cfg0.bodyArgs t (cfg0.slots t)) = bodyAt0 t := by
  unfold defs₀; rw [Defs.onTc_tc]

theorem leaves12_le (c : Dev nD) (t : Fin cfg0.N) : leaves12 m c t ⊢ (dats m 0 c).leaves 12 t := by
  unfold leaves12
  by_cases h : t.val % 17 = 0
  · rw [if_pos h, (dats m 0 c).leaves_idle 12 t ((idle12 t).trans (decide_eq_true h)) ((flush12 t).trans (decide_eq_false (not_not.2 h)))]
  · rw [if_neg h]
    unfold Dat.leaves
    rw [show cfg0.idle 12 (cfg0.grid.coords t) = false from (idle12 t).trans (decide_eq_false h)]
    exact .rfl

theorem leaves13_le (c : Dev nD) (t : Fin cfg0.N) : owns (c : Thread nD τ) (ms13 t) fullShare (xoutAt m c (head t)) ⊢ ((dats m 0 c).leaves 13 t : sProp 𝕄) := by
  by_cases h : t.val % 17 = 0
  · unfold Dat.leaves
    rw [show cfg0.idle 13 (cfg0.grid.coords t) = false from (idle13 t).trans (decide_eq_false (not_not.2 h))]
    exact .rfl
  · by_cases h' : t.val % 17 = 16
    · unfold Dat.leaves
      rw [show cfg0.idle 13 (cfg0.grid.coords t) = true from (idle13 t).trans (decide_eq_true h), show (cfg0.win 13).flush t = true from (flush13 t).trans (decide_eq_true h')]
      exact .rfl
    · rw [(dats m 0 c).leaves_idle 13 t ((idle13 t).trans (decide_eq_true h)) ((flush13 t).trans (decide_eq_false h'))]
      simp only [before0_13 m c t h]
      iintro H
      iexists (xoutAt m c (head t))
      iexact H

theorem body_obligation (c : Dev nD) : Pipeline.BodyObligationLoose (dats (F := F) m 0 c) (defs₀ (F := F)) Variants.none () Set.univ := fun t => by
  rw [bigSep_W0, bigSep_W0, defs₀_row]
  refine triple_restated (sound_body m c t) rfl .rfl fun _ => ?_
  unfold bodyPost
  iintro ⟨HI, HW, H0, H1, H2, H3, H4, H5, H6, H7, H8, H9, H10, H11, H12, H13, H14, H15⟩
  isplitl [HI]; · iexact HI
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iapply (leaves12_le m c t); iexact H12
  isplitl [H13]; · iapply (leaves13_le m c t); iexact H13
  isplitl [H14]; · iexact H14
  iexact H15

/-! ## The run -/

set_option backward.isDefEq.respectTransparency.types false in
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The arguments after the run. -/
theorem kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats m 0 c).arrAt_in 0 rfl _).trans ((A_eq m c 0).trans (V_arg m c main_arg0 (by decide)))),
    ((h c).1 1).trans (((dats m 0 c).arrAt_in 1 rfl _).trans ((A_eq m c 1).trans (V_arg m c main_arg1 (by decide)))),
    ((h c).1 2).trans (((dats m 0 c).arrAt_in 2 rfl _).trans ((A_eq m c 2).trans (V_arg m c main_arg2 (by decide)))),
    ((h c).1 3).trans (((dats m 0 c).arrAt_in 3 rfl _).trans ((A_eq m c 3).trans (V_arg m c main_arg3 (by decide)))),
    ((h c).2 main_arg4 (Pipeline.mem_restRefs_of main_arg4 (by decide) (by decide))).trans (V_arg m c main_arg4 (by decide)),
    ((h c).2 main_arg5 (Pipeline.mem_restRefs_of main_arg5 (by decide) (by decide))).trans (V_arg m c main_arg5 (by decide)),
    ((h c).1 7).trans (((dats m 0 c).arrAt_in 7 rfl _).trans ((A_eq m c 7).trans (V_arg m c main_arg6 (by decide)))),
    ((h c).2 main_arg7 (Pipeline.mem_restRefs_of main_arg7 (by decide) (by decide))).trans (V_arg m c main_arg7 (by decide)),
    ((h c).1 9).trans (((dats m 0 c).arrAt_in 9 rfl _).trans ((A_eq m c 9).trans (V_arg m c main_arg8 (by decide)))),
    ((h c).1 10).trans (((dats m 0 c).arrAt_in 10 rfl _).trans ((A_eq m c 10).trans (V_arg m c main_arg9 (by decide)))),
    ((h c).2 main_arg10 (Pipeline.mem_restRefs_of main_arg10 (by decide) (by decide))).trans (V_arg m c main_arg10 (by decide))⟩

/-- The launch leaves every argument as it found it. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => kept m r h.1 c, h.2⟩) (run_main m ρ)

end Cert.Kernel3Ideal.Hand

end
-- ==== Proof.OutProjSpec.lean ====
/-
  Hand-written. The output projection in plain mathematics, row by row: what both the launch and the reference are shown to give.
-/
module

public import proofs.«01_k».proof.Proof.ProjSpec

@[expose] public section

noncomputable section

namespace Cert.OutProj

open Idealize.ShloMosaic Cert.Proj

/-- The arguments, as functions of their coordinates. -/
structure Args where
  s5 : Fin 2 → Fin 4352 → Fin 1024 → EReal
  ssd : Fin 2 → Fin 4352 → Fin 1024 → EReal
  ctx : Fin 2 → Fin 256 → Fin 2048 → EReal
  lat : Fin 2 → Fin 4096 → Fin 2048 → EReal
  w : Fin 2048 → Fin 2048 → EReal
  g1 : Fin 2048 → EReal
  gate : Fin 8 → Fin 2048 → EReal
  g2 : Fin 2048 → EReal
  sc : Fin 8 → Fin 2048 → EReal
  sh : Fin 8 → Fin 2048 → EReal
  wr : Fin 2048 → Fin 16 → EReal

/-- An element of a row over its root mean square. -/
def rt (x : Fin 2048 → EReal) (d : Fin 2048) : EReal :=
  x d * Ideal.rsqrt (Ideal.div (∑ k, x k * x k) (FloatOps.ofBits (F := Ideal) .f32 0x45000000#32) + FloatOps.ofBits (F := Ideal) .f32 0x358637BD#32)

/-- A row with the gated, normalised mixers' row added. -/
def res (x gate y g : Fin 2048 → EReal) (d : Fin 2048) : EReal := x d + gate d * (rt y d * g d)

/-- A row of the two mixers' outputs times the output weight: the state-space mixer's half of the weight's rows, then the other's. -/
def mixed (a : Args) (b : Fin 2) (R : Fin 4352) (d : Fin 2048) : EReal :=
  (∑ k : Fin 1024, a.s5 b R k * a.w ⟨0 + k.val, by omega⟩ d) + ∑ k : Fin 1024, a.ssd b R k * a.w ⟨1024 + k.val, by omega⟩ d

/-- A token's new row. -/
def newRow (a : Args) (b : Fin 2) (R : Fin 4352) : Fin 2048 → EReal := res (src a.ctx a.lat b R) (a.gate (mrow b R)) (mixed a b R) a.g1

/-- A token's new row, normalised. -/
def hidRow (a : Args) (b : Fin 2) (R : Fin 4352) : Fin 2048 → EReal := nrm (newRow a b R) a.g2 (a.sc (mrow b R)) (a.sh (mrow b R))

/-- A token's logit for an expert. -/
def logit (a : Args) (b : Fin 2) (R : Fin 4352) (n : Fin 16) : EReal := ∑ d, hidRow a b R d * a.wr d n

end Cert.OutProj

end
-- ==== Proof.OutProjPay.lean ====
/-
  Hand-written. What the output projection's vector computations give over the extended reals, element by element.
-/
module

public import proofs.«01_k».proof.Proof.OutProjStep
public import proofs.«01_k».proof.Proof.OutProjSpec
public import Idealize.ShloMosaic.Lib.Pointwise

@[expose] public section

set_option maxRecDepth 16384

noncomputable section

namespace Cert.Kernel3Ideal.Hand

open Cert.Kernel3Ideal Cert.Kernel3Ideal.Gen Cert.Proj Cert.OutProj
open Idealize.ShloMosaic Idealize.ShloMosaic.TcCoe Idealize.ShloMosaic.Tactic Idealize.SL.Sem

theorem pay2_apply (i : grid0.Coords) (x2 x3 : S1x256x2048.Idx → Elt Ideal .f32) (r : Fin 256) (d : Fin 2048) :
    k0_pay2 (F := Ideal) i x2 x3 (ix2 r d) = if (i 1).val = 0 then x2 (ix3 0 r d) else x3 (ix3 0 r d) := by
  by_cases h : (i 1).val = 0
  · rw [if_pos h]
    pointwise [k0_pay2, h]
  · rw [if_neg h]
    have hb : Scalar.cmpi .eq (BitVec.ofNat 32 (i 1).val) 0#32 = 0#1 :=
      (by decide +kernel : ∀ j : Fin 17, j.val ≠ 0 → Scalar.cmpi .eq (BitVec.ofNat 32 j.val) 0#32 = 0#1) (i 1) h
    pointwise [k0_pay2, hb]

theorem pay3_apply (x0 x1 : S1x256x1024.Idx → Elt Ideal .bf16) (x4 x5 : S1024x2048.Idx → Elt Ideal .bf16) (r : Fin 256) (d : Fin 2048) :
    k0_pay3 (F := Ideal) x0 x4 x1 x5 (ix2 r d)
      = rt (fun d => (∑ k : Fin 1024, x0 (ix3 0 r k) * x4 (ix2 k d)) + ∑ k : Fin 1024, x1 (ix3 0 r k) * x5 (ix2 k d)) d := by
  pointwise [k0_pay3, rt]

theorem pay4_apply (x y : S256x2048.Idx → Elt Ideal .f32) (gate g : S1x2048.Idx → Elt Ideal .f32) (r : Fin 256) (d : Fin 2048) :
    k0_pay4 (F := Ideal) x gate y g (ix2 r d) = x (ix2 r d) + gate (ix2 0 d) * (y (ix2 r d) * g (ix2 0 d)) := by
  pointwise [k0_pay4]

theorem pay7_apply (x y : S256x2048.Idx → Elt Ideal .f32) (gate g g2 s t : S1x2048.Idx → Elt Ideal .f32) (r : Fin 256) (d : Fin 2048) :
    k0_pay7 (F := Ideal) x gate y g g2 s t (ix2 r d)
      = nrm (fun d => k0_pay4 (F := Ideal) x gate y g (ix2 r d)) (fun d => g2 (ix2 0 d)) (fun d => s (ix2 0 d)) (fun d => t (ix2 0 d)) d := by
  unfold k0_pay7
  generalize k0_pay4 (F := Ideal) x gate y g = z
  pointwise [nrm]

theorem pay8_apply (x y : S256x2048.Idx → Elt Ideal .f32) (gate g g2 s t : S1x2048.Idx → Elt Ideal .f32) (r : Fin 256) (j : Fin 16) (l : Fin 128) (d : Fin 2048)
    (hd : d.val = j.val * 128 + l.val) :
    k0_pay8 (F := Ideal) x gate y g g2 s t (ix4 0 r j l) = k0_pay7 (F := Ideal) x gate y g g2 s t (ix2 r d) := by
  unfold k0_pay8
  generalize k0_pay7 (F := Ideal) x gate y g g2 s t = z
  rw [show d = (⟨j.val * 128 + l.val, by omega⟩ : Fin 2048) from Fin.ext hd]
  pointwise

theorem pay1_apply (h : S256x2048.Idx → Elt Ideal .f32) (w : S2048x16.Idx → Elt Ideal .bf16) (r : Fin 256) (n : Fin 16) :
    k0_pay1 (F := Ideal) h w (ix3 0 r n) = ∑ d : Fin 2048, h (ix2 r d) * w (ix2 d n) := by
  pointwise [k0_pay1]

theorem cast_apply (z : S256x2048.Idx → Elt Ideal .f32) (r : Fin 256) (d : Fin 2048) :
    shapeCast S1x256x2048 z shapeCasts_S256x2048_S1x256x2048 (ix3 0 r d) = z (ix2 r d) := by
  pointwise

/-- The row of a table of rows that a point reads: the third for the context, the member's own for the latents. -/
theorem off1_val (i : grid0.Coords) : k0_off1 i 0 = if (i 1).val = 0 then 2 else (i 0).val :=
  (by decide +kernel : ∀ (a : Fin 2) (b : Fin 17), BitVec.toNat (Scalar.indexCast (Scalar.select (Scalar.cmpi .eq (BitVec.ofNat 32 b.val) 0#32) 2#32 (BitVec.ofNat 32 a.val)))
    = if b.val = 0 then 2 else a.val) (i 0) (i 1)

theorem pick_apply (i : grid0.Coords) (w : S8x2048.Idx → Elt Ideal .f32) (k : Fin 8) (hk : k.val = if (i 1).val = 0 then 2 else (i 0).val) (d : Fin 2048) :
    pick (F := Ideal) i w (ix2 0 d) = w (ix2 k d) := by
  refine congrArg w (funext fun a => Fin.ext ?_)
  match a with
  | ⟨0, _⟩ => show k0_off1 i 0 + 1 * 0 = k.val; rw [off1_val, hk]; omega
  | ⟨1, _⟩ => show 0 + 1 * d.val = d.val; omega

section Point
variable (i : grid0.Coords) (x0 x1 : S1x256x1024.Idx → Elt Ideal .bf16) (x2 x3 : S1x256x2048.Idx → Elt Ideal .f32) (x4 x5 : S1024x2048.Idx → Elt Ideal .bf16)
  (x6 : S1x2048.Idx → Elt Ideal .f32) (x7 : S8x2048.Idx → Elt Ideal .f32) (x8 : S1x2048.Idx → Elt Ideal .f32) (x9 x10 : S8x2048.Idx → Elt Ideal .f32)
  (x11 : S2048x16.Idx → Elt Ideal .bf16) (k : Fin 8) (hk : k.val = if (i 1).val = 0 then 2 else (i 0).val)
include hk

/-- A point's new rows. -/
theorem xnew_apply (r : Fin 256) (d : Fin 2048) :
    xnew (F := Ideal) i x0 x1 x2 x3 x4 x5 x6 x7 (ix2 r d)
      = res (fun d => if (i 1).val = 0 then x2 (ix3 0 r d) else x3 (ix3 0 r d)) (fun d => x7 (ix2 k d))
          (fun d => (∑ q : Fin 1024, x0 (ix3 0 r q) * x4 (ix2 q d)) + ∑ q : Fin 1024, x1 (ix3 0 r q) * x5 (ix2 q d)) (fun d => x6 (ix2 0 d)) d := by
  unfold xnew res
  rw [pay4_apply, pay2_apply, pay3_apply, pick_apply i x7 k hk]

/-- A point's new rows, normalised. -/
theorem pay7_at (r : Fin 256) (d : Fin 2048) :
    k0_pay7 (F := Ideal) (k0_pay2 i x2 x3) (pick i x7) (k0_pay3 x0 x4 x1 x5) x6 x8 (pick i x9) (pick i x10) (ix2 r d)
      = nrm (fun d => xnew (F := Ideal) i x0 x1 x2 x3 x4 x5 x6 x7 (ix2 r d)) (fun d => x8 (ix2 0 d)) (fun d => x9 (ix2 k d)) (fun d => x10 (ix2 k d)) d := by
  rw [pay7_apply]
  simp only [pick_apply i x9 k hk, pick_apply i x10 k hk]
  rfl

end Point

end Cert.Kernel3Ideal.Hand

end
-- ==== Proof.OutProjVal.lean ====
/-
  Hand-written. What the output projection's launch leaves in each of its four results, from the arguments.
-/
module

public import proofs.«01_k».proof.Proof.OutProjRun
public import proofs.«01_k».proof.Proof.OutProjPay
public import Idealize.ShloMosaic.Lib.Pipeline.Value

@[expose] public section

set_option maxRecDepth 16384

noncomputable section

namespace Cert.Kernel3Ideal.Hand

open Cert.Kernel3Ideal Cert.Kernel3Ideal.Gen Cert.Proj Cert.OutProj
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- The arguments, as functions of their coordinates. -/
def argsOf (c : Dev nD) : Args where
  s5 b R k := (m ((c : Thread nD τ).loc main_arg0) : S2x4352x1024.Idx → EReal) (ix3 b R k)
  ssd b R k := (m ((c : Thread nD τ).loc main_arg1) : S2x4352x1024.Idx → EReal) (ix3 b R k)
  ctx b r d := (m ((c : Thread nD τ).loc main_arg2) : S2x256x2048.Idx → EReal) (ix3 b r d)
  lat b r d := (m ((c : Thread nD τ).loc main_arg3) : S2x4096x2048.Idx → EReal) (ix3 b r d)
  w k d := (m ((c : Thread nD τ).loc main_arg4) : S2048x2048.Idx → EReal) (ix2 k d)
  g1 d := (m ((c : Thread nD τ).loc main_arg5) : S2048.Idx → EReal) (ix1 d)
  gate k d := (m ((c : Thread nD τ).loc main_arg6) : S8x2048.Idx → EReal) (ix2 k d)
  g2 d := (m ((c : Thread nD τ).loc main_arg7) : S2048.Idx → EReal) (ix1 d)
  sc k d := (m ((c : Thread nD τ).loc main_arg8) : S8x2048.Idx → EReal) (ix2 k d)
  sh k d := (m ((c : Thread nD τ).loc main_arg9) : S8x2048.Idx → EReal) (ix2 k d)
  wr d n := (m ((c : Thread nD τ).loc main_arg10) : S2048x16.Idx → EReal) (ix2 d n)

/-! ## What the host operations leave -/

theorem V1_apply (c : Dev nD) (k : Fin 1024) (d : Fin 2048) : (V m c main_v1 : S1024x2048.Idx → EReal) (ix2 k d) = (argsOf m c).w ⟨0 + k.val, by omega⟩ d := by
  have e : V m c main_v1 = extractStridedSlice S1024x2048 ![0, 0] (truncf (F := Ideal) .bf16 (m ((c : Thread nD τ).loc main_arg4) : (⟨S2048x2048, .f32⟩ : BufTy).Contents (Elt Ideal)) bitsLt_bf16_f32) slices_S2048x2048_S1024x2048_0_0 := by
    show StableHlo.after hostOps0 (fun b => m (c, b)) main_v1 = _
    after_reads_simp
  rw [e]
  unfold argsOf
  generalize (m ((c : Thread nD τ).loc main_arg4) : S2048x2048.Idx → EReal) = g
  pointwise

theorem V2_apply (c : Dev nD) (k : Fin 1024) (d : Fin 2048) : (V m c main_v2 : S1024x2048.Idx → EReal) (ix2 k d) = (argsOf m c).w ⟨1024 + k.val, by omega⟩ d := by
  have e : V m c main_v2 = extractStridedSlice S1024x2048 ![1024, 0] (truncf (F := Ideal) .bf16 (m ((c : Thread nD τ).loc main_arg4) : (⟨S2048x2048, .f32⟩ : BufTy).Contents (Elt Ideal)) bitsLt_bf16_f32) slices_S2048x2048_S1024x2048_1024_0 := by
    show StableHlo.after hostOps0 (fun b => m (c, b)) main_v2 = _
    after_reads_simp
  rw [e]
  unfold argsOf
  generalize (m ((c : Thread nD τ).loc main_arg4) : S2048x2048.Idx → EReal) = g
  pointwise

theorem V3_apply (c : Dev nD) (d : Fin 2048) : (V m c main_v3 : S1x2048.Idx → EReal) (ix2 0 d) = (argsOf m c).g1 d := by
  have e : V m c main_v3 = shapeCast S1x2048 (m ((c : Thread nD τ).loc main_arg5) : (⟨S2048, .f32⟩ : BufTy).Contents (Elt Ideal)) shapeCasts_S2048_S1x2048 := by
    show StableHlo.after hostOps0 (fun b => m (c, b)) main_v3 = _
    after_reads_simp
    rfl
  rw [e]
  unfold argsOf
  generalize (m ((c : Thread nD τ).loc main_arg5) : S2048.Idx → EReal) = g
  pointwise

theorem V4_apply (c : Dev nD) (d : Fin 2048) : (V m c main_v4 : S1x2048.Idx → EReal) (ix2 0 d) = (argsOf m c).g2 d := by
  have e : V m c main_v4 = shapeCast S1x2048 (m ((c : Thread nD τ).loc main_arg7) : (⟨S2048, .f32⟩ : BufTy).Contents (Elt Ideal)) shapeCasts_S2048_S1x2048 := by
    show StableHlo.after hostOps0 (fun b => m (c, b)) main_v4 = _
    after_reads_simp
    rfl
  rw [e]
  unfold argsOf
  generalize (m ((c : Thread nD τ).loc main_arg7) : S2048.Idx → EReal) = g
  pointwise

theorem V5_apply (c : Dev nD) (d : Fin 2048) (n : Fin 16) : (V m c main_v5 : S2048x16.Idx → EReal) (ix2 d n) = (argsOf m c).wr d n := by
  have e : V m c main_v5 = truncf (F := Ideal) .bf16 (m ((c : Thread nD τ).loc main_arg10) : (⟨S2048x16, .f32⟩ : BufTy).Contents (Elt Ideal)) bitsLt_bf16_f32 := by
    show StableHlo.after hostOps0 (fun b => m (c, b)) main_v5 = _
    after_reads_simp
  rw [e]
  unfold argsOf
  generalize (m ((c : Thread nD τ).loc main_arg10) : S2048x16.Idx → EReal) = g
  pointwise

/-! ## Where the blocks of a point lie -/

theorem coords_val : ∀ t : Fin grid0.N, (grid0.coords t 0).val = t.val / 17 ∧ (grid0.coords t 1).val = t.val % 17 :=
  (by decide +kernel : ∀ t : Fin grid0.N, _)
theorem idx0 : ∀ t : Fin grid0.N, win0_0.index t (0 : Fin 3) = t.val / 17 ∧ win0_0.index t (1 : Fin 3) = t.val % 17 ∧ win0_0.index t (2 : Fin 3) = 0 :=
  (by decide +kernel : ∀ t : Fin grid0.N, _)
theorem idx1 : ∀ t : Fin grid0.N, win0_1.index t (0 : Fin 3) = t.val / 17 ∧ win0_1.index t (1 : Fin 3) = t.val % 17 ∧ win0_1.index t (2 : Fin 3) = 0 :=
  (by decide +kernel : ∀ t : Fin grid0.N, _)
theorem idx2 : ∀ t : Fin grid0.N, win0_2.index t (0 : Fin 3) = t.val / 17 ∧ win0_2.index t (1 : Fin 3) = 0 ∧ win0_2.index t (2 : Fin 3) = 0 :=
  (by decide +kernel : ∀ t : Fin grid0.N, _)
theorem idx3 : ∀ t : Fin grid0.N, win0_3.index t (0 : Fin 3) = t.val / 17 ∧ win0_3.index t (1 : Fin 3) = t.val % 17 - 1 ∧ win0_3.index t (2 : Fin 3) = 0 :=
  (by decide +kernel : ∀ t : Fin grid0.N, _)
theorem idx4 : ∀ t : Fin grid0.N, win0_4.index t (0 : Fin 2) = 0 ∧ win0_4.index t (1 : Fin 2) = 0 :=
  (by decide +kernel : ∀ t : Fin grid0.N, _)
theorem idx5 : ∀ t : Fin grid0.N, win0_5.index t (0 : Fin 2) = 0 ∧ win0_5.index t (1 : Fin 2) = 0 :=
  (by decide +kernel : ∀ t : Fin grid0.N, _)
theorem idx6 : ∀ t : Fin grid0.N, win0_6.index t (0 : Fin 2) = 0 ∧ win0_6.index t (1 : Fin 2) = 0 :=
  (by decide +kernel : ∀ t : Fin grid0.N, _)
theorem idx7 : ∀ t : Fin grid0.N, win0_7.index t (0 : Fin 2) = 0 ∧ win0_7.index t (1 : Fin 2) = 0 :=
  (by decide +kernel : ∀ t : Fin grid0.N, _)
theorem idx8 : ∀ t : Fin grid0.N, win0_8.index t (0 : Fin 2) = 0 ∧ win0_8.index t (1 : Fin 2) = 0 :=
  (by decide +kernel : ∀ t : Fin grid0.N, _)
theorem idx9 : ∀ t : Fin grid0.N, win0_9.index t (0 : Fin 2) = 0 ∧ win0_9.index t (1 : Fin 2) = 0 :=
  (by decide +kernel : ∀ t : Fin grid0.N, _)
theorem idx10 : ∀ t : Fin grid0.N, win0_10.index t (0 : Fin 2) = 0 ∧ win0_10.index t (1 : Fin 2) = 0 :=
  (by decide +kernel : ∀ t : Fin grid0.N, _)
theorem idx11 : ∀ t : Fin grid0.N, win0_11.index t (0 : Fin 2) = 0 ∧ win0_11.index t (1 : Fin 2) = 0 :=
  (by decide +kernel : ∀ t : Fin grid0.N, _)
theorem idx12 : ∀ t : Fin grid0.N, win0_12.index t (0 : Fin 3) = t.val / 17 ∧ win0_12.index t (1 : Fin 3) = t.val % 17 - 1 ∧ win0_12.index t (2 : Fin 3) = 0 :=
  (by decide +kernel : ∀ t : Fin grid0.N, _)
theorem idx13 : ∀ t : Fin grid0.N, win0_13.index t (0 : Fin 3) = t.val / 17 ∧ win0_13.index t (1 : Fin 3) = 0 ∧ win0_13.index t (2 : Fin 3) = 0 :=
  (by decide +kernel : ∀ t : Fin grid0.N, _)
theorem idx14 : ∀ t : Fin grid0.N, win0_14.index t (0 : Fin 4) = t.val / 17 ∧ win0_14.index t (1 : Fin 4) = t.val % 17 ∧ win0_14.index t (2 : Fin 4) = 0 ∧ win0_14.index t (3 : Fin 4) = 0 :=
  (by decide +kernel : ∀ t : Fin grid0.N, _)
theorem idx15 : ∀ t : Fin grid0.N, win0_15.index t (0 : Fin 3) = t.val / 17 ∧ win0_15.index t (1 : Fin 3) = t.val % 17 ∧ win0_15.index t (2 : Fin 3) = 0 :=
  (by decide +kernel : ∀ t : Fin grid0.N, _)

theorem iblk4_apply (c : Dev nD) (t : Fin grid0.N) (y : S1024x2048.Idx) : (iblk m c 4 t : S1024x2048.Idx → EReal) y = (V m c main_v1 : S1024x2048.Idx → EReal) y := by
  show V m c main_v1 (((cfg0.win 4).blk t).view.emb y) = _
  refine congrArg (V m c main_v1) ?_
  obtain ⟨e0, e1⟩ := idx4 t
  funext a; apply Fin.ext
  match a with
  | ⟨0, _⟩ => show win0_4.index t (0 : Fin 2) * 1024 + 1 * (y 0).val = (y 0).val; omega
  | ⟨1, _⟩ => show win0_4.index t (1 : Fin 2) * 2048 + 1 * (y 1).val = (y 1).val; omega

theorem iblk5_apply (c : Dev nD) (t : Fin grid0.N) (y : S1024x2048.Idx) : (iblk m c 5 t : S1024x2048.Idx → EReal) y = (V m c main_v2 : S1024x2048.Idx → EReal) y := by
  show V m c main_v2 (((cfg0.win 5).blk t).view.emb y) = _
  refine congrArg (V m c main_v2) ?_
  obtain ⟨e0, e1⟩ := idx5 t
  funext a; apply Fin.ext
  match a with
  | ⟨0, _⟩ => show win0_5.index t (0 : Fin 2) * 1024 + 1 * (y 0).val = (y 0).val; omega
  | ⟨1, _⟩ => show win0_5.index t (1 : Fin 2) * 2048 + 1 * (y 1).val = (y 1).val; omega

theorem iblk6_apply (c : Dev nD) (t : Fin grid0.N) (y : S1x2048.Idx) : (iblk m c 6 t : S1x2048.Idx → EReal) y = (V m c main_v3 : S1x2048.Idx → EReal) y := by
  show V m c main_v3 (((cfg0.win 6).blk t).view.emb y) = _
  refine congrArg (V m c main_v3) ?_
  obtain ⟨e0, e1⟩ := idx6 t
  funext a; apply Fin.ext
  match a with
  | ⟨0, _⟩ => show win0_6.index t (0 : Fin 2) * 1 + 1 * (y 0).val = (y 0).val; omega
  | ⟨1, _⟩ => show win0_6.index t (1 : Fin 2) * 2048 + 1 * (y 1).val = (y 1).val; omega

theorem iblk7_apply (c : Dev nD) (t : Fin grid0.N) (y : S8x2048.Idx) : (iblk m c 7 t : S8x2048.Idx → EReal) y = (V m c main_arg6 : S8x2048.Idx → EReal) y := by
  show V m c main_arg6 (((cfg0.win 7).blk t).view.emb y) = _
  refine congrArg (V m c main_arg6) ?_
  obtain ⟨e0, e1⟩ := idx7 t
  funext a; apply Fin.ext
  match a with
  | ⟨0, _⟩ => show win0_7.index t (0 : Fin 2) * 8 + 1 * (y 0).val = (y 0).val; omega
  | ⟨1, _⟩ => show win0_7.index t (1 : Fin 2) * 2048 + 1 * (y 1).val = (y 1).val; omega

theorem iblk8_apply (c : Dev nD) (t : Fin grid0.N) (y : S1x2048.Idx) : (iblk m c 8 t : S1x2048.Idx → EReal) y = (V m c main_v4 : S1x2048.Idx → EReal) y := by
  show V m c main_v4 (((cfg0.win 8).blk t).view.emb y) = _
  refine congrArg (V m c main_v4) ?_
  obtain ⟨e0, e1⟩ := idx8 t
  funext a; apply Fin.ext
  match a with
  | ⟨0, _⟩ => show win0_8.index t (0 : Fin 2) * 1 + 1 * (y 0).val = (y 0).val; omega
  | ⟨1, _⟩ => show win0_8.index t (1 : Fin 2) * 2048 + 1 * (y 1).val = (y 1).val; omega

theorem iblk9_apply (c : Dev nD) (t : Fin grid0.N) (y : S8x2048.Idx) : (iblk m c 9 t : S8x2048.Idx → EReal) y = (V m c main_arg8 : S8x2048.Idx → EReal) y := by
  show V m c main_arg8 (((cfg0.win 9).blk t).view.emb y) = _
  refine congrArg (V m c main_arg8) ?_
  obtain ⟨e0, e1⟩ := idx9 t
  funext a; apply Fin.ext
  match a with
  | ⟨0, _⟩ => show win0_9.index t (0 : Fin 2) * 8 + 1 * (y 0).val = (y 0).val; omega
  | ⟨1, _⟩ => show win0_9.index t (1 : Fin 2) * 2048 + 1 * (y 1).val = (y 1).val; omega

theorem iblk10_apply (c : Dev nD) (t : Fin grid0.N) (y : S8x2048.Idx) : (iblk m c 10 t : S8x2048.Idx → EReal) y = (V m c main_arg9 : S8x2048.Idx → EReal) y := by
  show V m c main_arg9 (((cfg0.win 10).blk t).view.emb y) = _
  refine congrArg (V m c main_arg9) ?_
  obtain ⟨e0, e1⟩ := idx10 t
  funext a; apply Fin.ext
  match a with
  | ⟨0, _⟩ => show win0_10.index t (0 : Fin 2) * 8 + 1 * (y 0).val = (y 0).val; omega
  | ⟨1, _⟩ => show win0_10.index t (1 : Fin 2) * 2048 + 1 * (y 1).val = (y 1).val; omega

theorem iblk11_apply (c : Dev nD) (t : Fin grid0.N) (y : S2048x16.Idx) : (iblk m c 11 t : S2048x16.Idx → EReal) y = (V m c main_v5 : S2048x16.Idx → EReal) y := by
  show V m c main_v5 (((cfg0.win 11).blk t).view.emb y) = _
  refine congrArg (V m c main_v5) ?_
  obtain ⟨e0, e1⟩ := idx11 t
  funext a; apply Fin.ext
  match a with
  | ⟨0, _⟩ => show win0_11.index t (0 : Fin 2) * 2048 + 1 * (y 0).val = (y 0).val; omega
  | ⟨1, _⟩ => show win0_11.index t (1 : Fin 2) * 16 + 1 * (y 1).val = (y 1).val; omega

theorem iblk0_apply (c : Dev nD) (t : Fin grid0.N) (r : Fin 256) (d : Fin 1024) (b : Fin 2) (R : Fin 4352) (hb : b.val = t.val / 17) (hR : R.val = 256 * (t.val % 17) + r.val) :
    (iblk m c 0 t : S1x256x1024.Idx → EReal) (ix3 0 r d) = (argsOf m c).s5 b R d := by
  show V m c main_arg0 (((cfg0.win 0).blk t).view.emb (show S1x256x1024.Idx from ix3 0 r d)) = _
  rw [V_arg m c main_arg0 (by decide)]
  refine congrArg (m ((c : Thread nD τ).loc main_arg0)) ?_
  obtain ⟨e0, e1, e2⟩ := idx0 t
  funext a; apply Fin.ext
  match a with
  | ⟨0, _⟩ => show win0_0.index t (0 : Fin 3) * 1 + 1 * 0 = b.val; omega
  | ⟨1, _⟩ => show win0_0.index t (1 : Fin 3) * 256 + 1 * r.val = R.val; omega
  | ⟨2, _⟩ => show win0_0.index t (2 : Fin 3) * 1024 + 1 * d.val = d.val; omega

theorem iblk1_apply (c : Dev nD) (t : Fin grid0.N) (r : Fin 256) (d : Fin 1024) (b : Fin 2) (R : Fin 4352) (hb : b.val = t.val / 17) (hR : R.val = 256 * (t.val % 17) + r.val) :
    (iblk m c 1 t : S1x256x1024.Idx → EReal) (ix3 0 r d) = (argsOf m c).ssd b R d := by
  show V m c main_arg1 (((cfg0.win 1).blk t).view.emb (show S1x256x1024.Idx from ix3 0 r d)) = _
  rw [V_arg m c main_arg1 (by decide)]
  refine congrArg (m ((c : Thread nD τ).loc main_arg1)) ?_
  obtain ⟨e0, e1, e2⟩ := idx1 t
  funext a; apply Fin.ext
  match a with
  | ⟨0, _⟩ => show win0_1.index t (0 : Fin 3) * 1 + 1 * 0 = b.val; omega
  | ⟨1, _⟩ => show win0_1.index t (1 : Fin 3) * 256 + 1 * r.val = R.val; omega
  | ⟨2, _⟩ => show win0_1.index t (2 : Fin 3) * 1024 + 1 * d.val = d.val; omega

theorem iblk2_apply (c : Dev nD) (t : Fin grid0.N) (r : Fin 256) (d : Fin 2048) (b : Fin 2) (R : Fin 256) (hb : b.val = t.val / 17) (hR : R.val = r.val) :
    (iblk m c 2 t : S1x256x2048.Idx → EReal) (ix3 0 r d) = (argsOf m c).ctx b R d := by
  show V m c main_arg2 (((cfg0.win 2).blk t).view.emb (show S1x256x2048.Idx from ix3 0 r d)) = _
  rw [V_arg m c main_arg2 (by decide)]
  refine congrArg (m ((c : Thread nD τ).loc main_arg2)) ?_
  obtain ⟨e0, e1, e2⟩ := idx2 t
  funext a; apply Fin.ext
  match a with
  | ⟨0, _⟩ => show win0_2.index t (0 : Fin 3) * 1 + 1 * 0 = b.val; omega
  | ⟨1, _⟩ => show win0_2.index t (1 : Fin 3) * 256 + 1 * r.val = R.val; omega
  | ⟨2, _⟩ => show win0_2.index t (2 : Fin 3) * 2048 + 1 * d.val = d.val; omega

theorem iblk3_apply (c : Dev nD) (t : Fin grid0.N) (r : Fin 256) (d : Fin 2048) (b : Fin 2) (R : Fin 4096) (hb : b.val = t.val / 17) (hR : R.val = 256 * (t.val % 17 - 1) + r.val) :
    (iblk m c 3 t : S1x256x2048.Idx → EReal) (ix3 0 r d) = (argsOf m c).lat b R d := by
  show V m c main_arg3 (((cfg0.win 3).blk t).view.emb (show S1x256x2048.Idx from ix3 0 r d)) = _
  rw [V_arg m c main_arg3 (by decide)]
  refine congrArg (m ((c : Thread nD τ).loc main_arg3)) ?_
  obtain ⟨e0, e1, e2⟩ := idx3 t
  funext a; apply Fin.ext
  match a with
  | ⟨0, _⟩ => show win0_3.index t (0 : Fin 3) * 1 + 1 * 0 = b.val; omega
  | ⟨1, _⟩ => show win0_3.index t (1 : Fin 3) * 256 + 1 * r.val = R.val; omega
  | ⟨2, _⟩ => show win0_3.index t (2 : Fin 3) * 2048 + 1 * d.val = d.val; omega

/-! ## A point's rows -/

/-- The row of the tables that a point reads is its tokens'. -/
theorem row_of (t : Fin grid0.N) (r : Fin 256) (b : Fin 2) (R : Fin 4352) (hb : b.val = t.val / 17) (hR : R.val = 256 * (t.val % 17) + r.val) :
    (mrow b R).val = if (grid0.coords t 1).val = 0 then 2 else (grid0.coords t 0).val := by
  obtain ⟨c0, c1⟩ := coords_val t
  have hr := r.isLt
  unfold mrow
  by_cases h : t.val % 17 = 0
  · rw [if_pos (c1.trans h), if_pos (show R.val < 256 by omega)]; rfl
  · rw [if_neg (fun h' => h (c1.symm.trans h')), if_neg (show ¬ R.val < 256 by omega)]; exact hb.trans c0.symm

/-- The new rows of a point are its tokens'. -/
theorem xnew_at (c : Dev nD) (t : Fin grid0.N) (r : Fin 256) (d : Fin 2048) (b : Fin 2) (R : Fin 4352) (hb : b.val = t.val / 17) (hR : R.val = 256 * (t.val % 17) + r.val) :
    xnew (F := Ideal) (grid0.coords t) (iblk m c 0 t) (iblk m c 1 t) (iblk m c 2 t) (iblk m c 3 t) (iblk m c 4 t) (iblk m c 5 t) (iblk m c 6 t) (iblk m c 7 t) (ix2 r d) = newRow (argsOf m c) b R d := by
  obtain ⟨c0, c1⟩ := coords_val t
  have hr := r.isLt
  refine (xnew_apply (grid0.coords t) _ _ _ _ _ _ _ _ (mrow b R) (row_of t r b R hb hR) r d).trans ?_
  unfold newRow
  have hx : (fun d : Fin 2048 => if (grid0.coords t 1).val = 0 then (iblk m c 2 t : S1x256x2048.Idx → EReal) (ix3 0 r d) else (iblk m c 3 t : S1x256x2048.Idx → EReal) (ix3 0 r d))
      = src (argsOf m c).ctx (argsOf m c).lat b R := by
    funext d
    unfold src
    by_cases h : t.val % 17 = 0
    · have hlt : R.val < 256 := by omega
      rw [if_pos (c1.trans h), dif_pos hlt]
      exact iblk2_apply m c t r d b ⟨R.val, hlt⟩ hb (show R.val = r.val by omega)
    · have hge : ¬ R.val < 256 := by omega
      rw [if_neg (fun h' => h (c1.symm.trans h')), dif_neg hge]
      exact iblk3_apply m c t r d b ⟨R.val - 256, by omega⟩ hb (show R.val - 256 = 256 * (t.val % 17 - 1) + r.val by omega)
  have hg : (fun d : Fin 2048 => (iblk m c 7 t : S8x2048.Idx → EReal) (ix2 (mrow b R) d)) = (argsOf m c).gate (mrow b R) := funext fun d => by
    rw [iblk7_apply, V_arg m c main_arg6 (by decide)]; rfl
  have h1 : (fun d : Fin 2048 => (iblk m c 6 t : S1x2048.Idx → EReal) (ix2 0 d)) = (argsOf m c).g1 := funext fun d => (iblk6_apply m c t _).trans (V3_apply m c d)
  refine congr (congr (congr (congr (congrArg res hx) hg) (funext fun d => ?_)) h1) rfl
  unfold mixed
  exact congrArg₂ (fun x y : EReal => x + y)
    (Finset.sum_congr rfl fun q _ => congrArg₂ (fun x y : EReal => x * y) (iblk0_apply m c t r q b R hb hR) ((iblk4_apply m c t _).trans (V1_apply m c q d)))
    (Finset.sum_congr rfl fun q _ => congrArg₂ (fun x y : EReal => x * y) (iblk1_apply m c t r q b R hb hR) ((iblk5_apply m c t _).trans (V2_apply m c q d)))

/-- … and its normalised rows. -/
theorem hid_at (c : Dev nD) (t : Fin grid0.N) (r : Fin 256) (d : Fin 2048) (b : Fin 2) (R : Fin 4352) (hb : b.val = t.val / 17) (hR : R.val = 256 * (t.val % 17) + r.val) :
    k0_pay7 (F := Ideal) (k0_pay2 (grid0.coords t) (iblk m c 2 t) (iblk m c 3 t)) (pick (grid0.coords t) (iblk m c 7 t)) (k0_pay3 (iblk m c 0 t) (iblk m c 4 t) (iblk m c 1 t) (iblk m c 5 t)) (iblk m c 6 t) (iblk m c 8 t) (pick (grid0.coords t) (iblk m c 9 t)) (pick (grid0.coords t) (iblk m c 10 t)) (ix2 r d)
      = hidRow (argsOf m c) b R d := by
  refine (pay7_at (grid0.coords t) _ _ _ _ _ _ _ _ _ _ _ (mrow b R) (row_of t r b R hb hR) r d).trans ?_
  unfold hidRow
  have hx : (fun d : Fin 2048 => xnew (F := Ideal) (grid0.coords t) (iblk m c 0 t) (iblk m c 1 t) (iblk m c 2 t) (iblk m c 3 t) (iblk m c 4 t) (iblk m c 5 t) (iblk m c 6 t) (iblk m c 7 t) (ix2 r d)) = newRow (argsOf m c) b R := funext fun d => xnew_at m c t r d b R hb hR
  have hg : (fun d : Fin 2048 => (iblk m c 8 t : S1x2048.Idx → EReal) (ix2 0 d)) = (argsOf m c).g2 := funext fun d => (iblk8_apply m c t _).trans (V4_apply m c d)
  have hs : (fun d : Fin 2048 => (iblk m c 9 t : S8x2048.Idx → EReal) (ix2 (mrow b R) d)) = (argsOf m c).sc (mrow b R) := funext fun d => by
    rw [iblk9_apply, V_arg m c main_arg8 (by decide)]; rfl
  have ht : (fun d : Fin 2048 => (iblk m c 10 t : S8x2048.Idx → EReal) (ix2 (mrow b R) d)) = (argsOf m c).sh (mrow b R) := funext fun d => by
    rw [iblk10_apply, V_arg m c main_arg9 (by decide)]; rfl
  exact congr (congr (congr (congr (congrArg nrm hx) hg) hs) ht) rfl

/-! ## The results, block by block -/

/-- Two points that write window 12 back write different blocks. -/
theorem inj12 : ∀ t t' : Fin grid0.N, win0_12.flush t = true → win0_12.flush t' = true → win0_12.index t = win0_12.index t' → t = t' := by decide +kernel
theorem blocks12 (c : Dev nD) (t : Fin cfg0.N) (hf : (cfg0.win 12).flush t = true) :
    ((cfg0.win 12).blk t).view.read (Elt Ideal) ((dats m 0 c).arrAt 12 cfg0.N) = (cfg0.win 12).cut (grid0.coords t) ((dats m 0 c).after 12 t) :=
  (dats m 0 c).read_blk_arrAt_eq_flushed 12 (fun t t' hf hf' hne => (cfg0.win 12).disjoint_blk fun h => hne (inj12 t t' hf hf' h)) cfg0.N t t.isLt hf

/-- Two points that write window 13 back write different blocks. -/
theorem inj13 : ∀ t t' : Fin grid0.N, win0_13.flush t = true → win0_13.flush t' = true → win0_13.index t = win0_13.index t' → t = t' := by decide +kernel
theorem blocks13 (c : Dev nD) (t : Fin cfg0.N) (hf : (cfg0.win 13).flush t = true) :
    ((cfg0.win 13).blk t).view.read (Elt Ideal) ((dats m 0 c).arrAt 13 cfg0.N) = (cfg0.win 13).cut (grid0.coords t) ((dats m 0 c).after 13 t) :=
  (dats m 0 c).read_blk_arrAt_eq_flushed 13 (fun t t' hf hf' hne => (cfg0.win 13).disjoint_blk fun h => hne (inj13 t t' hf hf' h)) cfg0.N t t.isLt hf

/-- Two points that write window 14 back write different blocks. -/
theorem inj14 : ∀ t t' : Fin grid0.N, win0_14.flush t = true → win0_14.flush t' = true → win0_14.index t = win0_14.index t' → t = t' := by decide +kernel
theorem blocks14 (c : Dev nD) (t : Fin cfg0.N) (hf : (cfg0.win 14).flush t = true) :
    ((cfg0.win 14).blk t).view.read (Elt Ideal) ((dats m 0 c).arrAt 14 cfg0.N) = (cfg0.win 14).cut (grid0.coords t) ((dats m 0 c).after 14 t) :=
  (dats m 0 c).read_blk_arrAt_eq_flushed 14 (fun t t' hf hf' hne => (cfg0.win 14).disjoint_blk fun h => hne (inj14 t t' hf hf' h)) cfg0.N t t.isLt hf

/-- Two points that write window 15 back write different blocks. -/
theorem inj15 : ∀ t t' : Fin grid0.N, win0_15.flush t = true → win0_15.flush t' = true → win0_15.index t = win0_15.index t' → t = t' := by decide +kernel
theorem blocks15 (c : Dev nD) (t : Fin cfg0.N) (hf : (cfg0.win 15).flush t = true) :
    ((cfg0.win 15).blk t).view.read (Elt Ideal) ((dats m 0 c).arrAt 15 cfg0.N) = (cfg0.win 15).cut (grid0.coords t) ((dats m 0 c).after 15 t) :=
  (dats m 0 c).read_blk_arrAt_eq_flushed 15 (fun t t' hf hf' hne => (cfg0.win 15).disjoint_blk fun h => hne (inj15 t t' hf hf' h)) cfg0.N t t.isLt hf

/-- The latents. -/
theorem arr12_apply (c : Dev nD) (b : Fin 2) (R : Fin 4096) (d : Fin 2048) :
    ((dats m 0 c).arrAt 12 cfg0.N : S2x4096x2048.Idx → EReal) (ix3 b R d) = newRow (argsOf m c) b ⟨256 + R.val, by omega⟩ d := by
  have hN : 17 * b.val + R.val / 256 + 1 < grid0.N := by rw [N_0]; omega
  have e := congrFun (blocks12 m c ⟨_, hN⟩ ((flush12 _).trans (decide_eq_true (show (17 * b.val + R.val / 256 + 1) % 17 ≠ 0 by omega)))) (show S1x256x2048.Idx from ix3 0 ⟨R.val % 256, by omega⟩ d)
  rw [after0_12] at e
  have e' : ((dats m 0 c).arrAt 12 cfg0.N : S2x4096x2048.Idx → EReal) (((cfg0.win 12).blk (⟨17 * b.val + R.val / 256 + 1, hN⟩ : Fin grid0.N)).view.emb (show S1x256x2048.Idx from ix3 0 ⟨R.val % 256, by omega⟩ d)) = _ := e
  rw [show ((cfg0.win 12).blk (⟨17 * b.val + R.val / 256 + 1, hN⟩ : Fin grid0.N)).view.emb (show S1x256x2048.Idx from ix3 0 ⟨R.val % 256, by omega⟩ d) = (ix3 b R d : S2x4096x2048.Idx) from by
    obtain ⟨e0, e1, e2⟩ := idx12 (⟨17 * b.val + R.val / 256 + 1, hN⟩ : Fin grid0.N)
    replace e0 : win0_12.index (⟨17 * b.val + R.val / 256 + 1, hN⟩ : Fin grid0.N) (0 : Fin 3) = (17 * b.val + R.val / 256 + 1) / 17 := e0
    replace e1 : win0_12.index (⟨17 * b.val + R.val / 256 + 1, hN⟩ : Fin grid0.N) (1 : Fin 3) = (17 * b.val + R.val / 256 + 1) % 17 - 1 := e1
    replace e2 : win0_12.index (⟨17 * b.val + R.val / 256 + 1, hN⟩ : Fin grid0.N) (2 : Fin 3) = 0 := e2
    funext a; apply Fin.ext
    match a with
    | ⟨0, _⟩ => show win0_12.index _ (0 : Fin 3) * 1 + 1 * 0 = b.val; rw [e0]; omega
    | ⟨1, _⟩ => show win0_12.index _ (1 : Fin 3) * 256 + 1 * (R.val % 256) = R.val; rw [e1]; omega
    | ⟨2, _⟩ => show win0_12.index _ (2 : Fin 3) * 2048 + 1 * d.val = d.val; rw [e2]; omega] at e'
  refine e'.trans ((cast_apply _ _ _).trans (xnew_at m c _ _ d b _ ?_ ?_))
  · show b.val = (17 * b.val + R.val / 256 + 1) / 17; omega
  · show 256 + R.val = 256 * ((17 * b.val + R.val / 256 + 1) % 17) + R.val % 256; omega

/-- The context: written back at its member's last point, as the first stored it. -/
theorem arr13_apply (c : Dev nD) (b : Fin 2) (r : Fin 256) (d : Fin 2048) :
    ((dats m 0 c).arrAt 13 cfg0.N : S2x256x2048.Idx → EReal) (ix3 b r d) = newRow (argsOf m c) b ⟨r.val, by omega⟩ d := by
  have hN : 17 * b.val + 16 < grid0.N := by rw [N_0]; omega
  have e := congrFun (blocks13 m c ⟨_, hN⟩ ((flush13 _).trans (decide_eq_true (show (17 * b.val + 16) % 17 = 16 by omega)))) (show S1x256x2048.Idx from ix3 0 r d)
  rw [after0_13] at e
  have e' : ((dats m 0 c).arrAt 13 cfg0.N : S2x256x2048.Idx → EReal) (((cfg0.win 13).blk (⟨17 * b.val + 16, hN⟩ : Fin grid0.N)).view.emb (show S1x256x2048.Idx from ix3 0 r d)) = _ := e
  rw [show ((cfg0.win 13).blk (⟨17 * b.val + 16, hN⟩ : Fin grid0.N)).view.emb (show S1x256x2048.Idx from ix3 0 r d) = (ix3 b r d : S2x256x2048.Idx) from by
    obtain ⟨e0, e1, e2⟩ := idx13 (⟨17 * b.val + 16, hN⟩ : Fin grid0.N)
    replace e0 : win0_13.index (⟨17 * b.val + 16, hN⟩ : Fin grid0.N) (0 : Fin 3) = (17 * b.val + 16) / 17 := e0
    replace e1 : win0_13.index (⟨17 * b.val + 16, hN⟩ : Fin grid0.N) (1 : Fin 3) = 0 := e1
    replace e2 : win0_13.index (⟨17 * b.val + 16, hN⟩ : Fin grid0.N) (2 : Fin 3) = 0 := e2
    funext a; apply Fin.ext
    match a with
    | ⟨0, _⟩ => show win0_13.index _ (0 : Fin 3) * 1 + 1 * 0 = b.val; rw [e0]; omega
    | ⟨1, _⟩ => show win0_13.index _ (1 : Fin 3) * 256 + 1 * r.val = r.val; rw [e1]; omega
    | ⟨2, _⟩ => show win0_13.index _ (2 : Fin 3) * 2048 + 1 * d.val = d.val; rw [e2]; omega] at e'
  refine e'.trans ((cast_apply _ _ _).trans (xnew_at m c _ _ d b _ ?_ ?_))
  · show b.val = 17 * ((17 * b.val + 16) / 17) / 17; omega
  · show r.val = 256 * ((17 * ((17 * b.val + 16) / 17)) % 17) + r.val; omega

/-- The normalised rows, in sixteen lane groups. -/
theorem arr14_apply (c : Dev nD) (b : Fin 2) (R : Fin 4352) (j : Fin 16) (l : Fin 128) :
    ((dats m 0 c).arrAt 14 cfg0.N : S2x4352x16x128.Idx → EReal) (ix4 b R j l) = hidRow (argsOf m c) b R ⟨j.val * 128 + l.val, by omega⟩ := by
  have hN : 17 * b.val + R.val / 256 < grid0.N := by rw [N_0]; omega
  have e := congrFun (blocks14 m c ⟨_, hN⟩ (flush0_14 _)) (show S1x256x16x128.Idx from ix4 0 ⟨R.val % 256, by omega⟩ j l)
  rw [after0_14] at e
  have e' : ((dats m 0 c).arrAt 14 cfg0.N : S2x4352x16x128.Idx → EReal) (((cfg0.win 14).blk (⟨17 * b.val + R.val / 256, hN⟩ : Fin grid0.N)).view.emb (show S1x256x16x128.Idx from ix4 0 ⟨R.val % 256, by omega⟩ j l)) = _ := e
  rw [show ((cfg0.win 14).blk (⟨17 * b.val + R.val / 256, hN⟩ : Fin grid0.N)).view.emb (show S1x256x16x128.Idx from ix4 0 ⟨R.val % 256, by omega⟩ j l) = (ix4 b R j l : S2x4352x16x128.Idx) from by
    obtain ⟨e0, e1, e2, e3⟩ := idx14 (⟨17 * b.val + R.val / 256, hN⟩ : Fin grid0.N)
    replace e0 : win0_14.index (⟨17 * b.val + R.val / 256, hN⟩ : Fin grid0.N) (0 : Fin 4) = (17 * b.val + R.val / 256) / 17 := e0
    replace e1 : win0_14.index (⟨17 * b.val + R.val / 256, hN⟩ : Fin grid0.N) (1 : Fin 4) = (17 * b.val + R.val / 256) % 17 := e1
    replace e2 : win0_14.index (⟨17 * b.val + R.val / 256, hN⟩ : Fin grid0.N) (2 : Fin 4) = 0 := e2
    replace e3 : win0_14.index (⟨17 * b.val + R.val / 256, hN⟩ : Fin grid0.N) (3 : Fin 4) = 0 := e3
    funext a; apply Fin.ext
    match a with
    | ⟨0, _⟩ => show win0_14.index _ (0 : Fin 4) * 1 + 1 * 0 = b.val; rw [e0]; omega
    | ⟨1, _⟩ => show win0_14.index _ (1 : Fin 4) * 256 + 1 * (R.val % 256) = R.val; rw [e1]; omega
    | ⟨2, _⟩ => show win0_14.index _ (2 : Fin 4) * 16 + 1 * j.val = j.val; rw [e2]; omega
    | ⟨3, _⟩ => show win0_14.index _ (3 : Fin 4) * 128 + 1 * l.val = l.val; rw [e3]; omega] at e'
  refine e'.trans ((pay8_apply _ _ _ _ _ _ _ _ j l ⟨j.val * 128 + l.val, by omega⟩ rfl).trans (hid_at m c _ _ _ b R ?_ ?_))
  · show b.val = (17 * b.val + R.val / 256) / 17; omega
  · show R.val = 256 * ((17 * b.val + R.val / 256) % 17) + R.val % 256; omega

/-- The logits. -/
theorem arr15_apply (c : Dev nD) (b : Fin 2) (R : Fin 4352) (n : Fin 16) :
    ((dats m 0 c).arrAt 15 cfg0.N : S2x4352x16.Idx → EReal) (ix3 b R n) = logit (argsOf m c) b R n := by
  have hN : 17 * b.val + R.val / 256 < grid0.N := by rw [N_0]; omega
  have e := congrFun (blocks15 m c ⟨_, hN⟩ (flush0_15 _)) (show S1x256x16.Idx from ix3 0 ⟨R.val % 256, by omega⟩ n)
  rw [after0_15] at e
  have e' : ((dats m 0 c).arrAt 15 cfg0.N : S2x4352x16.Idx → EReal) (((cfg0.win 15).blk (⟨17 * b.val + R.val / 256, hN⟩ : Fin grid0.N)).view.emb (show S1x256x16.Idx from ix3 0 ⟨R.val % 256, by omega⟩ n)) = _ := e
  rw [show ((cfg0.win 15).blk (⟨17 * b.val + R.val / 256, hN⟩ : Fin grid0.N)).view.emb (show S1x256x16.Idx from ix3 0 ⟨R.val % 256, by omega⟩ n) = (ix3 b R n : S2x4352x16.Idx) from by
    obtain ⟨e0, e1, e2⟩ := idx15 (⟨17 * b.val + R.val / 256, hN⟩ : Fin grid0.N)
    replace e0 : win0_15.index (⟨17 * b.val + R.val / 256, hN⟩ : Fin grid0.N) (0 : Fin 3) = (17 * b.val + R.val / 256) / 17 := e0
    replace e1 : win0_15.index (⟨17 * b.val + R.val / 256, hN⟩ : Fin grid0.N) (1 : Fin 3) = (17 * b.val + R.val / 256) % 17 := e1
    replace e2 : win0_15.index (⟨17 * b.val + R.val / 256, hN⟩ : Fin grid0.N) (2 : Fin 3) = 0 := e2
    funext a; apply Fin.ext
    match a with
    | ⟨0, _⟩ => show win0_15.index _ (0 : Fin 3) * 1 + 1 * 0 = b.val; rw [e0]; omega
    | ⟨1, _⟩ => show win0_15.index _ (1 : Fin 3) * 256 + 1 * (R.val % 256) = R.val; rw [e1]; omega
    | ⟨2, _⟩ => show win0_15.index _ (2 : Fin 3) * 16 + 1 * n.val = n.val; rw [e2]; omega] at e'
  refine e'.trans ((pay1_apply _ _ _ _).trans ?_)
  unfold logit
  refine Finset.sum_congr rfl fun d _ => congrArg₂ (fun x y : EReal => x * y) (hid_at m c _ _ d b R ?_ ?_) ((iblk11_apply m c _ _).trans (V5_apply m c d n))
  · show b.val = (17 * b.val + R.val / 256) / 17; omega
  · show R.val = 256 * ((17 * b.val + R.val / 256) % 17) + R.val % 256; omega

end Cert.Kernel3Ideal.Hand

end
-- ==== Proof.OutProjRef.lean ====
/-
  Hand-written. What the output projection's reference gives over the extended reals, element by element.
-/
module

public import proofs.«01_k».proof.Proof.Gen.Reference3Ideal.Run
public import proofs.«01_k».proof.Proof.OutProjSpec
public import Idealize.ShloMosaic.Lib.Pointwise
public import Idealize.ShloMosaic.Lib.ValueIdx

@[expose] public section

set_option maxRecDepth 16384

noncomputable section

namespace Cert.Reference3Ideal.Hand

open Cert.Reference3Ideal Cert.Reference3Ideal.Gen Cert.Proj Cert.OutProj
open Idealize.ShloMosaic Idealize.ShloMosaic.TcCoe Idealize.ShloMosaic.Tactic

/-- The two mixers' outputs side by side. -/
def mix (A B : S2x4352x1024.Idx → EReal) : S2x4352x2048.Idx → EReal :=
  concatenate S2x4352x2048 2 [⟨S2x4352x1024, A⟩, ⟨S2x4352x1024, B⟩] concatenates_S2x4352x1024_S2x4352x1024_S2x4352x2048_d2
/-- The two groups of tokens in one array. -/
def both (A : S2x256x2048.Idx → EReal) (B : S2x4096x2048.Idx → EReal) : S2x4352x2048.Idx → EReal :=
  concatenate S2x4352x2048 1 [⟨S2x256x2048, A⟩, ⟨S2x4096x2048, B⟩] concatenates_S2x256x2048_S2x4096x2048_S2x4352x2048_d1

/-- The context: the product with the output weight, a row over its root mean square, the gain, a row of a table, the new rows and their norm. -/
def dotC (M : S2x4352x2048.Idx → EReal) (W : S2048x2048.Idx → EReal) : S2x256x2048.Idx → EReal :=
  Host.dotGeneral (F := Ideal) (φ₁ := .bf16) (φ₂ := .f32) dot_S2x256x2048_S2048x2048_S2x256x2048_2_0_01_1_n_n none (extractStridedSlice S2x256x2048 ![0, 0, 0] M slices_S2x4352x2048_S2x256x2048_0_0_0) W
def rtC (Y : S2x256x2048.Idx → EReal) : S2x256x2048.Idx → EReal :=
  mulf (F := Ideal) (φ := .f32) Y (broadcastInDim S2x256x2048 ![0, 1, 2] bcast_S2x256x1_S2x256x2048_0_1_2 (Host.rsqrt (F := Ideal) (φ := .f32) (addf (F := Ideal) (φ := .f32) (Host.divf (F := Ideal) (φ := .f32) (broadcastInDim S2x256x1 ![0, 1] bcast_S2x256_S2x256x1_0_1 (Host.reduceAdd (F := Ideal) (φ := .f32) (mulf (F := Ideal) (φ := .f32) Y Y) (constant (F := Ideal) S_ .f32 0x00000000#32) reducesTo_S2x256x2048_S2x256_d2 h_S_)) (broadcastInDim S2x256x1 ![] bcast_S_S2x256x1 (constant (F := Ideal) S_ .f32 0x45000000#32))) (broadcastInDim S2x256x1 ![] bcast_S_S2x256x1 (constant (F := Ideal) S_ .f32 0x358637BD#32)))))
def gainC (g : S2048.Idx → EReal) : S2x256x2048.Idx → EReal :=
  broadcastInDim S2x256x2048 ![0, 1, 2] bcast_S1x1x2048_S2x256x2048_0_1_2 (broadcastInDim S1x1x2048 ![2] bcast_S2048_S1x1x2048_2 g)
def rowC (t : S8x2048.Idx → EReal) : S2x256x2048.Idx → EReal :=
  broadcastInDim S2x256x2048 ![0, 1, 2] bcast_S1x1x2048_S2x256x2048_0_1_2 (broadcastInDim S1x1x2048 ![2] bcast_S2048_S1x1x2048_2 (shapeCast S2048 (extractStridedSlice S1x2048 ![2, 0] t slices_S8x2048_S1x2048_2_0) shapeCasts_S1x2048_S2048))
def oneC (s : S8x2048.Idx → EReal) : S2x256x2048.Idx → EReal :=
  broadcastInDim S2x256x2048 ![0, 1, 2] bcast_S1x1x2048_S2x256x2048_0_1_2 (broadcastInDim S1x1x2048 ![2] bcast_S2048_S1x1x2048_2 (addf (F := Ideal) (φ := .f32) (broadcastInDim S2048 ![] bcast_S_S2048 (constant (F := Ideal) S_ .f32 0x3F800000#32)) (shapeCast S2048 (extractStridedSlice S1x2048 ![2, 0] s slices_S8x2048_S1x2048_2_0) shapeCasts_S1x2048_S2048)))
def newC (X : S2x256x2048.Idx → EReal) (gate : S8x2048.Idx → EReal) (Y : S2x256x2048.Idx → EReal) (g : S2048.Idx → EReal) : S2x256x2048.Idx → EReal :=
  addf (F := Ideal) (φ := .f32) X (mulf (F := Ideal) (φ := .f32) (rowC gate) (mulf (F := Ideal) (φ := .f32) (rtC Y) (gainC g)))
def normC (X : S2x256x2048.Idx → EReal) (g : S2048.Idx → EReal) (s t : S8x2048.Idx → EReal) : S2x256x2048.Idx → EReal :=
  addf (F := Ideal) (φ := .f32) (mulf (F := Ideal) (φ := .f32) (mulf (F := Ideal) (φ := .f32) (rtC X) (gainC g)) (oneC s)) (rowC t)

theorem dotC_apply (M : S2x4352x2048.Idx → EReal) (W : S2048x2048.Idx → EReal) (b : Fin 2) (r : Fin 256) (d : Fin 2048) :
    dotC M W (ix3 b r d) = ∑ k : Fin 2048, M (ix3 b ⟨0 + r.val, by omega⟩ k) * W (ix2 k d) := by
  pointwise [dotC]
theorem newC_apply (X : S2x256x2048.Idx → EReal) (gate : S8x2048.Idx → EReal) (Y : S2x256x2048.Idx → EReal) (g : S2048.Idx → EReal) (b : Fin 2) (r : Fin 256) (d : Fin 2048) :
    newC X gate Y g (ix3 b r d) = res (fun d => X (ix3 b r d)) (fun d => gate (ix2 2 d)) (fun d => Y (ix3 b r d)) (fun d => g (ix1 d)) d := by
  pointwise [newC, rtC, gainC, rowC, res, rt]
theorem normC_apply (X : S2x256x2048.Idx → EReal) (g : S2048.Idx → EReal) (s t : S8x2048.Idx → EReal) (b : Fin 2) (r : Fin 256) (d : Fin 2048) :
    normC X g s t (ix3 b r d) = nrm (fun d => X (ix3 b r d)) (fun d => g (ix1 d)) (fun d => s (ix2 2 d)) (fun d => t (ix2 2 d)) d := by
  pointwise [normC, rtC, gainC, rowC, oneC, nrm]

/-- The latents: the product with the output weight, a row over its root mean square, the gain, a row of a table, the new rows and their norm. -/
def dotL (M : S2x4352x2048.Idx → EReal) (W : S2048x2048.Idx → EReal) : S2x4096x2048.Idx → EReal :=
  Host.dotGeneral (F := Ideal) (φ₁ := .bf16) (φ₂ := .f32) dot_S2x4096x2048_S2048x2048_S2x4096x2048_2_0_01_1_n_n none (extractStridedSlice S2x4096x2048 ![0, 256, 0] M slices_S2x4352x2048_S2x4096x2048_0_256_0) W
def rtL (Y : S2x4096x2048.Idx → EReal) : S2x4096x2048.Idx → EReal :=
  mulf (F := Ideal) (φ := .f32) Y (broadcastInDim S2x4096x2048 ![0, 1, 2] bcast_S2x4096x1_S2x4096x2048_0_1_2 (Host.rsqrt (F := Ideal) (φ := .f32) (addf (F := Ideal) (φ := .f32) (Host.divf (F := Ideal) (φ := .f32) (broadcastInDim S2x4096x1 ![0, 1] bcast_S2x4096_S2x4096x1_0_1 (Host.reduceAdd (F := Ideal) (φ := .f32) (mulf (F := Ideal) (φ := .f32) Y Y) (constant (F := Ideal) S_ .f32 0x00000000#32) reducesTo_S2x4096x2048_S2x4096_d2 h_S_)) (broadcastInDim S2x4096x1 ![] bcast_S_S2x4096x1 (constant (F := Ideal) S_ .f32 0x45000000#32))) (broadcastInDim S2x4096x1 ![] bcast_S_S2x4096x1 (constant (F := Ideal) S_ .f32 0x358637BD#32)))))
def gainL (g : S2048.Idx → EReal) : S2x4096x2048.Idx → EReal :=
  broadcastInDim S2x4096x2048 ![0, 1, 2] bcast_S1x1x2048_S2x4096x2048_0_1_2 (broadcastInDim S1x1x2048 ![2] bcast_S2048_S1x1x2048_2 g)
def rowL (t : S8x2048.Idx → EReal) : S2x4096x2048.Idx → EReal :=
  broadcastInDim S2x4096x2048 ![0, 1, 2] bcast_S2x1x2048_S2x4096x2048_0_1_2 (broadcastInDim S2x1x2048 ![0, 2] bcast_S2x2048_S2x1x2048_0_2 (extractStridedSlice S2x2048 ![0, 0] t slices_S8x2048_S2x2048_0_0))
def oneL (s : S8x2048.Idx → EReal) : S2x4096x2048.Idx → EReal :=
  broadcastInDim S2x4096x2048 ![0, 1, 2] bcast_S2x1x2048_S2x4096x2048_0_1_2 (addf (F := Ideal) (φ := .f32) (broadcastInDim S2x1x2048 ![] bcast_S_S2x1x2048 (constant (F := Ideal) S_ .f32 0x3F800000#32)) (broadcastInDim S2x1x2048 ![0, 2] bcast_S2x2048_S2x1x2048_0_2 (extractStridedSlice S2x2048 ![0, 0] s slices_S8x2048_S2x2048_0_0)))
def newL (X : S2x4096x2048.Idx → EReal) (gate : S8x2048.Idx → EReal) (Y : S2x4096x2048.Idx → EReal) (g : S2048.Idx → EReal) : S2x4096x2048.Idx → EReal :=
  addf (F := Ideal) (φ := .f32) X (mulf (F := Ideal) (φ := .f32) (rowL gate) (mulf (F := Ideal) (φ := .f32) (rtL Y) (gainL g)))
def normL (X : S2x4096x2048.Idx → EReal) (g : S2048.Idx → EReal) (s t : S8x2048.Idx → EReal) : S2x4096x2048.Idx → EReal :=
  addf (F := Ideal) (φ := .f32) (mulf (F := Ideal) (φ := .f32) (mulf (F := Ideal) (φ := .f32) (rtL X) (gainL g)) (oneL s)) (rowL t)

theorem dotL_apply (M : S2x4352x2048.Idx → EReal) (W : S2048x2048.Idx → EReal) (b : Fin 2) (r : Fin 4096) (d : Fin 2048) :
    dotL M W (ix3 b r d) = ∑ k : Fin 2048, M (ix3 b ⟨256 + r.val, by omega⟩ k) * W (ix2 k d) := by
  pointwise [dotL]
theorem newL_apply (X : S2x4096x2048.Idx → EReal) (gate : S8x2048.Idx → EReal) (Y : S2x4096x2048.Idx → EReal) (g : S2048.Idx → EReal) (b : Fin 2) (k : Fin 8) (hk : k.val = b.val) (r : Fin 4096) (d : Fin 2048) :
    newL X gate Y g (ix3 b r d) = res (fun d => X (ix3 b r d)) (fun d => gate (ix2 k d)) (fun d => Y (ix3 b r d)) (fun d => g (ix1 d)) d := by
  rw [← (Fin.ext hk.symm : (⟨b.val, by omega⟩ : Fin 8) = k)]
  pointwise [newL, rtL, gainL, rowL, res, rt]
theorem normL_apply (X : S2x4096x2048.Idx → EReal) (g : S2048.Idx → EReal) (s t : S8x2048.Idx → EReal) (b : Fin 2) (k : Fin 8) (hk : k.val = b.val) (r : Fin 4096) (d : Fin 2048) :
    normL X g s t (ix3 b r d) = nrm (fun d => X (ix3 b r d)) (fun d => g (ix1 d)) (fun d => s (ix2 k d)) (fun d => t (ix2 k d)) d := by
  rw [← (Fin.ext hk.symm : (⟨b.val, by omega⟩ : Fin 8) = k)]
  pointwise [normL, rtL, gainL, rowL, oneL, nrm]

/-- The product with the router's weight, and the rows in sixteen lane groups. -/
def route (H : S2x4352x2048.Idx → EReal) (W : S2048x16.Idx → EReal) : S2x4352x16.Idx → EReal :=
  Host.dotGeneral (F := Ideal) (φ₁ := .f32) (φ₂ := .f32) dot_S2x4352x2048_S2048x16_S2x4352x16_2_0_01_1_n_n none H W
def lanes (H : S2x4352x2048.Idx → EReal) : S2x4352x16x128.Idx → EReal := shapeCast S2x4352x16x128 H shapeCasts_S2x4352x2048_S2x4352x16x128

theorem route_apply (H : S2x4352x2048.Idx → EReal) (W : S2048x16.Idx → EReal) (b : Fin 2) (R : Fin 4352) (n : Fin 16) :
    route H W (ix3 b R n) = ∑ d : Fin 2048, H (ix3 b R d) * W (ix2 d n) := by
  pointwise [route]
theorem lanes_apply (H : S2x4352x2048.Idx → EReal) (b : Fin 2) (R : Fin 4352) (j : Fin 16) (l : Fin 128) :
    lanes H (ix4 b R j l) = H (ix3 b R ⟨j.val * 128 + l.val, by omega⟩) := by
  pointwise [lanes]

theorem both_lo (A : S2x256x2048.Idx → EReal) (B : S2x4096x2048.Idx → EReal) (b : Fin 2) (R : Fin 4352) (h : R.val < 256) (d : Fin 2048) :
    both A B (ix3 b R d) = A (ix3 b ⟨R.val, h⟩ d) := by
  exact concatenate_pair_apply_left (t := S2x4352x2048) (s₁ := S2x256x2048) (s₂ := S2x4096x2048) 1 A B concatenates_S2x256x2048_S2x4096x2048_S2x4352x2048_d1 (ix3 b R d) rfl
    (ix3 b (⟨R.val, h⟩ : Fin 256) d) (by intro a; match a with | ⟨0, _⟩ => rfl | ⟨1, _⟩ => rfl | ⟨2, _⟩ => rfl)
theorem both_hi (A : S2x256x2048.Idx → EReal) (B : S2x4096x2048.Idx → EReal) (b : Fin 2) (R : Fin 4352) (h : ¬ R.val < 256) (d : Fin 2048) :
    both A B (ix3 b R d) = B (ix3 b ⟨R.val - 256, by omega⟩ d) := by
  exact concatenate_pair_apply_right (t := S2x4352x2048) (s₁ := S2x256x2048) (s₂ := S2x4096x2048) 1 A B concatenates_S2x256x2048_S2x4096x2048_S2x4352x2048_d1 (ix3 b R d) rfl rfl
    (ix3 b (⟨R.val - 256, by omega⟩ : Fin 4096) d) (by
      intro a ha
      match a with
      | ⟨0, _⟩ => rfl
      | ⟨1, _⟩ => exact absurd rfl ha
      | ⟨2, _⟩ => rfl) (show R.val - 256 + 256 = R.val by omega)
theorem mix_lo (A B : S2x4352x1024.Idx → EReal) (b : Fin 2) (R : Fin 4352) (k : Fin 1024) : mix A B (ix3 b R ⟨0 + k.val, by omega⟩) = A (ix3 b R k) := by
  exact concatenate_pair_apply_left (t := S2x4352x2048) (s₁ := S2x4352x1024) (s₂ := S2x4352x1024) 2 A B concatenates_S2x4352x1024_S2x4352x1024_S2x4352x2048_d2 (ix3 b R (⟨0 + k.val, by omega⟩ : Fin 2048)) rfl
    (ix3 b R k) (by intro a; match a with | ⟨0, _⟩ => rfl | ⟨1, _⟩ => rfl | ⟨2, _⟩ => exact (Nat.zero_add k.val).symm)
theorem mix_hi (A B : S2x4352x1024.Idx → EReal) (b : Fin 2) (R : Fin 4352) (k : Fin 1024) : mix A B (ix3 b R ⟨1024 + k.val, by omega⟩) = B (ix3 b R k) := by
  exact concatenate_pair_apply_right (t := S2x4352x2048) (s₁ := S2x4352x1024) (s₂ := S2x4352x1024) 2 A B concatenates_S2x4352x1024_S2x4352x1024_S2x4352x2048_d2 (ix3 b R (⟨1024 + k.val, by omega⟩ : Fin 2048)) rfl rfl
    (ix3 b R k) (by
      intro a ha
      match a with
      | ⟨0, _⟩ => rfl
      | ⟨1, _⟩ => rfl
      | ⟨2, _⟩ => exact absurd rfl ha) (Nat.add_comm k.val 1024)

/-- A sum over the mixers' columns, half by half. -/
theorem halves (f : Fin 2048 → EReal) : ∑ k, f k = (∑ k : Fin 1024, f ⟨0 + k.val, by omega⟩) + ∑ k : Fin 1024, f ⟨1024 + k.val, by omega⟩ := by
  refine (Fin.sum_univ_add (a := 1024) (b := 1024) f).trans (congrArg₂ (fun x y : EReal => x + y) ?_ ?_)
  · exact Finset.sum_congr rfl fun k _ => congrArg f (Fin.ext (Nat.zero_add k.val).symm)
  · exact Finset.sum_congr rfl fun k _ => congrArg f (Fin.ext rfl)

section Whole
variable (A B : S2x4352x1024.Idx → EReal) (C : S2x256x2048.Idx → EReal) (L : S2x4096x2048.Idx → EReal) (W : S2048x2048.Idx → EReal) (g1 : S2048.Idx → EReal)
  (gate : S8x2048.Idx → EReal) (g2 : S2048.Idx → EReal) (s t : S8x2048.Idx → EReal) (wr : S2048x16.Idx → EReal)

/-- The arguments, as functions of their coordinates. -/
def argsOf : Args where
  s5 b R k := A (ix3 b R k)
  ssd b R k := B (ix3 b R k)
  ctx b r d := C (ix3 b r d)
  lat b r d := L (ix3 b r d)
  w k d := W (ix2 k d)
  g1 d := g1 (ix1 d)
  gate k d := gate (ix2 k d)
  g2 d := g2 (ix1 d)
  sc k d := s (ix2 k d)
  sh k d := t (ix2 k d)
  wr d n := wr (ix2 d n)

theorem mixed_eq (b : Fin 2) (R : Fin 4352) (d : Fin 2048) :
    ∑ k : Fin 2048, mix A B (ix3 b R k) * W (ix2 k d) = mixed (argsOf A B C L W g1 gate g2 s t wr) b R d := by
  rw [halves]
  simp only [mix_lo, mix_hi]
  rfl

/-- The new rows, whole. -/
def allC : S2x256x2048.Idx → EReal := newC C gate (dotC (mix A B) W) g1
def allL : S2x4096x2048.Idx → EReal := newL L gate (dotL (mix A B) W) g1
/-- … and their norm. -/
def allH : S2x4352x2048.Idx → EReal := both (normC (allC A B C W g1 gate) g2 s t) (normL (allL A B L W g1 gate) g2 s t)

theorem allC_apply (b : Fin 2) (r : Fin 256) (d : Fin 2048) (R : Fin 4352) (hR : R.val = r.val) :
    allC A B C W g1 gate (ix3 b r d) = newRow (argsOf A B C L W g1 gate g2 s t wr) b R d := by
  have hr := r.isLt
  unfold allC newRow src mrow
  rw [newC_apply, dif_pos (show R.val < 256 by omega), if_pos (show R.val < 256 by omega)]
  rw [show (⟨R.val, by omega⟩ : Fin 256) = r from Fin.ext hR]
  refine congr (congr (congr (congr (congrArg res rfl) rfl) (funext fun d => ?_)) rfl) rfl
  rw [dotC_apply, ← mixed_eq]
  refine Finset.sum_congr rfl fun k _ => congrArg (fun x : Fin 4352 => mix A B (ix3 b x k) * W (ix2 k d)) (Fin.ext ?_)
  show 0 + r.val = R.val; omega

theorem allL_apply (b : Fin 2) (r : Fin 4096) (d : Fin 2048) (R : Fin 4352) (hR : R.val = 256 + r.val) :
    allL A B L W g1 gate (ix3 b r d) = newRow (argsOf A B C L W g1 gate g2 s t wr) b R d := by
  have hr := r.isLt
  unfold allL newRow src mrow
  rw [newL_apply L gate _ g1 b ⟨b.val, by omega⟩ rfl, dif_neg (show ¬ R.val < 256 by omega), if_neg (show ¬ R.val < 256 by omega)]
  rw [show (⟨R.val - 256, by omega⟩ : Fin 4096) = r from Fin.ext (show R.val - 256 = r.val by omega)]
  refine congr (congr (congr (congr (congrArg res rfl) rfl) (funext fun d => ?_)) rfl) rfl
  rw [dotL_apply, ← mixed_eq]
  refine Finset.sum_congr rfl fun k _ => congrArg (fun x : Fin 4352 => mix A B (ix3 b x k) * W (ix2 k d)) (Fin.ext ?_)
  exact hR.symm

theorem allH_apply (b : Fin 2) (R : Fin 4352) (d : Fin 2048) :
    allH A B C L W g1 gate g2 s t (ix3 b R d) = hidRow (argsOf A B C L W g1 gate g2 s t wr) b R d := by
  unfold allH hidRow mrow
  by_cases h : R.val < 256
  · rw [both_lo _ _ b R h, normC_apply, if_pos h]
    simp only [allC_apply A B C L W g1 gate g2 s t wr b ⟨R.val, h⟩ _ R rfl]
    rfl
  · rw [both_hi _ _ b R h]
    refine (normL_apply _ g2 s t b ⟨b.val, by omega⟩ rfl _ d).trans ?_
    rw [if_neg h]
    simp only [allL_apply A B C L W g1 gate g2 s t wr b ⟨R.val - 256, by omega⟩ _ R (show R.val = 256 + (R.val - 256) by omega)]
    rfl

end Whole

end Cert.Reference3Ideal.Hand

end
-- ==== Proof.OutProjAlgebra.lean ====
/-
  Hand-written. From equal arguments the output projection's launch and its reference end with the same four results; and the frames of the two.
-/
module

public import proofs.«01_k».proof.Defs
public import proofs.«01_k».proof.Proof.OutProjVal
public import proofs.«01_k».proof.Proof.OutProjRef
public import proofs.«01_k».proof.Proof.Gen.Kernel3
public import proofs.«01_k».proof.Proof.Gen.Kernel3.Launch
public import proofs.«01_k».proof.Proof.Gen.Reference3Ideal

@[expose] public section

set_option maxRecDepth 16384

noncomputable section

namespace Cert.Proof

open Idealize.ShloMosaic Idealize.ShloMosaic.TcCoe Idealize.ShloMosaic.Tactic Idealize.SL.Sem Cert.OutProj

attribute [local instance] Cert.Kernel3.Gen.facts Cert.Kernel3Ideal.Gen.facts Cert.Reference3Ideal.Gen.facts

namespace Out

section Same

variable {F : FTy → Type} [FloatOps F]

set_option maxRecDepth 65536

/-- The two printed programs are one text: the same body … -/
theorem defs₀_same : Cert.Kernel3.defs₀ (F := F) = Cert.Kernel3Ideal.defs₀ (F := F) := by
  unfold Cert.Kernel3.defs₀ Cert.Kernel3Ideal.defs₀
  refine congrArg Defs.onTc (funext fun l => funext fun a => ?_)
  match l, a with
  | 0, (t, s) => rfl

/-- … the same launches … -/
theorem defs_same : Cert.Kernel3.defs (F := F) = Cert.Kernel3Ideal.defs (F := F) :=
  congrArg (fun d => Pipeline.defs (Cert.Kernel3Ideal.pcfgs (F := F)) d) defs₀_same

/-- … the same host operations … -/
theorem ops_same : Cert.Kernel3.Gen.hostOps0 (F := F) = Cert.Kernel3Ideal.Gen.hostOps0 (F := F) := rfl

/-- … and so the same main function. -/
theorem main_same : Cert.Kernel3.main (F := F) = Cert.Kernel3Ideal.main (F := F) := funext fun c =>
  (Cert.Kernel3.Gen.main_chain c).trans ((congrArg (fun l => (Pipeline.chain [StableHlo.seq l, Prog.lift (.customCall (Pipeline.entry 0) ())] :
    Prog (TpuEff Cert.Kernel3Ideal.nD Cert.Kernel3Ideal.τ Cert.Kernel3Ideal.sig (Elt F) (Pipeline.Sig Cert.Kernel3Ideal.Λ₀ (Fin 1) fun p => (Cert.Kernel3Ideal.pcfgs (F := F) p).Adm) .tc) PUnit)) ops_same).trans
    (Cert.Kernel3Ideal.Gen.main_chain c).symm)

/-- A run of one main function is a run of an equal one. -/
theorem run_same {d d' : type_of% (Cert.Kernel3Ideal.defs (F := F))} (hd : d = d') {f f' : type_of% (Cert.Kernel3Ideal.main (F := F))} (hf : f = f')
    {s} {Q} (h : θ_run d' (onTc (τ := Cert.Kernel3Ideal.τ) f') s Q) : θ_run d (onTc (τ := Cert.Kernel3Ideal.τ) f) s Q := by
  subst hd hf; exact h

end Same

section Results
variable (m : (ℓ : Loc Cert.Kernel3Ideal.nD Cert.Kernel3Ideal.τ Cert.Kernel3Ideal.sig) → Buf (Elt Ideal) ℓ) (m' : (ℓ : Loc Cert.Reference3Ideal.nD Cert.Reference3Ideal.τ Cert.Reference3Ideal.sig) → Buf (Elt Ideal) ℓ) (c : Dev Cert.Kernel3Ideal.nD)

/-- The reference's arguments on a device are the launch's. -/
abbrev Agree : Prop := m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0) ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1) ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2) ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3) ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4) ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5) ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6) ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7) ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8) ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9) ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)

variable {m m' c}

theorem args_eq (h : Agree m m' c) : Cert.Reference3Ideal.Hand.argsOf (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) = Cert.Kernel3Ideal.Hand.argsOf m c := by
  obtain ⟨h0, h1, h2, h3, h4, h5, h6, h7, h8, h9, h10⟩ := h
  rw [h0, h1, h2, h3, h4, h5, h6, h7, h8, h9, h10]
  rfl

theorem res12 (h : Agree m m' c) : Cert.Reference3Ideal.Hand.allL (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) = (Cert.Kernel3Ideal.Hand.dats m 0 c).arrAt 12 Cert.Kernel3Ideal.cfg0.N := by
  funext y
  obtain ⟨b, r, d, rfl⟩ : ∃ (b : Fin 2) (r : Fin 4096) (d : Fin 2048), y = ix3 b r d := ⟨y 0, y 1, y 2, eq_ix3 y⟩
  refine (Cert.Reference3Ideal.Hand.allL_apply (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) b r d ⟨256 + r.val, by omega⟩ rfl).trans ?_
  rw [args_eq h]
  exact (Cert.Kernel3Ideal.Hand.arr12_apply m c b r d).symm

theorem res13 (h : Agree m m' c) : Cert.Reference3Ideal.Hand.allC (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) = (Cert.Kernel3Ideal.Hand.dats m 0 c).arrAt 13 Cert.Kernel3Ideal.cfg0.N := by
  funext y
  obtain ⟨b, r, d, rfl⟩ : ∃ (b : Fin 2) (r : Fin 256) (d : Fin 2048), y = ix3 b r d := ⟨y 0, y 1, y 2, eq_ix3 y⟩
  refine (Cert.Reference3Ideal.Hand.allC_apply (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) b r d ⟨r.val, by omega⟩ rfl).trans ?_
  rw [args_eq h]
  exact (Cert.Kernel3Ideal.Hand.arr13_apply m c b r d).symm

theorem res14 (h : Agree m m' c) : Cert.Reference3Ideal.Hand.lanes (Cert.Reference3Ideal.Hand.allH (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9))) = (Cert.Kernel3Ideal.Hand.dats m 0 c).arrAt 14 Cert.Kernel3Ideal.cfg0.N := by
  funext y
  obtain ⟨b, r, j, l, rfl⟩ : ∃ (b : Fin 2) (r : Fin 4352) (j : Fin 16) (l : Fin 128), y = ix4 b r j l := ⟨y 0, y 1, y 2, y 3, eq_ix4 y⟩
  refine (Cert.Reference3Ideal.Hand.lanes_apply _ b r j l).trans ((Cert.Reference3Ideal.Hand.allH_apply (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) b r _).trans ?_)
  rw [args_eq h]
  exact (Cert.Kernel3Ideal.Hand.arr14_apply m c b r j l).symm

theorem res15 (h : Agree m m' c) : Cert.Reference3Ideal.Hand.route (Cert.Reference3Ideal.Hand.allH (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9))) (m' ((c.tc : Thread Cert.Reference3Ideal.nD Cert.Reference3Ideal.τ).loc Cert.Reference3Ideal.main_arg10)) = (Cert.Kernel3Ideal.Hand.dats m 0 c).arrAt 15 Cert.Kernel3Ideal.cfg0.N := by
  funext y
  obtain ⟨b, r, n, rfl⟩ : ∃ (b : Fin 2) (r : Fin 4352) (n : Fin 16), y = ix3 b r n := ⟨y 0, y 1, y 2, eq_ix3 y⟩
  refine (Cert.Reference3Ideal.Hand.route_apply _ _ b r n).trans (Eq.trans ?_ (Cert.Kernel3Ideal.Hand.arr15_apply m c b r n).symm)
  rw [← args_eq h]
  unfold logit
  exact Finset.sum_congr rfl fun d _ => congrArg₂ (fun x y : EReal => x * y) (Cert.Reference3Ideal.Hand.allH_apply (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) b r d) rfl

end Results

/-- The launch's results, array by array. -/
theorem run_blocks (m : (ℓ : Loc Cert.Kernel3Ideal.nD Cert.Kernel3Ideal.τ Cert.Kernel3Ideal.sig) → Buf (Elt Ideal) ℓ) (g : Dev Cert.Kernel3Ideal.nD → PrngReg) :
    θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
      r.2.mem ((c.tc : Thread Cert.Kernel3Ideal.nD Cert.Kernel3Ideal.τ).loc Cert.Kernel3Ideal.main_v6_0) = (Cert.Kernel3Ideal.Hand.dats m 0 c).arrAt 12 Cert.Kernel3Ideal.cfg0.N
      ∧ r.2.mem ((c.tc : Thread Cert.Kernel3Ideal.nD Cert.Kernel3Ideal.τ).loc Cert.Kernel3Ideal.main_v6_1) = (Cert.Kernel3Ideal.Hand.dats m 0 c).arrAt 13 Cert.Kernel3Ideal.cfg0.N
      ∧ r.2.mem ((c.tc : Thread Cert.Kernel3Ideal.nD Cert.Kernel3Ideal.τ).loc Cert.Kernel3Ideal.main_v6_2) = (Cert.Kernel3Ideal.Hand.dats m 0 c).arrAt 14 Cert.Kernel3Ideal.cfg0.N
      ∧ r.2.mem ((c.tc : Thread Cert.Kernel3Ideal.nD Cert.Kernel3Ideal.τ).loc Cert.Kernel3Ideal.main_v6_3) = (Cert.Kernel3Ideal.Hand.dats m 0 c).arrAt 15 Cert.Kernel3Ideal.cfg0.N
      ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)) :=
  (θ_run Cert.Kernel3Ideal.defs _ _).mono (fun r h c => ⟨(h.1 c).1 12, (h.1 c).1 13, (h.1 c).1 14, (h.1 c).1 15, Cert.Kernel3Ideal.Hand.kept m r h.1 c⟩) (Cert.Kernel3Ideal.Hand.run_main (F := Ideal) m g)

end Out

theorem frame_kernel3ideal : Cert.quiescent_Kernel3Ideal := fun m ρ _ => Cert.Kernel3Ideal.Hand.frame_main (F := Ideal) m ρ
set_option maxRecDepth 65536 in
theorem frame_kernel3 : Cert.quiescent_Kernel3 := fun m ρ _ =>
  Out.run_same (F := Bits) Out.defs_same Out.main_same (Cert.Kernel3Ideal.Hand.frame_main (F := Bits) m ρ)
theorem frame_reference3 : Cert.quiescent_Reference3Ideal := fun m ρ _ =>
  (θ_run Cert.Reference3Ideal.defs _ _).mono (fun r h => ⟨fun c => (h c).2.2.2.2, funext fun s => by first | exact (nomatch s) | (obtain ⟨_, s⟩ := s; cases s; done) | (exact absurd s (by decide))⟩) (Cert.Reference3Ideal.Value.run (F := Ideal) m ρ)

theorem algebraic_kernel3 : Cert.algebraic_Kernel3Ideal_Reference3Ideal := fun m g m' g' _ hargs =>
  ⟨fun c => (Cert.Kernel3Ideal.Hand.dats m 0 c).arrAt 12 Cert.Kernel3Ideal.cfg0.N, fun c => (Cert.Kernel3Ideal.Hand.dats m 0 c).arrAt 13 Cert.Kernel3Ideal.cfg0.N,
    fun c => (Cert.Kernel3Ideal.Hand.dats m 0 c).arrAt 14 Cert.Kernel3Ideal.cfg0.N, fun c => (Cert.Kernel3Ideal.Hand.dats m 0 c).arrAt 15 Cert.Kernel3Ideal.cfg0.N, Out.run_blocks m g,
    (θ_run (Cert.Reference3Ideal.defs (F := Ideal)) _ _).mono (fun r h c => by
      obtain ⟨v0, v1, v2, v3, h⟩ := h c
      have ha : Out.Agree m m' c := hargs c
      exact ⟨v0.trans (Out.res12 ha), v1.trans (Out.res13 ha), v2.trans (Out.res14 ha), v3.trans (Out.res15 ha), h⟩)
    (Cert.Reference3Ideal.Value.run (F := Ideal) m' g')⟩

end Cert.Proof

end
-- ==== Proof.GluTile.lean ====
/-
  Hand-written. The gated unit's tokens: each of the 128 strided stores of the scratch puts four lane groups of sixteen tokens
  at the tokens' own rows, so the scratch holds the packed block unpacked.
-/
module

public import proofs.«01_k».proof.Proof.Gen.Kernel4Ideal.Value
public import Idealize.ShloMosaic.Lib.Pointwise

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic Idealize.SL.Sem

variable {F : FTy → Type} [FloatOps F]

/-- The packed block, unpacked: a token's row and lane by its group, its place in the group and the lane group. -/
def unp (X : S32x16x512.Idx → Elt F .f32) : S8x256x128.Idx → Elt F .f32 := fun y =>
  X (ix3 (n0 := 32) (n1 := 16) (n2 := 512) ⟨4 * (y 0).val + (y 2).val / 32, by
      have h0 : (y 0).val < 8 := (y 0).isLt
      have h2 : (y 2).val < 128 := (y 2).isLt
      omega⟩ ⟨(y 1).val / 16, by
      have h1 : (y 1).val < 256 := (y 1).isLt
      omega⟩ ⟨32 * ((y 1).val % 16) + (y 2).val % 32, by omega⟩)

theorem unp_eq (X : S32x16x512.Idx → Elt F .f32) (y : S8x256x128.Idx) (j : Fin 32) (r : Fin 16) (l : Fin 512) (hj : 4 * (y 0).val + (y 2).val / 32 = j.val)
    (hr : (y 1).val / 16 = r.val) (hl : 32 * ((y 1).val % 16) + (y 2).val % 32 = l.val) : unp X y = X (ix3 j r l) := by
  unfold unp
  refine congrArg X ?_
  funext a
  match a with
  | ⟨0, _⟩ => exact Fin.ext hj
  | ⟨1, _⟩ => exact Fin.ext hr
  | ⟨2, _⟩ => exact Fin.ext hl

theorem inbRd (j t : ℕ) (hj : j < 32) (ht : t < 16) : ∀ a, (![j, 0, 32 * t] : Fin 3 → ℕ) a + S1x16x32.size a ≤ S32x16x512.size a := by
  intro a
  match a with
  | ⟨0, _⟩ => exact show j + 1 ≤ 32 by omega
  | ⟨1, _⟩ => exact show 0 + 16 ≤ 16 by omega
  | ⟨2, _⟩ => exact show 32 * t + 32 ≤ 512 by omega

theorem inbWr (k t : ℕ) (hk : k < 8) (ht : t < 16) :
    ∀ a, S1x16x128.size a = 0 ∨ (![k, t, 0] : Fin 3 → ℕ) a + (![1, 16, 1] : Fin 3 → ℕ) a * (S1x16x128.size a - 1) < S8x256x128.size a := by
  intro a
  match a with
  | ⟨0, _⟩ => exact Or.inr (show k + 1 * (1 - 1) < 8 by omega)
  | ⟨1, _⟩ => exact Or.inr (show t + 16 * (16 - 1) < 256 by omega)
  | ⟨2, _⟩ => exact Or.inr (show 0 + 1 * (128 - 1) < 128 by omega)

theorem stridePos : ∀ a, 0 < (![1, 16, 1] : Fin 3 → ℕ) a := by
  intro a
  match a with
  | ⟨0, _⟩ => exact Nat.one_pos
  | ⟨1, _⟩ => exact Nat.succ_pos 15
  | ⟨2, _⟩ => exact Nat.one_pos

/-- The rows of the scratch that one store writes. -/
def rows (k t : ℕ) (hk : k < 8) (ht : t < 16) : Rect S8x256x128 := ⟨⟨![k, t, 0], S1x16x128.size, ![1, 16, 1], inbWr k t hk ht⟩, stridePos⟩

section Store
variable (arg2 : Memref sig .tc .vmem S32x16x512 .f32) (harg2 : arg2.IsWhole) (x0 : Vec F S32x16x512 .f32)

/-- One load of the packed block. -/
def rd (j t : ℕ) (hj : j < 32) (ht : t < 16) : Vec F S1x16x32 .f32 :=
  View.readAt (Elt F) arg2.view (Rect.unit (s := S32x16x512) ![j, 0, 32 * t] S1x16x32.size (inbRd j t hj ht)).toLoadRect (harg2.unread x0)

theorem rd_apply (j t : ℕ) (hj : j < 32) (ht : t < 16) (r : Fin 16) (l : Fin 32) :
    rd arg2 harg2 x0 j t hj ht (ix3 0 r l) = x0 (ix3 (n0 := 32) (n1 := 16) (n2 := 512) ⟨j, hj⟩ r ⟨32 * t + l.val, by omega⟩) := by
  unfold rd
  rw [View.readAt_eq_ld, harg2.read_unread]
  refine congrArg x0 ?_
  funext a; apply Fin.ext
  match a with
  | ⟨0, _⟩ => exact show j + 1 * 0 = j by omega
  | ⟨1, _⟩ => exact show 0 + 1 * r.val = r.val by omega
  | ⟨2, _⟩ => exact show 32 * t + 1 * l.val = 32 * t + l.val by omega

/-- What one store writes: four loads side by side. -/
def tile (k t : ℕ) (hk : k < 8) (ht : t < 16) : FVec F S1x16x128 .f32 :=
  shapeCast S1x16x128 (concatenate S16x128 1 [
    ⟨S16x32, shapeCast S16x32 (rd arg2 harg2 x0 (4 * k) t (by omega) ht) shapeCasts_S1x16x32_S16x32⟩,
    ⟨S16x32, shapeCast S16x32 (rd arg2 harg2 x0 (4 * k + 1) t (by omega) ht) shapeCasts_S1x16x32_S16x32⟩,
    ⟨S16x32, shapeCast S16x32 (rd arg2 harg2 x0 (4 * k + 2) t (by omega) ht) shapeCasts_S1x16x32_S16x32⟩,
    ⟨S16x32, shapeCast S16x32 (rd arg2 harg2 x0 (4 * k + 3) t (by omega) ht) shapeCasts_S1x16x32_S16x32⟩]
    concatenates_S16x32_S16x32_S16x32_S16x32_S16x128_d1) shapeCasts_S16x128_S1x16x128

theorem cast_apply (v : Vec F S1x16x32 .f32) (r : Fin 16) (l : Fin 32) : shapeCast S16x32 v shapeCasts_S1x16x32_S16x32 (ix2 r l) = v (ix3 0 r l) := by
  pointwise

theorem four_apply (f : Fin 4 → S16x32.Idx → Elt F .f32) (r : Fin 16) (l : Fin 128) :
    shapeCast S1x16x128 (concatenate S16x128 1 [⟨S16x32, f 0⟩, ⟨S16x32, f 1⟩, ⟨S16x32, f 2⟩, ⟨S16x32, f 3⟩] concatenates_S16x32_S16x32_S16x32_S16x32_S16x128_d1) shapeCasts_S16x128_S1x16x128 (ix3 0 r l)
      = f ⟨l.val / 32, by omega⟩ (ix2 r ⟨l.val % 32, by omega⟩) := by
  refine Eq.trans (b := concatenate S16x128 1 (List.ofFn fun n : Fin 4 => (⟨S16x32, f n⟩ : (s : Shape) × (s.Idx → Elt F .f32))) concatenates_S16x32_S16x32_S16x32_S16x32_S16x128_d1 (ix2 r l)) ?_ ?_
  · refine Eq.trans (b := concatenate S16x128 1 [⟨S16x32, f 0⟩, ⟨S16x32, f 1⟩, ⟨S16x32, f 2⟩, ⟨S16x32, f 3⟩] concatenates_S16x32_S16x32_S16x32_S16x32_S16x128_d1 (ix2 r l)) ?_ rfl
    generalize concatenate S16x128 1 _ _ = X
    pointwise
  · exact concatenate_ofFn_apply (t := S16x128) (s₁ := S16x32) 1 f _ rfl 32 rfl (ix2 r l)
      ⟨l.val / 32, by omega⟩ rfl (ix2 r ⟨l.val % 32, by omega⟩) rfl (fun b hb => by
        match b with
        | ⟨0, _⟩ => rfl
        | ⟨1, _⟩ => exact absurd rfl hb)

theorem tile_apply (k t : ℕ) (hk : k < 8) (ht : t < 16) (r : Fin 16) (l : Fin 128) :
    tile arg2 harg2 x0 k t hk ht (ix3 0 r l) = x0 (ix3 (n0 := 32) (n1 := 16) (n2 := 512) ⟨4 * k + l.val / 32, by omega⟩ r ⟨32 * t + l.val % 32, by omega⟩) := by
  refine (four_apply (fun q : Fin 4 => shapeCast S16x32 (rd arg2 harg2 x0 (4 * k + q.val) t (by omega) ht) shapeCasts_S1x16x32_S16x32) r l).trans ?_
  exact (cast_apply _ r _).trans (rd_apply arg2 harg2 x0 _ t _ ht r _)

/-- One store of the scratch. -/
def store (k t : ℕ) (hk : k < 8) (ht : t < 16) : View.Piece (Elt F) S8x256x128 .f32 := ⟨rows k t hk ht, tile arg2 harg2 x0 k t hk ht⟩

theorem store_agree (k t : ℕ) (hk : k < 8) (ht : t < 16) (x : (store arg2 harg2 x0 k t hk ht).1.shape.Idx) :
    (store arg2 harg2 x0 k t hk ht).2 x = unp x0 ((store arg2 harg2 x0 k t hk ht).1.emb x) := by
  obtain ⟨a, r, l, rfl⟩ : ∃ (a : Fin 1) (b : Fin 16) (c : Fin 128), x = ix3 a b c := ⟨x 0, x 1, x 2, eq_ix3 x⟩
  have ha : a = 0 := Subsingleton.elim _ _
  subst ha
  refine (tile_apply arg2 harg2 x0 k t hk ht r l).trans (unp_eq x0 _ _ _ _ ?_ ?_ ?_).symm
  · exact show 4 * (k + 1 * 0) + (0 + 1 * l.val) / 32 = 4 * k + l.val / 32 by omega
  · exact show (t + 16 * r.val) / 16 = r.val by omega
  · exact show 32 * ((t + 16 * r.val) % 16) + (0 + 1 * l.val) % 32 = 32 * t + l.val % 32 by omega

theorem store_mem (y : S8x256x128.Idx) (k t : ℕ) (hk : k < 8) (ht : t < 16) (h0 : (y 0).val = k) (h1 : (y 1).val % 16 = t) : y ∈ (store arg2 harg2 x0 k t hk ht).1.set := by
  have hy1 : (y 1).val < 256 := (y 1).isLt
  have hy2 : (y 2).val < 128 := (y 2).isLt
  refine (LoadRect.mem_set _).2 fun a => ?_
  match a with
  | ⟨0, _⟩ => exact ⟨0, Nat.one_pos, show (y 0).val = k + 1 * 0 by omega⟩
  | ⟨1, _⟩ => exact ⟨(y 1).val / 16, show (y 1).val / 16 < 16 by omega, show (y 1).val = t + 16 * ((y 1).val / 16) by omega⟩
  | ⟨2, _⟩ => exact ⟨(y 2).val, hy2, show (y 2).val = 0 + 1 * (y 2).val by omega⟩

/-- All of them, last first. -/
def stores : List (View.Piece (Elt F) S8x256x128 .f32) :=
  List.ofFn fun n : Fin 128 => store arg2 harg2 x0 ((127 - n.val) % 8) ((127 - n.val) / 8) (by omega) (by omega)

theorem stores_agree : ∀ p ∈ stores arg2 harg2 x0, ∀ x : p.1.shape.Idx, p.2 x = unp x0 (p.1.emb x) := by
  intro p hp
  obtain ⟨n, rfl⟩ := (List.mem_ofFn' _ _).1 hp
  exact store_agree arg2 harg2 x0 _ _ _ _

theorem stores_cover (y : S8x256x128.Idx) : ∃ p ∈ stores arg2 harg2 x0, y ∈ p.1.set := by
  have h0 : (y 0).val < 8 := (y 0).isLt
  refine ⟨_, (List.mem_ofFn' _ _).2 ⟨⟨127 - (8 * ((y 1).val % 16) + (y 0).val), by omega⟩, rfl⟩, ?_⟩
  refine store_mem arg2 harg2 x0 y _ _ _ _ ?_ ?_
  · show (y 0).val = (127 - (127 - (8 * ((y 1).val % 16) + (y 0).val))) % 8; omega
  · show (y 1).val % 16 = (127 - (127 - (8 * ((y 1).val % 16) + (y 0).val))) / 8; omega

/-- One plane of the scratch, read back. -/
def plane (v : View sig .tc .vmem S8x256x128 .f32) (k : ℕ) (inb : ∀ a, (![k, 0, 0] : Fin 3 → ℕ) a + S1x256x128.size a ≤ S8x256x128.size a) : Vec F S1x256x128 .f32 :=
  v.readCov (stores arg2 harg2 x0) (Rect.unit (s := S8x256x128) ![k, 0, 0] S1x256x128.size inb).toLoadRect

theorem plane_apply (v : View sig .tc .vmem S8x256x128 .f32) (k : ℕ) (hk : k < 8) (inb) (r : Fin 256) (l : Fin 128) :
    plane arg2 harg2 x0 v k inb (ix3 0 r l) = x0 (ix3 (n0 := 32) (n1 := 16) (n2 := 512) ⟨4 * k + l.val / 32, by omega⟩ ⟨r.val / 16, by omega⟩ ⟨32 * (r.val % 16) + l.val % 32, by omega⟩) := by
  refine (View.read_writes_apply_of_pieces v v.junk (unp x0) _ (stores_agree arg2 harg2 x0) _ (stores_cover arg2 harg2 x0 _)).trans ?_
  refine unp_eq x0 _ _ _ _ ?_ ?_ ?_
  · exact show 4 * (k + 1 * 0) + (0 + 1 * l.val) / 32 = 4 * k + l.val / 32 by omega
  · exact show (0 + 1 * r.val) / 16 = r.val / 16 by omega
  · exact show 32 * ((0 + 1 * r.val) % 16) + (0 + 1 * l.val) % 32 = 32 * (r.val % 16) + l.val % 32 by omega

end Store

end Cert.Kernel4Ideal.Hand

end
-- ==== Proof.GluSpec.lean ====
/-
  Hand-written. The S5 mixer's gated linear unit as one formula over the extended reals: each token's row times the weight plus the
  bias, its first half times the sigmoid of its second.
-/
module

public import Idealize.ShloMosaic.Lib.Pointwise
public import Idealize.ShloMosaic.Lib.ValueIdx

@[expose] public section

noncomputable section

namespace Cert.Glu

open Idealize.ShloMosaic

/-- One element of a row times the weight, plus the bias. -/
def lin (y : Fin 1024 → EReal) (W : Fin 1024 → Fin 2048 → EReal) (g : Fin 2048 → EReal) (n : Fin 2048) : EReal := (∑ l, y l * W l n) + g n

/-- One element of the gated row. -/
def gated (y : Fin 1024 → EReal) (W : Fin 1024 → Fin 2048 → EReal) (g : Fin 2048 → EReal) (n : Fin 1024) : EReal :=
  lin y W g ⟨0 + n.val, by omega⟩ * Ideal.logistic (lin y W g ⟨1024 + n.val, by omega⟩)

/-- The group of sixteen tokens a token lies in: the latents' groups first, then the context's. -/
def grp (b : Fin 2) (R : Fin 4352) : Fin 544 := if h : R.val < 256 then ⟨512 + 16 * b.val + R.val / 16, by omega⟩ else ⟨256 * b.val + (R.val - 256) / 16, by omega⟩

/-- A token's row, from the packed rows. -/
def tok (Y : Fin 32 → Fin 544 → Fin 512 → EReal) (b : Fin 2) (R : Fin 4352) (l : Fin 1024) : EReal :=
  Y ⟨l.val / 32, by omega⟩ (grp b R) ⟨32 * (R.val % 16) + l.val % 32, by omega⟩

end Cert.Glu

end
-- ==== Proof.GluOut.lean ====
/-
  Hand-written. What a point of the gated unit leaves in its result, element by element over the extended reals.
-/
module

public import proofs.«01_k».proof.Proof.GluTile
public import proofs.«01_k».proof.Proof.GluSpec

@[expose] public section

set_option maxRecDepth 100000

noncomputable section

namespace Cert.Kernel4Ideal.Hand

open Cert.Kernel4Ideal Cert.Kernel4Ideal.Gen
open Idealize.ShloMosaic Idealize.ShloMosaic.TcCoe Idealize.ShloMosaic.Tactic Idealize.SL.Sem

section Body
variable {F : FTy → Type} [FloatOps F]

theorem one_eq {s : Shape} {e : EltTy} {r : Rect s} {w w' : r.shape.Idx → Elt F e} (h : w = w') : ([⟨r, w⟩] : List (View.Piece (Elt F) s e)) = [⟨r, w'⟩] := by rw [h]

theorem one_agree {s : Shape} {e : EltTy} {L : List (View.Piece (Elt F) s e)} {r : Rect s} {w : r.shape.Idx → Elt F e} (hL : L = [⟨r, w⟩]) (G : s.Idx → Elt F e)
    (h : ∀ x, w x = G (r.emb x)) : ∀ p ∈ L, ∀ x, p.2 x = G (p.1.emb x) := by
  subst hL
  exact List.forall_mem_singleton.2 h

theorem emb_whole (z : S1x256x1024.Idx) : (Rect.unit (s := S1x256x1024) ![0, 0, 0] ![1, 256, 1024] inb_S1x256x1024_S1x256x1024_0_0_0).emb z = z := by
  funext a; apply Fin.ext
  match a with
  | ⟨0, _⟩ => show 0 + 1 * (z 0).val = (z 0).val; omega
  | ⟨1, _⟩ => show 0 + 1 * (z 1).val = (z 1).val; omega
  | ⟨2, _⟩ => show 0 + 1 * (z 2).val = (z 2).val; omega

theorem inbPlane (k : Fin 8) : ∀ a, (![k.val, 0, 0] : Fin 3 → ℕ) a + S1x256x128.size a ≤ S8x256x128.size a := by
  intro a
  match a with
  | ⟨0, _⟩ => exact show k.val + 1 ≤ 8 by omega
  | ⟨1, _⟩ => exact show 0 + 256 ≤ 256 by omega
  | ⟨2, _⟩ => exact show 0 + 128 ≤ 128 by omega

/-- The result of a point from the eight planes of the scratch, the two halves of the weight and those of the bias. -/
def glu (P : Fin 8 → Vec F S1x256x128 .f32) (wa : Vec F S1024x1024 .bf16) (ba : Vec F S1x1024 .f32) (wb : Vec F S1024x1024 .bf16) (bb : Vec F S1x1024 .f32) : FVec F S1x256x1024 .bf16 :=
  k0_pay1 (k0_pay215 (k0_pay213 (P 0)) (k0_pay214 (P 1)) (P 2) (P 3) (P 4) (P 5) (P 6) (P 7) wa ba wb bb)

variable (c : Dev nD) (i : grid0.Coords) (arg2 : Memref sig .tc .vmem S32x16x512 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x256x1024 .bf16) (harg7 : arg7.IsWhole) (arg8 : Memref sig .tc .vmem S8x256x128 .f32) (harg8 : arg8.IsWhole)
  (x0 : Vec F S32x16x512 .f32) (x1 : Vec F S1024x1024 .bf16) (x2 : Vec F S1024x1024 .bf16) (x3 : Vec F S1x1024 .f32) (x4 : Vec F S1x1024 .f32)

theorem pieces : (kernelRun0_A c i arg2 harg2 arg3 harg3 arg4 harg4 arg5 harg5 arg6 harg6 arg7 harg7 arg8 harg8 x0 x1 x2 x3 x4).1 = [⟨Rect.unit ![0, 0, 0] ![1, 256, 1024] inb_S1x256x1024_S1x256x1024_0_0_0,
    glu (fun k => plane arg2 harg2 x0 arg8.view k.val (inbPlane k))
      (View.readAt (Elt F) arg3.view (Rect.unit ![0, 0] S1024x1024.size inb_S1024x1024_S1024x1024_0_0).toLoadRect (harg3.unread x1))
      (View.readAt (Elt F) arg5.view (Rect.unit ![0, 0] S1x1024.size inb_S1x1024_S1x1024_0_0).toLoadRect (harg5.unread x3))
      (View.readAt (Elt F) arg4.view (Rect.unit ![0, 0] S1024x1024.size inb_S1024x1024_S1024x1024_0_0).toLoadRect (harg4.unread x2))
      (View.readAt (Elt F) arg6.view (Rect.unit ![0, 0] S1x1024.size inb_S1x1024_S1x1024_0_0).toLoadRect (harg6.unread x4))⟩] := by
  sl_kernel_rfl

theorem pieces' : (kernelRun0_A c i arg2 harg2 arg3 harg3 arg4 harg4 arg5 harg5 arg6 harg6 arg7 harg7 arg8 harg8 x0 x1 x2 x3 x4).1 = [⟨Rect.unit ![0, 0, 0] ![1, 256, 1024] inb_S1x256x1024_S1x256x1024_0_0_0,
    glu (fun k => plane arg2 harg2 x0 arg8.view k.val (inbPlane k)) x1 x3 x2 x4⟩] := by
  refine (pieces c i arg2 harg2 arg3 harg3 arg4 harg4 arg5 harg5 arg6 harg6 arg7 harg7 arg8 harg8 x0 x1 x2 x3 x4).trans (one_eq (F := F) (s := S1x256x1024) (e := .bf16) (r := Rect.unit ![0, 0, 0] ![1, 256, 1024] inb_S1x256x1024_S1x256x1024_0_0_0) ?_)
  simp only [View.readAt_eq_ld, harg3.read_unread, harg4.read_unread, harg5.read_unread, harg6.read_unread]
  have z : (![0, 0] : Fin 2 → ℕ) = 0 := by funext a; match a with | ⟨0, _⟩ => rfl | ⟨1, _⟩ => rfl
  exact congr (congr (congr (congrArg (glu _) (View.ld_unit_zero z _ x1)) (View.ld_unit_zero z _ x3)) (View.ld_unit_zero z _ x2)) (View.ld_unit_zero z _ x4)

theorem out5_eq : out0_A_5 c i arg2 harg2 arg3 harg3 arg4 harg4 arg5 harg5 arg6 harg6 arg7 harg7 arg8 harg8 x0 x1 x2 x3 x4 = glu (fun k => plane arg2 harg2 x0 arg8.view k.val (inbPlane k)) x1 x3 x2 x4 := by
  funext y
  unfold out0_A_5
  exact View.read_writes_apply_of_pieces _ _ _ _ (one_agree (pieces' c i arg2 harg2 arg3 harg3 arg4 harg4 arg5 harg5 arg6 harg6 arg7 harg7 arg8 harg8 x0 x1 x2 x3 x4) _ fun z => congrArg _ (emb_whole z).symm) y (cover0_A_5 c i arg2 harg2 arg3 harg3 arg4 harg4 arg5 harg5 arg6 harg6 arg7 harg7 arg8 harg8 x0 x1 x2 x3 x4 y)

theorem plane_cast (v : Vec F S1x256x128 .f32) (r : Fin 256) (l : Fin 128) : shapeCast S256x128 v shapeCasts_S1x256x128_S256x128 (ix2 r l) = v (ix3 0 r l) := by
  pointwise

/-- The planes side by side. -/
def side (P : Fin 8 → Vec F S1x256x128 .f32) : FVec F S256x1024 .f32 :=
    concatenate S256x1024 1 [⟨S256x128, shapeCast S256x128 (P 0) shapeCasts_S1x256x128_S256x128⟩, ⟨S256x128, shapeCast S256x128 (P 1) shapeCasts_S1x256x128_S256x128⟩, ⟨S256x128, shapeCast S256x128 (P 2) shapeCasts_S1x256x128_S256x128⟩, ⟨S256x128, shapeCast S256x128 (P 3) shapeCasts_S1x256x128_S256x128⟩, ⟨S256x128, shapeCast S256x128 (P 4) shapeCasts_S1x256x128_S256x128⟩, ⟨S256x128, shapeCast S256x128 (P 5) shapeCasts_S1x256x128_S256x128⟩, ⟨S256x128, shapeCast S256x128 (P 6) shapeCasts_S1x256x128_S256x128⟩, ⟨S256x128, shapeCast S256x128 (P 7) shapeCasts_S1x256x128_S256x128⟩] concatenates_S256x128_S256x128_S256x128_S256x128_S256x128_S256x128_S256x128_S256x128_S256x1024_d1

/-- A point's tokens times each half of the weight plus its half of the bias, the first times the sigmoid of the second. -/
def gate (X : FVec F S256x1024 .f32) (wa : Vec F S1024x1024 .bf16) (ba : Vec F S1x1024 .f32) (wb : Vec F S1024x1024 .bf16) (bb : Vec F S1x1024 .f32) : FVec F S1x256x1024 .bf16 :=
  shapeCast S1x256x1024 (truncf .bf16 (mulf
    (addf (matmul dot_S256x1024_S1024x1024_S256x1024_1_0_0_1_n_n none (truncf .bf16 X bitsLt_bf16_f32) (shapeCast S1024x1024 wa shapeCasts_S1024x1024_S1024x1024) (constant S256x1024 .f32 0x00000000#32))
      (broadcastTo S256x1024 (shapeCast S1x1024 ba shapeCasts_S1x1024_S1x1024) broadcasts_S1x1024_S256x1024))
    (logistic (addf (matmul dot_S256x1024_S1024x1024_S256x1024_1_0_0_1_n_n none (truncf .bf16 X bitsLt_bf16_f32) (shapeCast S1024x1024 wb shapeCasts_S1024x1024_S1024x1024) (constant S256x1024 .f32 0x00000000#32))
      (broadcastTo S256x1024 (shapeCast S1x1024 bb shapeCasts_S1x1024_S1x1024) broadcasts_S1x1024_S256x1024)))) bitsLt_bf16_f32) shapeCasts_S256x1024_S1x256x1024

theorem glu_eq (P : Fin 8 → Vec F S1x256x128 .f32) (wa : Vec F S1024x1024 .bf16) (ba : Vec F S1x1024 .f32) (wb : Vec F S1024x1024 .bf16) (bb : Vec F S1x1024 .f32) :
    glu P wa ba wb bb = gate (side P) wa ba wb bb := rfl

theorem side_apply (P : Fin 8 → Vec F S1x256x128 .f32) (r : Fin 256) (l : Fin 1024) :
    side P (ix2 r l) = P ⟨l.val / 128, by omega⟩ (ix3 0 r ⟨l.val % 128, by omega⟩) := by
  refine Eq.trans (b := concatenate S256x1024 1 (List.ofFn fun k : Fin 8 => (⟨S256x128, shapeCast S256x128 (P k) shapeCasts_S1x256x128_S256x128⟩ : (s : Shape) × (s.Idx → Elt F .f32))) concatenates_S256x128_S256x128_S256x128_S256x128_S256x128_S256x128_S256x128_S256x128_S256x1024_d1 (ix2 r l)) rfl ?_
  exact (concatenate_ofFn_apply (t := S256x1024) (s₁ := S256x128) 1 (fun k : Fin 8 => shapeCast S256x128 (P k) shapeCasts_S1x256x128_S256x128) _ rfl 128 rfl (ix2 r l)
    ⟨l.val / 128, by omega⟩ rfl (ix2 r ⟨l.val % 128, by omega⟩) rfl (fun b hb => by
      match b with
      | ⟨0, _⟩ => rfl
      | ⟨1, _⟩ => exact absurd rfl hb)).trans (plane_cast _ r _)

end Body

theorem glu_apply (P : Fin 8 → S1x256x128.Idx → Elt Ideal .f32) (wa : S1024x1024.Idx → Elt Ideal .bf16) (ba : S1x1024.Idx → Elt Ideal .f32) (wb : S1024x1024.Idx → Elt Ideal .bf16) (bb : S1x1024.Idx → Elt Ideal .f32)
    (T : Fin 256 → Fin 1024 → EReal) (hT : ∀ (r : Fin 256) (l : Fin 1024), P ⟨l.val / 128, by omega⟩ (ix3 0 r ⟨l.val % 128, by omega⟩) = T r l) (r : Fin 256) (n : Fin 1024) :
    glu (F := Ideal) P wa ba wb bb (ix3 0 r n)
      = ((∑ l : Fin 1024, T r l * wa (ix2 l n)) + ba (ix2 0 n)) * Ideal.logistic ((∑ l : Fin 1024, T r l * wb (ix2 l n)) + bb (ix2 0 n)) := by
  refine (congrFun (glu_eq (F := Ideal) P wa ba wb bb) _).trans ?_
  have hS : ∀ (r : Fin 256) (l : Fin 1024), side (F := Ideal) P (ix2 r l) = T r l := fun r l => (side_apply (F := Ideal) P r l).trans (hT r l)
  generalize side (F := Ideal) P = X at hS ⊢
  simp only [← hS]
  pointwise [gate]

end Cert.Kernel4Ideal.Hand

end
-- ==== Proof.GluVal.lean ====
/-
  Hand-written. What the gated unit's launch leaves in its result, from the arguments.
-/
module

public import proofs.«01_k».proof.Proof.GluOut
public import proofs.«01_k».proof.Proof.GluSpec
public import proofs.«01_k».proof.Proof.Gen.Kernel4Ideal.Value
public import Idealize.ShloMosaic.Lib.StableHlo.RunRead

@[expose] public section

set_option maxRecDepth 16384

noncomputable section

namespace Cert.Kernel4Ideal.Hand

open Cert.Kernel4Ideal Cert.Kernel4Ideal.Gen Cert.Glu
open Idealize.ShloMosaic Idealize.ShloMosaic.TcCoe Idealize.ShloMosaic.Tactic Idealize.SL.Sem

variable (m : (ℓ : Loc nD τ sig) → Buf (Elt Ideal) ℓ)

/-- What the host operations write, in order. -/
def hostWritten : List (Ref sig .tc) := [main_v0, main_v1, main_v2, main_v3, main_v4, main_v5, main_v6]
theorem hostWritten_eq : (hostOps0 : List (HloOp τ sig (Elt Ideal))).map HloOp.writes = hostWritten.map fun w => {Proc.devRef (τ := τ) .tc w} := rfl
theorem V_arg (c : Dev nD) (b : Ref sig .tc) (hb : b ∉ hostWritten) : V m c b = m ((c : Thread nD τ).loc b) :=
  StableHlo.after_unwritten hostWritten hostWritten_eq hb (fun b => m (c, b))

/-- The arguments, as functions of their coordinates. -/
def yOf (c : Dev nD) (j : Fin 32) (k : Fin 544) (l : Fin 512) : EReal := (m ((c : Thread nD τ).loc main_arg0) : S32x544x512.Idx → EReal) (ix3 j k l)
def wOf (c : Dev nD) (d : Fin 1024) (n : Fin 2048) : EReal := (m ((c : Thread nD τ).loc main_arg1) : S1024x2048.Idx → EReal) (ix2 d n)
def bOf (c : Dev nD) (n : Fin 2048) : EReal := (m ((c : Thread nD τ).loc main_arg2) : S2048.Idx → EReal) (ix1 n)

theorem V1_apply (c : Dev nD) (d : Fin 1024) (n : Fin 1024) : (V m c main_v1 : S1024x1024.Idx → EReal) (ix2 d n) = wOf m c d ⟨0 + n.val, by omega⟩ := by
  have e : V m c main_v1 = extractStridedSlice S1024x1024 ![0, 0] (truncf (F := Ideal) .bf16 (m ((c : Thread nD τ).loc main_arg1) : (⟨S1024x2048, .f32⟩ : BufTy).Contents (Elt Ideal)) bitsLt_bf16_f32) slices_S1024x2048_S1024x1024_0_0 := by
    show StableHlo.after hostOps0 (fun b => m (c, b)) main_v1 = _
    after_reads_simp
  rw [e]
  unfold wOf
  generalize (m ((c : Thread nD τ).loc main_arg1) : S1024x2048.Idx → EReal) = g
  pointwise

theorem V2_apply (c : Dev nD) (d : Fin 1024) (n : Fin 1024) : (V m c main_v2 : S1024x1024.Idx → EReal) (ix2 d n) = wOf m c d ⟨1024 + n.val, by omega⟩ := by
  have e : V m c main_v2 = extractStridedSlice S1024x1024 ![0, 1024] (truncf (F := Ideal) .bf16 (m ((c : Thread nD τ).loc main_arg1) : (⟨S1024x2048, .f32⟩ : BufTy).Contents (Elt Ideal)) bitsLt_bf16_f32) slices_S1024x2048_S1024x1024_0_1024 := by
    show StableHlo.after hostOps0 (fun b => m (c, b)) main_v2 = _
    after_reads_simp
  rw [e]
  unfold wOf
  generalize (m ((c : Thread nD τ).loc main_arg1) : S1024x2048.Idx → EReal) = g
  pointwise

theorem V4_apply (c : Dev nD) (n : Fin 1024) : (V m c main_v4 : S1x1024.Idx → EReal) (ix2 0 n) = bOf m c ⟨0 + n.val, by omega⟩ := by
  have e : V m c main_v4 = shapeCast S1x1024 (extractStridedSlice S1024 ![0] (m ((c : Thread nD τ).loc main_arg2) : (⟨S2048, .f32⟩ : BufTy).Contents (Elt Ideal)) slices_S2048_S1024_0) shapeCasts_S1024_S1x1024 := by
    show StableHlo.after hostOps0 (fun b => m (c, b)) main_v4 = _
    after_reads_simp
    rfl
  rw [e]
  unfold bOf
  generalize (m ((c : Thread nD τ).loc main_arg2) : S2048.Idx → EReal) = g
  pointwise

theorem V6_apply (c : Dev nD) (n : Fin 1024) : (V m c main_v6 : S1x1024.Idx → EReal) (ix2 0 n) = bOf m c ⟨1024 + n.val, by omega⟩ := by
  have e : V m c main_v6 = shapeCast S1x1024 (extractStridedSlice S1024 ![1024] (m ((c : Thread nD τ).loc main_arg2) : (⟨S2048, .f32⟩ : BufTy).Contents (Elt Ideal)) slices_S2048_S1024_1024) shapeCasts_S1024_S1x1024 := by
    show StableHlo.after hostOps0 (fun b => m (c, b)) main_v6 = _
    after_reads_simp
    rfl
  rw [e]
  unfold bOf
  generalize (m ((c : Thread nD τ).loc main_arg2) : S2048.Idx → EReal) = g
  pointwise

/-- Where the blocks of a point lie. -/
theorem idx0 : ∀ t : Fin grid0.N, win0_0.index t (0 : Fin 3) = 0 ∧ win0_0.index t (1 : Fin 3) = (if t.val % 17 = 0 then 32 + t.val / 17 else 16 * (t.val / 17) + (t.val % 17 - 1)) ∧ win0_0.index t (2 : Fin 3) = 0 :=
  (by decide +kernel : ∀ t : Fin grid0.N, _)
theorem idx1 : ∀ t : Fin grid0.N, win0_1.index t (0 : Fin 2) = 0 ∧ win0_1.index t (1 : Fin 2) = 0 :=
  (by decide +kernel : ∀ t : Fin grid0.N, _)
theorem idx2 : ∀ t : Fin grid0.N, win0_2.index t (0 : Fin 2) = 0 ∧ win0_2.index t (1 : Fin 2) = 0 :=
  (by decide +kernel : ∀ t : Fin grid0.N, _)
theorem idx3 : ∀ t : Fin grid0.N, win0_3.index t (0 : Fin 2) = 0 ∧ win0_3.index t (1 : Fin 2) = 0 :=
  (by decide +kernel : ∀ t : Fin grid0.N, _)
theorem idx4 : ∀ t : Fin grid0.N, win0_4.index t (0 : Fin 2) = 0 ∧ win0_4.index t (1 : Fin 2) = 0 :=
  (by decide +kernel : ∀ t : Fin grid0.N, _)
theorem idx5 : ∀ t : Fin grid0.N, win0_5.index t (0 : Fin 3) = t.val / 17 ∧ win0_5.index t (1 : Fin 3) = t.val % 17 ∧ win0_5.index t (2 : Fin 3) = 0 :=
  (by decide +kernel : ∀ t : Fin grid0.N, _)

theorem iblk1_apply (c : Dev nD) (t : Fin grid0.N) (y : S1024x1024.Idx) : (iblk m c 1 t : S1024x1024.Idx → EReal) y = (V m c main_v1 : S1024x1024.Idx → EReal) y := by
  show V m c main_v1 (((cfg0.win 1).blk t).view.emb y) = _
  refine congrArg (V m c main_v1) ?_
  obtain ⟨e0, e1⟩ := idx1 t
  funext a; apply Fin.ext
  match a with
  | ⟨0, _⟩ => show win0_1.index t (0 : Fin 2) * 1024 + 1 * (y 0).val = (y 0).val; omega
  | ⟨1, _⟩ => show win0_1.index t (1 : Fin 2) * 1024 + 1 * (y 1).val = (y 1).val; omega

theorem iblk2_apply (c : Dev nD) (t : Fin grid0.N) (y : S1024x1024.Idx) : (iblk m c 2 t : S1024x1024.Idx → EReal) y = (V m c main_v2 : S1024x1024.Idx → EReal) y := by
  show V m c main_v2 (((cfg0.win 2).blk t).view.emb y) = _
  refine congrArg (V m c main_v2) ?_
  obtain ⟨e0, e1⟩ := idx2 t
  funext a; apply Fin.ext
  match a with
  | ⟨0, _⟩ => show win0_2.index t (0 : Fin 2) * 1024 + 1 * (y 0).val = (y 0).val; omega
  | ⟨1, _⟩ => show win0_2.index t (1 : Fin 2) * 1024 + 1 * (y 1).val = (y 1).val; omega

theorem iblk3_apply (c : Dev nD) (t : Fin grid0.N) (y : S1x1024.Idx) : (iblk m c 3 t : S1x1024.Idx → EReal) y = (V m c main_v4 : S1x1024.Idx → EReal) y := by
  show V m c main_v4 (((cfg0.win 3).blk t).view.emb y) = _
  refine congrArg (V m c main_v4) ?_
  obtain ⟨e0, e1⟩ := idx3 t
  funext a; apply Fin.ext
  match a with
  | ⟨0, _⟩ => show win0_3.index t (0 : Fin 2) * 1 + 1 * (y 0).val = (y 0).val; omega
  | ⟨1, _⟩ => show win0_3.index t (1 : Fin 2) * 1024 + 1 * (y 1).val = (y 1).val; omega

theorem iblk4_apply (c : Dev nD) (t : Fin grid0.N) (y : S1x1024.Idx) : (iblk m c 4 t : S1x1024.Idx → EReal) y = (V m c main_v6 : S1x1024.Idx → EReal) y := by
  show V m c main_v6 (((cfg0.win 4).blk t).view.emb y) = _
  refine congrArg (V m c main_v6) ?_
  obtain ⟨e0, e1⟩ := idx4 t
  funext a; apply Fin.ext
  match a with
  | ⟨0, _⟩ => show win0_4.index t (0 : Fin 2) * 1 + 1 * (y 0).val = (y 0).val; omega
  | ⟨1, _⟩ => show win0_4.index t (1 : Fin 2) * 1024 + 1 * (y 1).val = (y 1).val; omega

theorem iblk0_apply (c : Dev nD) (t : Fin grid0.N) (j : Fin 32) (r : Fin 16) (l : Fin 512) (k : Fin 544)
    (hk : k.val = 16 * (if t.val % 17 = 0 then 32 + t.val / 17 else 16 * (t.val / 17) + (t.val % 17 - 1)) + r.val) :
    (iblk m c 0 t : S32x16x512.Idx → EReal) (ix3 j r l) = yOf m c j k l := by
  show V m c main_arg0 (((cfg0.win 0).blk t).view.emb (show S32x16x512.Idx from ix3 j r l)) = _
  rw [V_arg m c main_arg0 (by decide)]
  refine congrArg (m ((c : Thread nD τ).loc main_arg0)) ?_
  obtain ⟨e0, e1, e2⟩ := idx0 t
  funext a; apply Fin.ext
  match a with
  | ⟨0, _⟩ => show win0_0.index t (0 : Fin 3) * 32 + 1 * j.val = j.val; rw [e0]; omega
  | ⟨1, _⟩ => show win0_0.index t (1 : Fin 3) * 16 + 1 * r.val = k.val; rw [e1, hk]; omega
  | ⟨2, _⟩ => show win0_0.index t (2 : Fin 3) * 512 + 1 * l.val = l.val; rw [e2]; omega

/-- A token's group, as the point that holds the token reads it. -/
theorem grp_val (b : Fin 2) (R : Fin 4352) : (grp b R).val
    = 16 * (if (17 * b.val + R.val / 256) % 17 = 0 then 32 + (17 * b.val + R.val / 256) / 17 else 16 * ((17 * b.val + R.val / 256) / 17) + ((17 * b.val + R.val / 256) % 17 - 1)) + R.val % 256 / 16 := by
  unfold grp
  by_cases h : R.val < 256
  · rw [dif_pos h, if_pos (by omega)]; show 512 + 16 * b.val + R.val / 16 = _; omega
  · rw [dif_neg h, if_neg (by omega)]; show 256 * b.val + (R.val - 256) / 16 = _; omega

/-- The result of the launch. -/
theorem arr5_apply (c : Dev nD) (b : Fin 2) (R : Fin 4352) (n : Fin 1024) :
    ((dats m 0 c).arrAt 5 cfg0.N : S2x4352x1024.Idx → EReal) (ix3 b R n) = gated (tok (yOf m c) b R) (wOf m c) (bOf m c) n := by
  have hN : 17 * b.val + R.val / 256 < grid0.N := by rw [N_0]; omega
  have e := congrFun (Value.blocks5 m c ⟨_, hN⟩ (flush0_5 _)) (show S1x256x1024.Idx from ix3 0 ⟨R.val % 256, by omega⟩ n)
  rw [Value.flushed5_A, out5_eq] at e
  have e' : ((dats m 0 c).arrAt 5 cfg0.N : S2x4352x1024.Idx → EReal) (((cfg0.win 5).blk (⟨17 * b.val + R.val / 256, hN⟩ : Fin grid0.N)).view.emb (show S1x256x1024.Idx from ix3 0 ⟨R.val % 256, by omega⟩ n)) = _ := e
  rw [show ((cfg0.win 5).blk (⟨17 * b.val + R.val / 256, hN⟩ : Fin grid0.N)).view.emb (show S1x256x1024.Idx from ix3 0 ⟨R.val % 256, by omega⟩ n) = (ix3 b R n : S2x4352x1024.Idx) from by
    obtain ⟨e0, e1, e2⟩ := idx5 (⟨17 * b.val + R.val / 256, hN⟩ : Fin grid0.N)
    replace e0 : win0_5.index (⟨17 * b.val + R.val / 256, hN⟩ : Fin grid0.N) (0 : Fin 3) = (17 * b.val + R.val / 256) / 17 := e0
    replace e1 : win0_5.index (⟨17 * b.val + R.val / 256, hN⟩ : Fin grid0.N) (1 : Fin 3) = (17 * b.val + R.val / 256) % 17 := e1
    funext a; apply Fin.ext
    match a with
    | ⟨0, _⟩ => show win0_5.index _ (0 : Fin 3) * 1 + 1 * 0 = b.val; rw [e0]; omega
    | ⟨1, _⟩ => show win0_5.index _ (1 : Fin 3) * 256 + 1 * (R.val % 256) = R.val; rw [e1]; omega
    | ⟨2, _⟩ => show win0_5.index _ (2 : Fin 3) * 1024 + 1 * n.val = n.val; rw [e2]; omega] at e'
  refine e'.trans ((glu_apply _ _ _ _ _
    (fun r l => (iblk m c 0 (⟨17 * b.val + R.val / 256, hN⟩ : Fin grid0.N) : S32x16x512.Idx → EReal) (ix3 (⟨l.val / 32, by omega⟩ : Fin 32) (⟨r.val / 16, by omega⟩ : Fin 16) (⟨32 * (r.val % 16) + l.val % 32, by omega⟩ : Fin 512)))
    (fun r l => (plane_apply _ _ _ _ _ (by omega) _ _ _).trans (congrArg (iblk m c 0 (⟨17 * b.val + R.val / 256, hN⟩ : Fin grid0.N) : S32x16x512.Idx → EReal) ?_)) _ n).trans ?_)
  · funext a; apply Fin.ext
    match a with
    | ⟨0, _⟩ => show 4 * (l.val / 128) + l.val % 128 / 32 = l.val / 32; omega
    | ⟨1, _⟩ => rfl
    | ⟨2, _⟩ => show 32 * (r.val % 16) + l.val % 128 % 32 = 32 * (r.val % 16) + l.val % 32; omega
  have hT : ∀ l : Fin 1024, (iblk m c 0 (⟨17 * b.val + R.val / 256, hN⟩ : Fin grid0.N) : S32x16x512.Idx → EReal) (ix3 (⟨l.val / 32, by omega⟩ : Fin 32) (⟨R.val % 256 / 16, by omega⟩ : Fin 16) (⟨32 * (R.val % 256 % 16) + l.val % 32, by omega⟩ : Fin 512))
      = tok (yOf m c) b R l := fun l => (iblk0_apply m c _ _ _ _ (grp b R) (grp_val b R)).trans
    (congrArg (yOf m c _ (grp b R)) (Fin.ext (show 32 * (R.val % 256 % 16) + l.val % 32 = 32 * (R.val % 16) + l.val % 32 by omega)))
  unfold gated lin
  refine congrArg₂ (fun x y : EReal => x * Ideal.logistic y) (congrArg₂ (fun x y : EReal => x + y) (Finset.sum_congr rfl fun l _ => congrArg₂ (fun x y : EReal => x * y) (hT l) ?_) ?_)
    (congrArg₂ (fun x y : EReal => x + y) (Finset.sum_congr rfl fun l _ => congrArg₂ (fun x y : EReal => x * y) (hT l) ?_) ?_)
  · exact (iblk1_apply m c _ _).trans (V1_apply m c l n)
  · exact (iblk3_apply m c _ _).trans (V4_apply m c n)
  · exact (iblk2_apply m c _ _).trans (V2_apply m c l n)
  · exact (iblk4_apply m c _ _).trans (V6_apply m c n)

end Cert.Kernel4Ideal.Hand

end
-- ==== Proof.GluRef.lean ====
/-
  Hand-written. What the gated unit's reference gives over the extended reals, element by element.
-/
module

public import proofs.«01_k».proof.Proof.Gen.Reference4Ideal.Run
public import proofs.«01_k».proof.Proof.GluSpec
public import Idealize.ShloMosaic.Lib.IdealHost
public import Idealize.ShloMosaic.Lib.Pointwise
public import Idealize.ShloMosaic.Lib.ValueIdx

@[expose] public section

set_option maxRecDepth 16384

noncomputable section

namespace Cert.Reference4Ideal.Hand

open Cert.Reference4Ideal Cert.Reference4Ideal.Gen Cert.Glu
open Idealize.ShloMosaic Idealize.ShloMosaic.TcCoe Idealize.ShloMosaic.Tactic

/-- The packed rows, by group, token of the group, head and element. -/
def spread (Y : S32x544x512.Idx → EReal) : S544x16x32x32.Idx → EReal :=
  transpose S544x16x32x32 [1, 2, 0, 3] (shapeCast S32x544x16x32 Y shapeCasts_S32x544x512_S32x544x16x32) transposes_S32x544x16x32_S544x16x32x32_1_2_0_3
/-- The context's tokens. -/
def unpC (T : S544x16x32x32.Idx → EReal) : S2x256x1024.Idx → EReal :=
  shapeCast S2x256x1024 (extractStridedSlice S32x16x32x32 ![512, 0, 0, 0] T slices_S544x16x32x32_S32x16x32x32_512_0_0_0) shapeCasts_S32x16x32x32_S2x256x1024
/-- The latents' tokens. -/
def unpL (T : S544x16x32x32.Idx → EReal) : S2x4096x1024.Idx → EReal :=
  shapeCast S2x4096x1024 (extractStridedSlice S512x16x32x32 ![0, 0, 0, 0] T slices_S544x16x32x32_S512x16x32x32_0_0_0_0) shapeCasts_S512x16x32x32_S2x4096x1024
/-- The two in one array. -/
def both (A : S2x256x1024.Idx → EReal) (B : S2x4096x1024.Idx → EReal) : S2x4352x1024.Idx → EReal :=
  concatenate S2x4352x1024 1 [⟨S2x256x1024, A⟩, ⟨S2x4096x1024, B⟩] concatenates_S2x256x1024_S2x4096x1024_S2x4352x1024_d1
/-- The product with the weight, plus the bias. -/
def affine (X : S2x4352x1024.Idx → EReal) (W : S1024x2048.Idx → EReal) (g : S2048.Idx → EReal) : S2x4352x2048.Idx → EReal :=
  addf (F := Ideal) (φ := .f32) (Host.dotGeneral (F := Ideal) (φ₁ := .f32) (φ₂ := .f32) dot_S2x4352x1024_S1024x2048_S2x4352x2048_2_0_01_1_n_n none X W)
    (broadcastInDim S2x4352x2048 ![0, 1, 2] bcast_S1x1x2048_S2x4352x2048_0_1_2 (broadcastInDim S1x1x2048 ![2] bcast_S2048_S1x1x2048_2 g))
/-- The first half times the sigmoid of the second. -/
def halves (L : S2x4352x2048.Idx → EReal) : S2x4352x1024.Idx → EReal :=
  truncf (F := Ideal) (φ := .f32) .bf16 (mulf (F := Ideal) (φ := .f32) (extractStridedSlice S2x4352x1024 ![0, 0, 0] L slices_S2x4352x2048_S2x4352x1024_0_0_0)
    (Host.divf (F := Ideal) (φ := .f32) (broadcastInDim S2x4352x1024 ![] bcast_S_S2x4352x1024 (constant (F := Ideal) S_ .f32 0x3F800000#32))
      (addf (F := Ideal) (φ := .f32) (broadcastInDim S2x4352x1024 ![] bcast_S_S2x4352x1024 (constant (F := Ideal) S_ .f32 0x3F800000#32))
        (Host.exp (F := Ideal) (φ := .f32) (Host.negf (F := Ideal) (φ := .f32) (extractStridedSlice S2x4352x1024 ![0, 0, 1024] L slices_S2x4352x2048_S2x4352x1024_0_0_1024)))))) bitsLt_bf16_f32
/-- The reference's result, from its arguments. -/
def whole (Y : S32x544x512.Idx → EReal) (W : S1024x2048.Idx → EReal) (g : S2048.Idx → EReal) : S2x4352x1024.Idx → EReal :=
  halves (affine (both (unpC (spread Y)) (unpL (spread Y))) W g)

theorem spread_apply (Y : S32x544x512.Idx → EReal) (k : Fin 544) (q : Fin 16) (j p : Fin 32) :
    spread Y (ix4 k q j p) = Y (ix3 j k ⟨q.val * 32 + p.val, by omega⟩) := by
  pointwise [spread]
theorem unpC_apply (T : S544x16x32x32.Idx → EReal) (b : Fin 2) (r : Fin 256) (l : Fin 1024) :
    unpC T (ix3 b r l) = T (ix4 ⟨512 + 16 * b.val + r.val / 16, by omega⟩ ⟨r.val % 16, by omega⟩ ⟨l.val / 32, by omega⟩ ⟨l.val % 32, by omega⟩) := by
  refine (shapeCast_apply _ _ _ (ix4 (⟨16 * b.val + r.val / 16, by omega⟩ : Fin 32) (⟨r.val % 16, by omega⟩ : Fin 16) (⟨l.val / 32, by omega⟩ : Fin 32) (⟨l.val % 32, by omega⟩ : Fin 32)) ?_).trans (congrArg T ?_)
  · rw [Shape.rowMajor_val_four, Shape.rowMajor_val_three]
    show (((16 * b.val + r.val / 16) * 16 + r.val % 16) * 32 + l.val / 32) * 32 + l.val % 32 = (b.val * 256 + r.val) * 1024 + l.val
    omega
  · funext a; apply Fin.ext
    match a with
    | ⟨0, _⟩ => show 512 + (16 * b.val + r.val / 16) = 512 + 16 * b.val + r.val / 16; omega
    | ⟨1, _⟩ => show 0 + r.val % 16 = r.val % 16; omega
    | ⟨2, _⟩ => show 0 + l.val / 32 = l.val / 32; omega
    | ⟨3, _⟩ => show 0 + l.val % 32 = l.val % 32; omega
theorem unpL_apply (T : S544x16x32x32.Idx → EReal) (b : Fin 2) (r : Fin 4096) (l : Fin 1024) :
    unpL T (ix3 b r l) = T (ix4 ⟨256 * b.val + r.val / 16, by omega⟩ ⟨r.val % 16, by omega⟩ ⟨l.val / 32, by omega⟩ ⟨l.val % 32, by omega⟩) := by
  refine (shapeCast_apply _ _ _ (ix4 (⟨256 * b.val + r.val / 16, by omega⟩ : Fin 512) (⟨r.val % 16, by omega⟩ : Fin 16) (⟨l.val / 32, by omega⟩ : Fin 32) (⟨l.val % 32, by omega⟩ : Fin 32)) ?_).trans (congrArg T ?_)
  · rw [Shape.rowMajor_val_four, Shape.rowMajor_val_three]
    show (((256 * b.val + r.val / 16) * 16 + r.val % 16) * 32 + l.val / 32) * 32 + l.val % 32 = (b.val * 4096 + r.val) * 1024 + l.val
    omega
  · funext a; apply Fin.ext
    match a with
    | ⟨0, _⟩ => show 0 + (256 * b.val + r.val / 16) = 256 * b.val + r.val / 16; omega
    | ⟨1, _⟩ => show 0 + r.val % 16 = r.val % 16; omega
    | ⟨2, _⟩ => show 0 + l.val / 32 = l.val / 32; omega
    | ⟨3, _⟩ => show 0 + l.val % 32 = l.val % 32; omega
theorem both_lo (A : S2x256x1024.Idx → EReal) (B : S2x4096x1024.Idx → EReal) (b : Fin 2) (R : Fin 4352) (h : R.val < 256) (d : Fin 1024) :
    both A B (ix3 b R d) = A (ix3 b ⟨R.val, h⟩ d) := by
  exact concatenate_pair_apply_left (t := S2x4352x1024) (s₁ := S2x256x1024) (s₂ := S2x4096x1024) 1 A B concatenates_S2x256x1024_S2x4096x1024_S2x4352x1024_d1 (ix3 b R d) rfl
    (ix3 b (⟨R.val, h⟩ : Fin 256) d) (by intro a; match a with | ⟨0, _⟩ => rfl | ⟨1, _⟩ => rfl | ⟨2, _⟩ => rfl)
theorem both_hi (A : S2x256x1024.Idx → EReal) (B : S2x4096x1024.Idx → EReal) (b : Fin 2) (R : Fin 4352) (h : ¬ R.val < 256) (d : Fin 1024) :
    both A B (ix3 b R d) = B (ix3 b ⟨R.val - 256, by omega⟩ d) := by
  exact concatenate_pair_apply_right (t := S2x4352x1024) (s₁ := S2x256x1024) (s₂ := S2x4096x1024) 1 A B concatenates_S2x256x1024_S2x4096x1024_S2x4352x1024_d1 (ix3 b R d) rfl rfl
    (ix3 b (⟨R.val - 256, by omega⟩ : Fin 4096) d) (by
      intro a ha
      match a with
      | ⟨0, _⟩ => rfl
      | ⟨1, _⟩ => exact absurd rfl ha
      | ⟨2, _⟩ => rfl) (show R.val - 256 + 256 = R.val by omega)
theorem affine_apply (X : S2x4352x1024.Idx → EReal) (W : S1024x2048.Idx → EReal) (g : S2048.Idx → EReal) (b : Fin 2) (R : Fin 4352) (n : Fin 2048) :
    affine X W g (ix3 b R n) = lin (fun l => X (ix3 b R l)) (fun l n => W (ix2 l n)) (fun n => g (ix1 n)) n := by
  pointwise [affine, lin]
theorem halves_apply (L : S2x4352x2048.Idx → EReal) (b : Fin 2) (R : Fin 4352) (n : Fin 1024) :
    halves L (ix3 b R n) = L (ix3 b R ⟨0 + n.val, by omega⟩) * Ideal.logistic (L (ix3 b R ⟨1024 + n.val, by omega⟩)) := by
  unfold Ideal.logistic
  pointwise [halves]

/-- A token's row, as the reference gathers it. -/
theorem row_apply (Y : S32x544x512.Idx → EReal) (b : Fin 2) (R : Fin 4352) (l : Fin 1024) :
    both (unpC (spread Y)) (unpL (spread Y)) (ix3 b R l) = tok (fun j k l => Y (ix3 j k l)) b R l := by
  unfold tok grp
  by_cases h : R.val < 256
  · rw [both_lo _ _ b R h, unpC_apply, spread_apply, dif_pos h]
    exact congrArg (fun z => Y (ix3 _ _ z)) (Fin.ext (show R.val % 16 * 32 + l.val % 32 = 32 * (R.val % 16) + l.val % 32 by omega))
  · rw [both_hi _ _ b R h, unpL_apply, spread_apply, dif_neg h]
    exact congrArg (fun z => Y (ix3 _ _ z)) (Fin.ext (show (R.val - 256) % 16 * 32 + l.val % 32 = 32 * (R.val % 16) + l.val % 32 by omega))

theorem whole_apply (Y : S32x544x512.Idx → EReal) (W : S1024x2048.Idx → EReal) (g : S2048.Idx → EReal) (b : Fin 2) (R : Fin 4352) (n : Fin 1024) :
    whole Y W g (ix3 b R n) = gated (tok (fun j k l => Y (ix3 j k l)) b R) (fun l n => W (ix2 l n)) (fun n => g (ix1 n)) n := by
  unfold whole gated
  rw [halves_apply, affine_apply, affine_apply]
  rw [show (fun l => both (unpC (spread Y)) (unpL (spread Y)) (ix3 b R l)) = tok (fun j k l => Y (ix3 j k l)) b R from funext fun l => row_apply Y b R l]

end Cert.Reference4Ideal.Hand

end
-- ==== Proof.GluAlgebra.lean ====
/-
  Hand-written. From equal arguments the gated unit's launch and its reference end with the same result; and the frames of the two.
-/
module

public import proofs.«01_k».proof.Defs
public import proofs.«01_k».proof.Proof.GluVal
public import proofs.«01_k».proof.Proof.GluRef
public import proofs.«01_k».proof.Proof.Gen.Kernel4
public import proofs.«01_k».proof.Proof.Gen.Kernel4.Frame
public import proofs.«01_k».proof.Proof.Gen.Kernel4Ideal.Frame
public import proofs.«01_k».proof.Proof.Gen.Reference4Ideal

@[expose] public section

set_option maxRecDepth 16384

noncomputable section

namespace Cert.Proof

open Idealize.ShloMosaic Idealize.ShloMosaic.TcCoe Idealize.ShloMosaic.Tactic Idealize.SL.Sem

attribute [local instance] Cert.Kernel4.Gen.facts Cert.Kernel4Ideal.Gen.facts Cert.Reference4Ideal.Gen.facts

namespace Glu

variable (m : (ℓ : Loc Cert.Kernel4Ideal.nD Cert.Kernel4Ideal.τ Cert.Kernel4Ideal.sig) → Buf (Elt Ideal) ℓ) (m' : (ℓ : Loc Cert.Reference4Ideal.nD Cert.Reference4Ideal.τ Cert.Reference4Ideal.sig) → Buf (Elt Ideal) ℓ) (c : Dev Cert.Kernel4Ideal.nD)

theorem res5 (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)) (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) :
    Cert.Reference4Ideal.Hand.whole (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) = (Cert.Kernel4Ideal.Gen.dats m 0 c).arrAt 5 Cert.Kernel4Ideal.cfg0.N := by
  funext y
  obtain ⟨b, R, n, rfl⟩ : ∃ (b : Fin 2) (R : Fin 4352) (n : Fin 1024), y = ix3 b R n := ⟨y 0, y 1, y 2, eq_ix3 y⟩
  refine (Cert.Reference4Ideal.Hand.whole_apply _ _ _ b R n).trans (Eq.trans ?_ (Cert.Kernel4Ideal.Hand.arr5_apply m c b R n).symm)
  rw [h0, h1, h2]
  rfl

end Glu

theorem frame_kernel4 : Cert.quiescent_Kernel4 := fun m ρ _ => Cert.Kernel4.Gen.frame m ρ
theorem frame_kernel4ideal : Cert.quiescent_Kernel4Ideal := fun m ρ _ => Cert.Kernel4Ideal.Gen.frame m ρ
theorem frame_reference4 : Cert.quiescent_Reference4Ideal := fun m ρ _ =>
  (θ_run Cert.Reference4Ideal.defs _ _).mono (fun r h => ⟨fun c => (h c).2, funext fun s => by first | exact (nomatch s) | (obtain ⟨_, s⟩ := s; cases s; done) | (exact absurd s (by decide))⟩) (Cert.Reference4Ideal.Value.run (F := Ideal) m ρ)

theorem algebraic_kernel4 : Cert.algebraic_Kernel4Ideal_Reference4Ideal := fun m g m' g' _ hargs =>
  ⟨fun c => (Cert.Kernel4Ideal.Gen.dats m 0 c).arrAt 5 Cert.Kernel4Ideal.cfg0.N, Cert.Kernel4Ideal.Value.run_blocks (F := Ideal) m g,
    (θ_run (Cert.Reference4Ideal.defs (F := Ideal)) _ _).mono (fun r h c => by
      obtain ⟨v0, h⟩ := h c
      obtain ⟨e0, e1, e2⟩ := hargs c
      exact ⟨v0.trans (Glu.res5 m m' c e0 e1 e2), h⟩)
    (Cert.Reference4Ideal.Value.run (F := Ideal) m' g')⟩

end Cert.Proof

end
-- ==== Proof.lean ====
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal.Run
public import proofs.«01_k».proof.Proof.Gen.ReferenceIdeal
public import proofs.«01_k».proof.Proof.Frames
public import proofs.«01_k».proof.Proof.Algebra
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Points
public import proofs.«01_k».proof.Proof.Gen.Kernel3.Launch
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Kernel4Ideal.Value
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.ProjAlgebra
public import proofs.«01_k».proof.Proof.OutProjAlgebra
public import proofs.«01_k».proof.Proof.GluAlgebra
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  frame_kernel, frame_kernelideal, frame_reference, frame_kernel2, frame_kernel2ideal, frame_reference2,
  frame_kernel3, frame_kernel3ideal, frame_reference3, frame_kernel4, frame_kernel4ideal, frame_reference4,
  trivial, algebraic_kernel, trivial, algebraic_kernel2, trivial, algebraic_kernel3, trivial, algebraic_kernel4⟩

end Cert.Proof

end
